-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3)) (v1 : (c : Dev Cert.KernelIdeal.nD) → Buf (Elt Ideal) ((c.tc : Thread Cert.KernelIdeal.nD Cert.KernelIdeal.τ).loc Cert.KernelIdeal.main_v1_0)) (v2 : (c : Dev Cert.KernelIdeal.nD) → Buf (Elt Ideal) ((c.tc : Thread Cert.KernelIdeal.nD Cert.KernelIdeal.τ).loc Cert.KernelIdeal.main_v1_2)) (v3 : (c : Dev Cert.KernelIdeal.nD) → Buf (Elt Ideal) ((c.tc : Thread Cert.KernelIdeal.nD Cert.KernelIdeal.τ).loc Cert.KernelIdeal.main_v2_0)) (v4 : (c : Dev Cert.KernelIdeal.nD) → Buf (Elt Ideal) ((c.tc : Thread Cert.KernelIdeal.nD Cert.KernelIdeal.τ).loc Cert.KernelIdeal.main_v2_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_v1_0) = v1 c
          ∧ r.2.mem ((c.tc : Thread Cert.KernelIdeal.nD Cert.KernelIdeal.τ).loc Cert.KernelIdeal.main_v1_2) = v2 c
          ∧ r.2.mem ((c.tc : Thread Cert.KernelIdeal.nD Cert.KernelIdeal.τ).loc Cert.KernelIdeal.main_v2_0) = v3 c
          ∧ r.2.mem ((c.tc : Thread Cert.KernelIdeal.nD Cert.KernelIdeal.τ).loc Cert.KernelIdeal.main_v2_2) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_v0_3) = v3 c
          ∧ r.2.mem ((c.tc : Thread Cert.ReferenceIdeal.nD Cert.ReferenceIdeal.τ).loc Cert.ReferenceIdeal.main_v0_4) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x256x7168 : Shape := ⟨3, ![1, 256, 7168]⟩
abbrev S7168x36864 : Shape := ⟨2, ![7168, 36864]⟩
abbrev S224x36864 : Shape := ⟨2, ![224, 36864]⟩
abbrev S18432x7168 : Shape := ⟨2, ![18432, 7168]⟩
abbrev S576x7168 : Shape := ⟨2, ![576, 7168]⟩
abbrev S256x7168 : Shape := ⟨2, ![256, 7168]⟩
abbrev S256x224 : Shape := ⟨2, ![256, 224]⟩
abbrev S256x256 : Shape := ⟨2, ![256, 256]⟩
abbrev S2x256x128 : Shape := ⟨3, ![2, 256, 128]⟩
abbrev S256x128 : Shape := ⟨2, ![256, 128]⟩
abbrev S256x128x1 : Shape := ⟨3, ![256, 128, 1]⟩
abbrev S1x256x128 : Shape := ⟨3, ![1, 256, 128]⟩
abbrev S256x96 : Shape := ⟨2, ![256, 96]⟩
abbrev S256x18432 : Shape := ⟨2, ![256, 18432]⟩
abbrev S256x576 : Shape := ⟨2, ![256, 576]⟩
abbrev S7168x256 : Shape := ⟨2, ![7168, 256]⟩
abbrev S224x256 : Shape := ⟨2, ![224, 256]⟩
abbrev S5x256x128 : Shape := ⟨3, ![5, 256, 128]⟩
abbrev S256x512 : Shape := ⟨2, ![256, 512]⟩
abbrev S32x256 : Shape := ⟨2, ![32, 256]⟩
abbrev S1x256 : Shape := ⟨2, ![1, 256]⟩
abbrev S16x256 : Shape := ⟨2, ![16, 256]⟩
abbrev S512x256 : Shape := ⟨2, ![512, 256]⟩
abbrev S256x64 : Shape := ⟨2, ![256, 64]⟩
abbrev S18432x256 : Shape := ⟨2, ![18432, 256]⟩
abbrev S576x256 : Shape := ⟨2, ![576, 256]⟩

abbrev nBuf : Space → Nat
  | .hbm => 13
  | .vmem => 33
  | .smem => 0
  | _ => 0

abbrev bufTy : (tb : Table) → Fin (tcTables nBuf tb) → BufTy
  | .hbm, ⟨0, _⟩ => ⟨S1x256x7168, .bf16⟩
  | .hbm, ⟨1, _⟩ => ⟨S7168x36864, .fp8e4m3⟩
  | .hbm, ⟨2, _⟩ => ⟨S224x36864, .i8⟩
  | .hbm, ⟨3, _⟩ => ⟨S18432x7168, .fp8e4m3⟩
  | .hbm, ⟨4, _⟩ => ⟨S576x7168, .i8⟩
  | .hbm, ⟨5, _⟩ => ⟨S256x7168, .bf16⟩
  | .hbm, ⟨6, _⟩ => ⟨S256x7168, .fp8e4m3⟩
  | .hbm, ⟨7, _⟩ => ⟨S256x7168, .bf16⟩
  | .hbm, ⟨8, _⟩ => ⟨S256x224, .f32⟩
  | .hbm, ⟨9, _⟩ => ⟨S256x18432, .fp8e4m3⟩
  | .hbm, ⟨10, _⟩ => ⟨S256x18432, .bf16⟩
  | .hbm, ⟨11, _⟩ => ⟨S256x576, .f32⟩
  | .hbm, ⟨12, _⟩ => ⟨S256x7168, .bf16⟩
  | .local _ .vmem, ⟨0, _⟩ => ⟨S256x256, .bf16⟩
  | .local _ .vmem, ⟨1, _⟩ => ⟨S256x256, .bf16⟩
  | .local _ .vmem, ⟨2, _⟩ => ⟨S256x256, .fp8e4m3⟩
  | .local _ .vmem, ⟨3, _⟩ => ⟨S256x256, .fp8e4m3⟩
  | .local _ .vmem, ⟨4, _⟩ => ⟨S256x256, .bf16⟩
  | .local _ .vmem, ⟨5, _⟩ => ⟨S256x256, .bf16⟩
  | .local _ .vmem, ⟨6, _⟩ => ⟨S256x224, .f32⟩
  | .local _ .vmem, ⟨7, _⟩ => ⟨S2x256x128, .f32⟩
  | .local _ .vmem, ⟨8, _⟩ => ⟨S256x7168, .bf16⟩
  | .local _ .vmem, ⟨9, _⟩ => ⟨S7168x256, .fp8e4m3⟩
  | .local _ .vmem, ⟨10, _⟩ => ⟨S7168x256, .fp8e4m3⟩
  | .local _ .vmem, ⟨11, _⟩ => ⟨S7168x256, .fp8e4m3⟩
  | .local _ .vmem, ⟨12, _⟩ => ⟨S7168x256, .fp8e4m3⟩
  | .local _ .vmem, ⟨13, _⟩ => ⟨S224x256, .i8⟩
  | .local _ .vmem, ⟨14, _⟩ => ⟨S224x256, .i8⟩
  | .local _ .vmem, ⟨15, _⟩ => ⟨S224x256, .i8⟩
  | .local _ .vmem, ⟨16, _⟩ => ⟨S224x256, .i8⟩
  | .local _ .vmem, ⟨17, _⟩ => ⟨S256x256, .fp8e4m3⟩
  | .local _ .vmem, ⟨18, _⟩ => ⟨S256x256, .fp8e4m3⟩
  | .local _ .vmem, ⟨19, _⟩ => ⟨S256x256, .bf16⟩
  | .local _ .vmem, ⟨20, _⟩ => ⟨S256x256, .bf16⟩
  | .local _ .vmem, ⟨21, _⟩ => ⟨S256x576, .f32⟩
  | .local _ .vmem, ⟨22, _⟩ => ⟨S224x256, .i32⟩
  | .local _ .vmem, ⟨23, _⟩ => ⟨S224x256, .i32⟩
  | .local _ .vmem, ⟨24, _⟩ => ⟨S5x256x128, .f32⟩
  | .local _ .vmem, ⟨25, _⟩ => ⟨S256x18432, .bf16⟩
  | .local _ .vmem, ⟨26, _⟩ => ⟨S18432x256, .fp8e4m3⟩
  | .local _ .vmem, ⟨27, _⟩ => ⟨S18432x256, .fp8e4m3⟩
  | .local _ .vmem, ⟨28, _⟩ => ⟨S576x256, .i8⟩
  | .local _ .vmem, ⟨29, _⟩ => ⟨S576x256, .i8⟩
  | .local _ .vmem, ⟨30, _⟩ => ⟨S256x256, .bf16⟩
  | .local _ .vmem, ⟨31, _⟩ => ⟨S256x256, .bf16⟩
  | .local _ .vmem, ⟨32, _⟩ => ⟨S576x256, .i32⟩
  | _, _ => ⟨S1x256x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v2_0 : Ref sig .tc := ⟨.hbm, 9, rfl⟩
abbrev main_v2_1 : Ref sig .tc := ⟨.hbm, 10, rfl⟩
abbrev main_v2_2 : Ref sig .tc := ⟨.hbm, 11, rfl⟩
abbrev main_v3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_scratch0 : Ref sig .tc := ⟨.vmem, 7, rfl⟩
abbrev cc1_stg0_0 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg3_1 : Ref sig .tc := ⟨.vmem, 14, rfl⟩
abbrev cc1_stg4_0 : Ref sig .tc := ⟨.vmem, 15, rfl⟩
abbrev cc1_stg4_1 : Ref sig .tc := ⟨.vmem, 16, rfl⟩
abbrev cc1_stg5_0 : Ref sig .tc := ⟨.vmem, 17, rfl⟩
abbrev cc1_stg5_1 : Ref sig .tc := ⟨.vmem, 18, rfl⟩
abbrev cc1_stg6_0 : Ref sig .tc := ⟨.vmem, 19, rfl⟩
abbrev cc1_stg6_1 : Ref sig .tc := ⟨.vmem, 20, rfl⟩
abbrev cc1_stg7_0 : Ref sig .tc := ⟨.vmem, 21, rfl⟩
abbrev cc1_scratch0 : Ref sig .tc := ⟨.vmem, 22, rfl⟩
abbrev cc1_scratch1 : Ref sig .tc := ⟨.vmem, 23, rfl⟩
abbrev cc1_scratch2 : Ref sig .tc := ⟨.vmem, 24, rfl⟩
abbrev cc2_stg0_0 : Ref sig .tc := ⟨.vmem, 25, rfl⟩
abbrev cc2_stg1_0 : Ref sig .tc := ⟨.vmem, 26, rfl⟩
abbrev cc2_stg1_1 : Ref sig .tc := ⟨.vmem, 27, rfl⟩
abbrev cc2_stg2_0 : Ref sig .tc := ⟨.vmem, 28, rfl⟩
abbrev cc2_stg2_1 : Ref sig .tc := ⟨.vmem, 29, rfl⟩
abbrev cc2_stg3_0 : Ref sig .tc := ⟨.vmem, 30, rfl⟩
abbrev cc2_stg3_1 : Ref sig .tc := ⟨.vmem, 31, rfl⟩
abbrev cc2_scratch0 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc1_sem0_0 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem4_1 : DmaSem sig := 15
abbrev cc1_sem5_0 : DmaSem sig := 16
abbrev cc1_sem5_1 : DmaSem sig := 17
abbrev cc1_sem6_0 : DmaSem sig := 18
abbrev cc1_sem6_1 : DmaSem sig := 19
abbrev cc1_sem7_0 : DmaSem sig := 20
abbrev cc2_sem0_0 : DmaSem sig := 21
abbrev cc2_sem1_0 : DmaSem sig := 22
abbrev cc2_sem1_1 : DmaSem sig := 23
abbrev cc2_sem2_0 : DmaSem sig := 24
abbrev cc2_sem2_1 : DmaSem sig := 25
abbrev cc2_sem3_0 : DmaSem sig := 26
abbrev cc2_sem3_1 : DmaSem sig := 27

abbrev nD : Nat := 1
abbrev τ : Topo := Topo.v7x

variable {F : FTy → Type} [FloatOps F]

abbrev grid0 : Pipeline.Grid := ⟨1, ![28], ![false]⟩

def k0_off1 (i : grid0.Coords) (c0_i32_34 : BitVec 32) : Fin 3 → Nat :=
  let c2_i32_33 : BitVec 32 := 2#32
  let arg0 : BitVec 32 := BitVec.ofNat 32 (i 0).val
  let v128 : BitVec 32 := Scalar.muli c2_i32_33 arg0
  let v129 : BitVec 32 := Scalar.addi v128 c0_i32_34
  let c0_i32_36 : BitVec 32 := 0#32
  let v131 : BitVec 1 := Scalar.cmpi .sgt v129 c0_i32_36
  let v132 : BitVec 32 := Scalar.extui v131
  let c0_i32_37 : BitVec 32 := 0#32
  let v133 : BitVec 1 := Scalar.cmpi .slt v129 c0_i32_37
  let v134 : BitVec 32 := Scalar.extui v133
  let v135 : BitVec 32 := Scalar.subi v132 v134
  let c32_i32_35 : BitVec 32 := 32#32
  let c0_i32_38 : BitVec 32 := 0#32
  let v136 : BitVec 1 := Scalar.cmpi .sgt c32_i32_35 c0_i32_38
  let v137 : BitVec 32 := Scalar.extui v136
  let c0_i32_39 : BitVec 32 := 0#32
  let v138 : BitVec 1 := Scalar.cmpi .slt c32_i32_35 c0_i32_39
  let v139 : BitVec 32 := Scalar.extui v138
  let v140 : BitVec 32 := Scalar.subi v137 v139
  let v141 : BitVec 1 := Scalar.cmpi .ne v135 v140
  let v142 : BitVec 32 := Scalar.remsi v129 c32_i32_35
  let c0_i32_40 : BitVec 32 := 0#32
  let v143 : BitVec 1 := Scalar.cmpi .ne v142 c0_i32_40
  let v144 : BitVec 1 := Scalar.andi v141 v143
  let v130 : BitVec 32 := Scalar.divsi v129 c32_i32_35
  let c1_i32_41 : BitVec 32 := 1#32
  let v145 : BitVec 32 := Scalar.subi v130 c1_i32_41
  let v146 : BitVec 32 := Scalar.select v144 v145 v130
  let v147 : Index := Scalar.indexCast v146
  let c0_42 : Index := 0#32
  let c0_43 : Index := 0#32
  ![v147.toNat, 0, 0]
def k0_cond1 (i : grid0.Coords) : BitVec 1 :=
  let arg0 : BitVec 32 := BitVec.ofNat 32 (i 0).val
  let c27_i32 : BitVec 32 := 27#32
  let v470 : BitVec 1 := Scalar.cmpi .eq arg0 c27_i32
  let v471 : BitVec 32 := Scalar.extui v470
  let c0_i32_165 : BitVec 32 := 0#32
  let v472 : BitVec 1 := Scalar.cmpi .ne v471 c0_i32_165
  v472

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x256 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S256x224 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev grid1 : Pipeline.Grid := ⟨1, ![72], ![false]⟩

def k1_off1 (i : grid1.Coords) (c0_i32_1451 : BitVec 32) : Fin 3 → Nat :=
  let c2_i32_1450 : BitVec 32 := 2#32
  let arg0 : BitVec 32 := BitVec.ofNat 32 (i 0).val
  let v3395 : BitVec 32 := Scalar.muli c2_i32_1450 arg0
  let v3396 : BitVec 32 := Scalar.addi v3395 c0_i32_1451
  let c0_i32_1453 : BitVec 32 := 0#32
  let v3398 : BitVec 1 := Scalar.cmpi .sgt v3396 c0_i32_1453
  let v3399 : BitVec 32 := Scalar.extui v3398
  let c0_i32_1454 : BitVec 32 := 0#32
  let v3400 : BitVec 1 := Scalar.cmpi .slt v3396 c0_i32_1454
  let v3401 : BitVec 32 := Scalar.extui v3400
  let v3402 : BitVec 32 := Scalar.subi v3399 v3401
  let c32_i32_1452 : BitVec 32 := 32#32
  let c0_i32_1455 : BitVec 32 := 0#32
  let v3403 : BitVec 1 := Scalar.cmpi .sgt c32_i32_1452 c0_i32_1455
  let v3404 : BitVec 32 := Scalar.extui v3403
  let c0_i32_1456 : BitVec 32 := 0#32
  let v3405 : BitVec 1 := Scalar.cmpi .slt c32_i32_1452 c0_i32_1456
  let v3406 : BitVec 32 := Scalar.extui v3405
  let v3407 : BitVec 32 := Scalar.subi v3404 v3406
  let v3408 : BitVec 1 := Scalar.cmpi .ne v3402 v3407
  let v3409 : BitVec 32 := Scalar.remsi v3396 c32_i32_1452
  let c0_i32_1457 : BitVec 32 := 0#32
  let v3410 : BitVec 1 := Scalar.cmpi .ne v3409 c0_i32_1457
  let v3411 : BitVec 1 := Scalar.andi v3408 v3410
  let v3397 : BitVec 32 := Scalar.divsi v3396 c32_i32_1452
  let c1_i32_1458 : BitVec 32 := 1#32
  let v3412 : BitVec 32 := Scalar.subi v3397 c1_i32_1458
  let v3413 : BitVec 32 := Scalar.select v3411 v3412 v3397
  let v3414 : Index := Scalar.indexCast v3413
  let c0_1459 : Index := 0#32
  let c0_1460 : Index := 0#32
  ![v3414.toNat, 0, 0]
def k1_cond1 (i : grid1.Coords) : BitVec 1 :=
  let arg0 : BitVec 32 := BitVec.ofNat 32 (i 0).val
  let c71_i32 : BitVec 32 := 71#32
  let v3735 : BitVec 1 := Scalar.cmpi .eq arg0 c71_i32
  let v3736 : BitVec 32 := Scalar.extui v3735
  let c0_i32_1581 : BitVec 32 := 0#32
  let v3737 : BitVec 1 := Scalar.cmpi .ne v3736 c0_i32_1581
  v3737

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let c72_i32 : BitVec 32 := 72#32
  let v0 : BitVec 32 := Scalar.addi c72_i32 arg0
  let c0_i32 : BitVec 32 := 0#32
  let c0_i32_0 : BitVec 32 := 0#32
  ![c0_i32.toNat, v0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_4 (i : grid1.Coords) : Fin 2 → Nat :=
  let arg0 : BitVec 32 := BitVec.ofNat 32 (i 0).val
  let c72_i32 : BitVec 32 := 72#32
  let v0 : BitVec 32 := Scalar.addi c72_i32 arg0
  let c0_i32 : BitVec 32 := 0#32
  let c0_i32_0 : BitVec 32 := 0#32
  ![c0_i32.toNat, v0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S256x7168 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S7168x256 .fp8e4m3 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S7168x256 .fp8e4m3 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S224x256 .i8 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S224x256 .i8 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S256x256 .fp8e4m3 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S256x256 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 1 → Memref sig .tc .vmem S256x576 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev grid2 : Pipeline.Grid := ⟨1, ![28], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage2_0 : Fin 1 → Memref sig .tc .vmem S256x18432 .bf16 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 2 → Memref sig .tc .vmem S18432x256 .fp8e4m3 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S576x256 .i8 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S256x256 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]
-- ==== ReferenceIdeal.lean ====
abbrev S1x256x7168 : Shape := ⟨3, ![1, 256, 7168]⟩
abbrev S7168x36864 : Shape := ⟨2, ![7168, 36864]⟩
abbrev S224x36864 : Shape := ⟨2, ![224, 36864]⟩
abbrev S18432x7168 : Shape := ⟨2, ![18432, 7168]⟩
abbrev S576x7168 : Shape := ⟨2, ![576, 7168]⟩
abbrev S256x7168 : Shape := ⟨2, ![256, 7168]⟩
abbrev S256x224 : Shape := ⟨2, ![256, 224]⟩
abbrev S256x18432 : Shape := ⟨2, ![256, 18432]⟩
abbrev S256x576 : Shape := ⟨2, ![256, 576]⟩
abbrev S256x224x32 : Shape := ⟨3, ![256, 224, 32]⟩
abbrev S256x224x256 : Shape := ⟨3, ![256, 224, 256]⟩
abbrev S256x224x1 : Shape := ⟨3, ![256, 224, 1]⟩
abbrev S224x32x36864 : Shape := ⟨3, ![224, 32, 36864]⟩
abbrev S224x1x36864 : Shape := ⟨3, ![224, 1, 36864]⟩
abbrev S256x36864 : Shape := ⟨2, ![256, 36864]⟩
abbrev S256x576x32 : Shape := ⟨3, ![256, 576, 32]⟩
abbrev S256x576x256 : Shape := ⟨3, ![256, 576, 256]⟩
abbrev S256x576x1 : Shape := ⟨3, ![256, 576, 1]⟩
abbrev S576x32x7168 : Shape := ⟨3, ![576, 32, 7168]⟩
abbrev S576x1x7168 : Shape := ⟨3, ![576, 1, 7168]⟩

abbrev nBuf : Space → Nat
  | .hbm => 10
  | .vmem => 10
  | .smem => 0
  | _ => 0

abbrev bufTy : (tb : Table) → Fin (tcTables nBuf tb) → BufTy
  | .hbm, ⟨0, _⟩ => ⟨S1x256x7168, .bf16⟩
  | .hbm, ⟨1, _⟩ => ⟨S7168x36864, .fp8e4m3⟩
  | .hbm, ⟨2, _⟩ => ⟨S224x36864, .i8⟩
  | .hbm, ⟨3, _⟩ => ⟨S18432x7168, .fp8e4m3⟩
  | .hbm, ⟨4, _⟩ => ⟨S576x7168, .i8⟩
  | .hbm, ⟨5, _⟩ => ⟨S256x7168, .bf16⟩
  | .hbm, ⟨6, _⟩ => ⟨S256x7168, .fp8e4m3⟩
  | .hbm, ⟨7, _⟩ => ⟨S256x224, .f32⟩
  | .hbm, ⟨8, _⟩ => ⟨S256x18432, .fp8e4m3⟩
  | .hbm, ⟨9, _⟩ => ⟨S256x576, .f32⟩
  | .local _ .vmem, ⟨0, _⟩ => ⟨S1x256x7168, .bf16⟩
  | .local _ .vmem, ⟨1, _⟩ => ⟨S7168x36864, .fp8e4m3⟩
  | .local _ .vmem, ⟨2, _⟩ => ⟨S224x36864, .i8⟩
  | .local _ .vmem, ⟨3, _⟩ => ⟨S18432x7168, .fp8e4m3⟩
  | .local _ .vmem, ⟨4, _⟩ => ⟨S576x7168, .i8⟩
  | .local _ .vmem, ⟨5, _⟩ => ⟨S256x7168, .bf16⟩
  | .local _ .vmem, ⟨6, _⟩ => ⟨S256x7168, .fp8e4m3⟩
  | .local _ .vmem, ⟨7, _⟩ => ⟨S256x224, .f32⟩
  | .local _ .vmem, ⟨8, _⟩ => ⟨S256x18432, .fp8e4m3⟩
  | .local _ .vmem, ⟨9, _⟩ => ⟨S256x576, .f32⟩
  | _, _ => ⟨S1x256x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v0_4 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

abbrev stage0_0 : Fin 1 → Memref sig .tc .vmem S1x256x7168 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S7168x36864 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S224x36864 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S18432x7168 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S576x7168 .i8 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S256x7168 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S256x7168 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S256x224 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S256x18432 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S256x576 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== Proof.BitsRun0.lean ====
/-
  The first call's body, run once: what its stores leave in the windows and in the scratch, at any point of the grid. The program over words: the same text as `Run0`, whose program it shares but for the numbers.
-/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The page of the scratch a point writes, both halves of its block alike. -/
theorem k0_off1_eq : ∀ i : grid0.Coords, k0_off1 i 0#32 = ![(i 0).val / 16, 0, 0] ∧ k0_off1 i 1#32 = ![(i 0).val / 16, 0, 0] := by decide +kernel
/-- At the last point it is the second page. -/
theorem k0_off1_last : ∀ i : grid0.Coords, k0_cond1 i = 1#1 → k0_off1 i 0#32 = ![1, 0, 0] ∧ k0_off1 i 1#32 = ![1, 0, 0] := by decide +kernel

set_option maxHeartbeats 4000000 in
/-- The body of `cc0_quant_x` at a point where the scale window is left alone: the pieces its stores leave in
    each output's staging buffer and in the scratch, with the proof that it runs. -/
noncomputable def kernelRun0_A (c : Dev nD) (i : grid0.Coords) (arg1 : Memref sig .tc .vmem S256x256 .bf16) (harg1 : arg1.IsWhole) (arg2 : Memref sig .tc .vmem S256x256 .fp8e4m3) (harg2 : arg2.IsWhole) (arg3 : Memref sig .tc .vmem S256x256 .bf16) (harg3 : arg3.IsWhole) (arg4 : Memref sig .tc .vmem S256x224 .f32) (harg4 : arg4.IsWhole) (arg5 : Memref sig .tc .vmem S2x256x128 .f32) (harg5 : arg5.IsWhole) (hc0 : ¬k0_cond1 i = 1#1)
    (x0 : Vec F S256x256 .bf16) (d5 : Vec F S2x256x128 .f32) :
    Σ' (L1 : List (View.Piece (Elt F) S256x256 .fp8e4m3)), Σ' (L2 : List (View.Piece (Elt F) S256x256 .bf16)), Σ' (L3 : List (View.Piece (Elt F) S256x224 .f32)), { LT0 : List (View.Piece (Elt F) S2x256x128 .f32) //
      ∀ (xi3 : Vec F S256x224 .f32) (E : Set ℕ) (K : PUnit → sProp 𝕄),
        iprop(owns (c : Thread nD τ) arg1 fullShare x0 ∗ (∃ d, owns (c : Thread nD τ) arg2 fullShare d) ∗ (∃ d, owns (c : Thread nD τ) arg3 fullShare d) ∗ owns (c : Thread nD τ) arg4 fullShare xi3 ∗ owns (c : Thread nD τ) arg5 fullShare d5
            ∗ (iprop(owns (c : Thread nD τ) arg1 fullShare x0 ∗ (∃ f, arg2.view.loc (c : Thread nD τ) ↦[arg2.view.set]{fullShare} arg2.view.writes (Elt F) f L1) ∗ (∃ f, arg3.view.loc (c : Thread nD τ) ↦[arg3.view.set]{fullShare} arg3.view.writes (Elt F) f L2) ∗ owns (c : Thread nD τ) arg4 fullShare xi3 ∗ (arg5.view.loc (c : Thread nD τ) ↦[arg5.view.set]{fullShare} arg5.view.writes (Elt F) (harg5.unread d5) LT0)) -∗ K ⟨⟩))
          ⊢ wp frame (wpE (defs₀ (F := F)) Variants.none c none) E (cc0_quant_x i arg1 harg1 arg2 harg2 arg3 harg3 arg4 harg4 arg5 harg5) K } := by
  refine ⟨?_, ?_, [], ?_, fun xi3 E K => ?run⟩
  case run =>
    simp only [cc0_quant_x_eq_skeleton]; unfold cc0_quant_x_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton]
    unfold owns
    iintro ⟨⟨%f0, %hf0, H0⟩, ⟨%d1, %f1, -, H1⟩, ⟨%d2, %f2, -, H2⟩, ⟨%f3, %hf3, H3⟩, ⟨%fs0, %hfs0, HS0⟩, Hk⟩
    obtain rfl := harg1.eq_unread hf0; obtain rfl := harg5.eq_unread hfs0; obtain rfl := harg4.eq_unread hf3
    letI : ClosedOff (k0_off1 i 0#32) := ⟨![(i 0).val / 16, 0, 0], (k0_off1_eq i).1⟩
    letI : ClosedOff (k0_off1 i 1#32) := ⟨![(i 0).val / 16, 0, 0], (k0_off1_eq i).2⟩
    sl_exec (disch := first | sl_exact hc0)
    sl_step
    iapply Hk
    isplitl [H0]
    · iexists _; isplitr; · ipureintro; exact harg1.read_unread _
      iexact H0
    isplitl [H1]; · iexists _; iexact H1
    isplitl [H2]; · iexists _; iexact H2
    isplitl [H3]
    · iexists _; isplitr; · ipureintro; exact harg4.read_unread _
      iexact H3
    iexact HS0

set_option maxHeartbeats 4000000 in
/-- The body of `cc0_quant_x` at a point where the scale window is stored: the pieces its stores leave in
    each output's staging buffer and in the scratch, with the proof that it runs. -/
noncomputable def kernelRun0_B (c : Dev nD) (i : grid0.Coords) (arg1 : Memref sig .tc .vmem S256x256 .bf16) (harg1 : arg1.IsWhole) (arg2 : Memref sig .tc .vmem S256x256 .fp8e4m3) (harg2 : arg2.IsWhole) (arg3 : Memref sig .tc .vmem S256x256 .bf16) (harg3 : arg3.IsWhole) (arg4 : Memref sig .tc .vmem S256x224 .f32) (harg4 : arg4.IsWhole) (arg5 : Memref sig .tc .vmem S2x256x128 .f32) (harg5 : arg5.IsWhole) (hc0 : k0_cond1 i = 1#1)
    (x0 : Vec F S256x256 .bf16) (d5 : Vec F S2x256x128 .f32) :
    Σ' (L1 : List (View.Piece (Elt F) S256x256 .fp8e4m3)), Σ' (L2 : List (View.Piece (Elt F) S256x256 .bf16)), Σ' (L3 : List (View.Piece (Elt F) S256x224 .f32)), { LT0 : List (View.Piece (Elt F) S2x256x128 .f32) //
      ∀ (E : Set ℕ) (K : PUnit → sProp 𝕄),
        iprop(owns (c : Thread nD τ) arg1 fullShare x0 ∗ (∃ d, owns (c : Thread nD τ) arg2 fullShare d) ∗ (∃ d, owns (c : Thread nD τ) arg3 fullShare d) ∗ (∃ d, owns (c : Thread nD τ) arg4 fullShare d) ∗ owns (c : Thread nD τ) arg5 fullShare d5
            ∗ (iprop(owns (c : Thread nD τ) arg1 fullShare x0 ∗ (∃ f, arg2.view.loc (c : Thread nD τ) ↦[arg2.view.set]{fullShare} arg2.view.writes (Elt F) f L1) ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f L3) ∗ (arg5.view.loc (c : Thread nD τ) ↦[arg5.view.set]{fullShare} arg5.view.writes (Elt F) (harg5.unread d5) LT0)) -∗ K ⟨⟩))
          ⊢ wp frame (wpE (defs₀ (F := F)) Variants.none c none) E (cc0_quant_x i arg1 harg1 arg2 harg2 arg3 harg3 arg4 harg4 arg5 harg5) K } := by
  refine ⟨?_, ?_, ?_, ?_, fun E K => ?run⟩
  case run =>
    simp only [cc0_quant_x_eq_skeleton]; unfold cc0_quant_x_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton]
    unfold owns
    iintro ⟨⟨%f0, %hf0, H0⟩, ⟨%d1, %f1, -, H1⟩, ⟨%d2, %f2, -, H2⟩, ⟨%d3, %f3, -, H3⟩, ⟨%fs0, %hfs0, HS0⟩, Hk⟩
    obtain rfl := harg1.eq_unread hf0; obtain rfl := harg5.eq_unread hfs0
    letI : ClosedOff (k0_off1 i 0#32) := ⟨![1, 0, 0], (k0_off1_last i hc0).1⟩
    letI : ClosedOff (k0_off1 i 1#32) := ⟨![1, 0, 0], (k0_off1_last i hc0).2⟩
    sl_exec (disch := first | sl_exact hc0)
    sl_step
    iapply Hk
    isplitl [H0]
    · iexists _; isplitr; · ipureintro; exact harg1.read_unread _
      iexact H0
    isplitl [H1]; · iexists _; iexact H1
    isplitl [H2]; · iexists _; iexact H2
    isplitl [H3]
    · iexists _; iexact H3
    iexact HS0

end Cert.Kernel.Run
-- ==== Proof.BitsQuant.lean ====
/-
  The quantiser of 128 columns as the body computes it, as functions of the columns; and the page of scales it fills in. The program over words: the same text as `Quant`, whose program it shares but for the numbers.
-/
module

public import proofs.«01_k».proof.Proof.Gen.Kernel.Skeleton
public import Idealize.ShloMosaic.Lib.Pointwise
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The quantiser of a half block, as the body computes it -/

/-- The largest magnitude among a lane and the 31 lanes before it, wrapping. -/
def tree (v : FVec F S256x128 .f32) : FVec F S256x128 .f32 :=
  let v3 : FVec F S256x128 .f32 := absf v
  let v5 : FVec F S256x128 .f32 := maximumf v3 (dynamicRotate 1 1#32 none v3 rotates_S256x128_d1)
  let v7 : FVec F S256x128 .f32 := maximumf v5 (dynamicRotate 1 2#32 none v5 rotates_S256x128_d1)
  let v9 : FVec F S256x128 .f32 := maximumf v7 (dynamicRotate 1 4#32 none v7 rotates_S256x128_d1)
  let v11 : FVec F S256x128 .f32 := maximumf v9 (dynamicRotate 1 8#32 none v9 rotates_S256x128_d1)
  maximumf v11 (dynamicRotate 1 16#32 none v11 rotates_S256x128_d1)

/-- The last lane of each lane's group of 32. -/
def lastLane : IVec S256x128 32 :=
  let v16 : IVec S256x128 32 := ori (iota .tc S256x128 32 [1] iota_S256x128_d1_w32) (broadcast S256x128 31#32)
  let v21 : IVec S256x128 32 := select (cmpi .slt v16 (broadcast S256x128 0#32)) (addi v16 (broadcast S256x128 128#32)) v16
  shapeCast S256x128 (shapeCast S256x128x1 v21 shapeCasts_S256x128_S256x128x1) shapeCasts_S256x128x1_S256x128

/-- The largest magnitude of each lane's group, over 448. -/
def ratio (v : FVec F S256x128 .f32) : FVec F S256x128 .f32 :=
  mulf (dynamicGather 1 (tree v) lastLane) (broadcast S256x128 (Scalar.ofBits .f32 0x3B124925#32))

/-- The float whose exponent field is `e`. -/
def power (e : IVec S256x128 32) : FVec F S256x128 .f32 := bitcastToFloat .f32 (shli e (broadcast S256x128 23#32))

/-- One comparison of the search for the exponent field. -/
def probe (x : FVec F S256x128 .f32) (b : BitVec 32) (e : IVec S256x128 32) : IVec S256x128 32 :=
  select (cmpf .oge x (power (addi e (broadcast S256x128 b)))) (addi e (broadcast S256x128 b)) e

/-- The exponent field found by eight comparisons. -/
def search (x : FVec F S256x128 .f32) : IVec S256x128 32 :=
  probe x 1#32 (probe x 2#32 (probe x 4#32 (probe x 8#32 (probe x 16#32 (probe x 32#32 (probe x 64#32 (probe x 128#32 (broadcast S256x128 0#32))))))))

/-- The field the scale is made from: 126 where the group is zero or not finite. -/
def field (v : FVec F S256x128 .f32) : IVec S256x128 32 :=
  let e : IVec S256x128 32 := search (ratio v)
  select (ori (cmpi .eq e (broadcast S256x128 0#32)) (cmpi .eq e (broadcast S256x128 255#32))) (broadcast S256x128 126#32) e

/-- The scale, in every lane of its group. -/
def scaleOf (v : FVec F S256x128 .f32) : FVec F S256x128 .f32 := power (addi (field v) (broadcast S256x128 1#32))

/-- The codes. -/
def codesOf (v : FVec F S256x128 .f32) : FVec F S256x128 .fp8e4m3 :=
  truncf .fp8e4m3 (minimumf (broadcast S256x128 (Scalar.ofBits .f32 0x43E00000#32)) (maximumf (broadcast S256x128 (Scalar.ofBits .f32 0xC3E00000#32))
    (mulf v (power (subi (broadcast S256x128 253#32) (field v)))))) bitsLt_fp8e4m3_f32

/-- The codes times their scales. -/
def dequantOf (v : FVec F S256x128 .f32) : FVec F S256x128 .bf16 :=
  mulf (extf .bf16 (codesOf v) bitsLt_fp8e4m3_bf16) (truncf .bf16 (scaleOf v) bitsLt_bf16_f32)

/-! ## The page of gathered scales -/

/-- The lane a page's lane takes its scale from: the first lane of group `lane % 4`. -/
def fromLane : IVec S256x128 32 :=
  let v160 : IVec S256x128 32 := iota .tc S256x128 32 [1] iota_S256x128_d1_w32
  let v162 : BitVec 32 := Scalar.select (Scalar.cmpi .eq 4#32 0#32) 1#32 4#32
  let v164 : IVec S256x128 32 := remsi v160 (broadcast S256x128 v162)
  let v166 : IVec S256x128 1 := cmpi .ne v164 (broadcast S256x128 0#32)
  let v172 : IVec S256x128 1 := xori (cmpi .slt v164 (broadcast S256x128 0#32))
    (broadcastTo S256x128 (broadcast S256x128 (Scalar.cmpi .slt v162 0#32)) broadcasts_S256x128_S256x128)
  let v176 : IVec S256x128 32 := select (andi v172 v166) (addi v164 (broadcast S256x128 v162)) v164
  let v178 : IVec S256x128 32 := muli v176 (broadcast S256x128 32#32)
  let v183 : IVec S256x128 32 := select (cmpi .slt v178 (broadcast S256x128 0#32)) (addi v178 (broadcast S256x128 128#32)) v178
  shapeCast S256x128 (shapeCast S256x128x1 v183 shapeCasts_S256x128_S256x128x1) shapeCasts_S256x128x1_S256x128

/-- The slot a page's lane belongs to, `lane / 4`. -/
def slotLane : IVec S256x128 32 :=
  let v160 : IVec S256x128 32 := iota .tc S256x128 32 [1] iota_S256x128_d1_w32
  let v188 : IVec S256x128 32 := divsi v160 (broadcast S256x128 4#32)
  let v195 : IVec S256x128 32 := subi (extui 32 (cmpi .sgt v160 (broadcast S256x128 0#32)) natLt_1_32) (extui 32 (cmpi .slt v160 (broadcast S256x128 0#32)) natLt_1_32)
  let v200 : BitVec 32 := Scalar.subi (Scalar.extui (Scalar.cmpi .sgt 4#32 0#32)) (Scalar.extui (Scalar.cmpi .slt 4#32 0#32))
  let v202 : IVec S256x128 1 := cmpi .ne v195 (broadcast S256x128 v200)
  let v206 : IVec S256x128 1 := cmpi .ne (remsi v160 (broadcast S256x128 4#32)) (broadcast S256x128 0#32)
  select (andi v202 v206) (subi v188 (broadcast S256x128 1#32)) v188

/-- A page after the four scales of slot `w` are put in. -/
def place (w : BitVec 32) (old : FVec F S256x128 .f32) (scale : FVec F S256x128 .f32) : FVec F S256x128 .f32 :=
  select (cmpi .eq slotLane (broadcast S256x128 w)) (dynamicGather 1 scale fromLane) old

/-- The slot within its page of the half block number `t`. -/
def slotOf (t : BitVec 32) : BitVec 32 :=
  let v151 : BitVec 32 := Scalar.select (Scalar.cmpi .eq 32#32 0#32) 1#32 32#32
  let v152 : BitVec 32 := Scalar.remsi t v151
  let v157 : BitVec 1 := Scalar.andi (Scalar.xori (Scalar.cmpi .slt v152 0#32) (Scalar.cmpi .slt v151 0#32)) (Scalar.cmpi .ne v152 0#32)
  Scalar.select v157 (Scalar.addi v152 v151) v152

/-- The number of half block `j` of point `i`. -/
def halfNo (i : Nat) (j : BitVec 32) : BitVec 32 := Scalar.addi (Scalar.muli 2#32 (BitVec.ofNat 32 i)) j

theorem slot_eq : ∀ i : Fin 72, slotOf (halfNo i.val 0#32) = BitVec.ofNat 32 (2 * i.val % 32) ∧ slotOf (halfNo i.val 1#32) = BitVec.ofNat 32 ((2 * i.val + 1) % 32) := by
  decide +kernel

theorem fromLane_apply (r : Fin 256) (l : Fin 128) : fromLane (ix2 r l) = BitVec.ofNat 32 (l.val % 4 * 32) := by
  pointwise [fromLane]
  revert l; decide +kernel

theorem slotLane_apply (r : Fin 256) (l : Fin 128) : slotLane (ix2 r l) = BitVec.ofNat 32 (l.val / 4) := by
  pointwise [slotLane]
  revert l; decide +kernel

theorem slot_cmp : ∀ (l : Fin 128) (n : Fin 32), IntOp.cmpi .eq (BitVec.ofNat 32 (l.val / 4)) (BitVec.ofNat 32 n.val) = if l.val / 4 = n.val then 1#1 else 0#1 := by
  decide +kernel

/-- A page's lane after slot `n` is put in: the scale of group `lane % 4` where the lane belongs to the slot. -/
theorem place_apply (n : Nat) (hn : n < 32) (old scale : FVec F S256x128 .f32) (r : Fin 256) (l : Fin 128) :
    place (BitVec.ofNat 32 n) old scale (ix2 r l)
      = if l.val / 4 = n then scale (ix2 r ⟨l.val % 4 * 32, by omega⟩) else old (ix2 r l) := by
  pointwise [place]
  rw [slotLane_apply, fromLane_apply, slot_cmp l ⟨n, hn⟩]
  rw [show (ix2 r ⟨(BitVec.ofNat 32 (l.val % 4 * 32)).toNat % 128, Nat.mod_lt _ (by decide)⟩ : S256x128.Idx) = ix2 r ⟨l.val % 4 * 32, by omega⟩ from by
    congr 2; rw [BitVec.toNat_ofNat]; omega]
  split_ifs <;> rfl

end Cert.Kernel.Run
-- ==== Proof.BitsPages.lean ====
/-
  A block of 256 columns as two halves, and the pages of scales carried in scratch from one grid point to the next. The program over words: the same text as `Pages`, whose program it shares but for the numbers.
-/
module

public import proofs.«01_k».proof.Proof.BitsQuant
public import Idealize.ShloMosaic.Lib.WritesUnit
public import Idealize.ShloMosaic.Lib.Pointwise
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

theorem up_apply (a : FVec F S256x128 .f32) (r : Fin 256) (l : Fin 128) :
    shapeCast S1x256x128 a shapeCasts_S256x128_S1x256x128 (ix3 0 r l) = a (ix2 r l) := by
  pointwise
theorem down_apply (a : FVec F S1x256x128 .f32) (r : Fin 256) (l : Fin 128) :
    shapeCast S256x128 a shapeCasts_S1x256x128_S256x128 (ix2 r l) = a (ix3 0 r l) := by
  pointwise

/-- Columns `o … o + 127` of a block of 256 columns, as f32. -/
def part (x : Vec F S256x256 .bf16) (o : ℕ) : FVec F S256x128 .f32 :=
  extf .f32 (s := S256x128) (fun y => x (ix2 (y 0) ⟨(o + (y 1).val) % 256, Nat.mod_lt _ (by decide)⟩)) bitsLt_bf16_f32

/-- Block columns 0 … 127 by `h 0`, 128 … 255 by `h 128`. -/
def pair {e : EltTy} (h : ℕ → S256x128.Idx → Elt F e) : S256x256.Idx → Elt F e :=
  fun y => h (128 * ((y 1).val / 128)) (ix2 (y 0) ⟨(y 1).val % 128, Nat.mod_lt _ (by decide)⟩)

theorem read_pair {e : EltTy} (v : View sig .tc .vmem S256x256 e) (f : v.ty.Contents (Elt F)) (h : ℕ → S256x128.Idx → Elt F e)
    (inb1 : ∀ a, (![0, 128] : Fin 2 → ℕ) a + (![256, 128] : Fin 2 → ℕ) a ≤ S256x256.size a)
    (inb0 : ∀ a, (![0, 0] : Fin 2 → ℕ) a + (![256, 128] : Fin 2 → ℕ) a ≤ S256x256.size a) :
    v.read (Elt F) (v.writes (Elt F) f [⟨Rect.unit (s := S256x256) ![0, 128] ![256, 128] inb1, h 128⟩, ⟨Rect.unit (s := S256x256) ![0, 0] ![256, 128] inb0, h 0⟩]) = pair h := by
  funext y
  unfold pair
  have hy : (y 1).val < 256 := (y 1).isLt
  by_cases hc : (y 1).val < 128
  · rw [View.read_writes_cons_unit_of_not_mem v f inb1 (h 128) _ y rfl (1 : Fin 2) (Or.inl hc)]
    rw [View.read_writes_cons_unit_of_mem v f inb0 (h 0) _ y (ix2 (y 0) ⟨(y 1).val % 128, Nat.mod_lt _ (by decide)⟩) rfl (fun a => by
      match a with
      | ⟨0, _⟩ => show (y 0).val = 0 + (y 0).val; omega
      | ⟨1, _⟩ => show (y 1).val = 0 + (y 1).val % 128; omega)]
    rw [show 128 * ((y 1).val / 128) = 0 by omega]
  · rw [View.read_writes_cons_unit_of_mem v f inb1 (h 128) _ y (ix2 (y 0) ⟨(y 1).val % 128, Nat.mod_lt _ (by decide)⟩) rfl (fun a => by
      match a with
      | ⟨0, _⟩ => show (y 0).val = 0 + (y 0).val; omega
      | ⟨1, _⟩ => show (y 1).val = 128 + (y 1).val % 128; omega)]
    rw [show 128 * ((y 1).val / 128) = 128 by omega]

/-! ## The scratch of 2 pages: what it holds before point `t` -/

/-- Every slot already put in holds the scales of its half block. -/
def Inv2 (g : ℕ → FVec F S256x128 .f32) (t : ℕ) (d : Vec F S2x256x128 .f32) : Prop :=
  ∀ (p : Fin 2) (r : Fin 256) (l : Fin 128), 32 * p.val + l.val / 4 < 2 * t →
    d (ix3 p r l) = g (32 * p.val + l.val / 4) (ix2 r ⟨l.val % 4 * 32, by omega⟩)

theorem inv2_zero (g : ℕ → FVec F S256x128 .f32) (d : Vec F S2x256x128 .f32) : Inv2 g 0 d := fun p r l h => by omega

theorem page2_read (v : View sig .tc .vmem S2x256x128 .f32) (f : v.ty.Contents (Elt F)) (p : Fin 2) (off : Fin 3 → ℕ) (ho : off = ![p.val, 0, 0])
    (inb : ∀ a, off a + S1x256x128.size a ≤ S2x256x128.size a) (r : Fin 256) (l : Fin 128) :
    v.readAt (Elt F) (Rect.unit (s := S2x256x128) off S1x256x128.size inb).toLoadRect f (ix3 0 r l) = v.read (Elt F) f (ix3 p r l) := by
  subst ho
  refine congrArg (v.read (Elt F) f) (funext fun a => Fin.ext ?_)
  match a with
  | ⟨0, _⟩ => show p.val + 1 * 0 = p.val; omega
  | ⟨1, _⟩ => show 0 + 1 * r.val = r.val; omega
  | ⟨2, _⟩ => show 0 + 1 * l.val = l.val; omega

/-- A point puts in its two slots. -/
theorem inv2_step (v : View sig .tc .vmem S2x256x128 .f32) (f : v.ty.Contents (Elt F)) (g : ℕ → FVec F S256x128 .f32) (t : ℕ) (ht : t < 28)
    (off0 off1 : Fin 3 → ℕ) (ho0 : off0 = ![t / 16, 0, 0]) (ho1 : off1 = ![t / 16, 0, 0])
    (inb0 : ∀ a, off0 a + S1x256x128.size a ≤ S2x256x128.size a) (inb1 : ∀ a, off1 a + S1x256x128.size a ≤ S2x256x128.size a)
    (hI : Inv2 g t (v.read (Elt F) f)) (w0 w1 : FVec F S1x256x128 .f32)
    (hw0 : w0 = shapeCast S1x256x128 (place (BitVec.ofNat 32 (2 * t % 32)) (shapeCast S256x128 (v.readAt (Elt F) (Rect.unit (s := S2x256x128) off0 S1x256x128.size inb0).toLoadRect f) shapeCasts_S1x256x128_S256x128) (g (2 * t))) shapeCasts_S256x128_S1x256x128)
    (hw1 : w1 = shapeCast S1x256x128 (place (BitVec.ofNat 32 ((2 * t + 1) % 32)) (shapeCast S256x128 w0 shapeCasts_S1x256x128_S256x128) (g (2 * t + 1))) shapeCasts_S256x128_S1x256x128) :
    Inv2 g (t + 1) (v.read (Elt F) (v.writes (Elt F) f [⟨Rect.unit (s := S2x256x128) off1 S1x256x128.size inb1, w1⟩, ⟨Rect.unit (s := S2x256x128) off0 S1x256x128.size inb0, w0⟩])) := by
  intro p r l h
  by_cases hp : p.val = t / 16
  · rw [View.read_writes_cons_unit_of_mem v f inb1 w1 _ (ix3 p r l) (ix3 0 r l) (ho1.trans (by rw [← hp])) (fun a => by
      match a with
      | ⟨0, _⟩ => rfl
      | ⟨1, _⟩ => show r.val = 0 + r.val; omega
      | ⟨2, _⟩ => show l.val = 0 + l.val; omega)]
    rw [hw1, up_apply, place_apply _ (by omega), down_apply, hw0, up_apply, place_apply _ (by omega), down_apply,
      page2_read v f p off0 (ho0.trans (by rw [← hp]))]
    split_ifs with h1 h2
    · rw [show 32 * p.val + l.val / 4 = 2 * t + 1 by omega]
    · rw [show 32 * p.val + l.val / 4 = 2 * t by omega]
    · exact hI p r l (by omega)
  · rw [View.read_writes_cons_unit_of_not_mem v f inb1 w1 _ (ix3 p r l) ho1 (0 : Fin 3) (by
      show p.val < t / 16 ∨ t / 16 + 1 ≤ p.val; omega)]
    rw [View.read_writes_cons_unit_of_not_mem v f inb0 w0 _ (ix3 p r l) ho0 (0 : Fin 3) (by
      show p.val < t / 16 ∨ t / 16 + 1 ≤ p.val; omega)]
    exact hI p r l (by omega)

/-! ## The scratch of 5 pages: what it holds before point `t` -/

/-- Every slot already put in holds the scales of its half block. -/
def Inv5 (g : ℕ → FVec F S256x128 .f32) (t : ℕ) (d : Vec F S5x256x128 .f32) : Prop :=
  ∀ (p : Fin 5) (r : Fin 256) (l : Fin 128), 32 * p.val + l.val / 4 < 2 * t →
    d (ix3 p r l) = g (32 * p.val + l.val / 4) (ix2 r ⟨l.val % 4 * 32, by omega⟩)

theorem inv5_zero (g : ℕ → FVec F S256x128 .f32) (d : Vec F S5x256x128 .f32) : Inv5 g 0 d := fun p r l h => by omega

theorem page5_read (v : View sig .tc .vmem S5x256x128 .f32) (f : v.ty.Contents (Elt F)) (p : Fin 5) (off : Fin 3 → ℕ) (ho : off = ![p.val, 0, 0])
    (inb : ∀ a, off a + S1x256x128.size a ≤ S5x256x128.size a) (r : Fin 256) (l : Fin 128) :
    v.readAt (Elt F) (Rect.unit (s := S5x256x128) off S1x256x128.size inb).toLoadRect f (ix3 0 r l) = v.read (Elt F) f (ix3 p r l) := by
  subst ho
  refine congrArg (v.read (Elt F) f) (funext fun a => Fin.ext ?_)
  match a with
  | ⟨0, _⟩ => show p.val + 1 * 0 = p.val; omega
  | ⟨1, _⟩ => show 0 + 1 * r.val = r.val; omega
  | ⟨2, _⟩ => show 0 + 1 * l.val = l.val; omega

/-- A point puts in its two slots. -/
theorem inv5_step (v : View sig .tc .vmem S5x256x128 .f32) (f : v.ty.Contents (Elt F)) (g : ℕ → FVec F S256x128 .f32) (t : ℕ) (ht : t < 72)
    (off0 off1 : Fin 3 → ℕ) (ho0 : off0 = ![t / 16, 0, 0]) (ho1 : off1 = ![t / 16, 0, 0])
    (inb0 : ∀ a, off0 a + S1x256x128.size a ≤ S5x256x128.size a) (inb1 : ∀ a, off1 a + S1x256x128.size a ≤ S5x256x128.size a)
    (hI : Inv5 g t (v.read (Elt F) f)) (w0 w1 : FVec F S1x256x128 .f32)
    (hw0 : w0 = shapeCast S1x256x128 (place (BitVec.ofNat 32 (2 * t % 32)) (shapeCast S256x128 (v.readAt (Elt F) (Rect.unit (s := S5x256x128) off0 S1x256x128.size inb0).toLoadRect f) shapeCasts_S1x256x128_S256x128) (g (2 * t))) shapeCasts_S256x128_S1x256x128)
    (hw1 : w1 = shapeCast S1x256x128 (place (BitVec.ofNat 32 ((2 * t + 1) % 32)) (shapeCast S256x128 w0 shapeCasts_S1x256x128_S256x128) (g (2 * t + 1))) shapeCasts_S256x128_S1x256x128) :
    Inv5 g (t + 1) (v.read (Elt F) (v.writes (Elt F) f [⟨Rect.unit (s := S5x256x128) off1 S1x256x128.size inb1, w1⟩, ⟨Rect.unit (s := S5x256x128) off0 S1x256x128.size inb0, w0⟩])) := by
  intro p r l h
  by_cases hp : p.val = t / 16
  · rw [View.read_writes_cons_unit_of_mem v f inb1 w1 _ (ix3 p r l) (ix3 0 r l) (ho1.trans (by rw [← hp])) (fun a => by
      match a with
      | ⟨0, _⟩ => rfl
      | ⟨1, _⟩ => show r.val = 0 + r.val; omega
      | ⟨2, _⟩ => show l.val = 0 + l.val; omega)]
    rw [hw1, up_apply, place_apply _ (by omega), down_apply, hw0, up_apply, place_apply _ (by omega), down_apply,
      page5_read v f p off0 (ho0.trans (by rw [← hp]))]
    split_ifs with h1 h2
    · rw [show 32 * p.val + l.val / 4 = 2 * t + 1 by omega]
    · rw [show 32 * p.val + l.val / 4 = 2 * t by omega]
    · exact hI p r l (by omega)
  · rw [View.read_writes_cons_unit_of_not_mem v f inb1 w1 _ (ix3 p r l) ho1 (0 : Fin 3) (by
      show p.val < t / 16 ∨ t / 16 + 1 ≤ p.val; omega)]
    rw [View.read_writes_cons_unit_of_not_mem v f inb0 w0 _ (ix3 p r l) ho0 (0 : Fin 3) (by
      show p.val < t / 16 ∨ t / 16 + 1 ≤ p.val; omega)]
    exact hI p r l (by omega)

end Cert.Kernel.Run
-- ==== Proof.BitsReg0A.lean ====
/-
  The first call's stores, read as the quantiser of the block; and the array of scales its last point stores. The program over words: the same text as `Reg0A`, whose program it shares but for the numbers.
-/
module

public import proofs.«01_k».proof.Proof.BitsRun0
public import proofs.«01_k».proof.Proof.BitsPages

@[expose] public section

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

theorem readCov_top {sig : RefSig} {κ : Kind} {sp : Space} {s : Shape} {e : EltTy} (v : View sig κ sp s e) {off0 off1 size : Fin s.rank → ℕ} (h : off0 = off1)
    (inb0 : ∀ a, off0 a + size a ≤ s.size a) (inb1 : ∀ a, off1 a + size a ≤ s.size a) (w : (Rect.unit off0 size inb0).shape.Idx → Elt F e) (L : List (View.Piece (Elt F) s e)) :
    v.readCov (⟨Rect.unit off0 size inb0, w⟩ :: L) (Rect.unit off1 size inb1).toLoadRect = w := by
  subst h; exact View.readCov_cons_toLoadRect v _ w L

theorem half_0 (x : Vec F S256x256 .bf16) : k0_pay3 (View.ld x (Rect.unit (s := S256x256) ![0, 0] S256x128.size inb_S256x256_S256x128_0_0)) = part x 0 := by
  funext y
  obtain ⟨r, l, rfl⟩ : ∃ (r : Fin 256) (l : Fin 128), y = ix2 r l := ⟨y 0, y 1, by funext a; match a with | ⟨0, _⟩ => rfl | ⟨1, _⟩ => rfl⟩
  pointwise [k0_pay3, part]
  refine congrArg _ (congrArg x (congrArg (ix2 r) (Fin.ext ?_)))
  show l.val = l.val % 256; omega
theorem half_1 (x : Vec F S256x256 .bf16) : k0_pay18 (View.ld x (Rect.unit (s := S256x256) ![0, 128] S256x128.size inb_S256x256_S256x128_0_128)) = part x 128 := by
  funext y
  obtain ⟨r, l, rfl⟩ : ∃ (r : Fin 256) (l : Fin 128), y = ix2 r l := ⟨y 0, y 1, by funext a; match a with | ⟨0, _⟩ => rfl | ⟨1, _⟩ => rfl⟩
  pointwise [k0_pay18, part]
  refine congrArg _ (congrArg x (congrArg (ix2 r) (Fin.ext ?_)))
  show 128 + l.val = (128 + l.val) % 256; omega
/-- The block's codes, and its dequantised values. -/
def codesPair (x : Vec F S256x256 .bf16) : Vec F S256x256 .fp8e4m3 := pair fun o => codesOf (part x o)
def deqPair (x : Vec F S256x256 .bf16) : Vec F S256x256 .bf16 := pair fun o => dequantOf (part x o)

theorem half0_A (c : Dev nD) (i : grid0.Coords) (arg1 : Memref sig .tc .vmem S256x256 .bf16) (h1 : arg1.IsWhole) (arg2 : Memref sig .tc .vmem S256x256 .fp8e4m3) (h2 : arg2.IsWhole) (arg3 : Memref sig .tc .vmem S256x256 .bf16) (h3 : arg3.IsWhole) (arg4 : Memref sig .tc .vmem S256x224 .f32) (h4 : arg4.IsWhole) (arg5 : Memref sig .tc .vmem S2x256x128 .f32) (h5 : arg5.IsWhole) (hc0 : ¬k0_cond1 i = 1#1)     (x0 : Vec F S256x256 .bf16) (d5 : Vec F S2x256x128 .f32)  : kernelRun0_A.sl.r c arg1 h1 x0 = part x0 0 := by
  show k0_pay3 (View.readAt (Elt F) arg1.view (Rect.unit (s := S256x256) ![0, 0] S256x128.size inb_S256x256_S256x128_0_0).toLoadRect (h1.unread x0)) = _
  rw [View.readAt_eq_ld, h1.read_unread]; exact half_0 x0
theorem half1_A (c : Dev nD) (i : grid0.Coords) (arg1 : Memref sig .tc .vmem S256x256 .bf16) (h1 : arg1.IsWhole) (arg2 : Memref sig .tc .vmem S256x256 .fp8e4m3) (h2 : arg2.IsWhole) (arg3 : Memref sig .tc .vmem S256x256 .bf16) (h3 : arg3.IsWhole) (arg4 : Memref sig .tc .vmem S256x224 .f32) (h4 : arg4.IsWhole) (arg5 : Memref sig .tc .vmem S2x256x128 .f32) (h5 : arg5.IsWhole) (hc0 : ¬k0_cond1 i = 1#1)     (x0 : Vec F S256x256 .bf16) (d5 : Vec F S2x256x128 .f32)  : kernelRun0_A.sl.r_9 c arg1 h1 x0 = part x0 128 := by
  show k0_pay18 (View.readAt (Elt F) arg1.view (Rect.unit (s := S256x256) ![0, 128] S256x128.size inb_S256x256_S256x128_0_128).toLoadRect (h1.unread x0)) = _
  rw [View.readAt_eq_ld, h1.read_unread]; exact half_1 x0

/-- The codes the body stores. -/
theorem codes0_A (c : Dev nD) (i : grid0.Coords) (arg1 : Memref sig .tc .vmem S256x256 .bf16) (h1 : arg1.IsWhole) (arg2 : Memref sig .tc .vmem S256x256 .fp8e4m3) (h2 : arg2.IsWhole) (arg3 : Memref sig .tc .vmem S256x256 .bf16) (h3 : arg3.IsWhole) (arg4 : Memref sig .tc .vmem S256x224 .f32) (h4 : arg4.IsWhole) (arg5 : Memref sig .tc .vmem S2x256x128 .f32) (h5 : arg5.IsWhole) (hc0 : ¬k0_cond1 i = 1#1)     (x0 : Vec F S256x256 .bf16) (d5 : Vec F S2x256x128 .f32)  (f : arg2.view.ty.Contents (Elt F)) :
    arg2.view.read (Elt F) (arg2.view.writes (Elt F) f (kernelRun0_A c i arg1 h1 arg2 h2 arg3 h3 arg4 h4 arg5 h5 hc0 x0 d5).1) = codesPair x0 := by
  have e : (kernelRun0_A c i arg1 h1 arg2 h2 arg3 h3 arg4 h4 arg5 h5 hc0 x0 d5).1 = [⟨Rect.unit (s := S256x256) ![0, 128] ![256, 128] inb_S256x256_S256x128_0_128, codesOf (kernelRun0_A.sl.r_9 c arg1 h1 x0)⟩,
      ⟨Rect.unit (s := S256x256) ![0, 0] ![256, 128] inb_S256x256_S256x128_0_0, codesOf (kernelRun0_A.sl.r c arg1 h1 x0)⟩] := by sl_kernel_rfl
  rw [e, half0_A c i arg1 h1 arg2 h2 arg3 h3 arg4 h4 arg5 h5 hc0 x0 d5, half1_A c i arg1 h1 arg2 h2 arg3 h3 arg4 h4 arg5 h5 hc0 x0 d5]
  exact read_pair arg2.view f (fun o => codesOf (part x0 o)) _ _

/-- The dequantised block the body stores. -/
theorem deq0_A (c : Dev nD) (i : grid0.Coords) (arg1 : Memref sig .tc .vmem S256x256 .bf16) (h1 : arg1.IsWhole) (arg2 : Memref sig .tc .vmem S256x256 .fp8e4m3) (h2 : arg2.IsWhole) (arg3 : Memref sig .tc .vmem S256x256 .bf16) (h3 : arg3.IsWhole) (arg4 : Memref sig .tc .vmem S256x224 .f32) (h4 : arg4.IsWhole) (arg5 : Memref sig .tc .vmem S2x256x128 .f32) (h5 : arg5.IsWhole) (hc0 : ¬k0_cond1 i = 1#1)     (x0 : Vec F S256x256 .bf16) (d5 : Vec F S2x256x128 .f32)  (f : arg3.view.ty.Contents (Elt F)) :
    arg3.view.read (Elt F) (arg3.view.writes (Elt F) f (kernelRun0_A c i arg1 h1 arg2 h2 arg3 h3 arg4 h4 arg5 h5 hc0 x0 d5).2.1) = deqPair x0 := by
  have e : (kernelRun0_A c i arg1 h1 arg2 h2 arg3 h3 arg4 h4 arg5 h5 hc0 x0 d5).2.1 = [⟨Rect.unit (s := S256x256) ![0, 128] ![256, 128] inb_S256x256_S256x128_0_128, dequantOf (kernelRun0_A.sl.r_9 c arg1 h1 x0)⟩,
      ⟨Rect.unit (s := S256x256) ![0, 0] ![256, 128] inb_S256x256_S256x128_0_0, dequantOf (kernelRun0_A.sl.r c arg1 h1 x0)⟩] := by sl_kernel_rfl
  rw [e, half0_A c i arg1 h1 arg2 h2 arg3 h3 arg4 h4 arg5 h5 hc0 x0 d5, half1_A c i arg1 h1 arg2 h2 arg3 h3 arg4 h4 arg5 h5 hc0 x0 d5]
  exact read_pair arg3.view f (fun o => dequantOf (part x0 o)) _ _

theorem pages0_A (c : Dev nD) (i : grid0.Coords) (arg1 : Memref sig .tc .vmem S256x256 .bf16) (h1 : arg1.IsWhole) (arg2 : Memref sig .tc .vmem S256x256 .fp8e4m3) (h2 : arg2.IsWhole) (arg3 : Memref sig .tc .vmem S256x256 .bf16) (h3 : arg3.IsWhole) (arg4 : Memref sig .tc .vmem S256x224 .f32) (h4 : arg4.IsWhole) (arg5 : Memref sig .tc .vmem S2x256x128 .f32) (h5 : arg5.IsWhole) (hc0 : ¬k0_cond1 i = 1#1)     (x0 : Vec F S256x256 .bf16) (d5 : Vec F S2x256x128 .f32)  (inb0 : ∀ a, k0_off1 i 0#32 a + S1x256x128.size a ≤ S2x256x128.size a) (inb1 : ∀ a, k0_off1 i 1#32 a + S1x256x128.size a ≤ S2x256x128.size a) :
    (kernelRun0_A c i arg1 h1 arg2 h2 arg3 h3 arg4 h4 arg5 h5 hc0 x0 d5).2.2.2.1 = [⟨Rect.unit (s := S2x256x128) (k0_off1 i 1#32) S1x256x128.size inb1, shapeCast S1x256x128 (place (slotOf (halfNo (i 0).val 1#32)) (shapeCast S256x128
        (View.readCov (Val := Elt F) arg5.view [⟨Rect.unit (s := S2x256x128) (k0_off1 i 0#32) S1x256x128.size inb0, shapeCast S1x256x128 (place (slotOf (halfNo (i 0).val 0#32)) (shapeCast S256x128 (arg5.view.readAt (Elt F) (Rect.unit (s := S2x256x128) (k0_off1 i 0#32) S1x256x128.size inb0).toLoadRect (h5.unread d5)) shapeCasts_S1x256x128_S256x128) (scaleOf (kernelRun0_A.sl.r c arg1 h1 x0))) shapeCasts_S256x128_S1x256x128⟩]
          (Rect.unit (s := S2x256x128) (k0_off1 i 1#32) S1x256x128.size inb1).toLoadRect) shapeCasts_S1x256x128_S256x128) (scaleOf (kernelRun0_A.sl.r_9 c arg1 h1 x0))) shapeCasts_S256x128_S1x256x128⟩,
      ⟨Rect.unit (s := S2x256x128) (k0_off1 i 0#32) S1x256x128.size inb0, shapeCast S1x256x128 (place (slotOf (halfNo (i 0).val 0#32)) (shapeCast S256x128 (arg5.view.readAt (Elt F) (Rect.unit (s := S2x256x128) (k0_off1 i 0#32) S1x256x128.size inb0).toLoadRect (h5.unread d5)) shapeCasts_S1x256x128_S256x128) (scaleOf (kernelRun0_A.sl.r c arg1 h1 x0))) shapeCasts_S256x128_S1x256x128⟩] := by sl_kernel_rfl

/-- The scratch after the body. -/
theorem scratch0_A (c : Dev nD) (i : grid0.Coords) (arg1 : Memref sig .tc .vmem S256x256 .bf16) (h1 : arg1.IsWhole) (arg2 : Memref sig .tc .vmem S256x256 .fp8e4m3) (h2 : arg2.IsWhole) (arg3 : Memref sig .tc .vmem S256x256 .bf16) (h3 : arg3.IsWhole) (arg4 : Memref sig .tc .vmem S256x224 .f32) (h4 : arg4.IsWhole) (arg5 : Memref sig .tc .vmem S2x256x128 .f32) (h5 : arg5.IsWhole) (hc0 : ¬k0_cond1 i = 1#1)     (x0 : Vec F S256x256 .bf16) (d5 : Vec F S2x256x128 .f32)  (g : ℕ → FVec F S256x128 .f32) (hg0 : g (2 * (i 0).val) = scaleOf (part x0 0)) (hg1 : g (2 * (i 0).val + 1) = scaleOf (part x0 128))
    (hI : Inv2 g (i 0).val d5) :
    Inv2 g ((i 0).val + 1) (arg5.view.read (Elt F) (arg5.view.writes (Elt F) (h5.unread d5) (kernelRun0_A c i arg1 h1 arg2 h2 arg3 h3 arg4 h4 arg5 h5 hc0 x0 d5).2.2.2.1)) := by
  have ht : (i 0).val < 28 := (i 0).isLt
  have hs := slot_eq ⟨(i 0).val, by omega⟩
  have inb (n : BitVec 32) (h : k0_off1 i n = ![(i 0).val / 16, 0, 0]) : ∀ a, k0_off1 i n a + S1x256x128.size a ≤ S2x256x128.size a := by
    rw [h]; intro a
    match a with
    | ⟨0, _⟩ => show (i 0).val / 16 + 1 ≤ 2; omega
    | ⟨1, _⟩ => show 0 + 256 ≤ 256; omega
    | ⟨2, _⟩ => show 0 + 128 ≤ 128; omega
  rw [pages0_A c i arg1 h1 arg2 h2 arg3 h3 arg4 h4 arg5 h5 hc0 x0 d5 (inb _ (k0_off1_eq i).1) (inb _ (k0_off1_eq i).2), half0_A c i arg1 h1 arg2 h2 arg3 h3 arg4 h4 arg5 h5 hc0 x0 d5, half1_A c i arg1 h1 arg2 h2 arg3 h3 arg4 h4 arg5 h5 hc0 x0 d5]
  refine inv2_step arg5.view (h5.unread d5) g (i 0).val ht _ _ (k0_off1_eq i).1 (k0_off1_eq i).2 _ _ (by rw [h5.read_unread]; exact hI) _ _ ?_ ?_
  · rw [hg0, hs.1]
  · rw [hg1, hs.2, readCov_top _ ((k0_off1_eq i).1.trans (k0_off1_eq i).2.symm)]

theorem half0_B (c : Dev nD) (i : grid0.Coords) (arg1 : Memref sig .tc .vmem S256x256 .bf16) (h1 : arg1.IsWhole) (arg2 : Memref sig .tc .vmem S256x256 .fp8e4m3) (h2 : arg2.IsWhole) (arg3 : Memref sig .tc .vmem S256x256 .bf16) (h3 : arg3.IsWhole) (arg4 : Memref sig .tc .vmem S256x224 .f32) (h4 : arg4.IsWhole) (arg5 : Memref sig .tc .vmem S2x256x128 .f32) (h5 : arg5.IsWhole) (hc0 : k0_cond1 i = 1#1)     (x0 : Vec F S256x256 .bf16) (d5 : Vec F S2x256x128 .f32)  : kernelRun0_B.sl.r c arg1 h1 x0 = part x0 0 := by
  show k0_pay3 (View.readAt (Elt F) arg1.view (Rect.unit (s := S256x256) ![0, 0] S256x128.size inb_S256x256_S256x128_0_0).toLoadRect (h1.unread x0)) = _
  rw [View.readAt_eq_ld, h1.read_unread]; exact half_0 x0
theorem half1_B (c : Dev nD) (i : grid0.Coords) (arg1 : Memref sig .tc .vmem S256x256 .bf16) (h1 : arg1.IsWhole) (arg2 : Memref sig .tc .vmem S256x256 .fp8e4m3) (h2 : arg2.IsWhole) (arg3 : Memref sig .tc .vmem S256x256 .bf16) (h3 : arg3.IsWhole) (arg4 : Memref sig .tc .vmem S256x224 .f32) (h4 : arg4.IsWhole) (arg5 : Memref sig .tc .vmem S2x256x128 .f32) (h5 : arg5.IsWhole) (hc0 : k0_cond1 i = 1#1)     (x0 : Vec F S256x256 .bf16) (d5 : Vec F S2x256x128 .f32)  : kernelRun0_B.sl.r_9 c arg1 h1 x0 = part x0 128 := by
  show k0_pay18 (View.readAt (Elt F) arg1.view (Rect.unit (s := S256x256) ![0, 128] S256x128.size inb_S256x256_S256x128_0_128).toLoadRect (h1.unread x0)) = _
  rw [View.readAt_eq_ld, h1.read_unread]; exact half_1 x0

/-- The codes the body stores. -/
theorem codes0_B (c : Dev nD) (i : grid0.Coords) (arg1 : Memref sig .tc .vmem S256x256 .bf16) (h1 : arg1.IsWhole) (arg2 : Memref sig .tc .vmem S256x256 .fp8e4m3) (h2 : arg2.IsWhole) (arg3 : Memref sig .tc .vmem S256x256 .bf16) (h3 : arg3.IsWhole) (arg4 : Memref sig .tc .vmem S256x224 .f32) (h4 : arg4.IsWhole) (arg5 : Memref sig .tc .vmem S2x256x128 .f32) (h5 : arg5.IsWhole) (hc0 : k0_cond1 i = 1#1)     (x0 : Vec F S256x256 .bf16) (d5 : Vec F S2x256x128 .f32)  (f : arg2.view.ty.Contents (Elt F)) :
    arg2.view.read (Elt F) (arg2.view.writes (Elt F) f (kernelRun0_B c i arg1 h1 arg2 h2 arg3 h3 arg4 h4 arg5 h5 hc0 x0 d5).1) = codesPair x0 := by
  have e : (kernelRun0_B c i arg1 h1 arg2 h2 arg3 h3 arg4 h4 arg5 h5 hc0 x0 d5).1 = [⟨Rect.unit (s := S256x256) ![0, 128] ![256, 128] inb_S256x256_S256x128_0_128, codesOf (kernelRun0_B.sl.r_9 c arg1 h1 x0)⟩,
      ⟨Rect.unit (s := S256x256) ![0, 0] ![256, 128] inb_S256x256_S256x128_0_0, codesOf (kernelRun0_B.sl.r c arg1 h1 x0)⟩] := by sl_kernel_rfl
  rw [e, half0_B c i arg1 h1 arg2 h2 arg3 h3 arg4 h4 arg5 h5 hc0 x0 d5, half1_B c i arg1 h1 arg2 h2 arg3 h3 arg4 h4 arg5 h5 hc0 x0 d5]
  exact read_pair arg2.view f (fun o => codesOf (part x0 o)) _ _

/-- The dequantised block the body stores. -/
theorem deq0_B (c : Dev nD) (i : grid0.Coords) (arg1 : Memref sig .tc .vmem S256x256 .bf16) (h1 : arg1.IsWhole) (arg2 : Memref sig .tc .vmem S256x256 .fp8e4m3) (h2 : arg2.IsWhole) (arg3 : Memref sig .tc .vmem S256x256 .bf16) (h3 : arg3.IsWhole) (arg4 : Memref sig .tc .vmem S256x224 .f32) (h4 : arg4.IsWhole) (arg5 : Memref sig .tc .vmem S2x256x128 .f32) (h5 : arg5.IsWhole) (hc0 : k0_cond1 i = 1#1)     (x0 : Vec F S256x256 .bf16) (d5 : Vec F S2x256x128 .f32)  (f : arg3.view.ty.Contents (Elt F)) :
    arg3.view.read (Elt F) (arg3.view.writes (Elt F) f (kernelRun0_B c i arg1 h1 arg2 h2 arg3 h3 arg4 h4 arg5 h5 hc0 x0 d5).2.1) = deqPair x0 := by
  have e : (kernelRun0_B c i arg1 h1 arg2 h2 arg3 h3 arg4 h4 arg5 h5 hc0 x0 d5).2.1 = [⟨Rect.unit (s := S256x256) ![0, 128] ![256, 128] inb_S256x256_S256x128_0_128, dequantOf (kernelRun0_B.sl.r_9 c arg1 h1 x0)⟩,
      ⟨Rect.unit (s := S256x256) ![0, 0] ![256, 128] inb_S256x256_S256x128_0_0, dequantOf (kernelRun0_B.sl.r c arg1 h1 x0)⟩] := by sl_kernel_rfl
  rw [e, half0_B c i arg1 h1 arg2 h2 arg3 h3 arg4 h4 arg5 h5 hc0 x0 d5, half1_B c i arg1 h1 arg2 h2 arg3 h3 arg4 h4 arg5 h5 hc0 x0 d5]
  exact read_pair arg3.view f (fun o => dequantOf (part x0 o)) _ _

theorem pages0_B (c : Dev nD) (i : grid0.Coords) (arg1 : Memref sig .tc .vmem S256x256 .bf16) (h1 : arg1.IsWhole) (arg2 : Memref sig .tc .vmem S256x256 .fp8e4m3) (h2 : arg2.IsWhole) (arg3 : Memref sig .tc .vmem S256x256 .bf16) (h3 : arg3.IsWhole) (arg4 : Memref sig .tc .vmem S256x224 .f32) (h4 : arg4.IsWhole) (arg5 : Memref sig .tc .vmem S2x256x128 .f32) (h5 : arg5.IsWhole) (hc0 : k0_cond1 i = 1#1)     (x0 : Vec F S256x256 .bf16) (d5 : Vec F S2x256x128 .f32)  (inb0 : ∀ a, k0_off1 i 0#32 a + S1x256x128.size a ≤ S2x256x128.size a) (inb1 : ∀ a, k0_off1 i 1#32 a + S1x256x128.size a ≤ S2x256x128.size a) :
    (kernelRun0_B c i arg1 h1 arg2 h2 arg3 h3 arg4 h4 arg5 h5 hc0 x0 d5).2.2.2.1 = [⟨Rect.unit (s := S2x256x128) (k0_off1 i 1#32) S1x256x128.size inb1, shapeCast S1x256x128 (place (slotOf (halfNo (i 0).val 1#32)) (shapeCast S256x128
        (View.readCov (Val := Elt F) arg5.view [⟨Rect.unit (s := S2x256x128) (k0_off1 i 0#32) S1x256x128.size inb0, shapeCast S1x256x128 (place (slotOf (halfNo (i 0).val 0#32)) (shapeCast S256x128 (arg5.view.readAt (Elt F) (Rect.unit (s := S2x256x128) (k0_off1 i 0#32) S1x256x128.size inb0).toLoadRect (h5.unread d5)) shapeCasts_S1x256x128_S256x128) (scaleOf (kernelRun0_B.sl.r c arg1 h1 x0))) shapeCasts_S256x128_S1x256x128⟩]
          (Rect.unit (s := S2x256x128) (k0_off1 i 1#32) S1x256x128.size inb1).toLoadRect) shapeCasts_S1x256x128_S256x128) (scaleOf (kernelRun0_B.sl.r_9 c arg1 h1 x0))) shapeCasts_S256x128_S1x256x128⟩,
      ⟨Rect.unit (s := S2x256x128) (k0_off1 i 0#32) S1x256x128.size inb0, shapeCast S1x256x128 (place (slotOf (halfNo (i 0).val 0#32)) (shapeCast S256x128 (arg5.view.readAt (Elt F) (Rect.unit (s := S2x256x128) (k0_off1 i 0#32) S1x256x128.size inb0).toLoadRect (h5.unread d5)) shapeCasts_S1x256x128_S256x128) (scaleOf (kernelRun0_B.sl.r c arg1 h1 x0))) shapeCasts_S256x128_S1x256x128⟩] := by sl_kernel_rfl

/-- The scratch after the body. -/
theorem scratch0_B (c : Dev nD) (i : grid0.Coords) (arg1 : Memref sig .tc .vmem S256x256 .bf16) (h1 : arg1.IsWhole) (arg2 : Memref sig .tc .vmem S256x256 .fp8e4m3) (h2 : arg2.IsWhole) (arg3 : Memref sig .tc .vmem S256x256 .bf16) (h3 : arg3.IsWhole) (arg4 : Memref sig .tc .vmem S256x224 .f32) (h4 : arg4.IsWhole) (arg5 : Memref sig .tc .vmem S2x256x128 .f32) (h5 : arg5.IsWhole) (hc0 : k0_cond1 i = 1#1)     (x0 : Vec F S256x256 .bf16) (d5 : Vec F S2x256x128 .f32)  (g : ℕ → FVec F S256x128 .f32) (hg0 : g (2 * (i 0).val) = scaleOf (part x0 0)) (hg1 : g (2 * (i 0).val + 1) = scaleOf (part x0 128))
    (hI : Inv2 g (i 0).val d5) :
    Inv2 g ((i 0).val + 1) (arg5.view.read (Elt F) (arg5.view.writes (Elt F) (h5.unread d5) (kernelRun0_B c i arg1 h1 arg2 h2 arg3 h3 arg4 h4 arg5 h5 hc0 x0 d5).2.2.2.1)) := by
  have ht : (i 0).val < 28 := (i 0).isLt
  have hs := slot_eq ⟨(i 0).val, by omega⟩
  have inb (n : BitVec 32) (h : k0_off1 i n = ![(i 0).val / 16, 0, 0]) : ∀ a, k0_off1 i n a + S1x256x128.size a ≤ S2x256x128.size a := by
    rw [h]; intro a
    match a with
    | ⟨0, _⟩ => show (i 0).val / 16 + 1 ≤ 2; omega
    | ⟨1, _⟩ => show 0 + 256 ≤ 256; omega
    | ⟨2, _⟩ => show 0 + 128 ≤ 128; omega
  rw [pages0_B c i arg1 h1 arg2 h2 arg3 h3 arg4 h4 arg5 h5 hc0 x0 d5 (inb _ (k0_off1_eq i).1) (inb _ (k0_off1_eq i).2), half0_B c i arg1 h1 arg2 h2 arg3 h3 arg4 h4 arg5 h5 hc0 x0 d5, half1_B c i arg1 h1 arg2 h2 arg3 h3 arg4 h4 arg5 h5 hc0 x0 d5]
  refine inv2_step arg5.view (h5.unread d5) g (i 0).val ht _ _ (k0_off1_eq i).1 (k0_off1_eq i).2 _ _ (by rw [h5.read_unread]; exact hI) _ _ ?_ ?_
  · rw [hg0, hs.1]
  · rw [hg1, hs.2, readCov_top _ ((k0_off1_eq i).1.trans (k0_off1_eq i).2.symm)]

/-- The scales' array the last point stores: group `k` of 32 columns has its scale from half block `k / 4`. -/
def scaleArr224 (g : ℕ → FVec F S256x128 .f32) : Vec F S256x224 .f32 :=
  fun y => g ((y 1).val / 4) (ix2 (y 0) ⟨(y 1).val % 4 * 32, by omega⟩)

theorem pay1_apply (p : FVec F S1x256x128 .f32) (r : Fin 256) (l : Fin 128) : k0_pay1 p (ix2 r l) = p (ix3 0 r l) := by
  pointwise [k0_pay1]
theorem pay2_apply (p : FVec F S1x256x128 .f32) (r : Fin 256) (l : Fin 96) : k0_pay2 p (ix2 r l) = p (ix3 0 r ⟨l.val, by omega⟩) := by
  pointwise [k0_pay2]

theorem read_scale224 (v : View sig .tc .vmem S256x224 .f32) (f : v.ty.Contents (Elt F)) (p0 p1 : FVec F S1x256x128 .f32) (g : ℕ → FVec F S256x128 .f32)
    (h0 : ∀ (r : Fin 256) (l : Fin 128), p0 (ix3 0 r l) = g (l.val / 4) (ix2 r ⟨l.val % 4 * 32, by omega⟩))
    (h1 : ∀ (r : Fin 256) (l : Fin 128), l.val < 96 → p1 (ix3 0 r l) = g (32 * 1 + l.val / 4) (ix2 r ⟨l.val % 4 * 32, by omega⟩)) :
    v.read (Elt F) (v.writes (Elt F) f [⟨Rect.unit (s := S256x224) ![0, 128] ![256, 96] inb_S256x224_S256x96_0_128, k0_pay2 p1⟩,
      ⟨Rect.unit (s := S256x224) ![0, 0] ![256, 128] inb_S256x224_S256x128_0_0, k0_pay1 p0⟩]) = scaleArr224 g := by
  funext y
  unfold scaleArr224
  have hy : (y 1).val < 224 := (y 1).isLt
  by_cases hc : (y 1).val < 128
  · rw [View.read_writes_cons_unit_of_not_mem v f inb_S256x224_S256x96_0_128 _ _ y rfl (1 : Fin 2) (Or.inl hc)]
    rw [View.read_writes_cons_unit_of_mem v f inb_S256x224_S256x128_0_0 _ _ y (ix2 (y 0) (⟨(y 1).val, hc⟩ : Fin 128)) rfl (fun a => by
      match a with
      | ⟨0, _⟩ => show (y 0).val = 0 + (y 0).val; omega
      | ⟨1, _⟩ => show (y 1).val = 0 + (y 1).val; omega)]
    exact (pay1_apply p0 _ _).trans (h0 _ _)
  · rw [View.read_writes_cons_unit_of_mem v f inb_S256x224_S256x96_0_128 _ _ y (ix2 (y 0) (⟨(y 1).val - 128, by omega⟩ : Fin 96)) rfl (fun a => by
      match a with
      | ⟨0, _⟩ => show (y 0).val = 0 + (y 0).val; omega
      | ⟨1, _⟩ => show (y 1).val = 128 + ((y 1).val - 128); omega)]
    refine (pay2_apply p1 _ _).trans ((h1 _ _ (by show (y 1).val - 128 < 96; omega)).trans ?_)
    have e1 : 32 * 1 + ((y 1).val - 128) / 4 = (y 1).val / 4 := by omega
    have e2 : ((y 1).val - 128) % 4 = (y 1).val % 4 := by omega
    simp only [e1, e2]

theorem scale0_B (c : Dev nD) (i : grid0.Coords) (arg1 : Memref sig .tc .vmem S256x256 .bf16) (h1 : arg1.IsWhole) (arg2 : Memref sig .tc .vmem S256x256 .fp8e4m3) (h2 : arg2.IsWhole) (arg3 : Memref sig .tc .vmem S256x256 .bf16) (h3 : arg3.IsWhole) (arg4 : Memref sig .tc .vmem S256x224 .f32) (h4 : arg4.IsWhole) (arg5 : Memref sig .tc .vmem S2x256x128 .f32) (h5 : arg5.IsWhole) (hc0 : k0_cond1 i = 1#1)     (x0 : Vec F S256x256 .bf16) (d5 : Vec F S2x256x128 .f32)  (f : arg4.view.ty.Contents (Elt F)) (hi : (i 0).val = 27) (g : ℕ → FVec F S256x128 .f32)
    (hg0 : g (2 * (i 0).val) = scaleOf (part x0 0)) (hg1 : g (2 * (i 0).val + 1) = scaleOf (part x0 128)) (hI : Inv2 g (i 0).val d5) :
    arg4.view.read (Elt F) (arg4.view.writes (Elt F) f (kernelRun0_B c i arg1 h1 arg2 h2 arg3 h3 arg4 h4 arg5 h5 hc0 x0 d5).2.2.1) = scaleArr224 g := by
  have hI' := scratch0_B c i arg1 h1 arg2 h2 arg3 h3 arg4 h4 arg5 h5 hc0 x0 d5 g hg0 hg1 hI
  have e : (kernelRun0_B c i arg1 h1 arg2 h2 arg3 h3 arg4 h4 arg5 h5 hc0 x0 d5).2.2.1 = [⟨Rect.unit (s := S256x224) ![0, 128] ![256, 96] inb_S256x224_S256x96_0_128,
        k0_pay2 (arg5.view.readCov ((kernelRun0_B c i arg1 h1 arg2 h2 arg3 h3 arg4 h4 arg5 h5 hc0 x0 d5).2.2.2.1) (Rect.unit (s := S2x256x128) ![1, 0, 0] ![1, 256, 128] inb_S2x256x128_S1x256x128_1_0_0).toLoadRect)⟩,
      ⟨Rect.unit (s := S256x224) ![0, 0] ![256, 128] inb_S256x224_S256x128_0_0, k0_pay1 (arg5.view.readAt (Elt F) (Rect.unit (s := S2x256x128) ![0, 0, 0] S1x256x128.size inb_S2x256x128_S1x256x128_0_0_0).toLoadRect (h5.unread d5))⟩] := by sl_kernel_rfl
  have inb (n : BitVec 32) (h : k0_off1 i n = ![1, 0, 0]) : ∀ a, k0_off1 i n a + S1x256x128.size a ≤ S2x256x128.size a := by
    rw [h]; intro a
    match a with
    | ⟨0, _⟩ => show 1 + 1 ≤ 2; omega
    | ⟨1, _⟩ => show 0 + 256 ≤ 256; omega
    | ⟨2, _⟩ => show 0 + 128 ≤ 128; omega
  have ho := k0_off1_last i hc0
  rw [e]
  refine read_scale224 arg4.view f _ _ g (fun r l => ?_) (fun r l hl => ?_)
  · refine (page2_read arg5.view (h5.unread d5) 0 ![0, 0, 0] rfl inb_S2x256x128_S1x256x128_0_0_0 r l).trans ?_
    rw [h5.read_unread, hI 0 r l (by show 32 * 0 + l.val / 4 < _; omega)]
    exact congrArg (fun k => g k _) (show 32 * 0 + l.val / 4 = l.val / 4 by omega)
  · have hq := hI' 1 r l (by show 32 * 1 + l.val / 4 < 2 * ((i 0).val + 1); omega)
    rw [pages0_B c i arg1 h1 arg2 h2 arg3 h3 arg4 h4 arg5 h5 hc0 x0 d5 (inb _ ho.1) (inb _ ho.2)] at hq ⊢
    refine Eq.trans ?_ hq
    rw [readCov_top (F := F) _ ho.2, View.read_writes_cons_unit_of_mem arg5.view (h5.unread d5) (inb _ ho.2) _ _ (ix3 1 r l) (ix3 0 r l) ho.2 (fun a => by
      match a with
      | ⟨0, _⟩ => rfl
      | ⟨1, _⟩ => show r.val = 0 + r.val; omega
      | ⟨2, _⟩ => show l.val = 0 + l.val; omega)]

end Cert.Kernel.Run
-- ==== Proof.BitsWin.lean ====
/-
  The windows of the three calls: which block each holds at a point, and when it is idle. The program over words: the same text as `Win`, whose program it shares but for the numbers.
-/
module

public import proofs.«01_k».proof.Proof.Gen.Kernel.Launch
public import proofs.«01_k».proof.Proof.Gen.Kernel.Skeleton
public import proofs.«01_k».proof.Proof.Gen.Kernel.Points
public import Idealize.ShloMosaic.Lib.Pointwise
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the contents of the core's buffers when the region is entered
variable (V : (c : Dev nD) → (b : Ref sig .tc) → Buf (Elt F) ((c : Thread nD τ).loc b))

/-! Each region's windows: their blocks, when they are idle, the staging buffers and the scratch. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

abbrev cond0_0 (i : grid0.Coords) : Prop := k0_cond1 i = 1#1
theorem hcond0_0 : ∀ t : Fin cfg0.N, cond0_0 (grid0.coords t) ↔ t.val % 28 = 27 :=
  (fun t => by
    have ht : t.val < 28 := Nat.lt_of_lt_of_eq t.isLt N_0
    have e0 : (grid0.coords t 0).val = t.val / 1 % 28 := Pipeline.Grid.coords_val t 0 (by decide) rfl
    simp only [cond0_0, k0_cond1, e0]
    word_cmp
   : ∀ t : Fin grid0.N, cond0_0 (grid0.coords t) ↔ t.val % 28 = 27)

theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem idleAt0_3_A : ∀ t : Fin cfg0.N, ¬cond0_0 (grid0.coords t) → cfg0.idle 3 (grid0.coords t) = true := by decide +kernel
theorem noFlush0_3_A : ∀ t : Fin cfg0.N, ¬cond0_0 (grid0.coords t) → (cfg0.win 3).flush t = false := by decide +kernel
theorem liveAt0_3_B : ∀ t : Fin cfg0.N, cond0_0 (grid0.coords t) → cfg0.idle 3 (grid0.coords t) = false := by decide +kernel

abbrev ms0_0 (t : Fin cfg0.N) : Memref sig .tc .vmem S256x256 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x256 .fp8e4m3 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x256 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S256x224 .f32 := win0_3.stage (cfg0.slots t 3)
abbrev hs0_3 (t : Fin cfg0.N) : (ms0_3 t).IsWhole := hstage0_3 ((cfg0.slots t 3).cast nbuf0_3)
abbrev scM0_0 : Memref sig .tc .vmem S2x256x128 .f32 := Memref.whole cc0_scratch0

theorem scopedRest0_flat (c : Dev nD) :
    (Pipeline.scopedRest spec0 c : sProp 𝕄)
      = iprop((∃ f : Buf (Elt F) ((c : Thread nD τ).loc cc0_scratch0), ((c : Thread nD τ).loc cc0_scratch0) ↦{fullShare} f) ∗ Pipeline.scopedRestBut spec0 c [cc0_scratch0]) := by
  rw [scopedRest0_split]

theorem PhiA0_eq (c : Dev nD) :
    (Pipeline.ΦA spec0 c : sProp 𝕄)
      = iprop(iprop((∃ d, owns (c : Thread nD τ) scM0_0 fullShare d) ∗ Pipeline.scopedRestBut spec0 c [cc0_scratch0]) ∗ (∃ r, prngReg c r)) := by
  unfold Pipeline.ΦA; rw [scopedRest0_flat]; simp only [scM0_0, owns_whole]; try rfl
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

abbrev cond1_0 (i : grid1.Coords) : Prop := k1_cond1 i = 1#1
theorem hcond1_0 : ∀ t : Fin cfg1.N, cond1_0 (grid1.coords t) ↔ t.val % 72 = 71 :=
  (fun t => by
    have ht : t.val < 72 := Nat.lt_of_lt_of_eq t.isLt N_1
    have e0 : (grid1.coords t 0).val = t.val / 1 % 72 := Pipeline.Grid.coords_val t 0 (by decide) rfl
    simp only [cond1_0, k1_cond1, e0]
    word_cmp
   : ∀ t : Fin grid1.N, cond1_0 (grid1.coords t) ↔ t.val % 72 = 71)

theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
theorem liveAt1_3 : ∀ t : Fin cfg1.N, cfg1.idle 3 (grid1.coords t) = false := fun _ => rfl
theorem liveAt1_4 : ∀ t : Fin cfg1.N, cfg1.idle 4 (grid1.coords t) = false := fun _ => rfl
theorem liveAt1_5 : ∀ t : Fin cfg1.N, cfg1.idle 5 (grid1.coords t) = false := fun _ => rfl
theorem liveAt1_6 : ∀ t : Fin cfg1.N, cfg1.idle 6 (grid1.coords t) = false := fun _ => rfl
theorem idleAt1_7_A : ∀ t : Fin cfg1.N, ¬cond1_0 (grid1.coords t) → cfg1.idle 7 (grid1.coords t) = true := by decide +kernel
theorem noFlush1_7_A : ∀ t : Fin cfg1.N, ¬cond1_0 (grid1.coords t) → (cfg1.win 7).flush t = false := by decide +kernel
theorem liveAt1_7_B : ∀ t : Fin cfg1.N, cond1_0 (grid1.coords t) → cfg1.idle 7 (grid1.coords t) = false := by decide +kernel

abbrev ms1_0 (t : Fin cfg1.N) : Memref sig .tc .vmem S256x7168 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S7168x256 .fp8e4m3 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S7168x256 .fp8e4m3 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S224x256 .i8 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S224x256 .i8 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S256x256 .fp8e4m3 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S256x256 .bf16 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S256x576 .f32 := win1_7.stage (cfg1.slots t 7)
abbrev hs1_7 (t : Fin cfg1.N) : (ms1_7 t).IsWhole := hstage1_7 ((cfg1.slots t 7).cast nbuf1_7)
abbrev scM1_0 : Memref sig .tc .vmem S224x256 .i32 := Memref.whole cc1_scratch0
abbrev scM1_1 : Memref sig .tc .vmem S224x256 .i32 := Memref.whole cc1_scratch1
abbrev scM1_2 : Memref sig .tc .vmem S5x256x128 .f32 := Memref.whole cc1_scratch2

theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_scratch0), ((c : Thread nD τ).loc cc0_scratch0) ↦{fullShare} f) ∗ (∃ d, owns (c : Thread nD τ) scM1_0 fullShare d) ∗ (∃ d, owns (c : Thread nD τ) scM1_1 fullShare d) ∗ (∃ d, owns (c : Thread nD τ) scM1_2 fullShare d) ∗ (∃ f : Buf (Elt F) ((c : Thread nD τ).loc cc2_stg0_0), ((c : Thread nD τ).loc cc2_stg0_0) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg1_1), ((c : Thread nD τ).loc cc2_stg1_1) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg3_1), ((c : Thread nD τ).loc cc2_stg3_1) ↦{fullShare} f) ∗ (∃ f : Buf (Elt F) ((c : Thread nD τ).loc cc2_scratch0), ((c : Thread nD τ).loc cc2_scratch0) ↦{fullShare} f)) ∗ (∃ r, prngReg c r)) := by
  unfold Pipeline.ΦA; rw [scopedRest1_eq]; simp only [scM1_0, scM1_1, scM1_2, owns_whole]; try rfl
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

abbrev ms2_0 (t : Fin cfg2.N) : Memref sig .tc .vmem S256x18432 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S18432x256 .fp8e4m3 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S576x256 .i8 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S256x256 .bf16 := win2_3.stage (cfg2.slots t 3)
abbrev hs2_3 (t : Fin cfg2.N) : (ms2_3 t).IsWhole := hstage2_3 ((cfg2.slots t 3).cast nbuf2_3)
abbrev scM2_0 : Memref sig .tc .vmem S576x256 .i32 := Memref.whole cc2_scratch0

theorem scopedRest2_flat (c : Dev nD) :
    (Pipeline.scopedRest spec2 c : sProp 𝕄)
      = iprop((∃ f : Buf (Elt F) ((c : Thread nD τ).loc cc2_scratch0), ((c : Thread nD τ).loc cc2_scratch0) ↦{fullShare} f) ∗ Pipeline.scopedRestBut spec2 c [cc2_scratch0]) := by
  rw [scopedRest2_split]

theorem PhiA2_eq (c : Dev nD) :
    (Pipeline.ΦA spec2 c : sProp 𝕄)
      = iprop(iprop((∃ d, owns (c : Thread nD τ) scM2_0 fullShare d) ∗ Pipeline.scopedRestBut spec2 c [cc2_scratch0]) ∗ (∃ r, prngReg c r)) := by
  unfold Pipeline.ΦA; rw [scopedRest2_flat]; simp only [scM2_0, owns_whole]; try rfl
end Cert.Kernel.Run
-- ==== Proof.BitsDat0.lean ====
/-
  The first call, point by point: what its windows hold and what is carried in the scratch. The program over words: the same text as `Dat0`, whose program it shares but for the numbers.
-/
module

public import proofs.«01_k».proof.Proof.BitsReg0A
public import proofs.«01_k».proof.Proof.BitsWin

@[expose] public section

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the contents of the core's buffers when the region is entered
variable (V : (c : Dev nD) → (b : Ref sig .tc) → Buf (Elt F) ((c : Thread nD τ).loc b))

/-- The scales of half block `s` of the sweep: `s / 2` is the point, `s % 2` the half. -/
def scale0 (c : Dev nD) (s : ℕ) : FVec F S256x128 .f32 :=
  scaleOf (part (iblk0 V c 0 ⟨s / 2 % 28, lt_of_lt_of_eq (Nat.mod_lt _ (by decide)) N_0.symm⟩) (128 * (s % 2)))

theorem coord0 (t : Fin cfg0.N) : (grid0.coords t 0).val = t.val := by
  have ht : t.val < 28 := Nat.lt_of_lt_of_eq t.isLt N_0
  have e0 : (grid0.coords t 0).val = t.val / 1 % 28 := Pipeline.Grid.coords_val t 0 (by decide) rfl
  rw [e0]; omega

theorem scale_even0 (c : Dev nD) (t : Fin cfg0.N) : scale0 V c (2 * (grid0.coords t 0).val) = scaleOf (part (iblk0 V c 0 t) 0) := by
  have ht : t.val < 28 := Nat.lt_of_lt_of_eq t.isLt N_0
  unfold scale0
  have e1 : (⟨2 * (grid0.coords t 0).val / 2 % 28, lt_of_lt_of_eq (Nat.mod_lt _ (by decide)) N_0.symm⟩ : Fin cfg0.N) = t := Fin.ext (by rw [coord0]; show 2 * t.val / 2 % 28 = t.val; omega)
  rw [e1, show 128 * (2 * (grid0.coords t 0).val % 2) = 0 by omega]
theorem scale_odd0 (c : Dev nD) (t : Fin cfg0.N) : scale0 V c (2 * (grid0.coords t 0).val + 1) = scaleOf (part (iblk0 V c 0 t) 128) := by
  have ht : t.val < 28 := Nat.lt_of_lt_of_eq t.isLt N_0
  unfold scale0
  have e1 : (⟨(2 * (grid0.coords t 0).val + 1) / 2 % 28, lt_of_lt_of_eq (Nat.mod_lt _ (by decide)) N_0.symm⟩ : Fin cfg0.N) = t := Fin.ext (by rw [coord0]; show (2 * t.val + 1) / 2 % 28 = t.val; omega)
  rw [e1, show 128 * ((2 * (grid0.coords t 0).val + 1) % 2) = 128 by omega]
/-- What is carried from point to point: the pages hold the scales of the points passed. -/
def Phi0 (c : Dev nD) (n : ℕ) : sProp 𝕄 :=
  iprop(iprop((∃ d, ⌜Inv2 (scale0 V c) n d⌝ ∗ owns (c : Thread nD τ) scM0_0 fullShare d) ∗ Pipeline.scopedRestBut spec0 c [cc0_scratch0]) ∗ (∃ r, prngReg c r))

/-- Before the first point nothing is asked of the pages. -/
theorem Phi0_in (c : Dev nD) : (Pipeline.ΦA spec0 c : sProp 𝕄) ⊢ Phi0 V c 0 := by
  rw [PhiA0_eq]; unfold Phi0
  iintro ⟨⟨⟨%dS, HS0⟩, HR1⟩, Hg⟩
  isplitl [HS0 HR1]
  · isplitl [HS0]
    · iexists dS; isplitr; swap; · iexact HS0
      ipureintro; exact inv2_zero _ dS
    iexact HR1
  iexact Hg

theorem Phi0_out (c : Dev nD) (n : ℕ) : Phi0 V c n ⊢ (Pipeline.ΦA spec0 c : sProp 𝕄) := by
  rw [PhiA0_eq]; unfold Phi0
  iintro ⟨⟨⟨%dS, %hI, HS0⟩, HR1⟩, Hg⟩
  isplitl [HS0 HR1]
  · isplitl [HS0]
    · iexists dS; iexact HS0
    iexact HR1
  iexact Hg

/-- What the region's windows hold after each point. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => codesPair (iblk0 V c 0 t)
    | ⟨2, _⟩ => deqPair (iblk0 V c 0 t)
    | ⟨3, _⟩ => scaleArr224 (scale0 V c)
  Φ t := Phi0 V c t.val
  q _ := fullShare
  owed _ := 0
theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = codesPair (iblk0 V c 0 t) := by dsimp only [dat0]
theorem after0_2 (c : Dev nD) (t : Fin cfg0.N) : (dat0 V c).after 2 t = deqPair (iblk0 V c 0 t) := by dsimp only [dat0]
theorem after0_3 (c : Dev nD) (t : Fin cfg0.N) : (dat0 V c).after 3 t = scaleArr224 (scale0 V c) := by dsimp only [dat0]
theorem before0_0 (c : Dev nD) (t : Fin cfg0.N) (d) : (dat0 V c).before 0 t d = iblk0 V c 0 t :=
  before0_0_of V (dat0 V c) (A_eq0 V c 0) (after0_0 V c) t d
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 1600000 in
/-- The body at any point keeps the carried pages right and leaves what the proof data says. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).owesAt () t.succ = (dat0 V c).owesAt () t.castSucc from rfl]
  rw [show (dat0 V c).Φ t.castSucc = Phi0 V c t.val from rfl, show (dat0 V c).Φ t.succ = Phi0 V c (t.val + 1) from rfl]
  have hN : t.val < 28 := lt_of_lt_of_eq t.isLt (show cfg0.N = 28 from N_0)
  have ec := coord0 t
  have hg0 := scale_even0 V c
  have hg1 := scale_odd0 V c
  unfold Phi0
  rw [show t.val + 1 = (grid0.coords t 0).val + 1 by rw [ec]]
  by_cases h0 : t.val % 28 = 27
  · rw [show (dat0 V c).leavesExact 0 t = owns (c : Thread nD τ) (ms0_0 t) fullShare ((dat0 V c).after 0 t) from by
          unfold Dat.leavesExact; rw [liveAt0_0 t], after0_0]
    rw [show (dat0 V c).leavesExact 1 t = owns (c : Thread nD τ) (ms0_1 t) fullShare ((dat0 V c).after 1 t) from by
          unfold Dat.leavesExact; rw [liveAt0_1 t], after0_1]
    rw [show (dat0 V c).leavesExact 2 t = owns (c : Thread nD τ) (ms0_2 t) fullShare ((dat0 V c).after 2 t) from by
          unfold Dat.leavesExact; rw [liveAt0_2 t], after0_2]
    rw [show (dat0 V c).leavesExact 3 t = owns (c : Thread nD τ) (ms0_3 t) fullShare ((dat0 V c).after 3 t) from by
          unfold Dat.leavesExact; rw [liveAt0_3_B t ((hcond0_0 t).mpr h0)], after0_3]
    iintro ⟨⟨⟨⟨%dS, %hI, HS0⟩, HR1⟩, Hg⟩, Ho, ⟨%d0, H0⟩, ⟨%d1, H1⟩, ⟨%d2, H2⟩, ⟨%d3, H3⟩⟩
    have hI' : Inv2 (scale0 V c) (grid0.coords t 0).val dS := by rw [ec]; exact hI
    have hi : (grid0.coords t 0).val = 27 := by rw [ec]; omega
    iapply ((kernelRun0_B c (grid0.coords t) (ms0_0 t) (hs0_0 t) (ms0_1 t) (hs0_1 t) (ms0_2 t) (hs0_2 t) (ms0_3 t) (hs0_3 t) scM0_0 (Memref.isWhole_whole _) ((hcond0_0 t).mpr h0) (iblk0 V c 0 t) dS).2.2.2.2 Set.univ _)
    isplitl [H0]; · iexact H0
    isplitl [H1]; · iexists _; iexact H1
    isplitl [H2]; · iexists _; iexact H2
    isplitl [H3]; · iexists _; iexact H3
    isplitl [HS0]; · iexact HS0
    iintro ⟨H0, ⟨%e1, H1⟩, ⟨%e2, H2⟩, ⟨%e3, H3⟩, HS0⟩
    isplitl [HS0 HR1 Hg]
    · isplitl [HS0 HR1]
      · isplitl [HS0]
        · iexists _; isplitr
          swap; · unfold owns; iexists _; isplitr; swap; · iexact HS0
                  ipureintro; rfl
          ipureintro; exact scratch0_B c (grid0.coords t) (ms0_0 t) (hs0_0 t) (ms0_1 t) (hs0_1 t) (ms0_2 t) (hs0_2 t) (ms0_3 t) (hs0_3 t) scM0_0 (Memref.isWhole_whole _) ((hcond0_0 t).mpr h0) (iblk0 V c 0 t) dS (scale0 V c) (hg0 t) (hg1 t) hI'
        iexact HR1
      iexact Hg
    isplitl [Ho]; · iexact Ho
    isplitl [H0]; · iexact H0
    isplitl [H1]
    · unfold owns; iexists _; isplitr
      swap; · iexact H1
      ipureintro; exact codes0_B c (grid0.coords t) (ms0_0 t) (hs0_0 t) (ms0_1 t) (hs0_1 t) (ms0_2 t) (hs0_2 t) (ms0_3 t) (hs0_3 t) scM0_0 (Memref.isWhole_whole _) ((hcond0_0 t).mpr h0) (iblk0 V c 0 t) dS _
    isplitl [H2]
    · unfold owns; iexists _; isplitr
      swap; · iexact H2
      ipureintro; exact deq0_B c (grid0.coords t) (ms0_0 t) (hs0_0 t) (ms0_1 t) (hs0_1 t) (ms0_2 t) (hs0_2 t) (ms0_3 t) (hs0_3 t) scM0_0 (Memref.isWhole_whole _) ((hcond0_0 t).mpr h0) (iblk0 V c 0 t) dS _
    unfold owns; iexists _; isplitr
    swap; · iexact H3
    ipureintro; exact scale0_B c (grid0.coords t) (ms0_0 t) (hs0_0 t) (ms0_1 t) (hs0_1 t) (ms0_2 t) (hs0_2 t) (ms0_3 t) (hs0_3 t) scM0_0 (Memref.isWhole_whole _) ((hcond0_0 t).mpr h0) (iblk0 V c 0 t) dS _ hi (scale0 V c) (hg0 t) (hg1 t) hI'
  · rw [show (dat0 V c).leavesExact 0 t = owns (c : Thread nD τ) (ms0_0 t) fullShare ((dat0 V c).after 0 t) from by
          unfold Dat.leavesExact; rw [liveAt0_0 t], after0_0]
    rw [show (dat0 V c).leavesExact 1 t = owns (c : Thread nD τ) (ms0_1 t) fullShare ((dat0 V c).after 1 t) from by
          unfold Dat.leavesExact; rw [liveAt0_1 t], after0_1]
    rw [show (dat0 V c).leavesExact 2 t = owns (c : Thread nD τ) (ms0_2 t) fullShare ((dat0 V c).after 2 t) from by
          unfold Dat.leavesExact; rw [liveAt0_2 t], after0_2]
    rw [Dat.leavesExact_idle (dat0 V c) 3 t (idleAt0_3_A t (fun h => h0 ((hcond0_0 t).mp h))) (noFlush0_3_A t (fun h => h0 ((hcond0_0 t).mp h)))]
    iintro ⟨⟨⟨⟨%dS, %hI, HS0⟩, HR1⟩, Hg⟩, Ho, ⟨%d0, H0⟩, ⟨%d1, H1⟩, ⟨%d2, H2⟩, ⟨%d3, H3⟩⟩
    have hI' : Inv2 (scale0 V c) (grid0.coords t 0).val dS := by rw [ec]; exact hI
    iapply ((kernelRun0_A c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (iblk0 V c 0 t) dS).2.2.2.2 _ Set.univ _)
    isplitl [H0]; · iexact H0
    isplitl [H1]; · iexists _; iexact H1
    isplitl [H2]; · iexists _; iexact H2
    isplitl [H3]; · iexact H3
    isplitl [HS0]; · iexact HS0
    iintro ⟨H0, ⟨%e1, H1⟩, ⟨%e2, H2⟩, H3, HS0⟩
    isplitl [HS0 HR1 Hg]
    · isplitl [HS0 HR1]
      · isplitl [HS0]
        · iexists _; isplitr
          swap; · unfold owns; iexists _; isplitr; swap; · iexact HS0
                  ipureintro; rfl
          ipureintro; exact scratch0_A c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (iblk0 V c 0 t) dS (scale0 V c) (hg0 t) (hg1 t) hI'
        iexact HR1
      iexact Hg
    isplitl [Ho]; · iexact Ho
    isplitl [H0]; · iexact H0
    isplitl [H1]
    · unfold owns; iexists _; isplitr
      swap; · iexact H1
      ipureintro; exact codes0_A c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (iblk0 V c 0 t) dS _
    isplitl [H2]
    · unfold owns; iexists _; isplitr
      swap; · iexact H2
      ipureintro; exact deq0_A c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (iblk0 V c 0 t) dS _
    iexists _; iexact H3
theorem defs₀_row0 (t : Fin cfg0.N) :
    defs₀ (F := F) .tc cfg0.body (cfg0.bodyArgs t (cfg0.slots t)) = bodyAt0 t := by
  unfold defs₀; rw [Defs.onTc_tc]

theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl
end Cert.Kernel.Run
-- ==== Proof.BitsRun1A.lean ====
/-
  The second call's body, run once at a point where the array of scales is left alone. The program over words: the same text as `Run1A`, whose program it shares but for the numbers.
-/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The page of the scratch a point writes, both halves of its block alike. -/
theorem k1_off1_eq : ∀ i : grid1.Coords, k1_off1 i 0#32 = ![(i 0).val / 16, 0, 0] ∧ k1_off1 i 1#32 = ![(i 0).val / 16, 0, 0] := by decide +kernel
/-- At the last point it is the fifth page. -/
theorem k1_off1_last : ∀ i : grid1.Coords, k1_cond1 i = 1#1 → k1_off1 i 0#32 = ![4, 0, 0] ∧ k1_off1 i 1#32 = ![4, 0, 0] := by decide +kernel

set_option maxHeartbeats 8000000 in
/-- The body of `cc1_gate_up` at a point where the scale window is left alone: the pieces its stores leave in
    each output's staging buffer and in the scratch the scales gather in, with the proof that it runs. -/
noncomputable def kernelRun1_A (c : Dev nD) (i : grid1.Coords) (arg1 : Memref sig .tc .vmem S256x7168 .bf16) (harg1 : arg1.IsWhole) (arg2 : Memref sig .tc .vmem S7168x256 .fp8e4m3) (harg2 : arg2.IsWhole) (arg3 : Memref sig .tc .vmem S7168x256 .fp8e4m3) (harg3 : arg3.IsWhole) (arg4 : Memref sig .tc .vmem S224x256 .i8) (harg4 : arg4.IsWhole) (arg5 : Memref sig .tc .vmem S224x256 .i8) (harg5 : arg5.IsWhole) (arg6 : Memref sig .tc .vmem S256x256 .fp8e4m3) (harg6 : arg6.IsWhole) (arg7 : Memref sig .tc .vmem S256x256 .bf16) (harg7 : arg7.IsWhole) (arg8 : Memref sig .tc .vmem S256x576 .f32) (harg8 : arg8.IsWhole) (arg9 : Memref sig .tc .vmem S224x256 .i32) (harg9 : arg9.IsWhole) (arg10 : Memref sig .tc .vmem S224x256 .i32) (harg10 : arg10.IsWhole) (arg11 : Memref sig .tc .vmem S5x256x128 .f32) (harg11 : arg11.IsWhole) (hc0 : ¬k1_cond1 i = 1#1)
    (x0 : Vec F S256x7168 .bf16) (x1 : Vec F S7168x256 .fp8e4m3) (x2 : Vec F S7168x256 .fp8e4m3) (x3 : Vec F S224x256 .i8) (x4 : Vec F S224x256 .i8) (d11 : Vec F S5x256x128 .f32) :
    Σ' (L5 : List (View.Piece (Elt F) S256x256 .fp8e4m3)), Σ' (L6 : List (View.Piece (Elt F) S256x256 .bf16)), Σ' (L7 : List (View.Piece (Elt F) S256x576 .f32)), { LT2 : List (View.Piece (Elt F) S5x256x128 .f32) //
      ∀ (xi7 : Vec F S256x576 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ owns (c : Thread nD τ) arg8 fullShare xi7 ∗ (∃ d, owns (c : Thread nD τ) arg9 fullShare d) ∗ (∃ d, owns (c : Thread nD τ) arg10 fullShare d) ∗ owns (c : Thread nD τ) arg11 fullShare d11
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ owns (c : Thread nD τ) arg8 fullShare xi7 ∗ (∃ d, owns (c : Thread nD τ) arg9 fullShare d) ∗ (∃ d, owns (c : Thread nD τ) arg10 fullShare d) ∗ (arg11.view.loc (c : Thread nD τ) ↦[arg11.view.set]{fullShare} arg11.view.writes (Elt F) (harg11.unread d11) LT2)) -∗ K ⟨⟩))
          ⊢ wp frame (wpE (defs₀ (F := F)) Variants.none c none) E (cc1_gate_up i arg1 harg1 arg2 harg2 arg3 harg3 arg4 harg4 arg5 harg5 arg6 harg6 arg7 harg7 arg8 harg8 arg9 harg9 arg10 harg10 arg11 harg11) K } := by
  refine ⟨?_, ?_, [], ?_, fun xi7 E K => ?run⟩
  case run =>
    simp only [cc1_gate_up_eq_skeleton]; unfold cc1_gate_up_skel
    simp only [k1_part98_eq_skeleton, k1_part97_eq_skeleton, k1_part96_eq_skeleton, k1_part95_eq_skeleton, k1_part94_eq_skeleton, k1_part93_eq_skeleton, k1_part92_eq_skeleton, k1_part91_eq_skeleton, k1_part90_eq_skeleton, k1_part89_eq_skeleton, k1_part88_eq_skeleton, k1_part87_eq_skeleton, k1_part86_eq_skeleton, k1_part85_eq_skeleton, k1_part84_eq_skeleton, k1_part83_eq_skeleton, k1_part82_eq_skeleton, k1_part81_eq_skeleton, k1_part80_eq_skeleton, k1_part79_eq_skeleton, k1_part78_eq_skeleton, k1_part77_eq_skeleton, k1_part76_eq_skeleton, k1_part75_eq_skeleton, k1_part74_eq_skeleton, k1_part73_eq_skeleton, k1_part72_eq_skeleton, k1_part71_eq_skeleton, k1_part70_eq_skeleton, k1_part69_eq_skeleton, k1_part68_eq_skeleton, k1_part67_eq_skeleton, k1_part66_eq_skeleton, k1_part65_eq_skeleton, k1_part64_eq_skeleton, k1_part63_eq_skeleton, k1_part62_eq_skeleton, k1_part61_eq_skeleton, k1_part60_eq_skeleton, k1_part59_eq_skeleton, k1_part58_eq_skeleton, k1_part57_eq_skeleton, k1_part56_eq_skeleton, k1_part55_eq_skeleton, k1_part54_eq_skeleton, k1_part53_eq_skeleton, k1_part52_eq_skeleton, k1_part51_eq_skeleton, k1_part50_eq_skeleton, k1_part49_eq_skeleton, k1_part48_eq_skeleton, k1_part47_eq_skeleton, k1_part46_eq_skeleton, k1_part45_eq_skeleton, k1_part44_eq_skeleton, k1_part43_eq_skeleton, k1_part42_eq_skeleton, k1_part41_eq_skeleton, k1_part40_eq_skeleton, k1_part39_eq_skeleton, k1_part38_eq_skeleton, k1_part37_eq_skeleton, k1_part36_eq_skeleton, k1_part35_eq_skeleton, k1_part34_eq_skeleton, k1_part33_eq_skeleton, k1_part32_eq_skeleton, k1_part31_eq_skeleton, k1_part30_eq_skeleton, k1_part29_eq_skeleton, k1_part28_eq_skeleton, k1_part27_eq_skeleton, k1_part26_eq_skeleton, k1_part25_eq_skeleton, k1_part24_eq_skeleton, k1_part23_eq_skeleton, k1_part22_eq_skeleton, k1_part21_eq_skeleton, k1_part20_eq_skeleton, k1_part19_eq_skeleton, k1_part18_eq_skeleton, k1_part17_eq_skeleton, k1_part16_eq_skeleton, k1_part15_eq_skeleton, k1_part14_eq_skeleton, k1_part13_eq_skeleton, k1_part12_eq_skeleton, k1_part11_eq_skeleton, k1_part10_eq_skeleton, k1_part9_eq_skeleton, k1_part8_eq_skeleton, k1_part7_eq_skeleton, k1_part6_eq_skeleton, k1_part5_eq_skeleton, k1_part4_eq_skeleton, k1_part3_eq_skeleton, k1_part2_eq_skeleton, k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%f7, %hf7, H7⟩, ⟨%ds0, %fs0, -, HS0⟩, ⟨%ds1, %fs1, -, HS1⟩, ⟨%fs2, %hfs2, HS2⟩, Hk⟩
    obtain rfl := harg1.eq_unread hf0; obtain rfl := harg2.eq_unread hf1; obtain rfl := harg3.eq_unread hf2; obtain rfl := harg4.eq_unread hf3; obtain rfl := harg5.eq_unread hf4; obtain rfl := harg11.eq_unread hfs2; obtain rfl := harg8.eq_unread hf7
    letI : ClosedOff (k1_off1 i 0#32) := ⟨![(i 0).val / 16, 0, 0], (k1_off1_eq i).1⟩
    letI : ClosedOff (k1_off1 i 1#32) := ⟨![(i 0).val / 16, 0, 0], (k1_off1_eq i).2⟩
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]; · iexists _; iexact H6
    isplitl [H7]
    · iexists _; isplitr; · ipureintro; exact harg8.read_unread _
      iexact H7
    isplitl [HS0]
    · iexists _, _; isplitr; swap; · iexact HS0
      ipureintro; rfl
    isplitl [HS1]
    · iexists _, _; isplitr; swap; · iexact HS1
      ipureintro; rfl
    iexact HS2

end Cert.Kernel.Run
-- ==== Proof.BitsRun1B.lean ====
/-
  The second call's body, run once at the last point, where the array of scales is stored. The program over words: the same text as `Run1B`, whose program it shares but for the numbers.
-/
module

public import proofs.«01_k».proof.Proof.BitsRun1A
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 8000000 in
/-- The body of `cc1_gate_up` at a point where the scale window is stored: the pieces its stores leave in
    each output's staging buffer and in the scratch the scales gather in, with the proof that it runs. -/
noncomputable def kernelRun1_B (c : Dev nD) (i : grid1.Coords) (arg1 : Memref sig .tc .vmem S256x7168 .bf16) (harg1 : arg1.IsWhole) (arg2 : Memref sig .tc .vmem S7168x256 .fp8e4m3) (harg2 : arg2.IsWhole) (arg3 : Memref sig .tc .vmem S7168x256 .fp8e4m3) (harg3 : arg3.IsWhole) (arg4 : Memref sig .tc .vmem S224x256 .i8) (harg4 : arg4.IsWhole) (arg5 : Memref sig .tc .vmem S224x256 .i8) (harg5 : arg5.IsWhole) (arg6 : Memref sig .tc .vmem S256x256 .fp8e4m3) (harg6 : arg6.IsWhole) (arg7 : Memref sig .tc .vmem S256x256 .bf16) (harg7 : arg7.IsWhole) (arg8 : Memref sig .tc .vmem S256x576 .f32) (harg8 : arg8.IsWhole) (arg9 : Memref sig .tc .vmem S224x256 .i32) (harg9 : arg9.IsWhole) (arg10 : Memref sig .tc .vmem S224x256 .i32) (harg10 : arg10.IsWhole) (arg11 : Memref sig .tc .vmem S5x256x128 .f32) (harg11 : arg11.IsWhole) (hc0 : k1_cond1 i = 1#1)
    (x0 : Vec F S256x7168 .bf16) (x1 : Vec F S7168x256 .fp8e4m3) (x2 : Vec F S7168x256 .fp8e4m3) (x3 : Vec F S224x256 .i8) (x4 : Vec F S224x256 .i8) (d11 : Vec F S5x256x128 .f32) :
    Σ' (L5 : List (View.Piece (Elt F) S256x256 .fp8e4m3)), Σ' (L6 : List (View.Piece (Elt F) S256x256 .bf16)), Σ' (L7 : List (View.Piece (Elt F) S256x576 .f32)), { LT2 : List (View.Piece (Elt F) S5x256x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ owns (c : Thread nD τ) arg11 fullShare d11
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ d, owns (c : Thread nD τ) arg9 fullShare d) ∗ (∃ d, owns (c : Thread nD τ) arg10 fullShare d) ∗ (arg11.view.loc (c : Thread nD τ) ↦[arg11.view.set]{fullShare} arg11.view.writes (Elt F) (harg11.unread d11) LT2)) -∗ K ⟨⟩))
          ⊢ wp frame (wpE (defs₀ (F := F)) Variants.none c none) E (cc1_gate_up i arg1 harg1 arg2 harg2 arg3 harg3 arg4 harg4 arg5 harg5 arg6 harg6 arg7 harg7 arg8 harg8 arg9 harg9 arg10 harg10 arg11 harg11) K } := by
  refine ⟨?_, ?_, ?_, ?_, fun E K => ?run⟩
  case run =>
    simp only [cc1_gate_up_eq_skeleton]; unfold cc1_gate_up_skel
    simp only [k1_part98_eq_skeleton, k1_part97_eq_skeleton, k1_part96_eq_skeleton, k1_part95_eq_skeleton, k1_part94_eq_skeleton, k1_part93_eq_skeleton, k1_part92_eq_skeleton, k1_part91_eq_skeleton, k1_part90_eq_skeleton, k1_part89_eq_skeleton, k1_part88_eq_skeleton, k1_part87_eq_skeleton, k1_part86_eq_skeleton, k1_part85_eq_skeleton, k1_part84_eq_skeleton, k1_part83_eq_skeleton, k1_part82_eq_skeleton, k1_part81_eq_skeleton, k1_part80_eq_skeleton, k1_part79_eq_skeleton, k1_part78_eq_skeleton, k1_part77_eq_skeleton, k1_part76_eq_skeleton, k1_part75_eq_skeleton, k1_part74_eq_skeleton, k1_part73_eq_skeleton, k1_part72_eq_skeleton, k1_part71_eq_skeleton, k1_part70_eq_skeleton, k1_part69_eq_skeleton, k1_part68_eq_skeleton, k1_part67_eq_skeleton, k1_part66_eq_skeleton, k1_part65_eq_skeleton, k1_part64_eq_skeleton, k1_part63_eq_skeleton, k1_part62_eq_skeleton, k1_part61_eq_skeleton, k1_part60_eq_skeleton, k1_part59_eq_skeleton, k1_part58_eq_skeleton, k1_part57_eq_skeleton, k1_part56_eq_skeleton, k1_part55_eq_skeleton, k1_part54_eq_skeleton, k1_part53_eq_skeleton, k1_part52_eq_skeleton, k1_part51_eq_skeleton, k1_part50_eq_skeleton, k1_part49_eq_skeleton, k1_part48_eq_skeleton, k1_part47_eq_skeleton, k1_part46_eq_skeleton, k1_part45_eq_skeleton, k1_part44_eq_skeleton, k1_part43_eq_skeleton, k1_part42_eq_skeleton, k1_part41_eq_skeleton, k1_part40_eq_skeleton, k1_part39_eq_skeleton, k1_part38_eq_skeleton, k1_part37_eq_skeleton, k1_part36_eq_skeleton, k1_part35_eq_skeleton, k1_part34_eq_skeleton, k1_part33_eq_skeleton, k1_part32_eq_skeleton, k1_part31_eq_skeleton, k1_part30_eq_skeleton, k1_part29_eq_skeleton, k1_part28_eq_skeleton, k1_part27_eq_skeleton, k1_part26_eq_skeleton, k1_part25_eq_skeleton, k1_part24_eq_skeleton, k1_part23_eq_skeleton, k1_part22_eq_skeleton, k1_part21_eq_skeleton, k1_part20_eq_skeleton, k1_part19_eq_skeleton, k1_part18_eq_skeleton, k1_part17_eq_skeleton, k1_part16_eq_skeleton, k1_part15_eq_skeleton, k1_part14_eq_skeleton, k1_part13_eq_skeleton, k1_part12_eq_skeleton, k1_part11_eq_skeleton, k1_part10_eq_skeleton, k1_part9_eq_skeleton, k1_part8_eq_skeleton, k1_part7_eq_skeleton, k1_part6_eq_skeleton, k1_part5_eq_skeleton, k1_part4_eq_skeleton, k1_part3_eq_skeleton, k1_part2_eq_skeleton, k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%ds0, %fs0, -, HS0⟩, ⟨%ds1, %fs1, -, HS1⟩, ⟨%fs2, %hfs2, HS2⟩, Hk⟩
    obtain rfl := harg1.eq_unread hf0; obtain rfl := harg2.eq_unread hf1; obtain rfl := harg3.eq_unread hf2; obtain rfl := harg4.eq_unread hf3; obtain rfl := harg5.eq_unread hf4; obtain rfl := harg11.eq_unread hfs2
    letI : ClosedOff (k1_off1 i 0#32) := ⟨![4, 0, 0], (k1_off1_last i hc0).1⟩
    letI : ClosedOff (k1_off1 i 1#32) := ⟨![4, 0, 0], (k1_off1_last i hc0).2⟩
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]; · iexists _; iexact H6
    isplitl [H7]
    · iexists _; iexact H7
    isplitl [HS0]
    · iexists _, _; isplitr; swap; · iexact HS0
      ipureintro; rfl
    isplitl [HS1]
    · iexists _, _; isplitr; swap; · iexact HS1
      ipureintro; rfl
    iexact HS2

end Cert.Kernel.Run
-- ==== Proof.BitsBlk.lean ====
/-
  The dequantised products of the second and third calls, as ordered sums over chunks of 512 positions. The program over words: the same text as `Blk`, whose program it shares but for the numbers.
-/
module

public import proofs.«01_k».proof.Proof.Gen.Kernel.Skeleton
public import Idealize.ShloMosaic.Lib.Pointwise
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

theorem hz : (![0, 0] : Fin 2 → Nat) = fun _ => 0 := funext fun a => by fin_cases a <;> rfl

/-- Sixteen pieces of 32 rows, one below the other. -/
def cat16 (p : (g : ℕ) → g < 16 → FVec F S32x256 .bf16) : FVec F S512x256 .bf16 :=
  concatenate S512x256 0 [⟨S32x256, p 0 (by decide)⟩, ⟨S32x256, p 1 (by decide)⟩, ⟨S32x256, p 2 (by decide)⟩, ⟨S32x256, p 3 (by decide)⟩, ⟨S32x256, p 4 (by decide)⟩, ⟨S32x256, p 5 (by decide)⟩, ⟨S32x256, p 6 (by decide)⟩, ⟨S32x256, p 7 (by decide)⟩, ⟨S32x256, p 8 (by decide)⟩, ⟨S32x256, p 9 (by decide)⟩, ⟨S32x256, p 10 (by decide)⟩, ⟨S32x256, p 11 (by decide)⟩, ⟨S32x256, p 12 (by decide)⟩, ⟨S32x256, p 13 (by decide)⟩, ⟨S32x256, p 14 (by decide)⟩, ⟨S32x256, p 15 (by decide)⟩] concatenates_S32x256_S32x256_S32x256_S32x256_S32x256_S32x256_S32x256_S32x256_S32x256_S32x256_S32x256_S32x256_S32x256_S32x256_S32x256_S32x256_S512x256_d0

/-! ## A product over 7168 positions, 14 chunks of 512 -/

theorem inbWG (n g : ℕ) (hn : n < 14) (hg : g < 16) : ∀ a, (![512 * n + 32 * g, 0] : Fin 2 → Nat) a + S32x256.size a ≤ S7168x256.size a := by
  intro a; fin_cases a
  · show 512 * n + 32 * g + 32 ≤ 7168; omega
  · show 0 + 256 ≤ 256; omega
theorem inbSG (n g : ℕ) (hn : n < 14) (hg : g < 16) : ∀ a, (![16 * n + g, 0] : Fin 2 → Nat) a + S1x256.size a ≤ S224x256.size a := by
  intro a; fin_cases a
  · show 16 * n + g + 1 ≤ 224; omega
  · show 0 + 256 ≤ 256; omega
theorem inbXG (n : ℕ) (hn : n < 14) : ∀ a, (![0, 512 * n] : Fin 2 → Nat) a + S256x512.size a ≤ S256x7168.size a := by
  intro a; fin_cases a
  · show 0 + 256 ≤ 256; omega
  · show 512 * n + 512 ≤ 7168; omega

section
variable (x0 : Vec F S256x7168 .bf16) (x1 : Vec F S7168x256 .fp8e4m3) (x2 : Vec F S224x256 .i8)

/-- Piece `g` of chunk `n`, dequantised: 32 weight rows times their decoded row of scales. -/
def pieceG (n : ℕ) (hn : n < 14) (g : ℕ) (hg : g < 16) : FVec F S32x256 .bf16 :=
  k1_pay9 (View.ld x1 (Rect.unit (s := S7168x256) ![512 * n + 32 * g, 0] S32x256.size (inbWG n g hn hg)))
    (View.ld (Val := Elt F) (e' := .i32) (k1_pay6 (F := F) x2) (Rect.unit (s := S224x256) ![16 * n + g, 0] S1x256.size (inbSG n g hn hg)))

/-- Chunk `n` of the weights, dequantised: its sixteen pieces one below the other. -/
def deqG (n : ℕ) (hn : n < 14) : FVec F S512x256 .bf16 :=
  cat16 (pieceG x1 x2 n hn)

/-- Chunk `n`'s product. -/
def chunkG (n : ℕ) (hn : n < 14) : FVec F S256x256 .f32 :=
  matmul dot_S256x512_S512x256_S256x256_1_0_0_1_n_n none
    (k1_pay8 (View.ld x0 (Rect.unit (s := S256x7168) ![0, 512 * n] S256x512.size (inbXG n hn)))) (deqG x1 x2 n hn) (constant S256x256 .f32 0x00000000#32)

/-- The ordered sum of the products of the chunks up to `n`. -/
def accG : (n : ℕ) → n < 14 → FVec F S256x256 .f32
  | 0, h => chunkG x0 x1 x2 0 h
  | n + 1, h => addf (accG n (Nat.lt_of_succ_lt h)) (chunkG x0 x1 x2 (n + 1) h)
end

section
variable (a1 : Memref sig .tc .vmem S256x7168 .bf16) (h1 : a1.IsWhole) (a2 : Memref sig .tc .vmem S7168x256 .fp8e4m3) (h2 : a2.IsWhole) (a3 : Memref sig .tc .vmem S224x256 .i8) (h3 : a3.IsWhole)
    (a5 : Memref sig .tc .vmem S224x256 .i32) (x0 : Vec F S256x7168 .bf16) (x1 : Vec F S7168x256 .fp8e4m3) (x2 : Vec F S224x256 .i8)

/-- The piece as the body loads it. -/
def pieceMG (n : ℕ) (hn : n < 14) (g : ℕ) (hg : g < 16) : FVec F S32x256 .bf16 :=
  k1_pay9 (View.readAt (Elt F) a2.view (Rect.unit (s := S7168x256) ![512 * n + 32 * g, 0] S32x256.size (inbWG n g hn hg)).toLoadRect (h2.unread x1))
    (a5.view.readCov [⟨Rect.unit (s := S224x256) ![0, 0] S224x256.size inb_S224x256_S224x256_0_0,
        k1_pay6 (View.readAt (Elt F) a3.view (Rect.unit (s := S224x256) ![0, 0] S224x256.size inb_S224x256_S224x256_0_0).toLoadRect (h3.unread x2))⟩]
      (Rect.unit (s := S224x256) ![16 * n + g, 0] S1x256.size (inbSG n g hn hg)).toLoadRect)
def deqMG (n : ℕ) (hn : n < 14) : FVec F S512x256 .bf16 :=
  cat16 (pieceMG a2 h2 a3 h3 a5 x1 x2 n hn)
def chunkMG (n : ℕ) (hn : n < 14) : FVec F S256x256 .f32 :=
  matmul dot_S256x512_S512x256_S256x256_1_0_0_1_n_n none
    (k1_pay8 (View.readAt (Elt F) a1.view (Rect.unit (s := S256x7168) ![0, 512 * n] S256x512.size (inbXG n hn)).toLoadRect (h1.unread x0)))
    (deqMG a2 h2 a3 h3 a5 x1 x2 n hn) (constant S256x256 .f32 0x00000000#32)
def accMG : (n : ℕ) → n < 14 → FVec F S256x256 .f32
  | 0, h => chunkMG a1 h1 a2 h2 a3 h3 a5 x0 x1 x2 0 h
  | n + 1, h => addf (accMG n (Nat.lt_of_succ_lt h)) (chunkMG a1 h1 a2 h2 a3 h3 a5 x0 x1 x2 (n + 1) h)

theorem pieceMG_eq (n : ℕ) (hn : n < 14) (g : ℕ) (hg : g < 16) : pieceMG a2 h2 a3 h3 a5 x1 x2 n hn g hg = pieceG x1 x2 n hn g hg := by
  unfold pieceMG pieceG
  rw [View.readCov_eq_canon']
  simp only [View.readAt_eq_ld, h2.read_unread, h3.read_unread, View.ld_unit_zero (S := S224x256) hz]
  rw [View.canon_unit_zero (S := S224x256) hz]
theorem deqMG_eq (n : ℕ) (hn : n < 14) : deqMG a2 h2 a3 h3 a5 x1 x2 n hn = deqG x1 x2 n hn := by
  unfold deqMG deqG
  exact congrArg cat16 (funext fun g => funext fun hg => pieceMG_eq a2 h2 a3 h3 a5 x1 x2 n hn g hg)
theorem chunkMG_eq (n : ℕ) (hn : n < 14) : chunkMG a1 h1 a2 h2 a3 h3 a5 x0 x1 x2 n hn = chunkG x0 x1 x2 n hn := by
  unfold chunkMG chunkG
  rw [deqMG_eq, View.readAt_eq_ld, h1.read_unread]
theorem accMG_eq : ∀ (n : ℕ) (hn : n < 14), accMG a1 h1 a2 h2 a3 h3 a5 x0 x1 x2 n hn = accG x0 x1 x2 n hn
  | 0, h => chunkMG_eq a1 h1 a2 h2 a3 h3 a5 x0 x1 x2 0 h
  | n + 1, h => by
    show addf _ _ = addf _ _
    rw [accMG_eq n, chunkMG_eq]
end

/-! ## A product over 18432 positions, 36 chunks of 512 -/

theorem inbWD (n g : ℕ) (hn : n < 36) (hg : g < 16) : ∀ a, (![512 * n + 32 * g, 0] : Fin 2 → Nat) a + S32x256.size a ≤ S18432x256.size a := by
  intro a; fin_cases a
  · show 512 * n + 32 * g + 32 ≤ 18432; omega
  · show 0 + 256 ≤ 256; omega
theorem inbSD (n g : ℕ) (hn : n < 36) (hg : g < 16) : ∀ a, (![16 * n + g, 0] : Fin 2 → Nat) a + S1x256.size a ≤ S576x256.size a := by
  intro a; fin_cases a
  · show 16 * n + g + 1 ≤ 576; omega
  · show 0 + 256 ≤ 256; omega
theorem inbXD (n : ℕ) (hn : n < 36) : ∀ a, (![0, 512 * n] : Fin 2 → Nat) a + S256x512.size a ≤ S256x18432.size a := by
  intro a; fin_cases a
  · show 0 + 256 ≤ 256; omega
  · show 512 * n + 512 ≤ 18432; omega

section
variable (x0 : Vec F S256x18432 .bf16) (x1 : Vec F S18432x256 .fp8e4m3) (x2 : Vec F S576x256 .i8)

/-- Piece `g` of chunk `n`, dequantised: 32 weight rows times their decoded row of scales. -/
def pieceD (n : ℕ) (hn : n < 36) (g : ℕ) (hg : g < 16) : FVec F S32x256 .bf16 :=
  k1_pay9 (View.ld x1 (Rect.unit (s := S18432x256) ![512 * n + 32 * g, 0] S32x256.size (inbWD n g hn hg)))
    (View.ld (Val := Elt F) (e' := .i32) (k2_pay5 (F := F) x2) (Rect.unit (s := S576x256) ![16 * n + g, 0] S1x256.size (inbSD n g hn hg)))

/-- Chunk `n` of the weights, dequantised: its sixteen pieces one below the other. -/
def deqD (n : ℕ) (hn : n < 36) : FVec F S512x256 .bf16 :=
  cat16 (pieceD x1 x2 n hn)

/-- Chunk `n`'s product. -/
def chunkD (n : ℕ) (hn : n < 36) : FVec F S256x256 .f32 :=
  matmul dot_S256x512_S512x256_S256x256_1_0_0_1_n_n none
    (k1_pay8 (View.ld x0 (Rect.unit (s := S256x18432) ![0, 512 * n] S256x512.size (inbXD n hn)))) (deqD x1 x2 n hn) (constant S256x256 .f32 0x00000000#32)

/-- The ordered sum of the products of the chunks up to `n`. -/
def accD : (n : ℕ) → n < 36 → FVec F S256x256 .f32
  | 0, h => chunkD x0 x1 x2 0 h
  | n + 1, h => addf (accD n (Nat.lt_of_succ_lt h)) (chunkD x0 x1 x2 (n + 1) h)
end

section
variable (a1 : Memref sig .tc .vmem S256x18432 .bf16) (h1 : a1.IsWhole) (a2 : Memref sig .tc .vmem S18432x256 .fp8e4m3) (h2 : a2.IsWhole) (a3 : Memref sig .tc .vmem S576x256 .i8) (h3 : a3.IsWhole)
    (a5 : Memref sig .tc .vmem S576x256 .i32) (x0 : Vec F S256x18432 .bf16) (x1 : Vec F S18432x256 .fp8e4m3) (x2 : Vec F S576x256 .i8)

/-- The piece as the body loads it. -/
def pieceMD (n : ℕ) (hn : n < 36) (g : ℕ) (hg : g < 16) : FVec F S32x256 .bf16 :=
  k1_pay9 (View.readAt (Elt F) a2.view (Rect.unit (s := S18432x256) ![512 * n + 32 * g, 0] S32x256.size (inbWD n g hn hg)).toLoadRect (h2.unread x1))
    (a5.view.readCov [⟨Rect.unit (s := S576x256) ![0, 0] S576x256.size inb_S576x256_S576x256_0_0,
        k2_pay5 (View.readAt (Elt F) a3.view (Rect.unit (s := S576x256) ![0, 0] S576x256.size inb_S576x256_S576x256_0_0).toLoadRect (h3.unread x2))⟩]
      (Rect.unit (s := S576x256) ![16 * n + g, 0] S1x256.size (inbSD n g hn hg)).toLoadRect)
def deqMD (n : ℕ) (hn : n < 36) : FVec F S512x256 .bf16 :=
  cat16 (pieceMD a2 h2 a3 h3 a5 x1 x2 n hn)
def chunkMD (n : ℕ) (hn : n < 36) : FVec F S256x256 .f32 :=
  matmul dot_S256x512_S512x256_S256x256_1_0_0_1_n_n none
    (k1_pay8 (View.readAt (Elt F) a1.view (Rect.unit (s := S256x18432) ![0, 512 * n] S256x512.size (inbXD n hn)).toLoadRect (h1.unread x0)))
    (deqMD a2 h2 a3 h3 a5 x1 x2 n hn) (constant S256x256 .f32 0x00000000#32)
def accMD : (n : ℕ) → n < 36 → FVec F S256x256 .f32
  | 0, h => chunkMD a1 h1 a2 h2 a3 h3 a5 x0 x1 x2 0 h
  | n + 1, h => addf (accMD n (Nat.lt_of_succ_lt h)) (chunkMD a1 h1 a2 h2 a3 h3 a5 x0 x1 x2 (n + 1) h)

theorem pieceMD_eq (n : ℕ) (hn : n < 36) (g : ℕ) (hg : g < 16) : pieceMD a2 h2 a3 h3 a5 x1 x2 n hn g hg = pieceD x1 x2 n hn g hg := by
  unfold pieceMD pieceD
  rw [View.readCov_eq_canon']
  simp only [View.readAt_eq_ld, h2.read_unread, h3.read_unread, View.ld_unit_zero (S := S576x256) hz]
  rw [View.canon_unit_zero (S := S576x256) hz]
theorem deqMD_eq (n : ℕ) (hn : n < 36) : deqMD a2 h2 a3 h3 a5 x1 x2 n hn = deqD x1 x2 n hn := by
  unfold deqMD deqD
  exact congrArg cat16 (funext fun g => funext fun hg => pieceMD_eq a2 h2 a3 h3 a5 x1 x2 n hn g hg)
theorem chunkMD_eq (n : ℕ) (hn : n < 36) : chunkMD a1 h1 a2 h2 a3 h3 a5 x0 x1 x2 n hn = chunkD x0 x1 x2 n hn := by
  unfold chunkMD chunkD
  rw [deqMD_eq, View.readAt_eq_ld, h1.read_unread]
theorem accMD_eq : ∀ (n : ℕ) (hn : n < 36), accMD a1 h1 a2 h2 a3 h3 a5 x0 x1 x2 n hn = accD x0 x1 x2 n hn
  | 0, h => chunkMD_eq a1 h1 a2 h2 a3 h3 a5 x0 x1 x2 0 h
  | n + 1, h => by
    show addf _ _ = addf _ _
    rw [accMD_eq n, chunkMD_eq]
end

/-- The gated product of a block. -/
def gated (x0 : Vec F S256x7168 .bf16) (x1 x2 : Vec F S7168x256 .fp8e4m3) (x3 x4 : Vec F S224x256 .i8) : FVec F S256x256 .f32 :=
  mulf (mulf (accG x0 x1 x3 13 (by decide)) (logistic (accG x0 x1 x3 13 (by decide)))) (accG x0 x2 x4 13 (by decide))

/-- Columns `o … o + 127` of a block of 256 columns. -/
def slice (x : FVec F S256x256 .f32) (o : ℕ) : FVec F S256x128 .f32 :=
  fun y => x (ix2 (y 0) ⟨(o + (y 1).val) % 256, Nat.mod_lt _ (by decide)⟩)

end Cert.Kernel.Run
-- ==== Proof.BitsReg1P.lean ====
/-
  The second call's stores where the array of scales is left alone, read as the quantiser of the gated block. The program over words: the same text as `Reg1P`, whose program it shares but for the numbers.
-/
module

public import proofs.«01_k».proof.Proof.BitsRun1A
public import proofs.«01_k».proof.Proof.BitsPages
public import proofs.«01_k».proof.Proof.BitsBlk
public import proofs.«01_k».proof.Proof.BitsReg0A

@[expose] public section

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

theorem slice_0 (x : FVec F S256x256 .f32) : extractStridedSlice S256x128 ![0, 0] x slices_S256x256_o0_0_S256x128 = slice x 0 := by
  funext y
  obtain ⟨r, l, rfl⟩ : ∃ (r : Fin 256) (l : Fin 128), y = ix2 r l := ⟨y 0, y 1, by funext a; match a with | ⟨0, _⟩ => rfl | ⟨1, _⟩ => rfl⟩
  refine congrArg x (funext fun a => Fin.ext ?_)
  match a with
  | ⟨0, _⟩ => show 0 + r.val = r.val; omega
  | ⟨1, _⟩ => show 0 + l.val = (0 + l.val) % 256; omega
theorem slice_1 (x : FVec F S256x256 .f32) : extractStridedSlice S256x128 ![0, 128] x slices_S256x256_o0_128_S256x128 = slice x 128 := by
  funext y
  obtain ⟨r, l, rfl⟩ : ∃ (r : Fin 256) (l : Fin 128), y = ix2 r l := ⟨y 0, y 1, by funext a; match a with | ⟨0, _⟩ => rfl | ⟨1, _⟩ => rfl⟩
  refine congrArg x (funext fun a => Fin.ext ?_)
  match a with
  | ⟨0, _⟩ => show 0 + r.val = r.val; omega
  | ⟨1, _⟩ => show 128 + l.val = (128 + l.val) % 256; omega

/-- The scales' array the last point stores: group `k` of 32 columns has its scale from half block `k / 4`. -/
def scaleArr576 (g : ℕ → FVec F S256x128 .f32) : Vec F S256x576 .f32 :=
  fun y => g ((y 1).val / 4) (ix2 (y 0) ⟨(y 1).val % 4 * 32, by omega⟩)

theorem k1pay1_apply (p : FVec F S1x256x128 .f32) (r : Fin 256) (l : Fin 128) : k1_pay1 p (ix2 r l) = p (ix3 0 r ⟨l.val, by omega⟩) := by
  pointwise [k1_pay1]

theorem k1pay2_apply (p : FVec F S1x256x128 .f32) (r : Fin 256) (l : Fin 128) : k1_pay2 p (ix2 r l) = p (ix3 0 r ⟨l.val, by omega⟩) := by
  pointwise [k1_pay2]

theorem k1pay3_apply (p : FVec F S1x256x128 .f32) (r : Fin 256) (l : Fin 128) : k1_pay3 p (ix2 r l) = p (ix3 0 r ⟨l.val, by omega⟩) := by
  pointwise [k1_pay3]

theorem k1pay4_apply (p : FVec F S1x256x128 .f32) (r : Fin 256) (l : Fin 128) : k1_pay4 p (ix2 r l) = p (ix3 0 r ⟨l.val, by omega⟩) := by
  pointwise [k1_pay4]

theorem k1pay5_apply (p : FVec F S1x256x128 .f32) (r : Fin 256) (l : Fin 64) : k1_pay5 p (ix2 r l) = p (ix3 0 r ⟨l.val, by omega⟩) := by
  pointwise [k1_pay5]

theorem read_scale576 (v : View sig .tc .vmem S256x576 .f32) (f : v.ty.Contents (Elt F)) (p0 p1 p2 p3 p4 : FVec F S1x256x128 .f32) (g : ℕ → FVec F S256x128 .f32)
    (h0 : ∀ (r : Fin 256) (l : Fin 128), l.val < 128 → p0 (ix3 0 r l) = g (32 * 0 + l.val / 4) (ix2 r ⟨l.val % 4 * 32, by omega⟩))
    (h1 : ∀ (r : Fin 256) (l : Fin 128), l.val < 128 → p1 (ix3 0 r l) = g (32 * 1 + l.val / 4) (ix2 r ⟨l.val % 4 * 32, by omega⟩))
    (h2 : ∀ (r : Fin 256) (l : Fin 128), l.val < 128 → p2 (ix3 0 r l) = g (32 * 2 + l.val / 4) (ix2 r ⟨l.val % 4 * 32, by omega⟩))
    (h3 : ∀ (r : Fin 256) (l : Fin 128), l.val < 128 → p3 (ix3 0 r l) = g (32 * 3 + l.val / 4) (ix2 r ⟨l.val % 4 * 32, by omega⟩))
    (h4 : ∀ (r : Fin 256) (l : Fin 128), l.val < 64 → p4 (ix3 0 r l) = g (32 * 4 + l.val / 4) (ix2 r ⟨l.val % 4 * 32, by omega⟩)) :
    v.read (Elt F) (v.writes (Elt F) f [⟨Rect.unit (s := S256x576) ![0, 512] ![256, 64] inb_S256x576_S256x64_0_512, k1_pay5 p4⟩, ⟨Rect.unit (s := S256x576) ![0, 384] ![256, 128] inb_S256x576_S256x128_0_384, k1_pay4 p3⟩, ⟨Rect.unit (s := S256x576) ![0, 256] ![256, 128] inb_S256x576_S256x128_0_256, k1_pay3 p2⟩, ⟨Rect.unit (s := S256x576) ![0, 128] ![256, 128] inb_S256x576_S256x128_0_128, k1_pay2 p1⟩, ⟨Rect.unit (s := S256x576) ![0, 0] ![256, 128] inb_S256x576_S256x128_0_0, k1_pay1 p0⟩]) = scaleArr576 g := by
  funext y
  unfold scaleArr576
  have hy : (y 1).val < 576 := (y 1).isLt
  by_cases hc4 : (y 1).val < 512
  swap
  · rw [View.read_writes_cons_unit_of_mem v f inb_S256x576_S256x64_0_512 _ _ y (ix2 (y 0) (⟨(y 1).val - 512, by omega⟩ : Fin 64)) rfl (fun a => by
      match a with
      | ⟨0, _⟩ => show (y 0).val = 0 + (y 0).val; omega
      | ⟨1, _⟩ => show (y 1).val = 512 + ((y 1).val - 512); omega)]
    refine (k1pay5_apply p4 _ _).trans ((h4 _ _ (by show (y 1).val - 512 < 64; omega)).trans ?_)
    have e1 : 32 * 4 + ((y 1).val - 512) / 4 = (y 1).val / 4 := by omega
    have e2 : ((y 1).val - 512) % 4 = (y 1).val % 4 := by omega
    simp only [e1, e2]
  rw [View.read_writes_cons_unit_of_not_mem v f inb_S256x576_S256x64_0_512 _ _ y rfl (1 : Fin 2) (Or.inl hc4)]
  by_cases hc3 : (y 1).val < 384
  swap
  · rw [View.read_writes_cons_unit_of_mem v f inb_S256x576_S256x128_0_384 _ _ y (ix2 (y 0) (⟨(y 1).val - 384, by omega⟩ : Fin 128)) rfl (fun a => by
      match a with
      | ⟨0, _⟩ => show (y 0).val = 0 + (y 0).val; omega
      | ⟨1, _⟩ => show (y 1).val = 384 + ((y 1).val - 384); omega)]
    refine (k1pay4_apply p3 _ _).trans ((h3 _ _ (by show (y 1).val - 384 < 128; omega)).trans ?_)
    have e1 : 32 * 3 + ((y 1).val - 384) / 4 = (y 1).val / 4 := by omega
    have e2 : ((y 1).val - 384) % 4 = (y 1).val % 4 := by omega
    simp only [e1, e2]
  rw [View.read_writes_cons_unit_of_not_mem v f inb_S256x576_S256x128_0_384 _ _ y rfl (1 : Fin 2) (Or.inl hc3)]
  by_cases hc2 : (y 1).val < 256
  swap
  · rw [View.read_writes_cons_unit_of_mem v f inb_S256x576_S256x128_0_256 _ _ y (ix2 (y 0) (⟨(y 1).val - 256, by omega⟩ : Fin 128)) rfl (fun a => by
      match a with
      | ⟨0, _⟩ => show (y 0).val = 0 + (y 0).val; omega
      | ⟨1, _⟩ => show (y 1).val = 256 + ((y 1).val - 256); omega)]
    refine (k1pay3_apply p2 _ _).trans ((h2 _ _ (by show (y 1).val - 256 < 128; omega)).trans ?_)
    have e1 : 32 * 2 + ((y 1).val - 256) / 4 = (y 1).val / 4 := by omega
    have e2 : ((y 1).val - 256) % 4 = (y 1).val % 4 := by omega
    simp only [e1, e2]
  rw [View.read_writes_cons_unit_of_not_mem v f inb_S256x576_S256x128_0_256 _ _ y rfl (1 : Fin 2) (Or.inl hc2)]
  by_cases hc1 : (y 1).val < 128
  swap
  · rw [View.read_writes_cons_unit_of_mem v f inb_S256x576_S256x128_0_128 _ _ y (ix2 (y 0) (⟨(y 1).val - 128, by omega⟩ : Fin 128)) rfl (fun a => by
      match a with
      | ⟨0, _⟩ => show (y 0).val = 0 + (y 0).val; omega
      | ⟨1, _⟩ => show (y 1).val = 128 + ((y 1).val - 128); omega)]
    refine (k1pay2_apply p1 _ _).trans ((h1 _ _ (by show (y 1).val - 128 < 128; omega)).trans ?_)
    have e1 : 32 * 1 + ((y 1).val - 128) / 4 = (y 1).val / 4 := by omega
    have e2 : ((y 1).val - 128) % 4 = (y 1).val % 4 := by omega
    simp only [e1, e2]
  rw [View.read_writes_cons_unit_of_not_mem v f inb_S256x576_S256x128_0_128 _ _ y rfl (1 : Fin 2) (Or.inl hc1)]
  rw [View.read_writes_cons_unit_of_mem v f inb_S256x576_S256x128_0_0 _ _ y (ix2 (y 0) (⟨(y 1).val - 0, by omega⟩ : Fin 128)) rfl (fun a => by
    match a with
    | ⟨0, _⟩ => show (y 0).val = 0 + (y 0).val; omega
    | ⟨1, _⟩ => show (y 1).val = 0 + ((y 1).val - 0); omega)]
  refine (k1pay1_apply p0 _ _).trans ((h0 _ _ (by show (y 1).val - 0 < 128; omega)).trans ?_)
  have e1 : 32 * 0 + ((y 1).val - 0) / 4 = (y 1).val / 4 := by omega
  have e2 : ((y 1).val - 0) % 4 = (y 1).val % 4 := by omega
  simp only [e1, e2]

theorem raw1_A (c : Dev nD) (i : grid1.Coords) (arg1 : Memref sig .tc .vmem S256x7168 .bf16) (h1 : arg1.IsWhole) (arg2 : Memref sig .tc .vmem S7168x256 .fp8e4m3) (h2 : arg2.IsWhole) (arg3 : Memref sig .tc .vmem S7168x256 .fp8e4m3) (h3 : arg3.IsWhole) (arg4 : Memref sig .tc .vmem S224x256 .i8) (h4 : arg4.IsWhole) (arg5 : Memref sig .tc .vmem S224x256 .i8) (h5 : arg5.IsWhole) (arg6 : Memref sig .tc .vmem S256x256 .fp8e4m3) (h6 : arg6.IsWhole) (arg7 : Memref sig .tc .vmem S256x256 .bf16) (h7 : arg7.IsWhole) (arg8 : Memref sig .tc .vmem S256x576 .f32) (h8 : arg8.IsWhole) (arg9 : Memref sig .tc .vmem S224x256 .i32) (h9 : arg9.IsWhole) (arg10 : Memref sig .tc .vmem S224x256 .i32) (h10 : arg10.IsWhole) (arg11 : Memref sig .tc .vmem S5x256x128 .f32) (h11 : arg11.IsWhole) (hc0 : ¬k1_cond1 i = 1#1)     (x0 : Vec F S256x7168 .bf16) (x1 : Vec F S7168x256 .fp8e4m3) (x2 : Vec F S7168x256 .fp8e4m3) (x3 : Vec F S224x256 .i8) (x4 : Vec F S224x256 .i8) (d11 : Vec F S5x256x128 .f32)  : (kernelRun1_A.sl.r_503 c arg1 h1 arg2 h2 arg3 h3 arg4 h4 arg5 h5 arg9 arg10 x0 x1 x2 x3 x4) = (gated x0 x1 x2 x3 x4) := by
  have e : (kernelRun1_A.sl.r_503 c arg1 h1 arg2 h2 arg3 h3 arg4 h4 arg5 h5 arg9 arg10 x0 x1 x2 x3 x4) = mulf (mulf (accMG arg1 h1 arg2 h2 arg4 h4 arg9 x0 x1 x3 13 (by decide)) (logistic (accMG arg1 h1 arg2 h2 arg4 h4 arg9 x0 x1 x3 13 (by decide))))
      (accMG arg1 h1 arg3 h3 arg5 h5 arg10 x0 x2 x4 13 (by decide)) := by sl_kernel_rfl
  rw [e, accMG_eq, accMG_eq]; rfl

/-- The codes the body stores. -/
theorem codes1_A (c : Dev nD) (i : grid1.Coords) (arg1 : Memref sig .tc .vmem S256x7168 .bf16) (h1 : arg1.IsWhole) (arg2 : Memref sig .tc .vmem S7168x256 .fp8e4m3) (h2 : arg2.IsWhole) (arg3 : Memref sig .tc .vmem S7168x256 .fp8e4m3) (h3 : arg3.IsWhole) (arg4 : Memref sig .tc .vmem S224x256 .i8) (h4 : arg4.IsWhole) (arg5 : Memref sig .tc .vmem S224x256 .i8) (h5 : arg5.IsWhole) (arg6 : Memref sig .tc .vmem S256x256 .fp8e4m3) (h6 : arg6.IsWhole) (arg7 : Memref sig .tc .vmem S256x256 .bf16) (h7 : arg7.IsWhole) (arg8 : Memref sig .tc .vmem S256x576 .f32) (h8 : arg8.IsWhole) (arg9 : Memref sig .tc .vmem S224x256 .i32) (h9 : arg9.IsWhole) (arg10 : Memref sig .tc .vmem S224x256 .i32) (h10 : arg10.IsWhole) (arg11 : Memref sig .tc .vmem S5x256x128 .f32) (h11 : arg11.IsWhole) (hc0 : ¬k1_cond1 i = 1#1)     (x0 : Vec F S256x7168 .bf16) (x1 : Vec F S7168x256 .fp8e4m3) (x2 : Vec F S7168x256 .fp8e4m3) (x3 : Vec F S224x256 .i8) (x4 : Vec F S224x256 .i8) (d11 : Vec F S5x256x128 .f32)  (f : arg6.view.ty.Contents (Elt F)) :
    arg6.view.read (Elt F) (arg6.view.writes (Elt F) f (kernelRun1_A c i arg1 h1 arg2 h2 arg3 h3 arg4 h4 arg5 h5 arg6 h6 arg7 h7 arg8 h8 arg9 h9 arg10 h10 arg11 h11 hc0 x0 x1 x2 x3 x4 d11).1) = pair fun o => codesOf (slice (gated x0 x1 x2 x3 x4) o) := by
  have e : (kernelRun1_A c i arg1 h1 arg2 h2 arg3 h3 arg4 h4 arg5 h5 arg6 h6 arg7 h7 arg8 h8 arg9 h9 arg10 h10 arg11 h11 hc0 x0 x1 x2 x3 x4 d11).1 = [⟨Rect.unit (s := S256x256) ![0, 128] ![256, 128] inb_S256x256_S256x128_0_128, codesOf (extractStridedSlice S256x128 ![0, 128] (kernelRun1_A.sl.r_503 c arg1 h1 arg2 h2 arg3 h3 arg4 h4 arg5 h5 arg9 arg10 x0 x1 x2 x3 x4) slices_S256x256_o0_128_S256x128)⟩,
      ⟨Rect.unit (s := S256x256) ![0, 0] ![256, 128] inb_S256x256_S256x128_0_0, codesOf (extractStridedSlice S256x128 ![0, 0] (kernelRun1_A.sl.r_503 c arg1 h1 arg2 h2 arg3 h3 arg4 h4 arg5 h5 arg9 arg10 x0 x1 x2 x3 x4) slices_S256x256_o0_0_S256x128)⟩] := by sl_kernel_rfl
  rw [e, raw1_A c i arg1 h1 arg2 h2 arg3 h3 arg4 h4 arg5 h5 arg6 h6 arg7 h7 arg8 h8 arg9 h9 arg10 h10 arg11 h11 hc0 x0 x1 x2 x3 x4 d11, slice_0, slice_1]
  exact read_pair arg6.view f (fun o => codesOf (slice (gated x0 x1 x2 x3 x4) o)) _ _

/-- The dequantised block the body stores. -/
theorem deq1_A (c : Dev nD) (i : grid1.Coords) (arg1 : Memref sig .tc .vmem S256x7168 .bf16) (h1 : arg1.IsWhole) (arg2 : Memref sig .tc .vmem S7168x256 .fp8e4m3) (h2 : arg2.IsWhole) (arg3 : Memref sig .tc .vmem S7168x256 .fp8e4m3) (h3 : arg3.IsWhole) (arg4 : Memref sig .tc .vmem S224x256 .i8) (h4 : arg4.IsWhole) (arg5 : Memref sig .tc .vmem S224x256 .i8) (h5 : arg5.IsWhole) (arg6 : Memref sig .tc .vmem S256x256 .fp8e4m3) (h6 : arg6.IsWhole) (arg7 : Memref sig .tc .vmem S256x256 .bf16) (h7 : arg7.IsWhole) (arg8 : Memref sig .tc .vmem S256x576 .f32) (h8 : arg8.IsWhole) (arg9 : Memref sig .tc .vmem S224x256 .i32) (h9 : arg9.IsWhole) (arg10 : Memref sig .tc .vmem S224x256 .i32) (h10 : arg10.IsWhole) (arg11 : Memref sig .tc .vmem S5x256x128 .f32) (h11 : arg11.IsWhole) (hc0 : ¬k1_cond1 i = 1#1)     (x0 : Vec F S256x7168 .bf16) (x1 : Vec F S7168x256 .fp8e4m3) (x2 : Vec F S7168x256 .fp8e4m3) (x3 : Vec F S224x256 .i8) (x4 : Vec F S224x256 .i8) (d11 : Vec F S5x256x128 .f32)  (f : arg7.view.ty.Contents (Elt F)) :
    arg7.view.read (Elt F) (arg7.view.writes (Elt F) f (kernelRun1_A c i arg1 h1 arg2 h2 arg3 h3 arg4 h4 arg5 h5 arg6 h6 arg7 h7 arg8 h8 arg9 h9 arg10 h10 arg11 h11 hc0 x0 x1 x2 x3 x4 d11).2.1) = pair fun o => dequantOf (slice (gated x0 x1 x2 x3 x4) o) := by
  have e : (kernelRun1_A c i arg1 h1 arg2 h2 arg3 h3 arg4 h4 arg5 h5 arg6 h6 arg7 h7 arg8 h8 arg9 h9 arg10 h10 arg11 h11 hc0 x0 x1 x2 x3 x4 d11).2.1 = [⟨Rect.unit (s := S256x256) ![0, 128] ![256, 128] inb_S256x256_S256x128_0_128, dequantOf (extractStridedSlice S256x128 ![0, 128] (kernelRun1_A.sl.r_503 c arg1 h1 arg2 h2 arg3 h3 arg4 h4 arg5 h5 arg9 arg10 x0 x1 x2 x3 x4) slices_S256x256_o0_128_S256x128)⟩,
      ⟨Rect.unit (s := S256x256) ![0, 0] ![256, 128] inb_S256x256_S256x128_0_0, dequantOf (extractStridedSlice S256x128 ![0, 0] (kernelRun1_A.sl.r_503 c arg1 h1 arg2 h2 arg3 h3 arg4 h4 arg5 h5 arg9 arg10 x0 x1 x2 x3 x4) slices_S256x256_o0_0_S256x128)⟩] := by sl_kernel_rfl
  rw [e, raw1_A c i arg1 h1 arg2 h2 arg3 h3 arg4 h4 arg5 h5 arg6 h6 arg7 h7 arg8 h8 arg9 h9 arg10 h10 arg11 h11 hc0 x0 x1 x2 x3 x4 d11, slice_0, slice_1]
  exact read_pair arg7.view f (fun o => dequantOf (slice (gated x0 x1 x2 x3 x4) o)) _ _

theorem pages1_A (c : Dev nD) (i : grid1.Coords) (arg1 : Memref sig .tc .vmem S256x7168 .bf16) (h1 : arg1.IsWhole) (arg2 : Memref sig .tc .vmem S7168x256 .fp8e4m3) (h2 : arg2.IsWhole) (arg3 : Memref sig .tc .vmem S7168x256 .fp8e4m3) (h3 : arg3.IsWhole) (arg4 : Memref sig .tc .vmem S224x256 .i8) (h4 : arg4.IsWhole) (arg5 : Memref sig .tc .vmem S224x256 .i8) (h5 : arg5.IsWhole) (arg6 : Memref sig .tc .vmem S256x256 .fp8e4m3) (h6 : arg6.IsWhole) (arg7 : Memref sig .tc .vmem S256x256 .bf16) (h7 : arg7.IsWhole) (arg8 : Memref sig .tc .vmem S256x576 .f32) (h8 : arg8.IsWhole) (arg9 : Memref sig .tc .vmem S224x256 .i32) (h9 : arg9.IsWhole) (arg10 : Memref sig .tc .vmem S224x256 .i32) (h10 : arg10.IsWhole) (arg11 : Memref sig .tc .vmem S5x256x128 .f32) (h11 : arg11.IsWhole) (hc0 : ¬k1_cond1 i = 1#1)     (x0 : Vec F S256x7168 .bf16) (x1 : Vec F S7168x256 .fp8e4m3) (x2 : Vec F S7168x256 .fp8e4m3) (x3 : Vec F S224x256 .i8) (x4 : Vec F S224x256 .i8) (d11 : Vec F S5x256x128 .f32)  (inb0 : ∀ a, k1_off1 i 0#32 a + S1x256x128.size a ≤ S5x256x128.size a) (inb1 : ∀ a, k1_off1 i 1#32 a + S1x256x128.size a ≤ S5x256x128.size a) :
    (kernelRun1_A c i arg1 h1 arg2 h2 arg3 h3 arg4 h4 arg5 h5 arg6 h6 arg7 h7 arg8 h8 arg9 h9 arg10 h10 arg11 h11 hc0 x0 x1 x2 x3 x4 d11).2.2.2.1 = [⟨Rect.unit (s := S5x256x128) (k1_off1 i 1#32) S1x256x128.size inb1, shapeCast S1x256x128 (place (slotOf (halfNo (i 0).val 1#32)) (shapeCast S256x128
        (View.readCov (Val := Elt F) arg11.view [⟨Rect.unit (s := S5x256x128) (k1_off1 i 0#32) S1x256x128.size inb0, shapeCast S1x256x128 (place (slotOf (halfNo (i 0).val 0#32)) (shapeCast S256x128 (arg11.view.readAt (Elt F) (Rect.unit (s := S5x256x128) (k1_off1 i 0#32) S1x256x128.size inb0).toLoadRect (h11.unread d11)) shapeCasts_S1x256x128_S256x128) (scaleOf (extractStridedSlice S256x128 ![0, 0] (kernelRun1_A.sl.r_503 c arg1 h1 arg2 h2 arg3 h3 arg4 h4 arg5 h5 arg9 arg10 x0 x1 x2 x3 x4) slices_S256x256_o0_0_S256x128))) shapeCasts_S256x128_S1x256x128⟩]
          (Rect.unit (s := S5x256x128) (k1_off1 i 1#32) S1x256x128.size inb1).toLoadRect) shapeCasts_S1x256x128_S256x128) (scaleOf (extractStridedSlice S256x128 ![0, 128] (kernelRun1_A.sl.r_503 c arg1 h1 arg2 h2 arg3 h3 arg4 h4 arg5 h5 arg9 arg10 x0 x1 x2 x3 x4) slices_S256x256_o0_128_S256x128))) shapeCasts_S256x128_S1x256x128⟩,
      ⟨Rect.unit (s := S5x256x128) (k1_off1 i 0#32) S1x256x128.size inb0, shapeCast S1x256x128 (place (slotOf (halfNo (i 0).val 0#32)) (shapeCast S256x128 (arg11.view.readAt (Elt F) (Rect.unit (s := S5x256x128) (k1_off1 i 0#32) S1x256x128.size inb0).toLoadRect (h11.unread d11)) shapeCasts_S1x256x128_S256x128) (scaleOf (extractStridedSlice S256x128 ![0, 0] (kernelRun1_A.sl.r_503 c arg1 h1 arg2 h2 arg3 h3 arg4 h4 arg5 h5 arg9 arg10 x0 x1 x2 x3 x4) slices_S256x256_o0_0_S256x128))) shapeCasts_S256x128_S1x256x128⟩] := by sl_kernel_rfl

/-- The scratch after the body. -/
theorem scratch1_A (c : Dev nD) (i : grid1.Coords) (arg1 : Memref sig .tc .vmem S256x7168 .bf16) (h1 : arg1.IsWhole) (arg2 : Memref sig .tc .vmem S7168x256 .fp8e4m3) (h2 : arg2.IsWhole) (arg3 : Memref sig .tc .vmem S7168x256 .fp8e4m3) (h3 : arg3.IsWhole) (arg4 : Memref sig .tc .vmem S224x256 .i8) (h4 : arg4.IsWhole) (arg5 : Memref sig .tc .vmem S224x256 .i8) (h5 : arg5.IsWhole) (arg6 : Memref sig .tc .vmem S256x256 .fp8e4m3) (h6 : arg6.IsWhole) (arg7 : Memref sig .tc .vmem S256x256 .bf16) (h7 : arg7.IsWhole) (arg8 : Memref sig .tc .vmem S256x576 .f32) (h8 : arg8.IsWhole) (arg9 : Memref sig .tc .vmem S224x256 .i32) (h9 : arg9.IsWhole) (arg10 : Memref sig .tc .vmem S224x256 .i32) (h10 : arg10.IsWhole) (arg11 : Memref sig .tc .vmem S5x256x128 .f32) (h11 : arg11.IsWhole) (hc0 : ¬k1_cond1 i = 1#1)     (x0 : Vec F S256x7168 .bf16) (x1 : Vec F S7168x256 .fp8e4m3) (x2 : Vec F S7168x256 .fp8e4m3) (x3 : Vec F S224x256 .i8) (x4 : Vec F S224x256 .i8) (d11 : Vec F S5x256x128 .f32)  (g : ℕ → FVec F S256x128 .f32) (hg0 : g (2 * (i 0).val) = scaleOf (slice (gated x0 x1 x2 x3 x4) 0)) (hg1 : g (2 * (i 0).val + 1) = scaleOf (slice (gated x0 x1 x2 x3 x4) 128))
    (hI : Inv5 g (i 0).val d11) :
    Inv5 g ((i 0).val + 1) (arg11.view.read (Elt F) (arg11.view.writes (Elt F) (h11.unread d11) (kernelRun1_A c i arg1 h1 arg2 h2 arg3 h3 arg4 h4 arg5 h5 arg6 h6 arg7 h7 arg8 h8 arg9 h9 arg10 h10 arg11 h11 hc0 x0 x1 x2 x3 x4 d11).2.2.2.1)) := by
  have ht : (i 0).val < 72 := (i 0).isLt
  have hs := slot_eq ⟨(i 0).val, by omega⟩
  have inb (n : BitVec 32) (h : k1_off1 i n = ![(i 0).val / 16, 0, 0]) : ∀ a, k1_off1 i n a + S1x256x128.size a ≤ S5x256x128.size a := by
    rw [h]; intro a
    match a with
    | ⟨0, _⟩ => show (i 0).val / 16 + 1 ≤ 5; omega
    | ⟨1, _⟩ => show 0 + 256 ≤ 256; omega
    | ⟨2, _⟩ => show 0 + 128 ≤ 128; omega
  rw [pages1_A c i arg1 h1 arg2 h2 arg3 h3 arg4 h4 arg5 h5 arg6 h6 arg7 h7 arg8 h8 arg9 h9 arg10 h10 arg11 h11 hc0 x0 x1 x2 x3 x4 d11 (inb _ (k1_off1_eq i).1) (inb _ (k1_off1_eq i).2), raw1_A c i arg1 h1 arg2 h2 arg3 h3 arg4 h4 arg5 h5 arg6 h6 arg7 h7 arg8 h8 arg9 h9 arg10 h10 arg11 h11 hc0 x0 x1 x2 x3 x4 d11, slice_0, slice_1]
  refine inv5_step arg11.view (h11.unread d11) g (i 0).val ht _ _ (k1_off1_eq i).1 (k1_off1_eq i).2 _ _ (by rw [h11.read_unread]; exact hI) _ _ ?_ ?_
  · rw [hg0, hs.1]
  · rw [hg1, hs.2, readCov_top _ ((k1_off1_eq i).1.trans (k1_off1_eq i).2.symm)]

end Cert.Kernel.Run
-- ==== Proof.BitsReg1Q.lean ====
/-
  The second call's stores at its last point, read as the quantiser of the gated block. The program over words: the same text as `Reg1Q`, whose program it shares but for the numbers.
-/
module

public import proofs.«01_k».proof.Proof.BitsRun1B
public import proofs.«01_k».proof.Proof.BitsReg1P

@[expose] public section

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

theorem raw1_B (c : Dev nD) (i : grid1.Coords) (arg1 : Memref sig .tc .vmem S256x7168 .bf16) (h1 : arg1.IsWhole) (arg2 : Memref sig .tc .vmem S7168x256 .fp8e4m3) (h2 : arg2.IsWhole) (arg3 : Memref sig .tc .vmem S7168x256 .fp8e4m3) (h3 : arg3.IsWhole) (arg4 : Memref sig .tc .vmem S224x256 .i8) (h4 : arg4.IsWhole) (arg5 : Memref sig .tc .vmem S224x256 .i8) (h5 : arg5.IsWhole) (arg6 : Memref sig .tc .vmem S256x256 .fp8e4m3) (h6 : arg6.IsWhole) (arg7 : Memref sig .tc .vmem S256x256 .bf16) (h7 : arg7.IsWhole) (arg8 : Memref sig .tc .vmem S256x576 .f32) (h8 : arg8.IsWhole) (arg9 : Memref sig .tc .vmem S224x256 .i32) (h9 : arg9.IsWhole) (arg10 : Memref sig .tc .vmem S224x256 .i32) (h10 : arg10.IsWhole) (arg11 : Memref sig .tc .vmem S5x256x128 .f32) (h11 : arg11.IsWhole) (hc0 : k1_cond1 i = 1#1)     (x0 : Vec F S256x7168 .bf16) (x1 : Vec F S7168x256 .fp8e4m3) (x2 : Vec F S7168x256 .fp8e4m3) (x3 : Vec F S224x256 .i8) (x4 : Vec F S224x256 .i8) (d11 : Vec F S5x256x128 .f32)  : (kernelRun1_B.sl.r_503 c arg1 h1 arg2 h2 arg3 h3 arg4 h4 arg5 h5 arg9 arg10 x0 x1 x2 x3 x4) = (gated x0 x1 x2 x3 x4) := by
  have e : (kernelRun1_B.sl.r_503 c arg1 h1 arg2 h2 arg3 h3 arg4 h4 arg5 h5 arg9 arg10 x0 x1 x2 x3 x4) = mulf (mulf (accMG arg1 h1 arg2 h2 arg4 h4 arg9 x0 x1 x3 13 (by decide)) (logistic (accMG arg1 h1 arg2 h2 arg4 h4 arg9 x0 x1 x3 13 (by decide))))
      (accMG arg1 h1 arg3 h3 arg5 h5 arg10 x0 x2 x4 13 (by decide)) := by sl_kernel_rfl
  rw [e, accMG_eq, accMG_eq]; rfl

/-- The codes the body stores. -/
theorem codes1_B (c : Dev nD) (i : grid1.Coords) (arg1 : Memref sig .tc .vmem S256x7168 .bf16) (h1 : arg1.IsWhole) (arg2 : Memref sig .tc .vmem S7168x256 .fp8e4m3) (h2 : arg2.IsWhole) (arg3 : Memref sig .tc .vmem S7168x256 .fp8e4m3) (h3 : arg3.IsWhole) (arg4 : Memref sig .tc .vmem S224x256 .i8) (h4 : arg4.IsWhole) (arg5 : Memref sig .tc .vmem S224x256 .i8) (h5 : arg5.IsWhole) (arg6 : Memref sig .tc .vmem S256x256 .fp8e4m3) (h6 : arg6.IsWhole) (arg7 : Memref sig .tc .vmem S256x256 .bf16) (h7 : arg7.IsWhole) (arg8 : Memref sig .tc .vmem S256x576 .f32) (h8 : arg8.IsWhole) (arg9 : Memref sig .tc .vmem S224x256 .i32) (h9 : arg9.IsWhole) (arg10 : Memref sig .tc .vmem S224x256 .i32) (h10 : arg10.IsWhole) (arg11 : Memref sig .tc .vmem S5x256x128 .f32) (h11 : arg11.IsWhole) (hc0 : k1_cond1 i = 1#1)     (x0 : Vec F S256x7168 .bf16) (x1 : Vec F S7168x256 .fp8e4m3) (x2 : Vec F S7168x256 .fp8e4m3) (x3 : Vec F S224x256 .i8) (x4 : Vec F S224x256 .i8) (d11 : Vec F S5x256x128 .f32)  (f : arg6.view.ty.Contents (Elt F)) :
    arg6.view.read (Elt F) (arg6.view.writes (Elt F) f (kernelRun1_B c i arg1 h1 arg2 h2 arg3 h3 arg4 h4 arg5 h5 arg6 h6 arg7 h7 arg8 h8 arg9 h9 arg10 h10 arg11 h11 hc0 x0 x1 x2 x3 x4 d11).1) = pair fun o => codesOf (slice (gated x0 x1 x2 x3 x4) o) := by
  have e : (kernelRun1_B c i arg1 h1 arg2 h2 arg3 h3 arg4 h4 arg5 h5 arg6 h6 arg7 h7 arg8 h8 arg9 h9 arg10 h10 arg11 h11 hc0 x0 x1 x2 x3 x4 d11).1 = [⟨Rect.unit (s := S256x256) ![0, 128] ![256, 128] inb_S256x256_S256x128_0_128, codesOf (extractStridedSlice S256x128 ![0, 128] (kernelRun1_B.sl.r_503 c arg1 h1 arg2 h2 arg3 h3 arg4 h4 arg5 h5 arg9 arg10 x0 x1 x2 x3 x4) slices_S256x256_o0_128_S256x128)⟩,
      ⟨Rect.unit (s := S256x256) ![0, 0] ![256, 128] inb_S256x256_S256x128_0_0, codesOf (extractStridedSlice S256x128 ![0, 0] (kernelRun1_B.sl.r_503 c arg1 h1 arg2 h2 arg3 h3 arg4 h4 arg5 h5 arg9 arg10 x0 x1 x2 x3 x4) slices_S256x256_o0_0_S256x128)⟩] := by sl_kernel_rfl
  rw [e, raw1_B c i arg1 h1 arg2 h2 arg3 h3 arg4 h4 arg5 h5 arg6 h6 arg7 h7 arg8 h8 arg9 h9 arg10 h10 arg11 h11 hc0 x0 x1 x2 x3 x4 d11, slice_0, slice_1]
  exact read_pair arg6.view f (fun o => codesOf (slice (gated x0 x1 x2 x3 x4) o)) _ _

/-- The dequantised block the body stores. -/
theorem deq1_B (c : Dev nD) (i : grid1.Coords) (arg1 : Memref sig .tc .vmem S256x7168 .bf16) (h1 : arg1.IsWhole) (arg2 : Memref sig .tc .vmem S7168x256 .fp8e4m3) (h2 : arg2.IsWhole) (arg3 : Memref sig .tc .vmem S7168x256 .fp8e4m3) (h3 : arg3.IsWhole) (arg4 : Memref sig .tc .vmem S224x256 .i8) (h4 : arg4.IsWhole) (arg5 : Memref sig .tc .vmem S224x256 .i8) (h5 : arg5.IsWhole) (arg6 : Memref sig .tc .vmem S256x256 .fp8e4m3) (h6 : arg6.IsWhole) (arg7 : Memref sig .tc .vmem S256x256 .bf16) (h7 : arg7.IsWhole) (arg8 : Memref sig .tc .vmem S256x576 .f32) (h8 : arg8.IsWhole) (arg9 : Memref sig .tc .vmem S224x256 .i32) (h9 : arg9.IsWhole) (arg10 : Memref sig .tc .vmem S224x256 .i32) (h10 : arg10.IsWhole) (arg11 : Memref sig .tc .vmem S5x256x128 .f32) (h11 : arg11.IsWhole) (hc0 : k1_cond1 i = 1#1)     (x0 : Vec F S256x7168 .bf16) (x1 : Vec F S7168x256 .fp8e4m3) (x2 : Vec F S7168x256 .fp8e4m3) (x3 : Vec F S224x256 .i8) (x4 : Vec F S224x256 .i8) (d11 : Vec F S5x256x128 .f32)  (f : arg7.view.ty.Contents (Elt F)) :
    arg7.view.read (Elt F) (arg7.view.writes (Elt F) f (kernelRun1_B c i arg1 h1 arg2 h2 arg3 h3 arg4 h4 arg5 h5 arg6 h6 arg7 h7 arg8 h8 arg9 h9 arg10 h10 arg11 h11 hc0 x0 x1 x2 x3 x4 d11).2.1) = pair fun o => dequantOf (slice (gated x0 x1 x2 x3 x4) o) := by
  have e : (kernelRun1_B c i arg1 h1 arg2 h2 arg3 h3 arg4 h4 arg5 h5 arg6 h6 arg7 h7 arg8 h8 arg9 h9 arg10 h10 arg11 h11 hc0 x0 x1 x2 x3 x4 d11).2.1 = [⟨Rect.unit (s := S256x256) ![0, 128] ![256, 128] inb_S256x256_S256x128_0_128, dequantOf (extractStridedSlice S256x128 ![0, 128] (kernelRun1_B.sl.r_503 c arg1 h1 arg2 h2 arg3 h3 arg4 h4 arg5 h5 arg9 arg10 x0 x1 x2 x3 x4) slices_S256x256_o0_128_S256x128)⟩,
      ⟨Rect.unit (s := S256x256) ![0, 0] ![256, 128] inb_S256x256_S256x128_0_0, dequantOf (extractStridedSlice S256x128 ![0, 0] (kernelRun1_B.sl.r_503 c arg1 h1 arg2 h2 arg3 h3 arg4 h4 arg5 h5 arg9 arg10 x0 x1 x2 x3 x4) slices_S256x256_o0_0_S256x128)⟩] := by sl_kernel_rfl
  rw [e, raw1_B c i arg1 h1 arg2 h2 arg3 h3 arg4 h4 arg5 h5 arg6 h6 arg7 h7 arg8 h8 arg9 h9 arg10 h10 arg11 h11 hc0 x0 x1 x2 x3 x4 d11, slice_0, slice_1]
  exact read_pair arg7.view f (fun o => dequantOf (slice (gated x0 x1 x2 x3 x4) o)) _ _

theorem pages1_B (c : Dev nD) (i : grid1.Coords) (arg1 : Memref sig .tc .vmem S256x7168 .bf16) (h1 : arg1.IsWhole) (arg2 : Memref sig .tc .vmem S7168x256 .fp8e4m3) (h2 : arg2.IsWhole) (arg3 : Memref sig .tc .vmem S7168x256 .fp8e4m3) (h3 : arg3.IsWhole) (arg4 : Memref sig .tc .vmem S224x256 .i8) (h4 : arg4.IsWhole) (arg5 : Memref sig .tc .vmem S224x256 .i8) (h5 : arg5.IsWhole) (arg6 : Memref sig .tc .vmem S256x256 .fp8e4m3) (h6 : arg6.IsWhole) (arg7 : Memref sig .tc .vmem S256x256 .bf16) (h7 : arg7.IsWhole) (arg8 : Memref sig .tc .vmem S256x576 .f32) (h8 : arg8.IsWhole) (arg9 : Memref sig .tc .vmem S224x256 .i32) (h9 : arg9.IsWhole) (arg10 : Memref sig .tc .vmem S224x256 .i32) (h10 : arg10.IsWhole) (arg11 : Memref sig .tc .vmem S5x256x128 .f32) (h11 : arg11.IsWhole) (hc0 : k1_cond1 i = 1#1)     (x0 : Vec F S256x7168 .bf16) (x1 : Vec F S7168x256 .fp8e4m3) (x2 : Vec F S7168x256 .fp8e4m3) (x3 : Vec F S224x256 .i8) (x4 : Vec F S224x256 .i8) (d11 : Vec F S5x256x128 .f32)  (inb0 : ∀ a, k1_off1 i 0#32 a + S1x256x128.size a ≤ S5x256x128.size a) (inb1 : ∀ a, k1_off1 i 1#32 a + S1x256x128.size a ≤ S5x256x128.size a) :
    (kernelRun1_B c i arg1 h1 arg2 h2 arg3 h3 arg4 h4 arg5 h5 arg6 h6 arg7 h7 arg8 h8 arg9 h9 arg10 h10 arg11 h11 hc0 x0 x1 x2 x3 x4 d11).2.2.2.1 = [⟨Rect.unit (s := S5x256x128) (k1_off1 i 1#32) S1x256x128.size inb1, shapeCast S1x256x128 (place (slotOf (halfNo (i 0).val 1#32)) (shapeCast S256x128
        (View.readCov (Val := Elt F) arg11.view [⟨Rect.unit (s := S5x256x128) (k1_off1 i 0#32) S1x256x128.size inb0, shapeCast S1x256x128 (place (slotOf (halfNo (i 0).val 0#32)) (shapeCast S256x128 (arg11.view.readAt (Elt F) (Rect.unit (s := S5x256x128) (k1_off1 i 0#32) S1x256x128.size inb0).toLoadRect (h11.unread d11)) shapeCasts_S1x256x128_S256x128) (scaleOf (extractStridedSlice S256x128 ![0, 0] (kernelRun1_B.sl.r_503 c arg1 h1 arg2 h2 arg3 h3 arg4 h4 arg5 h5 arg9 arg10 x0 x1 x2 x3 x4) slices_S256x256_o0_0_S256x128))) shapeCasts_S256x128_S1x256x128⟩]
          (Rect.unit (s := S5x256x128) (k1_off1 i 1#32) S1x256x128.size inb1).toLoadRect) shapeCasts_S1x256x128_S256x128) (scaleOf (extractStridedSlice S256x128 ![0, 128] (kernelRun1_B.sl.r_503 c arg1 h1 arg2 h2 arg3 h3 arg4 h4 arg5 h5 arg9 arg10 x0 x1 x2 x3 x4) slices_S256x256_o0_128_S256x128))) shapeCasts_S256x128_S1x256x128⟩,
      ⟨Rect.unit (s := S5x256x128) (k1_off1 i 0#32) S1x256x128.size inb0, shapeCast S1x256x128 (place (slotOf (halfNo (i 0).val 0#32)) (shapeCast S256x128 (arg11.view.readAt (Elt F) (Rect.unit (s := S5x256x128) (k1_off1 i 0#32) S1x256x128.size inb0).toLoadRect (h11.unread d11)) shapeCasts_S1x256x128_S256x128) (scaleOf (extractStridedSlice S256x128 ![0, 0] (kernelRun1_B.sl.r_503 c arg1 h1 arg2 h2 arg3 h3 arg4 h4 arg5 h5 arg9 arg10 x0 x1 x2 x3 x4) slices_S256x256_o0_0_S256x128))) shapeCasts_S256x128_S1x256x128⟩] := by sl_kernel_rfl

/-- The scratch after the body. -/
theorem scratch1_B (c : Dev nD) (i : grid1.Coords) (arg1 : Memref sig .tc .vmem S256x7168 .bf16) (h1 : arg1.IsWhole) (arg2 : Memref sig .tc .vmem S7168x256 .fp8e4m3) (h2 : arg2.IsWhole) (arg3 : Memref sig .tc .vmem S7168x256 .fp8e4m3) (h3 : arg3.IsWhole) (arg4 : Memref sig .tc .vmem S224x256 .i8) (h4 : arg4.IsWhole) (arg5 : Memref sig .tc .vmem S224x256 .i8) (h5 : arg5.IsWhole) (arg6 : Memref sig .tc .vmem S256x256 .fp8e4m3) (h6 : arg6.IsWhole) (arg7 : Memref sig .tc .vmem S256x256 .bf16) (h7 : arg7.IsWhole) (arg8 : Memref sig .tc .vmem S256x576 .f32) (h8 : arg8.IsWhole) (arg9 : Memref sig .tc .vmem S224x256 .i32) (h9 : arg9.IsWhole) (arg10 : Memref sig .tc .vmem S224x256 .i32) (h10 : arg10.IsWhole) (arg11 : Memref sig .tc .vmem S5x256x128 .f32) (h11 : arg11.IsWhole) (hc0 : k1_cond1 i = 1#1)     (x0 : Vec F S256x7168 .bf16) (x1 : Vec F S7168x256 .fp8e4m3) (x2 : Vec F S7168x256 .fp8e4m3) (x3 : Vec F S224x256 .i8) (x4 : Vec F S224x256 .i8) (d11 : Vec F S5x256x128 .f32)  (g : ℕ → FVec F S256x128 .f32) (hg0 : g (2 * (i 0).val) = scaleOf (slice (gated x0 x1 x2 x3 x4) 0)) (hg1 : g (2 * (i 0).val + 1) = scaleOf (slice (gated x0 x1 x2 x3 x4) 128))
    (hI : Inv5 g (i 0).val d11) :
    Inv5 g ((i 0).val + 1) (arg11.view.read (Elt F) (arg11.view.writes (Elt F) (h11.unread d11) (kernelRun1_B c i arg1 h1 arg2 h2 arg3 h3 arg4 h4 arg5 h5 arg6 h6 arg7 h7 arg8 h8 arg9 h9 arg10 h10 arg11 h11 hc0 x0 x1 x2 x3 x4 d11).2.2.2.1)) := by
  have ht : (i 0).val < 72 := (i 0).isLt
  have hs := slot_eq ⟨(i 0).val, by omega⟩
  have inb (n : BitVec 32) (h : k1_off1 i n = ![(i 0).val / 16, 0, 0]) : ∀ a, k1_off1 i n a + S1x256x128.size a ≤ S5x256x128.size a := by
    rw [h]; intro a
    match a with
    | ⟨0, _⟩ => show (i 0).val / 16 + 1 ≤ 5; omega
    | ⟨1, _⟩ => show 0 + 256 ≤ 256; omega
    | ⟨2, _⟩ => show 0 + 128 ≤ 128; omega
  rw [pages1_B c i arg1 h1 arg2 h2 arg3 h3 arg4 h4 arg5 h5 arg6 h6 arg7 h7 arg8 h8 arg9 h9 arg10 h10 arg11 h11 hc0 x0 x1 x2 x3 x4 d11 (inb _ (k1_off1_eq i).1) (inb _ (k1_off1_eq i).2), raw1_B c i arg1 h1 arg2 h2 arg3 h3 arg4 h4 arg5 h5 arg6 h6 arg7 h7 arg8 h8 arg9 h9 arg10 h10 arg11 h11 hc0 x0 x1 x2 x3 x4 d11, slice_0, slice_1]
  refine inv5_step arg11.view (h11.unread d11) g (i 0).val ht _ _ (k1_off1_eq i).1 (k1_off1_eq i).2 _ _ (by rw [h11.read_unread]; exact hI) _ _ ?_ ?_
  · rw [hg0, hs.1]
  · rw [hg1, hs.2, readCov_top _ ((k1_off1_eq i).1.trans (k1_off1_eq i).2.symm)]

theorem scale1_B (c : Dev nD) (i : grid1.Coords) (arg1 : Memref sig .tc .vmem S256x7168 .bf16) (h1 : arg1.IsWhole) (arg2 : Memref sig .tc .vmem S7168x256 .fp8e4m3) (h2 : arg2.IsWhole) (arg3 : Memref sig .tc .vmem S7168x256 .fp8e4m3) (h3 : arg3.IsWhole) (arg4 : Memref sig .tc .vmem S224x256 .i8) (h4 : arg4.IsWhole) (arg5 : Memref sig .tc .vmem S224x256 .i8) (h5 : arg5.IsWhole) (arg6 : Memref sig .tc .vmem S256x256 .fp8e4m3) (h6 : arg6.IsWhole) (arg7 : Memref sig .tc .vmem S256x256 .bf16) (h7 : arg7.IsWhole) (arg8 : Memref sig .tc .vmem S256x576 .f32) (h8 : arg8.IsWhole) (arg9 : Memref sig .tc .vmem S224x256 .i32) (h9 : arg9.IsWhole) (arg10 : Memref sig .tc .vmem S224x256 .i32) (h10 : arg10.IsWhole) (arg11 : Memref sig .tc .vmem S5x256x128 .f32) (h11 : arg11.IsWhole) (hc0 : k1_cond1 i = 1#1)     (x0 : Vec F S256x7168 .bf16) (x1 : Vec F S7168x256 .fp8e4m3) (x2 : Vec F S7168x256 .fp8e4m3) (x3 : Vec F S224x256 .i8) (x4 : Vec F S224x256 .i8) (d11 : Vec F S5x256x128 .f32)  (f : arg8.view.ty.Contents (Elt F)) (hi : (i 0).val = 71) (g : ℕ → FVec F S256x128 .f32)
    (hg0 : g (2 * (i 0).val) = scaleOf (slice (gated x0 x1 x2 x3 x4) 0)) (hg1 : g (2 * (i 0).val + 1) = scaleOf (slice (gated x0 x1 x2 x3 x4) 128)) (hI : Inv5 g (i 0).val d11) :
    arg8.view.read (Elt F) (arg8.view.writes (Elt F) f (kernelRun1_B c i arg1 h1 arg2 h2 arg3 h3 arg4 h4 arg5 h5 arg6 h6 arg7 h7 arg8 h8 arg9 h9 arg10 h10 arg11 h11 hc0 x0 x1 x2 x3 x4 d11).2.2.1) = scaleArr576 g := by
  have hI' := scratch1_B c i arg1 h1 arg2 h2 arg3 h3 arg4 h4 arg5 h5 arg6 h6 arg7 h7 arg8 h8 arg9 h9 arg10 h10 arg11 h11 hc0 x0 x1 x2 x3 x4 d11 g hg0 hg1 hI
  have e : (kernelRun1_B c i arg1 h1 arg2 h2 arg3 h3 arg4 h4 arg5 h5 arg6 h6 arg7 h7 arg8 h8 arg9 h9 arg10 h10 arg11 h11 hc0 x0 x1 x2 x3 x4 d11).2.2.1 = [⟨Rect.unit (s := S256x576) ![0, 512] ![256, 64] inb_S256x576_S256x64_0_512, k1_pay5 (arg11.view.readCov ((kernelRun1_B c i arg1 h1 arg2 h2 arg3 h3 arg4 h4 arg5 h5 arg6 h6 arg7 h7 arg8 h8 arg9 h9 arg10 h10 arg11 h11 hc0 x0 x1 x2 x3 x4 d11).2.2.2.1) (Rect.unit (s := S5x256x128) ![4, 0, 0] ![1, 256, 128] inb_S5x256x128_S1x256x128_4_0_0).toLoadRect)⟩, ⟨Rect.unit (s := S256x576) ![0, 384] ![256, 128] inb_S256x576_S256x128_0_384, k1_pay4 (arg11.view.readAt (Elt F) (Rect.unit (s := S5x256x128) ![3, 0, 0] S1x256x128.size inb_S5x256x128_S1x256x128_3_0_0).toLoadRect (h11.unread d11))⟩, ⟨Rect.unit (s := S256x576) ![0, 256] ![256, 128] inb_S256x576_S256x128_0_256, k1_pay3 (arg11.view.readAt (Elt F) (Rect.unit (s := S5x256x128) ![2, 0, 0] S1x256x128.size inb_S5x256x128_S1x256x128_2_0_0).toLoadRect (h11.unread d11))⟩, ⟨Rect.unit (s := S256x576) ![0, 128] ![256, 128] inb_S256x576_S256x128_0_128, k1_pay2 (arg11.view.readAt (Elt F) (Rect.unit (s := S5x256x128) ![1, 0, 0] S1x256x128.size inb_S5x256x128_S1x256x128_1_0_0).toLoadRect (h11.unread d11))⟩, ⟨Rect.unit (s := S256x576) ![0, 0] ![256, 128] inb_S256x576_S256x128_0_0, k1_pay1 (arg11.view.readAt (Elt F) (Rect.unit (s := S5x256x128) ![0, 0, 0] S1x256x128.size inb_S5x256x128_S1x256x128_0_0_0).toLoadRect (h11.unread d11))⟩] := by sl_kernel_rfl
  have inb (n : BitVec 32) (h : k1_off1 i n = ![4, 0, 0]) : ∀ a, k1_off1 i n a + S1x256x128.size a ≤ S5x256x128.size a := by
    rw [h]; intro a
    match a with
    | ⟨0, _⟩ => show 4 + 1 ≤ 5; omega
    | ⟨1, _⟩ => show 0 + 256 ≤ 256; omega
    | ⟨2, _⟩ => show 0 + 128 ≤ 128; omega
  have ho := k1_off1_last i hc0
  rw [e]
  refine read_scale576 arg8.view f _ _ _ _ _ g (fun r l hl => ?_) (fun r l hl => ?_) (fun r l hl => ?_) (fun r l hl => ?_) (fun r l hl => ?_)
  · refine (page5_read arg11.view (h11.unread d11) 0 ![0, 0, 0] rfl inb_S5x256x128_S1x256x128_0_0_0 r l).trans ?_
    rw [h11.read_unread, hI 0 r l (by show 32 * 0 + l.val / 4 < _; omega)]
    rfl
  · refine (page5_read arg11.view (h11.unread d11) 1 ![1, 0, 0] rfl inb_S5x256x128_S1x256x128_1_0_0 r l).trans ?_
    rw [h11.read_unread, hI 1 r l (by show 32 * 1 + l.val / 4 < _; omega)]
    rfl
  · refine (page5_read arg11.view (h11.unread d11) 2 ![2, 0, 0] rfl inb_S5x256x128_S1x256x128_2_0_0 r l).trans ?_
    rw [h11.read_unread, hI 2 r l (by show 32 * 2 + l.val / 4 < _; omega)]
    rfl
  · refine (page5_read arg11.view (h11.unread d11) 3 ![3, 0, 0] rfl inb_S5x256x128_S1x256x128_3_0_0 r l).trans ?_
    rw [h11.read_unread, hI 3 r l (by show 32 * 3 + l.val / 4 < _; omega)]
    rfl
  · have hq := hI' 4 r l (by show 32 * 4 + l.val / 4 < 2 * ((i 0).val + 1); omega)
    rw [pages1_B c i arg1 h1 arg2 h2 arg3 h3 arg4 h4 arg5 h5 arg6 h6 arg7 h7 arg8 h8 arg9 h9 arg10 h10 arg11 h11 hc0 x0 x1 x2 x3 x4 d11 (inb _ ho.1) (inb _ ho.2)] at hq ⊢
    refine Eq.trans ?_ hq
    rw [readCov_top (F := F) _ ho.2, View.read_writes_cons_unit_of_mem arg11.view (h11.unread d11) (inb _ ho.2) _ _ (ix3 4 r l) (ix3 0 r l) ho.2 (fun a => by
      match a with
      | ⟨0, _⟩ => rfl
      | ⟨1, _⟩ => show r.val = 0 + r.val; omega
      | ⟨2, _⟩ => show l.val = 0 + l.val; omega)]

end Cert.Kernel.Run
-- ==== Proof.BitsDat1.lean ====
/-
  The second call, point by point: what its windows hold and what is carried in the scratch. The program over words: the same text as `Dat1`, whose program it shares but for the numbers.
-/
module

public import proofs.«01_k».proof.Proof.BitsReg1Q
public import proofs.«01_k».proof.Proof.BitsWin

@[expose] public section

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the contents of the core's buffers when the region is entered
variable (V : (c : Dev nD) → (b : Ref sig .tc) → Buf (Elt F) ((c : Thread nD τ).loc b))

/-- The gated activations of point `t`. -/
def act1 (c : Dev nD) (t : Fin cfg1.N) : FVec F S256x256 .f32 := gated (iblk1 V c 0 t) (iblk1 V c 1 t) (iblk1 V c 2 t) (iblk1 V c 3 t) (iblk1 V c 4 t)
/-- The scales of half block `s` of the sweep: `s / 2` is the point, `s % 2` the half. -/
def scale1 (c : Dev nD) (s : ℕ) : FVec F S256x128 .f32 :=
  scaleOf (slice (act1 V c ⟨s / 2 % 72, lt_of_lt_of_eq (Nat.mod_lt _ (by decide)) N_1.symm⟩) (128 * (s % 2)))

theorem coord1 (t : Fin cfg1.N) : (grid1.coords t 0).val = t.val := by
  have ht : t.val < 72 := Nat.lt_of_lt_of_eq t.isLt N_1
  have e0 : (grid1.coords t 0).val = t.val / 1 % 72 := Pipeline.Grid.coords_val t 0 (by decide) rfl
  rw [e0]; omega

theorem scale_even1 (c : Dev nD) (t : Fin cfg1.N) : scale1 V c (2 * (grid1.coords t 0).val) = scaleOf (slice (gated (iblk1 V c 0 t) (iblk1 V c 1 t) (iblk1 V c 2 t) (iblk1 V c 3 t) (iblk1 V c 4 t)) 0) := by
  have ht : t.val < 72 := Nat.lt_of_lt_of_eq t.isLt N_1
  unfold scale1
  have e1 : (⟨2 * (grid1.coords t 0).val / 2 % 72, lt_of_lt_of_eq (Nat.mod_lt _ (by decide)) N_1.symm⟩ : Fin cfg1.N) = t := Fin.ext (by rw [coord1]; show 2 * t.val / 2 % 72 = t.val; omega)
  rw [e1, show 128 * (2 * (grid1.coords t 0).val % 2) = 0 by omega]; rfl
theorem scale_odd1 (c : Dev nD) (t : Fin cfg1.N) : scale1 V c (2 * (grid1.coords t 0).val + 1) = scaleOf (slice (gated (iblk1 V c 0 t) (iblk1 V c 1 t) (iblk1 V c 2 t) (iblk1 V c 3 t) (iblk1 V c 4 t)) 128) := by
  have ht : t.val < 72 := Nat.lt_of_lt_of_eq t.isLt N_1
  unfold scale1
  have e1 : (⟨(2 * (grid1.coords t 0).val + 1) / 2 % 72, lt_of_lt_of_eq (Nat.mod_lt _ (by decide)) N_1.symm⟩ : Fin cfg1.N) = t := Fin.ext (by rw [coord1]; show (2 * t.val + 1) / 2 % 72 = t.val; omega)
  rw [e1, show 128 * ((2 * (grid1.coords t 0).val + 1) % 2) = 128 by omega]; rfl
/-- What is carried from point to point: the pages hold the scales of the points passed. -/
def Phi1 (c : Dev nD) (n : ℕ) : sProp 𝕄 :=
  iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_scratch0), ((c : Thread nD τ).loc cc0_scratch0) ↦{fullShare} f) ∗ (∃ d, owns (c : Thread nD τ) scM1_0 fullShare d) ∗ (∃ d, owns (c : Thread nD τ) scM1_1 fullShare d) ∗ (∃ d, ⌜Inv5 (scale1 V c) n d⌝ ∗ owns (c : Thread nD τ) scM1_2 fullShare d) ∗ (∃ f : Buf (Elt F) ((c : Thread nD τ).loc cc2_stg0_0), ((c : Thread nD τ).loc cc2_stg0_0) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg1_1), ((c : Thread nD τ).loc cc2_stg1_1) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg3_1), ((c : Thread nD τ).loc cc2_stg3_1) ↦{fullShare} f) ∗ (∃ f : Buf (Elt F) ((c : Thread nD τ).loc cc2_scratch0), ((c : Thread nD τ).loc cc2_scratch0) ↦{fullShare} f)) ∗ (∃ r, prngReg c r))

/-- Before the first point nothing is asked of the pages. -/
theorem Phi1_in (c : Dev nD) : (Pipeline.ΦA spec1 c : sProp 𝕄) ⊢ Phi1 V c 0 := by
  rw [PhiA1_eq]; unfold Phi1
  iintro ⟨⟨HR0, HR1, HR2, HR3, HR4, HR5, HR6, HR7, HS0, HS1, ⟨%dS, HS2⟩, HR11, HR12, HR13, HR14, HR15, HR16, HR17, HR18⟩, Hg⟩
  isplitl [HR0 HR1 HR2 HR3 HR4 HR5 HR6 HR7 HS0 HS1 HS2 HR11 HR12 HR13 HR14 HR15 HR16 HR17 HR18]
  · isplitl [HR0]
    · iexact HR0
    isplitl [HR1]
    · iexact HR1
    isplitl [HR2]
    · iexact HR2
    isplitl [HR3]
    · iexact HR3
    isplitl [HR4]
    · iexact HR4
    isplitl [HR5]
    · iexact HR5
    isplitl [HR6]
    · iexact HR6
    isplitl [HR7]
    · iexact HR7
    isplitl [HS0]
    · iexact HS0
    isplitl [HS1]
    · iexact HS1
    isplitl [HS2]
    · iexists dS; isplitr; swap; · iexact HS2
      ipureintro; exact inv5_zero _ dS
    isplitl [HR11]
    · iexact HR11
    isplitl [HR12]
    · iexact HR12
    isplitl [HR13]
    · iexact HR13
    isplitl [HR14]
    · iexact HR14
    isplitl [HR15]
    · iexact HR15
    isplitl [HR16]
    · iexact HR16
    isplitl [HR17]
    · iexact HR17
    iexact HR18
  iexact Hg

theorem Phi1_out (c : Dev nD) (n : ℕ) : Phi1 V c n ⊢ (Pipeline.ΦA spec1 c : sProp 𝕄) := by
  rw [PhiA1_eq]; unfold Phi1
  iintro ⟨⟨HR0, HR1, HR2, HR3, HR4, HR5, HR6, HR7, HS0, HS1, ⟨%dS, %hI, HS2⟩, HR11, HR12, HR13, HR14, HR15, HR16, HR17, HR18⟩, Hg⟩
  isplitl [HR0 HR1 HR2 HR3 HR4 HR5 HR6 HR7 HS0 HS1 HS2 HR11 HR12 HR13 HR14 HR15 HR16 HR17 HR18]
  · isplitl [HR0]
    · iexact HR0
    isplitl [HR1]
    · iexact HR1
    isplitl [HR2]
    · iexact HR2
    isplitl [HR3]
    · iexact HR3
    isplitl [HR4]
    · iexact HR4
    isplitl [HR5]
    · iexact HR5
    isplitl [HR6]
    · iexact HR6
    isplitl [HR7]
    · iexact HR7
    isplitl [HS0]
    · iexact HS0
    isplitl [HS1]
    · iexact HS1
    isplitl [HS2]
    · iexists dS; iexact HS2
    isplitl [HR11]
    · iexact HR11
    isplitl [HR12]
    · iexact HR12
    isplitl [HR13]
    · iexact HR13
    isplitl [HR14]
    · iexact HR14
    isplitl [HR15]
    · iexact HR15
    isplitl [HR16]
    · iexact HR16
    isplitl [HR17]
    · iexact HR17
    iexact HR18
  iexact Hg

/-- What the region's windows hold after each point. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => pair (fun o => codesOf (slice (act1 V c t) o))
    | ⟨6, _⟩ => pair (fun o => dequantOf (slice (act1 V c t) o))
    | ⟨7, _⟩ => scaleArr576 (scale1 V c)
  Φ t := Phi1 V c t.val
  q w := Pipeline.shareOf spec1 w
  owed _ := 0
theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = pair (fun o => codesOf (slice (act1 V c t) o)) := by dsimp only [dat1]
theorem after1_6 (c : Dev nD) (t : Fin cfg1.N) : (dat1 V c).after 6 t = pair (fun o => dequantOf (slice (act1 V c t) o)) := by dsimp only [dat1]
theorem after1_7 (c : Dev nD) (t : Fin cfg1.N) : (dat1 V c).after 7 t = scaleArr576 (scale1 V c) := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t)

set_option maxHeartbeats 1600000 in
/-- The body at any point keeps the carried pages right and leaves what the proof data says. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.castSucc = Phi1 V c t.val from rfl, show (dat1 V c).Φ t.succ = Phi1 V c (t.val + 1) from rfl]
  have hN : t.val < 72 := lt_of_lt_of_eq t.isLt (show cfg1.N = 72 from N_1)
  have ec := coord1 t
  have hg0 := scale_even1 V c
  have hg1 := scale_odd1 V c
  unfold Phi1
  rw [show t.val + 1 = (grid1.coords t 0).val + 1 by rw [ec]]
  by_cases h0 : t.val % 72 = 71
  · rw [show (dat1 V c).leavesExact 0 t = owns (c : Thread nD τ) (ms1_0 t) fullShare ((dat1 V c).after 0 t) from by
          unfold Dat.leavesExact; rw [liveAt1_0 t], after1_0]
    rw [show (dat1 V c).leavesExact 1 t = owns (c : Thread nD τ) (ms1_1 t) fullShare ((dat1 V c).after 1 t) from by
          unfold Dat.leavesExact; rw [liveAt1_1 t], after1_1]
    rw [show (dat1 V c).leavesExact 2 t = owns (c : Thread nD τ) (ms1_2 t) fullShare ((dat1 V c).after 2 t) from by
          unfold Dat.leavesExact; rw [liveAt1_2 t], after1_2]
    rw [show (dat1 V c).leavesExact 3 t = owns (c : Thread nD τ) (ms1_3 t) fullShare ((dat1 V c).after 3 t) from by
          unfold Dat.leavesExact; rw [liveAt1_3 t], after1_3]
    rw [show (dat1 V c).leavesExact 4 t = owns (c : Thread nD τ) (ms1_4 t) fullShare ((dat1 V c).after 4 t) from by
          unfold Dat.leavesExact; rw [liveAt1_4 t], after1_4]
    rw [show (dat1 V c).leavesExact 5 t = owns (c : Thread nD τ) (ms1_5 t) fullShare ((dat1 V c).after 5 t) from by
          unfold Dat.leavesExact; rw [liveAt1_5 t], after1_5]
    rw [show (dat1 V c).leavesExact 6 t = owns (c : Thread nD τ) (ms1_6 t) fullShare ((dat1 V c).after 6 t) from by
          unfold Dat.leavesExact; rw [liveAt1_6 t], after1_6]
    rw [show (dat1 V c).leavesExact 7 t = owns (c : Thread nD τ) (ms1_7 t) fullShare ((dat1 V c).after 7 t) from by
          unfold Dat.leavesExact; rw [liveAt1_7_B t ((hcond1_0 t).mpr h0)], after1_7]
    iintro ⟨⟨⟨HR0, HR1, HR2, HR3, HR4, HR5, HR6, HR7, HS0, HS1, ⟨%dS, %hI, HS2⟩, HR11, HR12, HR13, HR14, HR15, HR16, HR17, HR18⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    have hI' : Inv5 (scale1 V c) (grid1.coords t 0).val dS := by rw [ec]; exact hI
    have hi : (grid1.coords t 0).val = 71 := by rw [ec]; omega
    iapply ((kernelRun1_B c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) scM1_2 (Memref.isWhole_whole _) ((hcond1_0 t).mpr h0) (iblk1 V c 0 t) (iblk1 V c 1 t) (iblk1 V c 2 t) (iblk1 V c 3 t) (iblk1 V c 4 t) dS).2.2.2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [HS0]; · iexact HS0
    isplitl [HS1]; · iexact HS1
    isplitl [HS2]; · iexact HS2
    iintro ⟨H0, H1, H2, H3, H4, ⟨%e5, H5⟩, ⟨%e6, H6⟩, ⟨%e7, H7⟩, HS0, HS1, HS2⟩
    isplitl [HR0 HR1 HR2 HR3 HR4 HR5 HR6 HR7 HS0 HS1 HS2 HR11 HR12 HR13 HR14 HR15 HR16 HR17 HR18 Hg]
    · isplitl [HR0 HR1 HR2 HR3 HR4 HR5 HR6 HR7 HS0 HS1 HS2 HR11 HR12 HR13 HR14 HR15 HR16 HR17 HR18]
      · isplitl [HR0]; · iexact HR0
        isplitl [HR1]; · iexact HR1
        isplitl [HR2]; · iexact HR2
        isplitl [HR3]; · iexact HR3
        isplitl [HR4]; · iexact HR4
        isplitl [HR5]; · iexact HR5
        isplitl [HR6]; · iexact HR6
        isplitl [HR7]; · iexact HR7
        isplitl [HS0]; · iexact HS0
        isplitl [HS1]; · iexact HS1
        isplitl [HS2]
        · iexists _; isplitr
          swap; · unfold owns; iexists _; isplitr; swap; · iexact HS2
                  ipureintro; rfl
          ipureintro; exact scratch1_B c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) scM1_2 (Memref.isWhole_whole _) ((hcond1_0 t).mpr h0) (iblk1 V c 0 t) (iblk1 V c 1 t) (iblk1 V c 2 t) (iblk1 V c 3 t) (iblk1 V c 4 t) dS (scale1 V c) (hg0 t) (hg1 t) hI'
        isplitl [HR11]; · iexact HR11
        isplitl [HR12]; · iexact HR12
        isplitl [HR13]; · iexact HR13
        isplitl [HR14]; · iexact HR14
        isplitl [HR15]; · iexact HR15
        isplitl [HR16]; · iexact HR16
        isplitl [HR17]; · iexact HR17
        iexact HR18
      iexact Hg
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact codes1_B c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) scM1_2 (Memref.isWhole_whole _) ((hcond1_0 t).mpr h0) (iblk1 V c 0 t) (iblk1 V c 1 t) (iblk1 V c 2 t) (iblk1 V c 3 t) (iblk1 V c 4 t) dS _
    isplitl [H6]
    · unfold owns; iexists _; isplitr
      swap; · iexact H6
      ipureintro; exact deq1_B c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) scM1_2 (Memref.isWhole_whole _) ((hcond1_0 t).mpr h0) (iblk1 V c 0 t) (iblk1 V c 1 t) (iblk1 V c 2 t) (iblk1 V c 3 t) (iblk1 V c 4 t) dS _
    unfold owns; iexists _; isplitr
    swap; · iexact H7
    ipureintro; exact scale1_B c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) scM1_2 (Memref.isWhole_whole _) ((hcond1_0 t).mpr h0) (iblk1 V c 0 t) (iblk1 V c 1 t) (iblk1 V c 2 t) (iblk1 V c 3 t) (iblk1 V c 4 t) dS _ hi (scale1 V c) (hg0 t) (hg1 t) hI'
  · rw [show (dat1 V c).leavesExact 0 t = owns (c : Thread nD τ) (ms1_0 t) fullShare ((dat1 V c).after 0 t) from by
          unfold Dat.leavesExact; rw [liveAt1_0 t], after1_0]
    rw [show (dat1 V c).leavesExact 1 t = owns (c : Thread nD τ) (ms1_1 t) fullShare ((dat1 V c).after 1 t) from by
          unfold Dat.leavesExact; rw [liveAt1_1 t], after1_1]
    rw [show (dat1 V c).leavesExact 2 t = owns (c : Thread nD τ) (ms1_2 t) fullShare ((dat1 V c).after 2 t) from by
          unfold Dat.leavesExact; rw [liveAt1_2 t], after1_2]
    rw [show (dat1 V c).leavesExact 3 t = owns (c : Thread nD τ) (ms1_3 t) fullShare ((dat1 V c).after 3 t) from by
          unfold Dat.leavesExact; rw [liveAt1_3 t], after1_3]
    rw [show (dat1 V c).leavesExact 4 t = owns (c : Thread nD τ) (ms1_4 t) fullShare ((dat1 V c).after 4 t) from by
          unfold Dat.leavesExact; rw [liveAt1_4 t], after1_4]
    rw [show (dat1 V c).leavesExact 5 t = owns (c : Thread nD τ) (ms1_5 t) fullShare ((dat1 V c).after 5 t) from by
          unfold Dat.leavesExact; rw [liveAt1_5 t], after1_5]
    rw [show (dat1 V c).leavesExact 6 t = owns (c : Thread nD τ) (ms1_6 t) fullShare ((dat1 V c).after 6 t) from by
          unfold Dat.leavesExact; rw [liveAt1_6 t], after1_6]
    rw [Dat.leavesExact_idle (dat1 V c) 7 t (idleAt1_7_A t (fun h => h0 ((hcond1_0 t).mp h))) (noFlush1_7_A t (fun h => h0 ((hcond1_0 t).mp h)))]
    iintro ⟨⟨⟨HR0, HR1, HR2, HR3, HR4, HR5, HR6, HR7, HS0, HS1, ⟨%dS, %hI, HS2⟩, HR11, HR12, HR13, HR14, HR15, HR16, HR17, HR18⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    have hI' : Inv5 (scale1 V c) (grid1.coords t 0).val dS := by rw [ec]; exact hI
    iapply ((kernelRun1_A c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) scM1_2 (Memref.isWhole_whole _) (fun h => h0 ((hcond1_0 t).mp h)) (iblk1 V c 0 t) (iblk1 V c 1 t) (iblk1 V c 2 t) (iblk1 V c 3 t) (iblk1 V c 4 t) dS).2.2.2.2 _ Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexact H7
    isplitl [HS0]; · iexact HS0
    isplitl [HS1]; · iexact HS1
    isplitl [HS2]; · iexact HS2
    iintro ⟨H0, H1, H2, H3, H4, ⟨%e5, H5⟩, ⟨%e6, H6⟩, H7, HS0, HS1, HS2⟩
    isplitl [HR0 HR1 HR2 HR3 HR4 HR5 HR6 HR7 HS0 HS1 HS2 HR11 HR12 HR13 HR14 HR15 HR16 HR17 HR18 Hg]
    · isplitl [HR0 HR1 HR2 HR3 HR4 HR5 HR6 HR7 HS0 HS1 HS2 HR11 HR12 HR13 HR14 HR15 HR16 HR17 HR18]
      · isplitl [HR0]; · iexact HR0
        isplitl [HR1]; · iexact HR1
        isplitl [HR2]; · iexact HR2
        isplitl [HR3]; · iexact HR3
        isplitl [HR4]; · iexact HR4
        isplitl [HR5]; · iexact HR5
        isplitl [HR6]; · iexact HR6
        isplitl [HR7]; · iexact HR7
        isplitl [HS0]; · iexact HS0
        isplitl [HS1]; · iexact HS1
        isplitl [HS2]
        · iexists _; isplitr
          swap; · unfold owns; iexists _; isplitr; swap; · iexact HS2
                  ipureintro; rfl
          ipureintro; exact scratch1_A c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) scM1_2 (Memref.isWhole_whole _) (fun h => h0 ((hcond1_0 t).mp h)) (iblk1 V c 0 t) (iblk1 V c 1 t) (iblk1 V c 2 t) (iblk1 V c 3 t) (iblk1 V c 4 t) dS (scale1 V c) (hg0 t) (hg1 t) hI'
        isplitl [HR11]; · iexact HR11
        isplitl [HR12]; · iexact HR12
        isplitl [HR13]; · iexact HR13
        isplitl [HR14]; · iexact HR14
        isplitl [HR15]; · iexact HR15
        isplitl [HR16]; · iexact HR16
        isplitl [HR17]; · iexact HR17
        iexact HR18
      iexact Hg
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact codes1_A c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) scM1_2 (Memref.isWhole_whole _) (fun h => h0 ((hcond1_0 t).mp h)) (iblk1 V c 0 t) (iblk1 V c 1 t) (iblk1 V c 2 t) (iblk1 V c 3 t) (iblk1 V c 4 t) dS _
    isplitl [H6]
    · unfold owns; iexists _; isplitr
      swap; · iexact H6
      ipureintro; exact deq1_A c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) scM1_2 (Memref.isWhole_whole _) (fun h => h0 ((hcond1_0 t).mp h)) (iblk1 V c 0 t) (iblk1 V c 1 t) (iblk1 V c 2 t) (iblk1 V c 3 t) (iblk1 V c 4 t) dS _
    iexists _; iexact H7
theorem defs₀_row1 (t : Fin cfg1.N) :
    defs₀ (F := F) .tc cfg1.body (cfg1.bodyArgs t (cfg1.slots t)) = bodyAt1 t := by
  unfold defs₀; rw [Defs.onTc_tc]

theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl
end Cert.Kernel.Run
-- ==== Proof.BitsRun2.lean ====
/-
  The third call's body, run once: what its stores leave in the result's window and in the scratch. The program over words: the same text as `Run2`, whose program it shares but for the numbers.
-/
module

public import proofs.«01_k».proof.Proof.BitsRun1B
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 5696000 in
/-- The body of `cc2_down`: the pieces its stores leave in the output's staging buffer and in the scratch, with the
    proof that it runs. -/
noncomputable def kernelRun2_A (c : Dev nD) (i : grid2.Coords) (arg1 : Memref sig .tc .vmem S256x18432 .bf16) (harg1 : arg1.IsWhole) (arg2 : Memref sig .tc .vmem S18432x256 .fp8e4m3) (harg2 : arg2.IsWhole) (arg3 : Memref sig .tc .vmem S576x256 .i8) (harg3 : arg3.IsWhole) (arg4 : Memref sig .tc .vmem S256x256 .bf16) (harg4 : arg4.IsWhole) (arg5 : Memref sig .tc .vmem S576x256 .i32) (harg5 : arg5.IsWhole)
    (x0 : Vec F S256x18432 .bf16) (x1 : Vec F S18432x256 .fp8e4m3) (x2 : Vec F S576x256 .i8) :
    Σ' (L3 : List (View.Piece (Elt F) S256x256 .bf16)), { LT0 : List (View.Piece (Elt F) S576x256 .i32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d)
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f LT0)) -∗ K ⟨⟩))
          ⊢ wp frame (wpE (defs₀ (F := F)) Variants.none c none) E (cc2_down i arg1 harg1 arg2 harg2 arg3 harg3 arg4 harg4 arg5 harg5) K } := by
  refine ⟨?_, ?_, fun E K => ?run⟩
  case run =>
    simp only [cc2_down_eq_skeleton]; unfold cc2_down_skel
    simp only [k2_part111_eq_skeleton, k2_part1_eq_skeleton, k2_part2_eq_skeleton, k2_part3_eq_skeleton, k2_part4_eq_skeleton, k2_part5_eq_skeleton, k2_part6_eq_skeleton, k2_part7_eq_skeleton, k2_part8_eq_skeleton, k2_part9_eq_skeleton, k2_part10_eq_skeleton, k2_part11_eq_skeleton, k2_part12_eq_skeleton, k2_part13_eq_skeleton, k2_part14_eq_skeleton, k2_part15_eq_skeleton, k2_part16_eq_skeleton, k2_part17_eq_skeleton, k2_part18_eq_skeleton, k2_part19_eq_skeleton, k2_part20_eq_skeleton, k2_part21_eq_skeleton, k2_part22_eq_skeleton, k2_part23_eq_skeleton, k2_part24_eq_skeleton, k2_part25_eq_skeleton, k2_part26_eq_skeleton, k2_part27_eq_skeleton, k2_part28_eq_skeleton, k2_part29_eq_skeleton, k2_part30_eq_skeleton, k2_part31_eq_skeleton, k2_part32_eq_skeleton, k2_part33_eq_skeleton, k2_part34_eq_skeleton, k2_part35_eq_skeleton, k2_part36_eq_skeleton, k2_part37_eq_skeleton, k2_part38_eq_skeleton, k2_part39_eq_skeleton, k2_part40_eq_skeleton, k2_part41_eq_skeleton, k2_part42_eq_skeleton, k2_part43_eq_skeleton, k2_part44_eq_skeleton, k2_part45_eq_skeleton, k2_part46_eq_skeleton, k2_part47_eq_skeleton, k2_part48_eq_skeleton, k2_part49_eq_skeleton, k2_part50_eq_skeleton, k2_part51_eq_skeleton, k2_part52_eq_skeleton, k2_part53_eq_skeleton, k2_part54_eq_skeleton, k2_part55_eq_skeleton, k2_part56_eq_skeleton, k2_part57_eq_skeleton, k2_part58_eq_skeleton, k2_part59_eq_skeleton, k2_part60_eq_skeleton, k2_part112_eq_skeleton, k2_part61_eq_skeleton, k2_part62_eq_skeleton, k2_part63_eq_skeleton, k2_part64_eq_skeleton, k2_part65_eq_skeleton, k2_part66_eq_skeleton, k2_part67_eq_skeleton, k2_part68_eq_skeleton, k2_part69_eq_skeleton, k2_part70_eq_skeleton, k2_part71_eq_skeleton, k2_part72_eq_skeleton, k2_part73_eq_skeleton, k2_part74_eq_skeleton, k2_part75_eq_skeleton, k2_part76_eq_skeleton, k2_part77_eq_skeleton, k2_part78_eq_skeleton, k2_part79_eq_skeleton, k2_part80_eq_skeleton, k2_part81_eq_skeleton, k2_part82_eq_skeleton, k2_part83_eq_skeleton, k2_part84_eq_skeleton, k2_part85_eq_skeleton, k2_part86_eq_skeleton, k2_part87_eq_skeleton, k2_part88_eq_skeleton, k2_part89_eq_skeleton, k2_part90_eq_skeleton, k2_part91_eq_skeleton, k2_part92_eq_skeleton, k2_part93_eq_skeleton, k2_part94_eq_skeleton, k2_part95_eq_skeleton, k2_part96_eq_skeleton, k2_part97_eq_skeleton, k2_part98_eq_skeleton, k2_part99_eq_skeleton, k2_part100_eq_skeleton, k2_part101_eq_skeleton, k2_part102_eq_skeleton, k2_part103_eq_skeleton, k2_part104_eq_skeleton, k2_part105_eq_skeleton, k2_part106_eq_skeleton, k2_part107_eq_skeleton, k2_part108_eq_skeleton, k2_part109_eq_skeleton, k2_part110_eq_skeleton]
    unfold owns
    iintro ⟨⟨%f0, %hf0, H0⟩, ⟨%f1, %hf1, H1⟩, ⟨%f2, %hf2, H2⟩, ⟨%d3, %f3, -, H3⟩, ⟨%ds0, %fs0, -, HS0⟩, Hk⟩
    obtain rfl := harg1.eq_unread hf0; obtain rfl := harg2.eq_unread hf1; obtain rfl := harg3.eq_unread hf2
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    iexists _; iexact HS0

end Cert.Kernel.Run
-- ==== Proof.BitsDat2.lean ====
/-
  The third call, point by point: what its windows hold. The program over words: the same text as `Dat2`, whose program it shares but for the numbers.
-/
module

public import proofs.«01_k».proof.Proof.BitsRun2
public import proofs.«01_k».proof.Proof.BitsBlk
public import proofs.«01_k».proof.Proof.BitsPages
public import proofs.«01_k».proof.Proof.BitsWin

@[expose] public section

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the contents of the core's buffers when the region is entered
variable (V : (c : Dev nD) → (b : Ref sig .tc) → Buf (Elt F) ((c : Thread nD τ).loc b))

/-- The block of the result a point stores. -/
def out2 (x0 : Vec F S256x18432 .bf16) (x1 : Vec F S18432x256 .fp8e4m3) (x2 : Vec F S576x256 .i8) : Vec F S256x256 .bf16 :=
  truncf .bf16 (accD x0 x1 x2 35 (by decide)) bitsLt_bf16_f32
theorem out2_eq (c : Dev nD) (i : grid2.Coords) (arg1 : Memref sig .tc .vmem S256x18432 .bf16) (h1 : arg1.IsWhole) (arg2 : Memref sig .tc .vmem S18432x256 .fp8e4m3) (h2 : arg2.IsWhole) (arg3 : Memref sig .tc .vmem S576x256 .i8) (h3 : arg3.IsWhole) (arg4 : Memref sig .tc .vmem S256x256 .bf16) (h4 : arg4.IsWhole) (arg5 : Memref sig .tc .vmem S576x256 .i32) (h5 : arg5.IsWhole)     (x0 : Vec F S256x18432 .bf16) (x1 : Vec F S18432x256 .fp8e4m3) (x2 : Vec F S576x256 .i8)  (f : arg4.view.ty.Contents (Elt F)) :
    arg4.view.read (Elt F) (arg4.view.writes (Elt F) f (kernelRun2_A c i arg1 h1 arg2 h2 arg3 h3 arg4 h4 arg5 h5 x0 x1 x2).1) = out2 x0 x1 x2 := by
  have e : (kernelRun2_A c i arg1 h1 arg2 h2 arg3 h3 arg4 h4 arg5 h5 x0 x1 x2).1 = [⟨Rect.unit (s := S256x256) ![0, 0] S256x256.size inb_S256x256_S256x256_0_0, truncf .bf16 (accMD arg1 h1 arg2 h2 arg3 h3 arg5 x0 x1 x2 35 (by decide)) bitsLt_bf16_f32⟩] := by sl_kernel_rfl
  rw [e, accMD_eq]
  funext y
  exact View.read_writes_cons_unit_of_mem arg4.view f inb_S256x256_S256x256_0_0 _ _ y y rfl (fun a => by
    match a with
    | ⟨0, _⟩ => show (y 0).val = 0 + (y 0).val; omega
    | ⟨1, _⟩ => show (y 1).val = 0 + (y 1).val; omega)
/-- What the region's windows hold after each point. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2 (iblk2 V c 0 t) (iblk2 V c 1 t) (iblk2 V c 2 t)
  Φ _ := Pipeline.ΦA spec2 c
  q _ := fullShare
  owed _ := 0
theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2 (iblk2 V c 0 t) (iblk2 V c 1 t) (iblk2 V c 2 t) := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d)))

def bodyPost2 (c : Dev nD) (t : Fin cfg2.N) : sProp 𝕄 :=
  iprop((dat2 V c).Φ t.succ ∗ (dat2 V c).owesAt () t.succ
    ∗ owns (c : Thread nD τ) (ms2_0 t) fullShare ((dat2 V c).after 0 t)
    ∗ owns (c : Thread nD τ) (ms2_1 t) fullShare ((dat2 V c).after 1 t)
    ∗ owns (c : Thread nD τ) (ms2_2 t) fullShare ((dat2 V c).after 2 t)
    ∗ owns (c : Thread nD τ) (ms2_3 t) fullShare ((dat2 V c).after 3 t))

/-- The body at any point: the inputs' memrefs hold their blocks (`before2_W`); so the
    run applies; the invariant hands the body its scratch buffers at some contents (and the generator register) and takes them back at some contents (`PhiA_eq`); the core owes nothing throughout. -/theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  rw [show (dat2 V c).Φ t.castSucc = Pipeline.ΦA spec2 c from rfl, PhiA2_eq]
  iintro ⟨⟨⟨HS0, HR1⟩, Hg⟩, Ho, ⟨%d0, H0⟩, ⟨%d1, H1⟩, ⟨%d2, H2⟩, ⟨%d3, H3⟩⟩
  iapply ((kernelRun2_A c (grid2.coords t) (ms2_0 t) (hs2_0 t) (ms2_1 t) (hs2_1 t) (ms2_2 t) (hs2_2 t) (ms2_3 t) (hs2_3 t) scM2_0 (Memref.isWhole_whole _) (iblk2 V c 0 t) (iblk2 V c 1 t) (iblk2 V c 2 t)).2.2 Set.univ _)
  isplitl [H0]; · iexact H0
  isplitl [H1]; · iexact H1
  isplitl [H2]; · iexact H2
  isplitl [H3]; · iexists _; iexact H3
  isplitl [HS0]; · iexact HS0
  iintro ⟨H0, H1, H2, ⟨%e3, H3⟩, ⟨%fT0, HS0⟩⟩
  isplitl [HS0 HR1 Hg]
  · isplitl [HS0 HR1]
    · isplitl [HS0]
      · iexists _; unfold owns; iexists _; isplitr; swap; · iexact HS0
        ipureintro; rfl
      iexact HR1
    iexact Hg
  isplitl [Ho]; · iexact Ho
  isplitl [H0]; · iexact H0
  isplitl [H1]; · iexact H1
  isplitl [H2]; · iexact H2
  unfold owns; iexists _; isplitr
  swap; · iexact H3
  ipureintro; exact out2_eq _ _ _ _ _ _ _ _ _ _ _ _ _ _ _ _

theorem defs₀_row2 (t : Fin cfg2.N) :
    defs₀ (F := F) .tc cfg2.body (cfg2.bodyArgs t (cfg2.slots t)) = bodyAt2 t := by
  unfold defs₀; rw [Defs.onTc_tc]

theorem body_obligation2 (c : Dev nD) : BodyObligation (dat2 (F := F) V c) (defs₀ (F := F)) Variants.none () Set.univ := fun t => by
  rw [bigSep_W2, bigSep_W2, defs₀_row2]
  exact triple_restated (sound_body2 V c t) rfl .rfl fun _ => .rfl
end Cert.Kernel.Run
-- ==== Proof.BitsWhole.lean ====
/-
  The whole kernel: host reshape, then the three calls one after the other; its frame, and the arrays its results are read from. The program over words: the same text as `Whole`, whose program it shares but for the numbers.
-/
module

public import proofs.«01_k».proof.Proof.BitsDat0
public import proofs.«01_k».proof.Proof.BitsDat1
public import proofs.«01_k».proof.Proof.BitsDat2

@[expose] public section

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)
abbrev argRefs : List (Ref sig .tc) := [main_arg0, main_arg1, main_arg2, main_arg3, main_arg4]

theorem hostOps0_fresh : (hostOps0 : List (HloOp τ sig (Elt F))).Forall fun op => op.fresh = ∅ := by
  simp only [List.Forall]; repeat' constructor
abbrev hostOps0_W : List (Ref sig .tc) := [main_v0]
theorem hostOps0_writes : (hostOps0 : List (HloOp τ sig (Elt F))).Forall fun op => op.writes ⊆ (hostOps0_W.map (Proc.devRef (τ := τ) .tc)).toFinset :=
  StableHlo.forall_writes_sub_of_map rfl
theorem hostOps0_args : ∀ a ∈ argRefs, a ∉ hostOps0_W := ListAll.forall_mem_of_all_decide (by decide +kernel)

abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
abbrev W1 : Dev nD → Valuation τ sig (Elt F) := fun c => StableHlo.after hostOps0 (W0 m ρ c)
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
abbrev V1 : (c : Dev nD) → (b : Ref sig .tc) → Buf (Elt F) ((c : Thread nD τ).loc b) := fun c b => W1 m ρ c b
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact (dat1 (V2 m ρ) c).withArrays_arrAt launch₀1.sharedIn _ (A_eq1 (V2 m ρ) c) w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
theorem W3_of (c : Dev nD) (r : Ref sig .tc) (h : ∀ w : Fin cfg1.W, Pipeline.arrRef spec1 w = r → (cfg1.win w).isOut = false) :
    W3 m ρ c (Proc.devRef .tc r) = W2 m ρ c (Proc.devRef .tc r) := by
  by_cases hw : ∃ w : Fin cfg1.W, Pipeline.arrRef spec1 w = r
  · obtain ⟨w, rfl⟩ := hw
    exact (W3_arr m ρ c w).trans (((dat1 (V2 m ρ) c).arrAt_in w (h w rfl) _).trans (A_eq1 (V2 m ρ) c w))
  · exact W3_of_ne m ρ c r fun w e => hw ⟨w, e⟩
theorem argsIn1 : ∀ a ∈ argRefs, ∀ w : Fin cfg1.W, Pipeline.arrRef spec1 w = a → (cfg1.win w).isOut = false :=
  ListAll.forall_mem_of_all_decide (by decide +kernel)
theorem W3_args (c : Dev nD) : ∀ a ∈ argRefs, W3 m ρ c (Proc.devRef .tc a) = m ((c : Thread nD τ).loc a) :=
  fun a ha => (W3_of m ρ c a (argsIn1 a ha)).trans (W2_args m ρ c a ha)
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

def W4 (c : Dev nD) : Valuation τ sig (Elt F) :=
  Pipeline.withArrays spec2 c (W3 m ρ c) fun w => (dat2 (V3 m ρ) c).arrAt w cfg2.N
theorem W4_arr (c : Dev nD) (w : Fin cfg2.W) :
    W4 m ρ c (Proc.devRef .tc (Pipeline.arrRef spec2 w)) = (dat2 (V3 m ρ) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m ρ c (Proc.devRef .tc b) = W3 m ρ c (Proc.devRef .tc b) := by
  unfold W4; exact Pipeline.withArrays_of_ne spec2 c _ _ b hb
theorem W4_of (c : Dev nD) (r : Ref sig .tc) (h : ∀ w : Fin cfg2.W, Pipeline.arrRef spec2 w = r → (cfg2.win w).isOut = false) :
    W4 m ρ c (Proc.devRef .tc r) = W3 m ρ c (Proc.devRef .tc r) := by
  by_cases hw : ∃ w : Fin cfg2.W, Pipeline.arrRef spec2 w = r
  · obtain ⟨w, rfl⟩ := hw
    exact (W4_arr m ρ c w).trans (((dat2 (V3 m ρ) c).arrAt_in w (h w rfl) _).trans (A_eq2 (V3 m ρ) c w))
  · exact W4_of_ne m ρ c r fun w e => hw ⟨w, e⟩
theorem argsIn2 : ∀ a ∈ argRefs, ∀ w : Fin cfg2.W, Pipeline.arrRef spec2 w = a → (cfg2.win w).isOut = false :=
  ListAll.forall_mem_of_all_decide (by decide +kernel)
theorem W4_args (c : Dev nD) : ∀ a ∈ argRefs, W4 m ρ c (Proc.devRef .tc a) = m ((c : Thread nD τ).loc a) :=
  fun a ha => (W4_of m ρ c a (argsIn2 a ha)).trans (W3_args m ρ c a ha)
abbrev V4 : (c : Dev nD) → (b : Ref sig .tc) → Buf (Elt F) ((c : Thread nD τ).loc b) := fun c b => W4 m ρ c b
theorem hF2 (c : Dev nD) (w : Fin cfg2.W) : (dat2 (V3 m ρ) c).arrAt w cfg2.N = V4 m ρ c (Pipeline.arrRef spec2 w) :=
  (W4_arr m ρ c w).symm
theorem hrest2 (c : Dev nD) : ∀ b, b ∉ Finset.univ.image (Pipeline.arrRef spec2) → V4 m ρ c b = V3 m ρ c b :=
  fun b hb => W4_of_ne m ρ c b fun w e => hb (Finset.mem_image.mpr ⟨w, Finset.mem_univ _, e⟩)

theorem W4_main_arg0 (c : Dev nD) : W4 m ρ c (Proc.devRef .tc main_arg0) = m ((c : Thread nD τ).loc main_arg0) :=
  W4_args m ρ c main_arg0 (by decide)
theorem W4_main_arg1 (c : Dev nD) : W4 m ρ c (Proc.devRef .tc main_arg1) = m ((c : Thread nD τ).loc main_arg1) :=
  W4_args m ρ c main_arg1 (by decide)
theorem W4_main_arg2 (c : Dev nD) : W4 m ρ c (Proc.devRef .tc main_arg2) = m ((c : Thread nD τ).loc main_arg2) :=
  W4_args m ρ c main_arg2 (by decide)
theorem W4_main_arg3 (c : Dev nD) : W4 m ρ c (Proc.devRef .tc main_arg3) = m ((c : Thread nD τ).loc main_arg3) :=
  W4_args m ρ c main_arg3 (by decide)
theorem W4_main_arg4 (c : Dev nD) : W4 m ρ c (Proc.devRef .tc main_arg4) = m ((c : Thread nD τ).loc main_arg4) :=
  W4_args m ρ c main_arg4 (by decide)

abbrev adm : (p : Fin 3) → (pcfgs (F := F) p).Adm := fun p => (cfgs p).toPCfg_adm
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
  | ⟨2, _⟩ => fun c => dat2 (V3 m ρ) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Phi0 (V1 m ρ) c 0 from rfl]
    have hΦ := Phi0_in (V1 m ρ) c
    unfold Pipeline.ΦA at hΦ
    iintro ⟨Hp, -, Hr⟩
    iapply hΦ
    isplitl [Hr]; · iexact Hr
    iexact Hp
  hout c := by
    rw [Pipeline.ownSems0_none, show (pdats m ρ 0 c).Φ (Fin.last _) = Phi0 (V1 m ρ) c cfg0.N from rfl]
    have hΦ := Phi0_out (V1 m ρ) c cfg0.N
    unfold Pipeline.ΦA at hΦ
    refine hΦ.trans ?_
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m ρ) () defs₀ 𝒱₀ L lv 1 where
  win := launch₀1.win
  block_pos := launch₀1.block_pos
  stage_whole := launch₀1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs_shared (p := 1) (pcfgs (F := F)) adm (pdats m ρ) launch₀1.win launch₀1.sharedIn launch₀1.arr_whole c
      (fun _ _ => rfl) (V2 m ρ c) (A_eq1 (V2 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Phi1 (V2 m ρ) c 0 from rfl]
    have hΦ := Phi1_in (V2 m ρ) c
    unfold Pipeline.ΦA at hΦ
    iintro ⟨Hp, -, Hr⟩
    iapply hΦ
    isplitl [Hr]; · iexact Hr
    iexact Hp
  hout c := by
    rw [Pipeline.ownSems0_none, show (pdats m ρ 1 c).Φ (Fin.last _) = Phi1 (V2 m ρ) c cfg1.N from rfl]
    have hΦ := Phi1_out (V2 m ρ) c cfg1.N
    unfold Pipeline.ΦA at hΦ
    refine hΦ.trans ?_
    iintro ⟨Hr, Hp⟩
    isplitl [Hp]; · iexact Hp
    isplitr; · iempintro
    iexact Hr
  hexit c := by
    have hjoin := Pipeline.unscopedBufs_of_arrays_shared (p := 1) (pcfgs (F := F)) adm (Ix := Unit) (Name := ℕ) (U := UR sig nD τ) (Lvl := ℕ)
      launch₀1.win launch₀1.sharedIn launch₀1.arr_whole c (pdats m ρ) (fun _ _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V3 m ρ) c).loose
  hwaits := Pipeline.hwaits_of_owed_zero _ _ _ _ L lv 2 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V3 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V3 m ρ c) (A_eq2 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V3 m ρ c) (V4 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .region (reg2 m ρ) ]
theorem main_run (c : Dev nD) : main (F := F) c = Pipeline.Seg.run (segs m ρ) := (main_chain c).trans (by chain_rfl)

theorem no_unscoped : ∀ sm : SemLoc sig, sm.isScoped .tc = true := by decide

set_option backward.isDefEq.respectTransparency.types false in
/-- Every run ends, with each buffer that is not scoped at the last boundary's contents and every counter at zero. -/
theorem all : θ_run defs (onTc (τ := τ) (main (F := F))) ⟨m, fun _ => 0, ρ⟩ (fun r => (∀ c : Dev nD, ∀ b ∈ Pipeline.ucRefs τ sig,
      r.2.mem ((c : Thread nD τ).1, b) = W4 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => ⟨h, funext fun g => hz g (.inr (no_unscoped g.2))⟩)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c =>
      ⟨(h.1 c _ (mem_uc main_arg0 (by decide))).trans (W4_main_arg0 m ρ c),
       (h.1 c _ (mem_uc main_arg1 (by decide))).trans (W4_main_arg1 m ρ c),
       (h.1 c _ (mem_uc main_arg2 (by decide))).trans (W4_main_arg2 m ρ c),
       (h.1 c _ (mem_uc main_arg3 (by decide))).trans (W4_main_arg3 m ρ c),
       (h.1 c _ (mem_uc main_arg4 (by decide))).trans (W4_main_arg4 m ρ c)⟩, h.2⟩) (all m ρ)

/-- The five results of a run, read off the last boundary. -/
theorem run : θ_run defs (onTc (τ := τ) (main (F := F))) ⟨m, fun _ => 0, ρ⟩ (fun r => ∀ c : Dev nD,
      (r.2.mem ((c.tc : Thread nD τ).loc main_v3) = W4 m ρ c (Proc.devRef .tc main_v3)
      ∧ r.2.mem ((c.tc : Thread nD τ).loc main_v1_0) = W4 m ρ c (Proc.devRef .tc main_v1_0)
      ∧ r.2.mem ((c.tc : Thread nD τ).loc main_v1_2) = W4 m ρ c (Proc.devRef .tc main_v1_2)
      ∧ r.2.mem ((c.tc : Thread nD τ).loc main_v2_0) = W4 m ρ c (Proc.devRef .tc main_v2_0)
      ∧ r.2.mem ((c.tc : Thread nD τ).loc main_v2_2) = W4 m ρ c (Proc.devRef .tc main_v2_2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
      ⟨⟨h.1 c _ (mem_uc main_v3 (by decide)), h.1 c _ (mem_uc main_v1_0 (by decide)), h.1 c _ (mem_uc main_v1_2 (by decide)),
        h.1 c _ (mem_uc main_v2_0 (by decide)), h.1 c _ (mem_uc main_v2_2 (by decide))⟩,
       (h.1 c _ (mem_uc main_arg0 (by decide))).trans (W4_main_arg0 m ρ c),
       (h.1 c _ (mem_uc main_arg1 (by decide))).trans (W4_main_arg1 m ρ c),
       (h.1 c _ (mem_uc main_arg2 (by decide))).trans (W4_main_arg2 m ρ c),
       (h.1 c _ (mem_uc main_arg3 (by decide))).trans (W4_main_arg3 m ρ c),
       (h.1 c _ (mem_uc main_arg4 (by decide))).trans (W4_main_arg4 m ρ c)⟩) (all m ρ)

end Cert.Kernel.Run
-- ==== Proof.Blk.lean ====
/-
  The dequantised products of the second and third calls, as ordered sums over chunks of 512 positions.
-/
module

public import proofs.«01_k».proof.Proof.Gen.KernelIdeal.Skeleton
public import Idealize.ShloMosaic.Lib.Pointwise
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

theorem hz : (![0, 0] : Fin 2 → Nat) = fun _ => 0 := funext fun a => by fin_cases a <;> rfl

/-- Sixteen pieces of 32 rows, one below the other. -/
def cat16 (p : (g : ℕ) → g < 16 → FVec F S32x256 .bf16) : FVec F S512x256 .bf16 :=
  concatenate S512x256 0 [⟨S32x256, p 0 (by decide)⟩, ⟨S32x256, p 1 (by decide)⟩, ⟨S32x256, p 2 (by decide)⟩, ⟨S32x256, p 3 (by decide)⟩, ⟨S32x256, p 4 (by decide)⟩, ⟨S32x256, p 5 (by decide)⟩, ⟨S32x256, p 6 (by decide)⟩, ⟨S32x256, p 7 (by decide)⟩, ⟨S32x256, p 8 (by decide)⟩, ⟨S32x256, p 9 (by decide)⟩, ⟨S32x256, p 10 (by decide)⟩, ⟨S32x256, p 11 (by decide)⟩, ⟨S32x256, p 12 (by decide)⟩, ⟨S32x256, p 13 (by decide)⟩, ⟨S32x256, p 14 (by decide)⟩, ⟨S32x256, p 15 (by decide)⟩] concatenates_S32x256_S32x256_S32x256_S32x256_S32x256_S32x256_S32x256_S32x256_S32x256_S32x256_S32x256_S32x256_S32x256_S32x256_S32x256_S32x256_S512x256_d0

/-! ## A product over 7168 positions, 14 chunks of 512 -/

theorem inbWG (n g : ℕ) (hn : n < 14) (hg : g < 16) : ∀ a, (![512 * n + 32 * g, 0] : Fin 2 → Nat) a + S32x256.size a ≤ S7168x256.size a := by
  intro a; fin_cases a
  · show 512 * n + 32 * g + 32 ≤ 7168; omega
  · show 0 + 256 ≤ 256; omega
theorem inbSG (n g : ℕ) (hn : n < 14) (hg : g < 16) : ∀ a, (![16 * n + g, 0] : Fin 2 → Nat) a + S1x256.size a ≤ S224x256.size a := by
  intro a; fin_cases a
  · show 16 * n + g + 1 ≤ 224; omega
  · show 0 + 256 ≤ 256; omega
theorem inbXG (n : ℕ) (hn : n < 14) : ∀ a, (![0, 512 * n] : Fin 2 → Nat) a + S256x512.size a ≤ S256x7168.size a := by
  intro a; fin_cases a
  · show 0 + 256 ≤ 256; omega
  · show 512 * n + 512 ≤ 7168; omega

section
variable (x0 : Vec F S256x7168 .bf16) (x1 : Vec F S7168x256 .fp8e4m3) (x2 : Vec F S224x256 .i8)

/-- Piece `g` of chunk `n`, dequantised: 32 weight rows times their decoded row of scales. -/
def pieceG (n : ℕ) (hn : n < 14) (g : ℕ) (hg : g < 16) : FVec F S32x256 .bf16 :=
  k1_pay9 (View.ld x1 (Rect.unit (s := S7168x256) ![512 * n + 32 * g, 0] S32x256.size (inbWG n g hn hg)))
    (View.ld (Val := Elt F) (e' := .i32) (k1_pay6 (F := F) x2) (Rect.unit (s := S224x256) ![16 * n + g, 0] S1x256.size (inbSG n g hn hg)))

/-- Chunk `n` of the weights, dequantised: its sixteen pieces one below the other. -/
def deqG (n : ℕ) (hn : n < 14) : FVec F S512x256 .bf16 :=
  cat16 (pieceG x1 x2 n hn)

/-- Chunk `n`'s product. -/
def chunkG (n : ℕ) (hn : n < 14) : FVec F S256x256 .f32 :=
  matmul dot_S256x512_S512x256_S256x256_1_0_0_1_n_n none
    (k1_pay8 (View.ld x0 (Rect.unit (s := S256x7168) ![0, 512 * n] S256x512.size (inbXG n hn)))) (deqG x1 x2 n hn) (constant S256x256 .f32 0x00000000#32)

/-- The ordered sum of the products of the chunks up to `n`. -/
def accG : (n : ℕ) → n < 14 → FVec F S256x256 .f32
  | 0, h => chunkG x0 x1 x2 0 h
  | n + 1, h => addf (accG n (Nat.lt_of_succ_lt h)) (chunkG x0 x1 x2 (n + 1) h)
end

section
variable (a1 : Memref sig .tc .vmem S256x7168 .bf16) (h1 : a1.IsWhole) (a2 : Memref sig .tc .vmem S7168x256 .fp8e4m3) (h2 : a2.IsWhole) (a3 : Memref sig .tc .vmem S224x256 .i8) (h3 : a3.IsWhole)
    (a5 : Memref sig .tc .vmem S224x256 .i32) (x0 : Vec F S256x7168 .bf16) (x1 : Vec F S7168x256 .fp8e4m3) (x2 : Vec F S224x256 .i8)

/-- The piece as the body loads it. -/
def pieceMG (n : ℕ) (hn : n < 14) (g : ℕ) (hg : g < 16) : FVec F S32x256 .bf16 :=
  k1_pay9 (View.readAt (Elt F) a2.view (Rect.unit (s := S7168x256) ![512 * n + 32 * g, 0] S32x256.size (inbWG n g hn hg)).toLoadRect (h2.unread x1))
    (a5.view.readCov [⟨Rect.unit (s := S224x256) ![0, 0] S224x256.size inb_S224x256_S224x256_0_0,
        k1_pay6 (View.readAt (Elt F) a3.view (Rect.unit (s := S224x256) ![0, 0] S224x256.size inb_S224x256_S224x256_0_0).toLoadRect (h3.unread x2))⟩]
      (Rect.unit (s := S224x256) ![16 * n + g, 0] S1x256.size (inbSG n g hn hg)).toLoadRect)
def deqMG (n : ℕ) (hn : n < 14) : FVec F S512x256 .bf16 :=
  cat16 (pieceMG a2 h2 a3 h3 a5 x1 x2 n hn)
def chunkMG (n : ℕ) (hn : n < 14) : FVec F S256x256 .f32 :=
  matmul dot_S256x512_S512x256_S256x256_1_0_0_1_n_n none
    (k1_pay8 (View.readAt (Elt F) a1.view (Rect.unit (s := S256x7168) ![0, 512 * n] S256x512.size (inbXG n hn)).toLoadRect (h1.unread x0)))
    (deqMG a2 h2 a3 h3 a5 x1 x2 n hn) (constant S256x256 .f32 0x00000000#32)
def accMG : (n : ℕ) → n < 14 → FVec F S256x256 .f32
  | 0, h => chunkMG a1 h1 a2 h2 a3 h3 a5 x0 x1 x2 0 h
  | n + 1, h => addf (accMG n (Nat.lt_of_succ_lt h)) (chunkMG a1 h1 a2 h2 a3 h3 a5 x0 x1 x2 (n + 1) h)

theorem pieceMG_eq (n : ℕ) (hn : n < 14) (g : ℕ) (hg : g < 16) : pieceMG a2 h2 a3 h3 a5 x1 x2 n hn g hg = pieceG x1 x2 n hn g hg := by
  unfold pieceMG pieceG
  rw [View.readCov_eq_canon']
  simp only [View.readAt_eq_ld, h2.read_unread, h3.read_unread, View.ld_unit_zero (S := S224x256) hz]
  rw [View.canon_unit_zero (S := S224x256) hz]
theorem deqMG_eq (n : ℕ) (hn : n < 14) : deqMG a2 h2 a3 h3 a5 x1 x2 n hn = deqG x1 x2 n hn := by
  unfold deqMG deqG
  exact congrArg cat16 (funext fun g => funext fun hg => pieceMG_eq a2 h2 a3 h3 a5 x1 x2 n hn g hg)
theorem chunkMG_eq (n : ℕ) (hn : n < 14) : chunkMG a1 h1 a2 h2 a3 h3 a5 x0 x1 x2 n hn = chunkG x0 x1 x2 n hn := by
  unfold chunkMG chunkG
  rw [deqMG_eq, View.readAt_eq_ld, h1.read_unread]
theorem accMG_eq : ∀ (n : ℕ) (hn : n < 14), accMG a1 h1 a2 h2 a3 h3 a5 x0 x1 x2 n hn = accG x0 x1 x2 n hn
  | 0, h => chunkMG_eq a1 h1 a2 h2 a3 h3 a5 x0 x1 x2 0 h
  | n + 1, h => by
    show addf _ _ = addf _ _
    rw [accMG_eq n, chunkMG_eq]
end

/-! ## A product over 18432 positions, 36 chunks of 512 -/

theorem inbWD (n g : ℕ) (hn : n < 36) (hg : g < 16) : ∀ a, (![512 * n + 32 * g, 0] : Fin 2 → Nat) a + S32x256.size a ≤ S18432x256.size a := by
  intro a; fin_cases a
  · show 512 * n + 32 * g + 32 ≤ 18432; omega
  · show 0 + 256 ≤ 256; omega
theorem inbSD (n g : ℕ) (hn : n < 36) (hg : g < 16) : ∀ a, (![16 * n + g, 0] : Fin 2 → Nat) a + S1x256.size a ≤ S576x256.size a := by
  intro a; fin_cases a
  · show 16 * n + g + 1 ≤ 576; omega
  · show 0 + 256 ≤ 256; omega
theorem inbXD (n : ℕ) (hn : n < 36) : ∀ a, (![0, 512 * n] : Fin 2 → Nat) a + S256x512.size a ≤ S256x18432.size a := by
  intro a; fin_cases a
  · show 0 + 256 ≤ 256; omega
  · show 512 * n + 512 ≤ 18432; omega

section
variable (x0 : Vec F S256x18432 .bf16) (x1 : Vec F S18432x256 .fp8e4m3) (x2 : Vec F S576x256 .i8)

/-- Piece `g` of chunk `n`, dequantised: 32 weight rows times their decoded row of scales. -/
def pieceD (n : ℕ) (hn : n < 36) (g : ℕ) (hg : g < 16) : FVec F S32x256 .bf16 :=
  k1_pay9 (View.ld x1 (Rect.unit (s := S18432x256) ![512 * n + 32 * g, 0] S32x256.size (inbWD n g hn hg)))
    (View.ld (Val := Elt F) (e' := .i32) (k2_pay5 (F := F) x2) (Rect.unit (s := S576x256) ![16 * n + g, 0] S1x256.size (inbSD n g hn hg)))

/-- Chunk `n` of the weights, dequantised: its sixteen pieces one below the other. -/
def deqD (n : ℕ) (hn : n < 36) : FVec F S512x256 .bf16 :=
  cat16 (pieceD x1 x2 n hn)

/-- Chunk `n`'s product. -/
def chunkD (n : ℕ) (hn : n < 36) : FVec F S256x256 .f32 :=
  matmul dot_S256x512_S512x256_S256x256_1_0_0_1_n_n none
    (k1_pay8 (View.ld x0 (Rect.unit (s := S256x18432) ![0, 512 * n] S256x512.size (inbXD n hn)))) (deqD x1 x2 n hn) (constant S256x256 .f32 0x00000000#32)

/-- The ordered sum of the products of the chunks up to `n`. -/
def accD : (n : ℕ) → n < 36 → FVec F S256x256 .f32
  | 0, h => chunkD x0 x1 x2 0 h
  | n + 1, h => addf (accD n (Nat.lt_of_succ_lt h)) (chunkD x0 x1 x2 (n + 1) h)
end

section
variable (a1 : Memref sig .tc .vmem S256x18432 .bf16) (h1 : a1.IsWhole) (a2 : Memref sig .tc .vmem S18432x256 .fp8e4m3) (h2 : a2.IsWhole) (a3 : Memref sig .tc .vmem S576x256 .i8) (h3 : a3.IsWhole)
    (a5 : Memref sig .tc .vmem S576x256 .i32) (x0 : Vec F S256x18432 .bf16) (x1 : Vec F S18432x256 .fp8e4m3) (x2 : Vec F S576x256 .i8)

/-- The piece as the body loads it. -/
def pieceMD (n : ℕ) (hn : n < 36) (g : ℕ) (hg : g < 16) : FVec F S32x256 .bf16 :=
  k1_pay9 (View.readAt (Elt F) a2.view (Rect.unit (s := S18432x256) ![512 * n + 32 * g, 0] S32x256.size (inbWD n g hn hg)).toLoadRect (h2.unread x1))
    (a5.view.readCov [⟨Rect.unit (s := S576x256) ![0, 0] S576x256.size inb_S576x256_S576x256_0_0,
        k2_pay5 (View.readAt (Elt F) a3.view (Rect.unit (s := S576x256) ![0, 0] S576x256.size inb_S576x256_S576x256_0_0).toLoadRect (h3.unread x2))⟩]
      (Rect.unit (s := S576x256) ![16 * n + g, 0] S1x256.size (inbSD n g hn hg)).toLoadRect)
def deqMD (n : ℕ) (hn : n < 36) : FVec F S512x256 .bf16 :=
  cat16 (pieceMD a2 h2 a3 h3 a5 x1 x2 n hn)
def chunkMD (n : ℕ) (hn : n < 36) : FVec F S256x256 .f32 :=
  matmul dot_S256x512_S512x256_S256x256_1_0_0_1_n_n none
    (k1_pay8 (View.readAt (Elt F) a1.view (Rect.unit (s := S256x18432) ![0, 512 * n] S256x512.size (inbXD n hn)).toLoadRect (h1.unread x0)))
    (deqMD a2 h2 a3 h3 a5 x1 x2 n hn) (constant S256x256 .f32 0x00000000#32)
def accMD : (n : ℕ) → n < 36 → FVec F S256x256 .f32
  | 0, h => chunkMD a1 h1 a2 h2 a3 h3 a5 x0 x1 x2 0 h
  | n + 1, h => addf (accMD n (Nat.lt_of_succ_lt h)) (chunkMD a1 h1 a2 h2 a3 h3 a5 x0 x1 x2 (n + 1) h)

theorem pieceMD_eq (n : ℕ) (hn : n < 36) (g : ℕ) (hg : g < 16) : pieceMD a2 h2 a3 h3 a5 x1 x2 n hn g hg = pieceD x1 x2 n hn g hg := by
  unfold pieceMD pieceD
  rw [View.readCov_eq_canon']
  simp only [View.readAt_eq_ld, h2.read_unread, h3.read_unread, View.ld_unit_zero (S := S576x256) hz]
  rw [View.canon_unit_zero (S := S576x256) hz]
theorem deqMD_eq (n : ℕ) (hn : n < 36) : deqMD a2 h2 a3 h3 a5 x1 x2 n hn = deqD x1 x2 n hn := by
  unfold deqMD deqD
  exact congrArg cat16 (funext fun g => funext fun hg => pieceMD_eq a2 h2 a3 h3 a5 x1 x2 n hn g hg)
theorem chunkMD_eq (n : ℕ) (hn : n < 36) : chunkMD a1 h1 a2 h2 a3 h3 a5 x0 x1 x2 n hn = chunkD x0 x1 x2 n hn := by
  unfold chunkMD chunkD
  rw [deqMD_eq, View.readAt_eq_ld, h1.read_unread]
theorem accMD_eq : ∀ (n : ℕ) (hn : n < 36), accMD a1 h1 a2 h2 a3 h3 a5 x0 x1 x2 n hn = accD x0 x1 x2 n hn
  | 0, h => chunkMD_eq a1 h1 a2 h2 a3 h3 a5 x0 x1 x2 0 h
  | n + 1, h => by
    show addf _ _ = addf _ _
    rw [accMD_eq n, chunkMD_eq]
end

/-- The gated product of a block. -/
def gated (x0 : Vec F S256x7168 .bf16) (x1 x2 : Vec F S7168x256 .fp8e4m3) (x3 x4 : Vec F S224x256 .i8) : FVec F S256x256 .f32 :=
  mulf (mulf (accG x0 x1 x3 13 (by decide)) (logistic (accG x0 x1 x3 13 (by decide)))) (accG x0 x2 x4 13 (by decide))

/-- Columns `o … o + 127` of a block of 256 columns. -/
def slice (x : FVec F S256x256 .f32) (o : ℕ) : FVec F S256x128 .f32 :=
  fun y => x (ix2 (y 0) ⟨(o + (y 1).val) % 256, Nat.mod_lt _ (by decide)⟩)

end Cert.KernelIdeal.Run
-- ==== Proof.Words.lean ====
/-
  THE WORD OF A BLOCK SCALE. The weights' scales are E8M0: an 8-bit word `s` that stands for the power of two whose
  f32 exponent field is `s`. The kernel keeps both halves of that power's bf16 word in one 32-bit word,
  `(s << 7) | (s << 23)`, and reads it back as a pair of bf16 values; the reference shifts `s` into the f32 exponent
  field. This file says that the two are one number over the extended reals (`half_eq`), and that a sum over a long
  contraction is the sum of its pieces of 512 (`sum_blocks`).
-/
module

public import Idealize.ShloMosaic.Lib.Pointwise
public import Idealize.ShloMosaic.Lib.BitcastPair
public import Idealize.ShloMosaic.Lib.Tactic

@[expose] public section

set_option maxRecDepth 16384

noncomputable section

namespace Cert.Words

open Idealize.ShloMosaic

/-- The power of two a block scale's word stands for: the f32 number whose exponent field is `s` (0 for `s = 0`, `⊤` for
    `s = 255`). -/
def pow (s : BitVec 8) : EReal := Ideal.ofBits .f32 (s.setWidth 32 <<< (23 : Nat))

/-- The kernel's 32-bit word of a scale: the bf16 word of the power in both halves. -/
def both (s : BitVec 8) : BitVec 32 := (s.setWidth 32 <<< (7 : Nat)) ||| (s.setWidth 32 <<< (23 : Nat))

/-- Either half of the kernel's word is the bf16 word with exponent field `s`. -/
theorem both_half : ∀ s : BitVec 8, (both s).extractLsb' 0 16 = s.setWidth 16 <<< (7 : Nat)
    ∧ (both s).extractLsb' 16 16 = s.setWidth 16 <<< (7 : Nat) := by
  unfold both; decide +kernel

/-- The fields of the bf16 word with exponent field `s`: sign clear, exponent `s`, fraction 0. -/
theorem fields16 : ∀ s : BitVec 8, (s.setWidth 16 <<< (7 : Nat)).extractLsb' (8 + 7) 1 = 0#1
    ∧ ((s.setWidth 16 <<< (7 : Nat)).extractLsb' 7 8).toNat = s.toNat
    ∧ ((s.setWidth 16 <<< (7 : Nat)).extractLsb' 0 7).toNat = 0 := by
  decide +kernel

/-- … and of the f32 word. -/
theorem fields32 : ∀ s : BitVec 8, (s.setWidth 32 <<< (23 : Nat)).extractLsb' (8 + 23) 1 = 0#1
    ∧ ((s.setWidth 32 <<< (23 : Nat)).extractLsb' 23 8).toNat = s.toNat
    ∧ ((s.setWidth 32 <<< (23 : Nat)).extractLsb' 0 23).toNat = 0 := by
  decide +kernel

/-- A word with the sign clear, exponent field `x` and fraction 0 denotes 0, `⊤` or `2 ^ (x - 127)`. -/
theorem ieee_of_fields {w : Nat} (n : Nat) (b : BitVec w) (x : Nat) (h1 : b.extractLsb' (8 + n) 1 = 0#1)
    (h2 : (b.extractLsb' n 8).toNat = x) (h3 : (b.extractLsb' 0 n).toNat = 0) :
    Ideal.ieee 8 n b = if x = 255 then ⊤ else if x = 0 then 0 else (((2 : ℝ) ^ ((x : ℤ) - 127) : ℝ) : EReal) := by
  unfold Ideal.ieee
  simp only [h1, h2, h3]
  norm_num
  split_ifs
  · rfl
  · rfl
  · rw [show ((x : ℤ) - 127) = (n : ℤ) + ((x : ℤ) - 127 - n) by ring, zpow_add₀ (by norm_num)]
    simp

/-- The power a scale's word stands for, as a number. -/
theorem pow_eq (s : BitVec 8) :
    pow s = if s.toNat = 255 then ⊤ else if s.toNat = 0 then 0 else (((2 : ℝ) ^ ((s.toNat : ℤ) - 127) : ℝ) : EReal) := by
  obtain ⟨b1, b2, b3⟩ := fields32 s
  exact ieee_of_fields 23 _ _ b1 b2 b3

/-- The bf16 word with exponent field `s` denotes what the f32 word with exponent field `s` does. -/
theorem bf16_eq (s : BitVec 8) : Ideal.ofBits .bf16 (s.setWidth 16 <<< (7 : Nat)) = pow s := by
  obtain ⟨a1, a2, a3⟩ := fields16 s
  rw [pow_eq]
  exact ieee_of_fields 7 _ _ a1 a2 a3

/-- So either half of the kernel's word, read as a bf16 number, is the power. -/
theorem half_eq (s : BitVec 8) (r : Nat) : Ideal.ofBits .bf16 ((both s).extractLsb' (16 * (r % 2)) 16) = pow s := by
  rcases Nat.mod_two_eq_zero_or_one r with h | h <;> rw [h]
  · rw [show 16 * 0 = 0 from rfl, (both_half s).1, bf16_eq]
  · rw [show 16 * 1 = 16 from rfl, (both_half s).2, bf16_eq]

/-- The reference takes 127 off the scale's word and puts it back. -/
theorem ref_word (s : BitVec 8) : ((s.setWidth 32 - 127#32) + 127#32) <<< (23 : Nat) = s.setWidth 32 <<< (23 : Nat) := by
  rw [BitVec.sub_add_cancel]

/-- A sum over the first `n` pieces of 512, by induction on the pieces. -/
theorem sum_blocks (f : ℕ → EReal) (n : ℕ) :
    (∑ k ∈ Finset.range (512 * (n + 1)), f k) = (∑ k ∈ Finset.range (512 * n), f k) + ∑ k : Fin 512, f (512 * n + k.val) := by
  rw [show 512 * (n + 1) = 512 * n + 512 by ring, Finset.sum_range_add, Fin.sum_univ_eq_sum_range (fun k => f (512 * n + k))]

end Cert.Words

end
-- ==== Proof.QSpec.lean ====
/-
  THE QUANTISER, AS MATHEMATICS. A group of 32 numbers is scaled by a power of two taken from the largest magnitude of the
  group over 448, clipped to `[-448, 448]` and kept as codes; the codes times the scale are the dequantised numbers. The exponent
  field of an f32 word is the count of the powers of two, from the smallest normal one on, that the number reaches (`count`):
  the kernel finds it by eight comparisons (`search_eq`), the reference by counting 255 of them (`fold_eq`).
-/
module

public import proofs.«01_k».proof.Proof.Words
public import Idealize.ShloMosaic.Lib.IndicatorCount

@[expose] public section

set_option maxRecDepth 16384

noncomputable section

namespace Cert.Words

open Idealize.ShloMosaic

/-- The f32 number with exponent field `k`, sign and fraction clear. -/
def power (k : ℕ) : EReal := Ideal.ofBits .f32 (IntOp.shli .vector (BitVec.ofNat 32 k) 23#32)

theorem power_word : ∀ k : Fin 256, IntOp.shli .vector (BitVec.ofNat 32 k.val) 23#32 = (BitVec.ofNat 8 k.val).setWidth 32 <<< (23 : Nat) := by
  decide +kernel

theorem power_eq (k : ℕ) (hk : k < 256) :
    power k = if k = 255 then ⊤ else if k = 0 then 0 else (((2 : ℝ) ^ ((k : ℤ) - 127) : ℝ) : EReal) := by
  unfold power
  rw [power_word ⟨k, hk⟩]
  have h := pow_eq (BitVec.ofNat 8 k)
  rw [BitVec.toNat_ofNat, Nat.mod_eq_of_lt hk] at h
  exact h

/-- The powers grow with the field. -/
theorem power_mono (j k : ℕ) (hk : k < 256) (h : j ≤ k) : power j ≤ power k := by
  rw [power_eq j (by omega), power_eq k hk]
  split_ifs <;> first | exact le_top | omega | skip
  · exact le_refl _
  · exact EReal.coe_nonneg.mpr (by positivity)
  · exact EReal.coe_le_coe_iff.mpr (zpow_le_zpow_right₀ (by norm_num) (by omega))

/-- How many of the powers with fields 1 … 255 the number reaches. -/
def count (x : EReal) : ℕ := (Finset.univ.filter fun k : Fin 256 => 1 ≤ k.val ∧ power k.val ≤ x).card

theorem card_upto : ∀ k : Fin 256, (Finset.univ.filter fun j : Fin 256 => 1 ≤ j.val ∧ j.val ≤ k.val).card = k.val := by
  decide +kernel

theorem count_le (x : EReal) : count x ≤ 255 := by
  refine le_trans (Finset.card_le_card ?_) (le_of_eq (card_upto ⟨255, by decide⟩))
  intro j hj
  have := (Finset.mem_filter.mp hj).2.1
  exact Finset.mem_filter.mpr ⟨Finset.mem_univ _, this, by have := j.isLt; show j.val ≤ 255; omega⟩

/-- A number reaches the power with field `k` exactly when `k` is at most its count. -/
theorem le_count (x : EReal) (k : ℕ) (h1 : 1 ≤ k) (h2 : k < 256) : power k ≤ x ↔ k ≤ count x := by
  constructor
  · intro h
    refine le_trans (le_of_eq (card_upto ⟨k, h2⟩).symm) (Finset.card_le_card ?_)
    intro j hj
    obtain ⟨a, b⟩ := (Finset.mem_filter.mp hj).2
    exact Finset.mem_filter.mpr ⟨Finset.mem_univ _, a, (power_mono _ _ h2 b).trans h⟩
  · intro h
    by_contra hn
    have : count x ≤ k - 1 := by
      refine le_trans (Finset.card_le_card ?_) (le_of_eq (card_upto ⟨k - 1, by omega⟩))
      intro j hj
      obtain ⟨a, b⟩ := (Finset.mem_filter.mp hj).2
      refine Finset.mem_filter.mpr ⟨Finset.mem_univ _, a, ?_⟩
      by_contra hj'
      exact hn ((power_mono k j.val j.isLt (by simp only at hj'; omega)).trans b)
    omega

/-- One comparison of the search narrows the field from a multiple of `2 b` to a multiple of `b`. -/
theorem probe_eq (x : EReal) (b m m' : ℕ) (hm : m + b < 256) (hb : 1 ≤ b) (h : m' = if m + b ≤ count x then m + b else m) :
    (if Ideal.ofBits .f32 (IntOp.shli .vector (IntOp.addi (BitVec.ofNat 32 m) (BitVec.ofNat 32 b)) 23#32) ≤ x
      then IntOp.addi (BitVec.ofNat 32 m) (BitVec.ofNat 32 b) else BitVec.ofNat 32 m) = BitVec.ofNat 32 m' := by
  have e : IntOp.addi (BitVec.ofNat 32 m) (BitVec.ofNat 32 b) = BitVec.ofNat 32 (m + b) := (BitVec.ofNat_add ..).symm
  rw [e, h]
  have hc := le_count x (m + b) (by omega) hm
  unfold power at hc
  simp only [hc]
  split_ifs <;> rfl

theorem sge_one : ∀ k : Fin 256, IntOp.cmpi .sge (BitVec.ofNat 32 k.val) 1#32 = BitVec.ofBool (decide (1 ≤ k.val)) := by
  decide +kernel

/-- The reference's count, as a word. -/
theorem fold_eq (x : EReal) :
    Finset.univ.fold IntOp.addi 0#32 (fun k : Fin 256 => BitVec.setWidth 32 (IntOp.andi (IntOp.cmpi .sge (BitVec.ofNat 32 k.val) 1#32)
      (BitVec.ofBool (decide (Ideal.ofBits .f32 (IntOp.shli .vector (BitVec.ofNat 32 k.val) 23#32) ≤ x))))) = BitVec.ofNat 32 (count x) := by
  rw [IndicatorCount.fold_addi_setWidth_eq_card]
  congr 2
  refine Finset.filter_congr fun k _ => ?_
  rw [sge_one]
  unfold power
  by_cases h1 : 1 ≤ k.val <;> by_cases h2 : Ideal.ofBits .f32 (IntOp.shli .vector (BitVec.ofNat 32 k.val) 23#32) ≤ x <;>
    simp [h1, h2, IntOp.andi]

/-- The field the scale is made from: 126 where the count says zero or infinity. -/
def fieldW (n : ℕ) : BitVec 32 := if n = 0 ∨ n = 255 then 126#32 else BitVec.ofNat 32 n

theorem field_word : ∀ n : Fin 256, Scalar.select (IntOp.ori (IntOp.cmpi .eq (BitVec.ofNat 32 n.val) 0#32)
    (IntOp.cmpi .eq (BitVec.ofNat 32 n.val) 255#32)) (126#32) (BitVec.ofNat 32 n.val) = fieldW n.val := by
  unfold fieldW; decide +kernel

/-- The reference's exponent, from the count. -/
def expW (n : BitVec 32) : BitVec 32 :=
  Scalar.select (IntOp.ori (IntOp.cmpi .eq n 0#32) (IntOp.cmpi .eq n 255#32)) (0#32) (IntOp.subi n 126#32)

/-- The reference's words of the scale and of its inverse are the kernel's. -/
theorem exp_word : ∀ n : Fin 256, IntOp.addi (expW (BitVec.ofNat 32 n.val)) 127#32 = IntOp.addi (fieldW n.val) 1#32
    ∧ IntOp.addi (IntOp.subi 0#32 (expW (BitVec.ofNat 32 n.val))) 127#32 = IntOp.subi 253#32 (fieldW n.val) := by
  unfold fieldW expW; decide +kernel

/-- The magnitude. -/
def mag (v : EReal) : EReal := FloatOps.absf (F := Ideal) (φ := .f32) v

/-- The largest magnitude of a group. -/
def amax (g : Fin 32 → EReal) : EReal := Finset.univ.fold max (Ideal.ofBits .f32 4286578688#32) fun l => mag (g l)

/-- The number the exponent is taken of: the largest magnitude over 448. -/
def top (g : Fin 32 → EReal) : EReal := amax g * Ideal.ofBits .f32 991054117#32

/-- The group's scale. -/
def scl (g : Fin 32 → EReal) : EReal := Ideal.ofBits .f32 (IntOp.shli .vector (IntOp.addi (fieldW (count (top g))) 1#32) 23#32)

/-- The inverse the group is multiplied by. -/
def inv (g : Fin 32 → EReal) : EReal := Ideal.ofBits .f32 (IntOp.shli .vector (IntOp.subi 253#32 (fieldW (count (top g)))) 23#32)

/-- A number's code. -/
def code (g : Fin 32 → EReal) (v : EReal) : EReal :=
  min (Ideal.ofBits .f32 1138753536#32) (max (Ideal.ofBits .f32 3286237184#32) (v * inv g))

theorem ofBits_bot : Ideal.ofBits .f32 4286578688#32 = ⊥ := by
  simp [Ideal.ofBits, Ideal.ieee]

/-- The largest of `f i, f (i - 1), …, f (i - n + 1)`. -/
def win (f : ℕ → EReal) (n i : ℕ) : EReal := (Finset.range n).sup fun s => f (i - s)

theorem win_double (f : ℕ → EReal) (n i : ℕ) : win f (2 * n) i = max (win f n i) (win f n (i - n)) := by
  unfold win
  apply le_antisymm
  · refine Finset.sup_le fun s hs => ?_
    have hs := Finset.mem_range.mp hs
    by_cases h : s < n
    · exact le_max_of_le_left (Finset.le_sup (f := fun s => f (i - s)) (Finset.mem_range.mpr h))
    · refine le_max_of_le_right (le_trans (le_of_eq ?_) (Finset.le_sup (f := fun s => f (i - n - s)) (Finset.mem_range.mpr (by omega : s - n < n))))
      show f _ = f _
      congr 1; omega
  · refine max_le (Finset.sup_le fun s hs => ?_) (Finset.sup_le fun s hs => ?_) <;> have hs := Finset.mem_range.mp hs
    · exact Finset.le_sup (f := fun s => f (i - s)) (Finset.mem_range.mpr (by omega))
    · refine le_trans (le_of_eq ?_) (Finset.le_sup (f := fun s => f (i - s)) (Finset.mem_range.mpr (by omega : n + s < 2 * n)))
      show f _ = f _
      congr 1; omega

/-- 32 of them, up to a group's last, are the group's largest. -/
theorem win_group (f : ℕ → EReal) (o : ℕ) :
    win f 32 (o + 31) = Finset.univ.fold max (Ideal.ofBits .f32 4286578688#32) fun l : Fin 32 => f (o + l.val) := by
  rw [ofBits_bot]
  unfold win
  apply le_antisymm
  · refine Finset.sup_le fun s hs => ?_
    have hs := Finset.mem_range.mp hs
    refine Finset.le_fold_max _ |>.mpr (Or.inr ⟨⟨31 - s, by omega⟩, Finset.mem_univ _, le_of_eq ?_⟩)
    congr 1; show o + 31 - s = o + (31 - s); omega
  · refine Finset.fold_max_le _ |>.mpr ⟨bot_le, fun l _ => ?_⟩
    refine le_trans (le_of_eq ?_) (Finset.le_sup (f := fun s => f (o + 31 - s)) (Finset.mem_range.mpr (by have := l.isLt; omega : 31 - l.val < 32)))
    show f _ = f _
    congr 1; have := l.isLt; omega

end Cert.Words

end
-- ==== Proof.ASpec.lean ====
/-
  THE LAYER, AS MATHEMATICS, over the extended reals: `x` is quantised in groups of 32 columns, multiplied with the dequantised
  gate and up weights, gated, quantised again and multiplied with the dequantised down weights. Arrays are read at natural
  numbers (`at2`), so that a block of columns and the whole array speak of the same numbers.
-/
module

public import proofs.«01_k».proof.Proof.QSpec

@[expose] public section

set_option maxRecDepth 16384

noncomputable section

namespace Cert.Words

open Idealize.ShloMosaic

/-- A matrix at row `r`, column `c` (read modulo its sizes). -/
def at2 {e : EltTy} {R C : ℕ} [NeZero R] [NeZero C] (f : Vec Ideal ⟨2, ![R, C]⟩ e) (r c : ℕ) : Elt Ideal e :=
  f (ix2 (Fin.ofNat R r) (Fin.ofNat C c))

theorem at2_val {e : EltTy} {R C : ℕ} [NeZero R] [NeZero C] (f : Vec Ideal ⟨2, ![R, C]⟩ e) (r : Fin R) (c : Fin C) :
    f (ix2 r c) = at2 f r.val c.val := by
  unfold at2
  congr 2 <;> exact Fin.ext (Nat.mod_eq_of_lt (Fin.isLt _)).symm

/-- The group of 32 columns that column `c` belongs to. -/
def grp (v : ℕ → ℕ → EReal) (r c : ℕ) : Fin 32 → EReal := fun l => v r (c / 32 * 32 + l.val)

/-- Codes, scales, and codes times scales of an array quantised in groups of 32 columns. -/
def qcode (v : ℕ → ℕ → EReal) (r c : ℕ) : EReal := code (grp v r c) (v r c)
def qscl (v : ℕ → ℕ → EReal) (r c : ℕ) : EReal := scl (grp v r c)
def qdeq (v : ℕ → ℕ → EReal) (r c : ℕ) : EReal := qcode v r c * qscl v r c

/-- A product over the first `K` positions with weights scaled in groups of 32 positions. -/
def dot (K : ℕ) (a w : ℕ → EReal) (s : ℕ → BitVec 8) : EReal := ∑ k ∈ Finset.range K, a k * (w k * pow (s (k / 32)))

/-- `g · sigmoid(g) · u`. -/
def gate (g u : EReal) : EReal := g * Ideal.logistic g * u

section
variable (x : Vec Ideal ⟨3, ![1, 256, 7168]⟩ .bf16) (w : Vec Ideal ⟨2, ![7168, 36864]⟩ .fp8e4m3) (s : Vec Ideal ⟨2, ![224, 36864]⟩ .i8)
  (wd : Vec Ideal ⟨2, ![18432, 7168]⟩ .fp8e4m3) (sd : Vec Ideal ⟨2, ![576, 7168]⟩ .i8)

/-- The input. -/
def input (r c : ℕ) : EReal := x (ix3 0 (Fin.ofNat 256 r) (Fin.ofNat 7168 c))

/-- Column `c` of the product of the dequantised input and the gate and up weights. -/
def gu (r c : ℕ) : EReal := dot 7168 (qdeq (input x) r) (fun k => at2 w k c) (fun k => at2 s k c)

/-- The gated activations. -/
def act (r c : ℕ) : EReal := gate (gu x w s r c) (gu x w s r (18432 + c))

/-- The layer's results: the output, the input's codes and scales, the activations' codes and scales. -/
def resOut : Vec Ideal ⟨2, ![256, 7168]⟩ .bf16 := fun y =>
  dot 18432 (qdeq (act x w s) (y 0).val) (fun k => at2 wd k (y 1).val) (fun k => at2 sd k (y 1).val)
def resXCodes : Vec Ideal ⟨2, ![256, 7168]⟩ .fp8e4m3 := fun y => qcode (input x) (y 0).val (y 1).val
def resXScale : Vec Ideal ⟨2, ![256, 224]⟩ .f32 := fun y => qscl (input x) (y 0).val ((y 1).val * 32)
def resHCodes : Vec Ideal ⟨2, ![256, 18432]⟩ .fp8e4m3 := fun y => qcode (act x w s) (y 0).val (y 1).val
def resHScale : Vec Ideal ⟨2, ![256, 576]⟩ .f32 := fun y => qscl (act x w s) (y 0).val ((y 1).val * 32)
end

end Cert.Words

end
-- ==== Proof.SIdeal.lean ====
/-
  THE PRODUCTS OVER THE EXTENDED REALS: the ordered sum of a block's chunk products is the sum over all contraction positions `k`
  of `a[i, k] * (w[k, j] * 2 ^ (s[k / 32, j] - 127))` (`accG_last`, `accD_last`).
-/
module

public import proofs.«01_k».proof.Proof.Blk
public import proofs.«01_k».proof.Proof.ASpec

@[expose] public section

set_option maxRecDepth 16384

noncomputable section

open Idealize.ShloMosaic Idealize.ShloMosaic.TcCoe Idealize.SL.Sem Cert.Words

namespace Cert.KernelIdeal.Run

open Cert.KernelIdeal Cert.KernelIdeal.Gen

/-- The decoded row of scales, copied to the rows of a piece and read as bf16: every row holds the power. -/
theorem word_apply (s : IVec S1x256 32) (w : BitVec 8) (j : S32x256.Idx) (hs : s (ix2 0 (j 1)) = both w) :
    Ideal.ofBits .bf16 (bitcast S32x256 16 (broadcastTo S16x256 s broadcasts_S1x256_S16x256) bitcasts_S16x256_w32_S32x256_w16 j) = pow w := by
  rw [bitcast_32_16, ← half_eq w (S32x256.row j), ← hs, Pointwise.broadcastTo_apply]
  refine congrArg (fun z => Ideal.ofBits .bf16 (BitVec.extractLsb' _ 16 (s z))) ?_
  funext a; apply Fin.ext
  match a with
  | ⟨0, _⟩ => rfl
  | ⟨1, _⟩ => rfl

/-- Sixteen pieces one below the other, at row `k`: row `k % 32` of piece `k / 32`. -/
theorem cat16_apply (p : (g : ℕ) → g < 16 → FVec Ideal S32x256 .bf16) (k : Fin 512) (j : Fin 256) :
    cat16 p (ix2 k j) = p (k.val / 32) (by omega) (ix2 ⟨k.val % 32, by omega⟩ j) := by
  have h := concatenate_ofFn_apply (t := S512x256) (s₁ := S32x256) 0 (fun g : Fin 16 => p g.val g.isLt)
    concatenates_S32x256_S32x256_S32x256_S32x256_S32x256_S32x256_S32x256_S32x256_S32x256_S32x256_S32x256_S32x256_S32x256_S32x256_S32x256_S32x256_S512x256_d0
    rfl 32 rfl (ix2 k j) ⟨k.val / 32, by omega⟩ rfl (ix2 ⟨k.val % 32, by omega⟩ j) rfl
    (fun b hb => by fin_cases b; exact absurd rfl hb; rfl)
  exact Eq.trans rfl h

/-! ## The product over 7168 positions -/

section
variable (x0 : Vec Ideal S256x7168 .bf16) (x1 : Vec Ideal S7168x256 .fp8e4m3) (x2 : Vec Ideal S224x256 .i8)

theorem decG_apply (j : S224x256.Idx) : k1_pay6 (F := Ideal) x2 j = both (x2 j) := by
  pointwise [k1_pay6]
  rfl

/-- A dequantised piece at row `r`, column `j`. -/
theorem pieceG_apply (n : ℕ) (hn : n < 14) (g : ℕ) (hg : g < 16) (r : Fin 32) (j : Fin 256) :
    pieceG x1 x2 n hn g hg (ix2 r j)
      = (x1 (ix2 ⟨512 * n + 32 * g + r.val, by omega⟩ j) : EReal) * pow (x2 (ix2 ⟨16 * n + g, by omega⟩ j)) := by
  unfold pieceG
  pointwise [k1_pay9]
  exact congrArg (fun z : EReal => (x1 _ : EReal) * z) (word_apply _ _ _ (Eq.trans (by pointwise) (decG_apply x2 (ix2 ⟨16 * n + g, by omega⟩ j))))

/-- A dequantised chunk at contraction row `k`, column `j`. -/
theorem deqG_apply (n : ℕ) (hn : n < 14) (k : Fin 512) (j : Fin 256) :
    deqG x1 x2 n hn (ix2 k j)
      = (x1 (ix2 ⟨512 * n + k.val, by omega⟩ j) : EReal) * pow (x2 (ix2 ⟨(512 * n + k.val) / 32, by omega⟩ j)) := by
  unfold deqG
  rw [cat16_apply, pieceG_apply]
  have e1 : 512 * n + 32 * (k.val / 32) + k.val % 32 = 512 * n + k.val := by omega
  have e2 : 16 * n + k.val / 32 = (512 * n + k.val) / 32 := by omega
  simp only [e1, e2]

/-- A chunk's product at row `i`, column `j`. -/
theorem chunkG_apply (n : ℕ) (hn : n < 14) (i : Fin 256) (j : Fin 256) :
    chunkG x0 x1 x2 n hn (ix2 i j) = ∑ k : Fin 512, (at2 x0 i (512 * n + k.val) : EReal)
      * ((at2 x1 (512 * n + k.val) j : EReal) * pow (at2 x2 ((512 * n + k.val) / 32) j)) := by
  unfold chunkG
  pointwise [k1_pay8]
  refine Finset.sum_congr rfl fun k _ => ?_
  rw [deqG_apply x1 x2 n hn k j, at2_val x1, at2_val x2]
  exact congrArg (fun z : EReal => z * _) (at2_val x0 _ _)

/-- The ordered sum of the first chunks at row `i`, column `j`. -/
theorem accG_apply (i : Fin 256) (j : Fin 256) : ∀ (n : ℕ) (hn : n < 14), accG x0 x1 x2 n hn (ix2 i j)
      = dot (512 * (n + 1)) (at2 x0 i) (fun k => at2 x1 k j) (fun k => at2 x2 k j)
  | 0, hn => by
    unfold dot
    rw [sum_blocks]
    show chunkG x0 x1 x2 0 hn (ix2 i j) = _
    rw [chunkG_apply]
    simp only [Nat.mul_zero, Finset.range_zero, Finset.sum_empty, zero_add]
  | n + 1, hn => by
    unfold dot
    rw [sum_blocks]
    show (accG x0 x1 x2 n _ (ix2 i j) : EReal) + chunkG x0 x1 x2 (n + 1) hn (ix2 i j) = _
    rw [accG_apply i j n, chunkG_apply]
    rfl

theorem accG_last (i : Fin 256) (j : Fin 256) : accG x0 x1 x2 13 (by decide) (ix2 i j)
      = dot 7168 (at2 x0 i) (fun k => at2 x1 k j) (fun k => at2 x2 k j) :=
  accG_apply x0 x1 x2 i j 13 (by decide)
end

/-! ## The product over 18432 positions -/

section
variable (x0 : Vec Ideal S256x18432 .bf16) (x1 : Vec Ideal S18432x256 .fp8e4m3) (x2 : Vec Ideal S576x256 .i8)

theorem decD_apply (j : S576x256.Idx) : k2_pay5 (F := Ideal) x2 j = both (x2 j) := by
  pointwise [k2_pay5]
  rfl

/-- A dequantised piece at row `r`, column `j`. -/
theorem pieceD_apply (n : ℕ) (hn : n < 36) (g : ℕ) (hg : g < 16) (r : Fin 32) (j : Fin 256) :
    pieceD x1 x2 n hn g hg (ix2 r j)
      = (x1 (ix2 ⟨512 * n + 32 * g + r.val, by omega⟩ j) : EReal) * pow (x2 (ix2 ⟨16 * n + g, by omega⟩ j)) := by
  unfold pieceD
  pointwise [k1_pay9]
  exact congrArg (fun z : EReal => (x1 _ : EReal) * z) (word_apply _ _ _ (Eq.trans (by pointwise) (decD_apply x2 (ix2 ⟨16 * n + g, by omega⟩ j))))

/-- A dequantised chunk at contraction row `k`, column `j`. -/
theorem deqD_apply (n : ℕ) (hn : n < 36) (k : Fin 512) (j : Fin 256) :
    deqD x1 x2 n hn (ix2 k j)
      = (x1 (ix2 ⟨512 * n + k.val, by omega⟩ j) : EReal) * pow (x2 (ix2 ⟨(512 * n + k.val) / 32, by omega⟩ j)) := by
  unfold deqD
  rw [cat16_apply, pieceD_apply]
  have e1 : 512 * n + 32 * (k.val / 32) + k.val % 32 = 512 * n + k.val := by omega
  have e2 : 16 * n + k.val / 32 = (512 * n + k.val) / 32 := by omega
  simp only [e1, e2]

/-- A chunk's product at row `i`, column `j`. -/
theorem chunkD_apply (n : ℕ) (hn : n < 36) (i : Fin 256) (j : Fin 256) :
    chunkD x0 x1 x2 n hn (ix2 i j) = ∑ k : Fin 512, (at2 x0 i (512 * n + k.val) : EReal)
      * ((at2 x1 (512 * n + k.val) j : EReal) * pow (at2 x2 ((512 * n + k.val) / 32) j)) := by
  unfold chunkD
  pointwise [k1_pay8]
  refine Finset.sum_congr rfl fun k _ => ?_
  rw [deqD_apply x1 x2 n hn k j, at2_val x1, at2_val x2]
  exact congrArg (fun z : EReal => z * _) (at2_val x0 _ _)

/-- The ordered sum of the first chunks at row `i`, column `j`. -/
theorem accD_apply (i : Fin 256) (j : Fin 256) : ∀ (n : ℕ) (hn : n < 36), accD x0 x1 x2 n hn (ix2 i j)
      = dot (512 * (n + 1)) (at2 x0 i) (fun k => at2 x1 k j) (fun k => at2 x2 k j)
  | 0, hn => by
    unfold dot
    rw [sum_blocks]
    show chunkD x0 x1 x2 0 hn (ix2 i j) = _
    rw [chunkD_apply]
    simp only [Nat.mul_zero, Finset.range_zero, Finset.sum_empty, zero_add]
  | n + 1, hn => by
    unfold dot
    rw [sum_blocks]
    show (accD x0 x1 x2 n _ (ix2 i j) : EReal) + chunkD x0 x1 x2 (n + 1) hn (ix2 i j) = _
    rw [accD_apply i j n, chunkD_apply]
    rfl

theorem accD_last (i : Fin 256) (j : Fin 256) : accD x0 x1 x2 35 (by decide) (ix2 i j)
      = dot 18432 (at2 x0 i) (fun k => at2 x1 k j) (fun k => at2 x2 k j) :=
  accD_apply x0 x1 x2 i j 35 (by decide)
end

end Cert.KernelIdeal.Run

end
-- ==== Proof.Quant.lean ====
/-
  The quantiser of 128 columns as the body computes it, as functions of the columns; and the page of scales it fills in.
-/
module

public import proofs.«01_k».proof.Proof.Gen.KernelIdeal.Skeleton
public import Idealize.ShloMosaic.Lib.Pointwise
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The quantiser of a half block, as the body computes it -/

/-- The largest magnitude among a lane and the 31 lanes before it, wrapping. -/
def tree (v : FVec F S256x128 .f32) : FVec F S256x128 .f32 :=
  let v3 : FVec F S256x128 .f32 := absf v
  let v5 : FVec F S256x128 .f32 := maximumf v3 (dynamicRotate 1 1#32 none v3 rotates_S256x128_d1)
  let v7 : FVec F S256x128 .f32 := maximumf v5 (dynamicRotate 1 2#32 none v5 rotates_S256x128_d1)
  let v9 : FVec F S256x128 .f32 := maximumf v7 (dynamicRotate 1 4#32 none v7 rotates_S256x128_d1)
  let v11 : FVec F S256x128 .f32 := maximumf v9 (dynamicRotate 1 8#32 none v9 rotates_S256x128_d1)
  maximumf v11 (dynamicRotate 1 16#32 none v11 rotates_S256x128_d1)

/-- The last lane of each lane's group of 32. -/
def lastLane : IVec S256x128 32 :=
  let v16 : IVec S256x128 32 := ori (iota .tc S256x128 32 [1] iota_S256x128_d1_w32) (broadcast S256x128 31#32)
  let v21 : IVec S256x128 32 := select (cmpi .slt v16 (broadcast S256x128 0#32)) (addi v16 (broadcast S256x128 128#32)) v16
  shapeCast S256x128 (shapeCast S256x128x1 v21 shapeCasts_S256x128_S256x128x1) shapeCasts_S256x128x1_S256x128

/-- The largest magnitude of each lane's group, over 448. -/
def ratio (v : FVec F S256x128 .f32) : FVec F S256x128 .f32 :=
  mulf (dynamicGather 1 (tree v) lastLane) (broadcast S256x128 (Scalar.ofBits .f32 0x3B124925#32))

/-- The float whose exponent field is `e`. -/
def power (e : IVec S256x128 32) : FVec F S256x128 .f32 := bitcastToFloat .f32 (shli e (broadcast S256x128 23#32))

/-- One comparison of the search for the exponent field. -/
def probe (x : FVec F S256x128 .f32) (b : BitVec 32) (e : IVec S256x128 32) : IVec S256x128 32 :=
  select (cmpf .oge x (power (addi e (broadcast S256x128 b)))) (addi e (broadcast S256x128 b)) e

/-- The exponent field found by eight comparisons. -/
def search (x : FVec F S256x128 .f32) : IVec S256x128 32 :=
  probe x 1#32 (probe x 2#32 (probe x 4#32 (probe x 8#32 (probe x 16#32 (probe x 32#32 (probe x 64#32 (probe x 128#32 (broadcast S256x128 0#32))))))))

/-- The field the scale is made from: 126 where the group is zero or not finite. -/
def field (v : FVec F S256x128 .f32) : IVec S256x128 32 :=
  let e : IVec S256x128 32 := search (ratio v)
  select (ori (cmpi .eq e (broadcast S256x128 0#32)) (cmpi .eq e (broadcast S256x128 255#32))) (broadcast S256x128 126#32) e

/-- The scale, in every lane of its group. -/
def scaleOf (v : FVec F S256x128 .f32) : FVec F S256x128 .f32 := power (addi (field v) (broadcast S256x128 1#32))

/-- The codes. -/
def codesOf (v : FVec F S256x128 .f32) : FVec F S256x128 .fp8e4m3 :=
  truncf .fp8e4m3 (minimumf (broadcast S256x128 (Scalar.ofBits .f32 0x43E00000#32)) (maximumf (broadcast S256x128 (Scalar.ofBits .f32 0xC3E00000#32))
    (mulf v (power (subi (broadcast S256x128 253#32) (field v)))))) bitsLt_fp8e4m3_f32

/-- The codes times their scales. -/
def dequantOf (v : FVec F S256x128 .f32) : FVec F S256x128 .bf16 :=
  mulf (extf .bf16 (codesOf v) bitsLt_fp8e4m3_bf16) (truncf .bf16 (scaleOf v) bitsLt_bf16_f32)

/-! ## The page of gathered scales -/

/-- The lane a page's lane takes its scale from: the first lane of group `lane % 4`. -/
def fromLane : IVec S256x128 32 :=
  let v160 : IVec S256x128 32 := iota .tc S256x128 32 [1] iota_S256x128_d1_w32
  let v162 : BitVec 32 := Scalar.select (Scalar.cmpi .eq 4#32 0#32) 1#32 4#32
  let v164 : IVec S256x128 32 := remsi v160 (broadcast S256x128 v162)
  let v166 : IVec S256x128 1 := cmpi .ne v164 (broadcast S256x128 0#32)
  let v172 : IVec S256x128 1 := xori (cmpi .slt v164 (broadcast S256x128 0#32))
    (broadcastTo S256x128 (broadcast S256x128 (Scalar.cmpi .slt v162 0#32)) broadcasts_S256x128_S256x128)
  let v176 : IVec S256x128 32 := select (andi v172 v166) (addi v164 (broadcast S256x128 v162)) v164
  let v178 : IVec S256x128 32 := muli v176 (broadcast S256x128 32#32)
  let v183 : IVec S256x128 32 := select (cmpi .slt v178 (broadcast S256x128 0#32)) (addi v178 (broadcast S256x128 128#32)) v178
  shapeCast S256x128 (shapeCast S256x128x1 v183 shapeCasts_S256x128_S256x128x1) shapeCasts_S256x128x1_S256x128

/-- The slot a page's lane belongs to, `lane / 4`. -/
def slotLane : IVec S256x128 32 :=
  let v160 : IVec S256x128 32 := iota .tc S256x128 32 [1] iota_S256x128_d1_w32
  let v188 : IVec S256x128 32 := divsi v160 (broadcast S256x128 4#32)
  let v195 : IVec S256x128 32 := subi (extui 32 (cmpi .sgt v160 (broadcast S256x128 0#32)) natLt_1_32) (extui 32 (cmpi .slt v160 (broadcast S256x128 0#32)) natLt_1_32)
  let v200 : BitVec 32 := Scalar.subi (Scalar.extui (Scalar.cmpi .sgt 4#32 0#32)) (Scalar.extui (Scalar.cmpi .slt 4#32 0#32))
  let v202 : IVec S256x128 1 := cmpi .ne v195 (broadcast S256x128 v200)
  let v206 : IVec S256x128 1 := cmpi .ne (remsi v160 (broadcast S256x128 4#32)) (broadcast S256x128 0#32)
  select (andi v202 v206) (subi v188 (broadcast S256x128 1#32)) v188

/-- A page after the four scales of slot `w` are put in. -/
def place (w : BitVec 32) (old : FVec F S256x128 .f32) (scale : FVec F S256x128 .f32) : FVec F S256x128 .f32 :=
  select (cmpi .eq slotLane (broadcast S256x128 w)) (dynamicGather 1 scale fromLane) old

/-- The slot within its page of the half block number `t`. -/
def slotOf (t : BitVec 32) : BitVec 32 :=
  let v151 : BitVec 32 := Scalar.select (Scalar.cmpi .eq 32#32 0#32) 1#32 32#32
  let v152 : BitVec 32 := Scalar.remsi t v151
  let v157 : BitVec 1 := Scalar.andi (Scalar.xori (Scalar.cmpi .slt v152 0#32) (Scalar.cmpi .slt v151 0#32)) (Scalar.cmpi .ne v152 0#32)
  Scalar.select v157 (Scalar.addi v152 v151) v152

/-- The number of half block `j` of point `i`. -/
def halfNo (i : Nat) (j : BitVec 32) : BitVec 32 := Scalar.addi (Scalar.muli 2#32 (BitVec.ofNat 32 i)) j

theorem slot_eq : ∀ i : Fin 72, slotOf (halfNo i.val 0#32) = BitVec.ofNat 32 (2 * i.val % 32) ∧ slotOf (halfNo i.val 1#32) = BitVec.ofNat 32 ((2 * i.val + 1) % 32) := by
  decide +kernel

theorem fromLane_apply (r : Fin 256) (l : Fin 128) : fromLane (ix2 r l) = BitVec.ofNat 32 (l.val % 4 * 32) := by
  pointwise [fromLane]
  revert l; decide +kernel

theorem slotLane_apply (r : Fin 256) (l : Fin 128) : slotLane (ix2 r l) = BitVec.ofNat 32 (l.val / 4) := by
  pointwise [slotLane]
  revert l; decide +kernel

theorem slot_cmp : ∀ (l : Fin 128) (n : Fin 32), IntOp.cmpi .eq (BitVec.ofNat 32 (l.val / 4)) (BitVec.ofNat 32 n.val) = if l.val / 4 = n.val then 1#1 else 0#1 := by
  decide +kernel

/-- A page's lane after slot `n` is put in: the scale of group `lane % 4` where the lane belongs to the slot. -/
theorem place_apply (n : Nat) (hn : n < 32) (old scale : FVec F S256x128 .f32) (r : Fin 256) (l : Fin 128) :
    place (BitVec.ofNat 32 n) old scale (ix2 r l)
      = if l.val / 4 = n then scale (ix2 r ⟨l.val % 4 * 32, by omega⟩) else old (ix2 r l) := by
  pointwise [place]
  rw [slotLane_apply, fromLane_apply, slot_cmp l ⟨n, hn⟩]
  rw [show (ix2 r ⟨(BitVec.ofNat 32 (l.val % 4 * 32)).toNat % 128, Nat.mod_lt _ (by decide)⟩ : S256x128.Idx) = ix2 r ⟨l.val % 4 * 32, by omega⟩ from by
    congr 2; rw [BitVec.toNat_ofNat]; omega]
  split_ifs <;> rfl

end Cert.KernelIdeal.Run
-- ==== Proof.QIdeal.lean ====
/-
  THE KERNEL'S QUANTISER IS THE MATHEMATICS': a lane of `scaleOf`, `codesOf` and `dequantOf` over the extended reals is the
  scale, the code and their product of the lane's group of 32 (`scale_eq`, `codes_eq`, `dequant_eq`).
-/
module

public import proofs.«01_k».proof.Proof.Quant
public import proofs.«01_k».proof.Proof.QSpec

@[expose] public section

set_option maxRecDepth 16384

noncomputable section

open Idealize.ShloMosaic Idealize.ShloMosaic.TcCoe Idealize.SL.Sem Cert.Words

namespace Cert.KernelIdeal.Run

open Cert.KernelIdeal Cert.KernelIdeal.Gen

/-- The group a lane belongs to. -/
def group (v : FVec Ideal S256x128 .f32) (r : Fin 256) (l : Fin 128) : Fin 32 → EReal :=
  fun j => v (ix2 r ⟨l.val / 32 * 32 + j.val, by omega⟩)

/-- A lane's magnitude, by the lane's number. -/
def lane (v : FVec Ideal S256x128 .f32) (r : Fin 256) (j : ℕ) : EReal := mag (v (ix2 r ⟨j % 128, Nat.mod_lt _ (by decide)⟩))

/-- One doubling of the running maximum. -/
theorem max_step (t u : FVec Ideal S256x128 .f32) (f : ℕ → EReal) (r : Fin 256) (n : ℕ) (hn : n ≤ 64)
    (ht : ∀ l : Fin 128, n - 1 ≤ l.val → t (ix2 r l) = win f n l.val)
    (hu : ∀ l : Fin 128, u (ix2 r l) = t (ix2 r ⟨(l.val + 128 - n) % 128, Nat.mod_lt _ (by decide)⟩))
    (l : Fin 128) (hl : 2 * n - 1 ≤ l.val) (h1 : 1 ≤ n) : maximumf t u (ix2 r l) = win f (2 * n) l.val := by
  show max (t (ix2 r l) : EReal) (u (ix2 r l)) = _
  rw [hu, ht l (by omega), win_double]
  have e : (l.val + 128 - n) % 128 = l.val - n := by omega
  rw [ht _ (by show n - 1 ≤ (l.val + 128 - n) % 128; omega)]
  show max _ (win f n ((l.val + 128 - n) % 128)) = _
  rw [e]

theorem rot1 (x : FVec Ideal S256x128 .f32) (r : Fin 256) (l : Fin 128) : dynamicRotate 1 1#32 none x rotates_S256x128_d1 (ix2 r l)
    = x (ix2 r ⟨(l.val + 128 - 1) % 128, Nat.mod_lt _ (by decide)⟩) := by pointwise
theorem rot2 (x : FVec Ideal S256x128 .f32) (r : Fin 256) (l : Fin 128) : dynamicRotate 1 2#32 none x rotates_S256x128_d1 (ix2 r l)
    = x (ix2 r ⟨(l.val + 128 - 2) % 128, Nat.mod_lt _ (by decide)⟩) := by pointwise
theorem rot4 (x : FVec Ideal S256x128 .f32) (r : Fin 256) (l : Fin 128) : dynamicRotate 1 4#32 none x rotates_S256x128_d1 (ix2 r l)
    = x (ix2 r ⟨(l.val + 128 - 4) % 128, Nat.mod_lt _ (by decide)⟩) := by pointwise
theorem rot8 (x : FVec Ideal S256x128 .f32) (r : Fin 256) (l : Fin 128) : dynamicRotate 1 8#32 none x rotates_S256x128_d1 (ix2 r l)
    = x (ix2 r ⟨(l.val + 128 - 8) % 128, Nat.mod_lt _ (by decide)⟩) := by pointwise
theorem rot16 (x : FVec Ideal S256x128 .f32) (r : Fin 256) (l : Fin 128) : dynamicRotate 1 16#32 none x rotates_S256x128_d1 (ix2 r l)
    = x (ix2 r ⟨(l.val + 128 - 16) % 128, Nat.mod_lt _ (by decide)⟩) := by pointwise

theorem tree_eq (v : FVec Ideal S256x128 .f32) (r : Fin 256) (l : Fin 128) (hl : 31 ≤ l.val) : tree v (ix2 r l) = win (lane v r) 32 l.val := by
  unfold tree
  have h0 : ∀ l : Fin 128, 1 - 1 ≤ l.val → absf v (ix2 r l) = win (lane v r) 1 l.val := fun l _ => by
    unfold win lane
    rw [Finset.range_one, Finset.sup_singleton]
    show mag (v (ix2 r l)) = mag (v (ix2 r ⟨(l.val - 0) % 128, _⟩))
    congr 3
    apply Fin.ext; show l.val = (l.val - 0) % 128; omega
  refine max_step _ _ _ r 16 (by decide) ?_ (rot16 _ r) l hl (by decide)
  refine fun l hl => max_step _ _ _ r 8 (by decide) ?_ (rot8 _ r) l hl (by decide)
  refine fun l hl => max_step _ _ _ r 4 (by decide) ?_ (rot4 _ r) l hl (by decide)
  refine fun l hl => max_step _ _ _ r 2 (by decide) ?_ (rot2 _ r) l hl (by decide)
  exact fun l hl => max_step _ _ _ r 1 (by decide) h0 (rot1 _ r) l hl (by decide)

theorem last_eq (r : Fin 256) (l : Fin 128) : (lastLane (ix2 r l)).toNat % 128 = l.val / 32 * 32 + 31 := by
  pointwise [lastLane]
  revert l; decide +kernel

theorem ratio_eq (v : FVec Ideal S256x128 .f32) (r : Fin 256) (l : Fin 128) : ratio v (ix2 r l) = top (group v r l) := by
  pointwise [ratio]
  unfold top
  refine congrArg (fun z : EReal => z * Ideal.ofBits .f32 991054117#32) ?_
  rw [tree_eq _ _ _ (by show 31 ≤ (lastLane (ix2 r l)).toNat % 128; rw [last_eq]; omega)]
  show win _ 32 ((lastLane (ix2 r l)).toNat % 128) = _
  rw [last_eq, win_group]
  unfold amax group lane
  congr 1
  funext j
  congr 3
  apply Fin.ext
  show (l.val / 32 * 32 + j.val) % 128 = l.val / 32 * 32 + j.val
  omega

theorem probe_at (x : FVec Ideal S256x128 .f32) (e : IVec S256x128 32) (r : Fin 256) (l : Fin 128) (b m m' : ℕ)
    (he : e (ix2 r l) = BitVec.ofNat 32 m) (hm : m + b < 256) (hb : 1 ≤ b) (h : m' = if m + b ≤ count (x (ix2 r l)) then m + b else m) :
    probe x (BitVec.ofNat 32 b) e (ix2 r l) = BitVec.ofNat 32 m' := by
  pointwise [probe, Run.power]
  rw [he]
  exact probe_eq _ b m m' hm hb h

/-- The eight comparisons find the count. -/
theorem search_eq (x : FVec Ideal S256x128 .f32) (r : Fin 256) (l : Fin 128) : search x (ix2 r l) = BitVec.ofNat 32 (count (x (ix2 r l))) := by
  have hc := count_le (x (ix2 r l))
  unfold search
  have e128 := probe_at x (broadcast S256x128 0#32) r l 128 0 (count (x (ix2 r l)) / 128 * 128) rfl (by decide) (by decide) (by split_ifs <;> omega)
  have e64 := probe_at x _ r l 64 _ (count (x (ix2 r l)) / 64 * 64) e128 (by omega) (by decide) (by split_ifs <;> omega)
  have e32 := probe_at x _ r l 32 _ (count (x (ix2 r l)) / 32 * 32) e64 (by omega) (by decide) (by split_ifs <;> omega)
  have e16 := probe_at x _ r l 16 _ (count (x (ix2 r l)) / 16 * 16) e32 (by omega) (by decide) (by split_ifs <;> omega)
  have e8 := probe_at x _ r l 8 _ (count (x (ix2 r l)) / 8 * 8) e16 (by omega) (by decide) (by split_ifs <;> omega)
  have e4 := probe_at x _ r l 4 _ (count (x (ix2 r l)) / 4 * 4) e8 (by omega) (by decide) (by split_ifs <;> omega)
  have e2 := probe_at x _ r l 2 _ (count (x (ix2 r l)) / 2 * 2) e4 (by omega) (by decide) (by split_ifs <;> omega)
  exact probe_at x _ r l 1 _ _ e2 (by omega) (by decide) (by split_ifs <;> omega)

theorem field_eq (v : FVec Ideal S256x128 .f32) (r : Fin 256) (l : Fin 128) : field v (ix2 r l) = fieldW (count (top (group v r l))) := by
  pointwise [field]
  rw [search_eq, ratio_eq]
  exact field_word ⟨_, Nat.lt_succ_of_le (count_le _)⟩

theorem scale_eq (v : FVec Ideal S256x128 .f32) (r : Fin 256) (l : Fin 128) : scaleOf v (ix2 r l) = scl (group v r l) := by
  pointwise [scaleOf, Run.power]
  rw [field_eq]; rfl

theorem codes_eq (v : FVec Ideal S256x128 .f32) (r : Fin 256) (l : Fin 128) : codesOf v (ix2 r l) = code (group v r l) (v (ix2 r l)) := by
  pointwise [codesOf, Run.power]
  rw [field_eq]; rfl

theorem dequant_eq (v : FVec Ideal S256x128 .f32) (r : Fin 256) (l : Fin 128) :
    dequantOf v (ix2 r l) = code (group v r l) (v (ix2 r l)) * scl (group v r l) := by
  pointwise [dequantOf]
  exact congrArg₂ (fun a b : EReal => a * b) (codes_eq v r l) (scale_eq v r l)

end Cert.KernelIdeal.Run

end
-- ==== Proof.Run1A.lean ====
/-
  The second call's body, run once at a point where the array of scales is left alone.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The page of the scratch a point writes, both halves of its block alike. -/
theorem k1_off1_eq : ∀ i : grid1.Coords, k1_off1 i 0#32 = ![(i 0).val / 16, 0, 0] ∧ k1_off1 i 1#32 = ![(i 0).val / 16, 0, 0] := by decide +kernel
/-- At the last point it is the fifth page. -/
theorem k1_off1_last : ∀ i : grid1.Coords, k1_cond1 i = 1#1 → k1_off1 i 0#32 = ![4, 0, 0] ∧ k1_off1 i 1#32 = ![4, 0, 0] := by decide +kernel

set_option maxHeartbeats 8000000 in
/-- The body of `cc1_gate_up` at a point where the scale window is left alone: the pieces its stores leave in
    each output's staging buffer and in the scratch the scales gather in, with the proof that it runs. -/
noncomputable def kernelRun1_A (c : Dev nD) (i : grid1.Coords) (arg1 : Memref sig .tc .vmem S256x7168 .bf16) (harg1 : arg1.IsWhole) (arg2 : Memref sig .tc .vmem S7168x256 .fp8e4m3) (harg2 : arg2.IsWhole) (arg3 : Memref sig .tc .vmem S7168x256 .fp8e4m3) (harg3 : arg3.IsWhole) (arg4 : Memref sig .tc .vmem S224x256 .i8) (harg4 : arg4.IsWhole) (arg5 : Memref sig .tc .vmem S224x256 .i8) (harg5 : arg5.IsWhole) (arg6 : Memref sig .tc .vmem S256x256 .fp8e4m3) (harg6 : arg6.IsWhole) (arg7 : Memref sig .tc .vmem S256x256 .bf16) (harg7 : arg7.IsWhole) (arg8 : Memref sig .tc .vmem S256x576 .f32) (harg8 : arg8.IsWhole) (arg9 : Memref sig .tc .vmem S224x256 .i32) (harg9 : arg9.IsWhole) (arg10 : Memref sig .tc .vmem S224x256 .i32) (harg10 : arg10.IsWhole) (arg11 : Memref sig .tc .vmem S5x256x128 .f32) (harg11 : arg11.IsWhole) (hc0 : ¬k1_cond1 i = 1#1)
    (x0 : Vec F S256x7168 .bf16) (x1 : Vec F S7168x256 .fp8e4m3) (x2 : Vec F S7168x256 .fp8e4m3) (x3 : Vec F S224x256 .i8) (x4 : Vec F S224x256 .i8) (d11 : Vec F S5x256x128 .f32) :
    Σ' (L5 : List (View.Piece (Elt F) S256x256 .fp8e4m3)), Σ' (L6 : List (View.Piece (Elt F) S256x256 .bf16)), Σ' (L7 : List (View.Piece (Elt F) S256x576 .f32)), { LT2 : List (View.Piece (Elt F) S5x256x128 .f32) //
      ∀ (xi7 : Vec F S256x576 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ owns (c : Thread nD τ) arg8 fullShare xi7 ∗ (∃ d, owns (c : Thread nD τ) arg9 fullShare d) ∗ (∃ d, owns (c : Thread nD τ) arg10 fullShare d) ∗ owns (c : Thread nD τ) arg11 fullShare d11
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ owns (c : Thread nD τ) arg8 fullShare xi7 ∗ (∃ d, owns (c : Thread nD τ) arg9 fullShare d) ∗ (∃ d, owns (c : Thread nD τ) arg10 fullShare d) ∗ (arg11.view.loc (c : Thread nD τ) ↦[arg11.view.set]{fullShare} arg11.view.writes (Elt F) (harg11.unread d11) LT2)) -∗ K ⟨⟩))
          ⊢ wp frame (wpE (defs₀ (F := F)) Variants.none c none) E (cc1_gate_up i arg1 harg1 arg2 harg2 arg3 harg3 arg4 harg4 arg5 harg5 arg6 harg6 arg7 harg7 arg8 harg8 arg9 harg9 arg10 harg10 arg11 harg11) K } := by
  refine ⟨?_, ?_, [], ?_, fun xi7 E K => ?run⟩
  case run =>
    simp only [cc1_gate_up_eq_skeleton]; unfold cc1_gate_up_skel
    simp only [k1_part98_eq_skeleton, k1_part97_eq_skeleton, k1_part96_eq_skeleton, k1_part95_eq_skeleton, k1_part94_eq_skeleton, k1_part93_eq_skeleton, k1_part92_eq_skeleton, k1_part91_eq_skeleton, k1_part90_eq_skeleton, k1_part89_eq_skeleton, k1_part88_eq_skeleton, k1_part87_eq_skeleton, k1_part86_eq_skeleton, k1_part85_eq_skeleton, k1_part84_eq_skeleton, k1_part83_eq_skeleton, k1_part82_eq_skeleton, k1_part81_eq_skeleton, k1_part80_eq_skeleton, k1_part79_eq_skeleton, k1_part78_eq_skeleton, k1_part77_eq_skeleton, k1_part76_eq_skeleton, k1_part75_eq_skeleton, k1_part74_eq_skeleton, k1_part73_eq_skeleton, k1_part72_eq_skeleton, k1_part71_eq_skeleton, k1_part70_eq_skeleton, k1_part69_eq_skeleton, k1_part68_eq_skeleton, k1_part67_eq_skeleton, k1_part66_eq_skeleton, k1_part65_eq_skeleton, k1_part64_eq_skeleton, k1_part63_eq_skeleton, k1_part62_eq_skeleton, k1_part61_eq_skeleton, k1_part60_eq_skeleton, k1_part59_eq_skeleton, k1_part58_eq_skeleton, k1_part57_eq_skeleton, k1_part56_eq_skeleton, k1_part55_eq_skeleton, k1_part54_eq_skeleton, k1_part53_eq_skeleton, k1_part52_eq_skeleton, k1_part51_eq_skeleton, k1_part50_eq_skeleton, k1_part49_eq_skeleton, k1_part48_eq_skeleton, k1_part47_eq_skeleton, k1_part46_eq_skeleton, k1_part45_eq_skeleton, k1_part44_eq_skeleton, k1_part43_eq_skeleton, k1_part42_eq_skeleton, k1_part41_eq_skeleton, k1_part40_eq_skeleton, k1_part39_eq_skeleton, k1_part38_eq_skeleton, k1_part37_eq_skeleton, k1_part36_eq_skeleton, k1_part35_eq_skeleton, k1_part34_eq_skeleton, k1_part33_eq_skeleton, k1_part32_eq_skeleton, k1_part31_eq_skeleton, k1_part30_eq_skeleton, k1_part29_eq_skeleton, k1_part28_eq_skeleton, k1_part27_eq_skeleton, k1_part26_eq_skeleton, k1_part25_eq_skeleton, k1_part24_eq_skeleton, k1_part23_eq_skeleton, k1_part22_eq_skeleton, k1_part21_eq_skeleton, k1_part20_eq_skeleton, k1_part19_eq_skeleton, k1_part18_eq_skeleton, k1_part17_eq_skeleton, k1_part16_eq_skeleton, k1_part15_eq_skeleton, k1_part14_eq_skeleton, k1_part13_eq_skeleton, k1_part12_eq_skeleton, k1_part11_eq_skeleton, k1_part10_eq_skeleton, k1_part9_eq_skeleton, k1_part8_eq_skeleton, k1_part7_eq_skeleton, k1_part6_eq_skeleton, k1_part5_eq_skeleton, k1_part4_eq_skeleton, k1_part3_eq_skeleton, k1_part2_eq_skeleton, k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%f7, %hf7, H7⟩, ⟨%ds0, %fs0, -, HS0⟩, ⟨%ds1, %fs1, -, HS1⟩, ⟨%fs2, %hfs2, HS2⟩, Hk⟩
    obtain rfl := harg1.eq_unread hf0; obtain rfl := harg2.eq_unread hf1; obtain rfl := harg3.eq_unread hf2; obtain rfl := harg4.eq_unread hf3; obtain rfl := harg5.eq_unread hf4; obtain rfl := harg11.eq_unread hfs2; obtain rfl := harg8.eq_unread hf7
    letI : ClosedOff (k1_off1 i 0#32) := ⟨![(i 0).val / 16, 0, 0], (k1_off1_eq i).1⟩
    letI : ClosedOff (k1_off1 i 1#32) := ⟨![(i 0).val / 16, 0, 0], (k1_off1_eq i).2⟩
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]; · iexists _; iexact H6
    isplitl [H7]
    · iexists _; isplitr; · ipureintro; exact harg8.read_unread _
      iexact H7
    isplitl [HS0]
    · iexists _, _; isplitr; swap; · iexact HS0
      ipureintro; rfl
    isplitl [HS1]
    · iexists _, _; isplitr; swap; · iexact HS1
      ipureintro; rfl
    iexact HS2

end Cert.KernelIdeal.Run
-- ==== Proof.Run1B.lean ====
/-
  The second call's body, run once at the last point, where the array of scales is stored.
-/
module

public import proofs.«01_k».proof.Proof.Run1A
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 8000000 in
/-- The body of `cc1_gate_up` at a point where the scale window is stored: the pieces its stores leave in
    each output's staging buffer and in the scratch the scales gather in, with the proof that it runs. -/
noncomputable def kernelRun1_B (c : Dev nD) (i : grid1.Coords) (arg1 : Memref sig .tc .vmem S256x7168 .bf16) (harg1 : arg1.IsWhole) (arg2 : Memref sig .tc .vmem S7168x256 .fp8e4m3) (harg2 : arg2.IsWhole) (arg3 : Memref sig .tc .vmem S7168x256 .fp8e4m3) (harg3 : arg3.IsWhole) (arg4 : Memref sig .tc .vmem S224x256 .i8) (harg4 : arg4.IsWhole) (arg5 : Memref sig .tc .vmem S224x256 .i8) (harg5 : arg5.IsWhole) (arg6 : Memref sig .tc .vmem S256x256 .fp8e4m3) (harg6 : arg6.IsWhole) (arg7 : Memref sig .tc .vmem S256x256 .bf16) (harg7 : arg7.IsWhole) (arg8 : Memref sig .tc .vmem S256x576 .f32) (harg8 : arg8.IsWhole) (arg9 : Memref sig .tc .vmem S224x256 .i32) (harg9 : arg9.IsWhole) (arg10 : Memref sig .tc .vmem S224x256 .i32) (harg10 : arg10.IsWhole) (arg11 : Memref sig .tc .vmem S5x256x128 .f32) (harg11 : arg11.IsWhole) (hc0 : k1_cond1 i = 1#1)
    (x0 : Vec F S256x7168 .bf16) (x1 : Vec F S7168x256 .fp8e4m3) (x2 : Vec F S7168x256 .fp8e4m3) (x3 : Vec F S224x256 .i8) (x4 : Vec F S224x256 .i8) (d11 : Vec F S5x256x128 .f32) :
    Σ' (L5 : List (View.Piece (Elt F) S256x256 .fp8e4m3)), Σ' (L6 : List (View.Piece (Elt F) S256x256 .bf16)), Σ' (L7 : List (View.Piece (Elt F) S256x576 .f32)), { LT2 : List (View.Piece (Elt F) S5x256x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ owns (c : Thread nD τ) arg11 fullShare d11
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ d, owns (c : Thread nD τ) arg9 fullShare d) ∗ (∃ d, owns (c : Thread nD τ) arg10 fullShare d) ∗ (arg11.view.loc (c : Thread nD τ) ↦[arg11.view.set]{fullShare} arg11.view.writes (Elt F) (harg11.unread d11) LT2)) -∗ K ⟨⟩))
          ⊢ wp frame (wpE (defs₀ (F := F)) Variants.none c none) E (cc1_gate_up i arg1 harg1 arg2 harg2 arg3 harg3 arg4 harg4 arg5 harg5 arg6 harg6 arg7 harg7 arg8 harg8 arg9 harg9 arg10 harg10 arg11 harg11) K } := by
  refine ⟨?_, ?_, ?_, ?_, fun E K => ?run⟩
  case run =>
    simp only [cc1_gate_up_eq_skeleton]; unfold cc1_gate_up_skel
    simp only [k1_part98_eq_skeleton, k1_part97_eq_skeleton, k1_part96_eq_skeleton, k1_part95_eq_skeleton, k1_part94_eq_skeleton, k1_part93_eq_skeleton, k1_part92_eq_skeleton, k1_part91_eq_skeleton, k1_part90_eq_skeleton, k1_part89_eq_skeleton, k1_part88_eq_skeleton, k1_part87_eq_skeleton, k1_part86_eq_skeleton, k1_part85_eq_skeleton, k1_part84_eq_skeleton, k1_part83_eq_skeleton, k1_part82_eq_skeleton, k1_part81_eq_skeleton, k1_part80_eq_skeleton, k1_part79_eq_skeleton, k1_part78_eq_skeleton, k1_part77_eq_skeleton, k1_part76_eq_skeleton, k1_part75_eq_skeleton, k1_part74_eq_skeleton, k1_part73_eq_skeleton, k1_part72_eq_skeleton, k1_part71_eq_skeleton, k1_part70_eq_skeleton, k1_part69_eq_skeleton, k1_part68_eq_skeleton, k1_part67_eq_skeleton, k1_part66_eq_skeleton, k1_part65_eq_skeleton, k1_part64_eq_skeleton, k1_part63_eq_skeleton, k1_part62_eq_skeleton, k1_part61_eq_skeleton, k1_part60_eq_skeleton, k1_part59_eq_skeleton, k1_part58_eq_skeleton, k1_part57_eq_skeleton, k1_part56_eq_skeleton, k1_part55_eq_skeleton, k1_part54_eq_skeleton, k1_part53_eq_skeleton, k1_part52_eq_skeleton, k1_part51_eq_skeleton, k1_part50_eq_skeleton, k1_part49_eq_skeleton, k1_part48_eq_skeleton, k1_part47_eq_skeleton, k1_part46_eq_skeleton, k1_part45_eq_skeleton, k1_part44_eq_skeleton, k1_part43_eq_skeleton, k1_part42_eq_skeleton, k1_part41_eq_skeleton, k1_part40_eq_skeleton, k1_part39_eq_skeleton, k1_part38_eq_skeleton, k1_part37_eq_skeleton, k1_part36_eq_skeleton, k1_part35_eq_skeleton, k1_part34_eq_skeleton, k1_part33_eq_skeleton, k1_part32_eq_skeleton, k1_part31_eq_skeleton, k1_part30_eq_skeleton, k1_part29_eq_skeleton, k1_part28_eq_skeleton, k1_part27_eq_skeleton, k1_part26_eq_skeleton, k1_part25_eq_skeleton, k1_part24_eq_skeleton, k1_part23_eq_skeleton, k1_part22_eq_skeleton, k1_part21_eq_skeleton, k1_part20_eq_skeleton, k1_part19_eq_skeleton, k1_part18_eq_skeleton, k1_part17_eq_skeleton, k1_part16_eq_skeleton, k1_part15_eq_skeleton, k1_part14_eq_skeleton, k1_part13_eq_skeleton, k1_part12_eq_skeleton, k1_part11_eq_skeleton, k1_part10_eq_skeleton, k1_part9_eq_skeleton, k1_part8_eq_skeleton, k1_part7_eq_skeleton, k1_part6_eq_skeleton, k1_part5_eq_skeleton, k1_part4_eq_skeleton, k1_part3_eq_skeleton, k1_part2_eq_skeleton, k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%ds0, %fs0, -, HS0⟩, ⟨%ds1, %fs1, -, HS1⟩, ⟨%fs2, %hfs2, HS2⟩, Hk⟩
    obtain rfl := harg1.eq_unread hf0; obtain rfl := harg2.eq_unread hf1; obtain rfl := harg3.eq_unread hf2; obtain rfl := harg4.eq_unread hf3; obtain rfl := harg5.eq_unread hf4; obtain rfl := harg11.eq_unread hfs2
    letI : ClosedOff (k1_off1 i 0#32) := ⟨![4, 0, 0], (k1_off1_last i hc0).1⟩
    letI : ClosedOff (k1_off1 i 1#32) := ⟨![4, 0, 0], (k1_off1_last i hc0).2⟩
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]; · iexists _; iexact H6
    isplitl [H7]
    · iexists _; iexact H7
    isplitl [HS0]
    · iexists _, _; isplitr; swap; · iexact HS0
      ipureintro; rfl
    isplitl [HS1]
    · iexists _, _; isplitr; swap; · iexact HS1
      ipureintro; rfl
    iexact HS2

end Cert.KernelIdeal.Run
-- ==== Proof.Run2.lean ====
/-
  The third call's body, run once: what its stores leave in the result's window and in the scratch.
-/
module

public import proofs.«01_k».proof.Proof.Run1B
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 5696000 in
/-- The body of `cc2_down`: the pieces its stores leave in the output's staging buffer and in the scratch, with the
    proof that it runs. -/
noncomputable def kernelRun2_A (c : Dev nD) (i : grid2.Coords) (arg1 : Memref sig .tc .vmem S256x18432 .bf16) (harg1 : arg1.IsWhole) (arg2 : Memref sig .tc .vmem S18432x256 .fp8e4m3) (harg2 : arg2.IsWhole) (arg3 : Memref sig .tc .vmem S576x256 .i8) (harg3 : arg3.IsWhole) (arg4 : Memref sig .tc .vmem S256x256 .bf16) (harg4 : arg4.IsWhole) (arg5 : Memref sig .tc .vmem S576x256 .i32) (harg5 : arg5.IsWhole)
    (x0 : Vec F S256x18432 .bf16) (x1 : Vec F S18432x256 .fp8e4m3) (x2 : Vec F S576x256 .i8) :
    Σ' (L3 : List (View.Piece (Elt F) S256x256 .bf16)), { LT0 : List (View.Piece (Elt F) S576x256 .i32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d)
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f LT0)) -∗ K ⟨⟩))
          ⊢ wp frame (wpE (defs₀ (F := F)) Variants.none c none) E (cc2_down i arg1 harg1 arg2 harg2 arg3 harg3 arg4 harg4 arg5 harg5) K } := by
  refine ⟨?_, ?_, fun E K => ?run⟩
  case run =>
    simp only [cc2_down_eq_skeleton]; unfold cc2_down_skel
    simp only [k2_part111_eq_skeleton, k2_part1_eq_skeleton, k2_part2_eq_skeleton, k2_part3_eq_skeleton, k2_part4_eq_skeleton, k2_part5_eq_skeleton, k2_part6_eq_skeleton, k2_part7_eq_skeleton, k2_part8_eq_skeleton, k2_part9_eq_skeleton, k2_part10_eq_skeleton, k2_part11_eq_skeleton, k2_part12_eq_skeleton, k2_part13_eq_skeleton, k2_part14_eq_skeleton, k2_part15_eq_skeleton, k2_part16_eq_skeleton, k2_part17_eq_skeleton, k2_part18_eq_skeleton, k2_part19_eq_skeleton, k2_part20_eq_skeleton, k2_part21_eq_skeleton, k2_part22_eq_skeleton, k2_part23_eq_skeleton, k2_part24_eq_skeleton, k2_part25_eq_skeleton, k2_part26_eq_skeleton, k2_part27_eq_skeleton, k2_part28_eq_skeleton, k2_part29_eq_skeleton, k2_part30_eq_skeleton, k2_part31_eq_skeleton, k2_part32_eq_skeleton, k2_part33_eq_skeleton, k2_part34_eq_skeleton, k2_part35_eq_skeleton, k2_part36_eq_skeleton, k2_part37_eq_skeleton, k2_part38_eq_skeleton, k2_part39_eq_skeleton, k2_part40_eq_skeleton, k2_part41_eq_skeleton, k2_part42_eq_skeleton, k2_part43_eq_skeleton, k2_part44_eq_skeleton, k2_part45_eq_skeleton, k2_part46_eq_skeleton, k2_part47_eq_skeleton, k2_part48_eq_skeleton, k2_part49_eq_skeleton, k2_part50_eq_skeleton, k2_part51_eq_skeleton, k2_part52_eq_skeleton, k2_part53_eq_skeleton, k2_part54_eq_skeleton, k2_part55_eq_skeleton, k2_part56_eq_skeleton, k2_part57_eq_skeleton, k2_part58_eq_skeleton, k2_part59_eq_skeleton, k2_part60_eq_skeleton, k2_part112_eq_skeleton, k2_part61_eq_skeleton, k2_part62_eq_skeleton, k2_part63_eq_skeleton, k2_part64_eq_skeleton, k2_part65_eq_skeleton, k2_part66_eq_skeleton, k2_part67_eq_skeleton, k2_part68_eq_skeleton, k2_part69_eq_skeleton, k2_part70_eq_skeleton, k2_part71_eq_skeleton, k2_part72_eq_skeleton, k2_part73_eq_skeleton, k2_part74_eq_skeleton, k2_part75_eq_skeleton, k2_part76_eq_skeleton, k2_part77_eq_skeleton, k2_part78_eq_skeleton, k2_part79_eq_skeleton, k2_part80_eq_skeleton, k2_part81_eq_skeleton, k2_part82_eq_skeleton, k2_part83_eq_skeleton, k2_part84_eq_skeleton, k2_part85_eq_skeleton, k2_part86_eq_skeleton, k2_part87_eq_skeleton, k2_part88_eq_skeleton, k2_part89_eq_skeleton, k2_part90_eq_skeleton, k2_part91_eq_skeleton, k2_part92_eq_skeleton, k2_part93_eq_skeleton, k2_part94_eq_skeleton, k2_part95_eq_skeleton, k2_part96_eq_skeleton, k2_part97_eq_skeleton, k2_part98_eq_skeleton, k2_part99_eq_skeleton, k2_part100_eq_skeleton, k2_part101_eq_skeleton, k2_part102_eq_skeleton, k2_part103_eq_skeleton, k2_part104_eq_skeleton, k2_part105_eq_skeleton, k2_part106_eq_skeleton, k2_part107_eq_skeleton, k2_part108_eq_skeleton, k2_part109_eq_skeleton, k2_part110_eq_skeleton]
    unfold owns
    iintro ⟨⟨%f0, %hf0, H0⟩, ⟨%f1, %hf1, H1⟩, ⟨%f2, %hf2, H2⟩, ⟨%d3, %f3, -, H3⟩, ⟨%ds0, %fs0, -, HS0⟩, Hk⟩
    obtain rfl := harg1.eq_unread hf0; obtain rfl := harg2.eq_unread hf1; obtain rfl := harg3.eq_unread hf2
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    iexists _; iexact HS0

end Cert.KernelIdeal.Run
-- ==== Proof.Pages.lean ====
/-
  A block of 256 columns as two halves, and the pages of scales carried in scratch from one grid point to the next.
-/
module

public import proofs.«01_k».proof.Proof.Quant
public import Idealize.ShloMosaic.Lib.WritesUnit
public import Idealize.ShloMosaic.Lib.Pointwise
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

theorem up_apply (a : FVec F S256x128 .f32) (r : Fin 256) (l : Fin 128) :
    shapeCast S1x256x128 a shapeCasts_S256x128_S1x256x128 (ix3 0 r l) = a (ix2 r l) := by
  pointwise
theorem down_apply (a : FVec F S1x256x128 .f32) (r : Fin 256) (l : Fin 128) :
    shapeCast S256x128 a shapeCasts_S1x256x128_S256x128 (ix2 r l) = a (ix3 0 r l) := by
  pointwise

/-- Columns `o … o + 127` of a block of 256 columns, as f32. -/
def part (x : Vec F S256x256 .bf16) (o : ℕ) : FVec F S256x128 .f32 :=
  extf .f32 (s := S256x128) (fun y => x (ix2 (y 0) ⟨(o + (y 1).val) % 256, Nat.mod_lt _ (by decide)⟩)) bitsLt_bf16_f32

/-- Block columns 0 … 127 by `h 0`, 128 … 255 by `h 128`. -/
def pair {e : EltTy} (h : ℕ → S256x128.Idx → Elt F e) : S256x256.Idx → Elt F e :=
  fun y => h (128 * ((y 1).val / 128)) (ix2 (y 0) ⟨(y 1).val % 128, Nat.mod_lt _ (by decide)⟩)

theorem read_pair {e : EltTy} (v : View sig .tc .vmem S256x256 e) (f : v.ty.Contents (Elt F)) (h : ℕ → S256x128.Idx → Elt F e)
    (inb1 : ∀ a, (![0, 128] : Fin 2 → ℕ) a + (![256, 128] : Fin 2 → ℕ) a ≤ S256x256.size a)
    (inb0 : ∀ a, (![0, 0] : Fin 2 → ℕ) a + (![256, 128] : Fin 2 → ℕ) a ≤ S256x256.size a) :
    v.read (Elt F) (v.writes (Elt F) f [⟨Rect.unit (s := S256x256) ![0, 128] ![256, 128] inb1, h 128⟩, ⟨Rect.unit (s := S256x256) ![0, 0] ![256, 128] inb0, h 0⟩]) = pair h := by
  funext y
  unfold pair
  have hy : (y 1).val < 256 := (y 1).isLt
  by_cases hc : (y 1).val < 128
  · rw [View.read_writes_cons_unit_of_not_mem v f inb1 (h 128) _ y rfl (1 : Fin 2) (Or.inl hc)]
    rw [View.read_writes_cons_unit_of_mem v f inb0 (h 0) _ y (ix2 (y 0) ⟨(y 1).val % 128, Nat.mod_lt _ (by decide)⟩) rfl (fun a => by
      match a with
      | ⟨0, _⟩ => show (y 0).val = 0 + (y 0).val; omega
      | ⟨1, _⟩ => show (y 1).val = 0 + (y 1).val % 128; omega)]
    rw [show 128 * ((y 1).val / 128) = 0 by omega]
  · rw [View.read_writes_cons_unit_of_mem v f inb1 (h 128) _ y (ix2 (y 0) ⟨(y 1).val % 128, Nat.mod_lt _ (by decide)⟩) rfl (fun a => by
      match a with
      | ⟨0, _⟩ => show (y 0).val = 0 + (y 0).val; omega
      | ⟨1, _⟩ => show (y 1).val = 128 + (y 1).val % 128; omega)]
    rw [show 128 * ((y 1).val / 128) = 128 by omega]

/-! ## The scratch of 2 pages: what it holds before point `t` -/

/-- Every slot already put in holds the scales of its half block. -/
def Inv2 (g : ℕ → FVec F S256x128 .f32) (t : ℕ) (d : Vec F S2x256x128 .f32) : Prop :=
  ∀ (p : Fin 2) (r : Fin 256) (l : Fin 128), 32 * p.val + l.val / 4 < 2 * t →
    d (ix3 p r l) = g (32 * p.val + l.val / 4) (ix2 r ⟨l.val % 4 * 32, by omega⟩)

theorem inv2_zero (g : ℕ → FVec F S256x128 .f32) (d : Vec F S2x256x128 .f32) : Inv2 g 0 d := fun p r l h => by omega

theorem page2_read (v : View sig .tc .vmem S2x256x128 .f32) (f : v.ty.Contents (Elt F)) (p : Fin 2) (off : Fin 3 → ℕ) (ho : off = ![p.val, 0, 0])
    (inb : ∀ a, off a + S1x256x128.size a ≤ S2x256x128.size a) (r : Fin 256) (l : Fin 128) :
    v.readAt (Elt F) (Rect.unit (s := S2x256x128) off S1x256x128.size inb).toLoadRect f (ix3 0 r l) = v.read (Elt F) f (ix3 p r l) := by
  subst ho
  refine congrArg (v.read (Elt F) f) (funext fun a => Fin.ext ?_)
  match a with
  | ⟨0, _⟩ => show p.val + 1 * 0 = p.val; omega
  | ⟨1, _⟩ => show 0 + 1 * r.val = r.val; omega
  | ⟨2, _⟩ => show 0 + 1 * l.val = l.val; omega

/-- A point puts in its two slots. -/
theorem inv2_step (v : View sig .tc .vmem S2x256x128 .f32) (f : v.ty.Contents (Elt F)) (g : ℕ → FVec F S256x128 .f32) (t : ℕ) (ht : t < 28)
    (off0 off1 : Fin 3 → ℕ) (ho0 : off0 = ![t / 16, 0, 0]) (ho1 : off1 = ![t / 16, 0, 0])
    (inb0 : ∀ a, off0 a + S1x256x128.size a ≤ S2x256x128.size a) (inb1 : ∀ a, off1 a + S1x256x128.size a ≤ S2x256x128.size a)
    (hI : Inv2 g t (v.read (Elt F) f)) (w0 w1 : FVec F S1x256x128 .f32)
    (hw0 : w0 = shapeCast S1x256x128 (place (BitVec.ofNat 32 (2 * t % 32)) (shapeCast S256x128 (v.readAt (Elt F) (Rect.unit (s := S2x256x128) off0 S1x256x128.size inb0).toLoadRect f) shapeCasts_S1x256x128_S256x128) (g (2 * t))) shapeCasts_S256x128_S1x256x128)
    (hw1 : w1 = shapeCast S1x256x128 (place (BitVec.ofNat 32 ((2 * t + 1) % 32)) (shapeCast S256x128 w0 shapeCasts_S1x256x128_S256x128) (g (2 * t + 1))) shapeCasts_S256x128_S1x256x128) :
    Inv2 g (t + 1) (v.read (Elt F) (v.writes (Elt F) f [⟨Rect.unit (s := S2x256x128) off1 S1x256x128.size inb1, w1⟩, ⟨Rect.unit (s := S2x256x128) off0 S1x256x128.size inb0, w0⟩])) := by
  intro p r l h
  by_cases hp : p.val = t / 16
  · rw [View.read_writes_cons_unit_of_mem v f inb1 w1 _ (ix3 p r l) (ix3 0 r l) (ho1.trans (by rw [← hp])) (fun a => by
      match a with
      | ⟨0, _⟩ => rfl
      | ⟨1, _⟩ => show r.val = 0 + r.val; omega
      | ⟨2, _⟩ => show l.val = 0 + l.val; omega)]
    rw [hw1, up_apply, place_apply _ (by omega), down_apply, hw0, up_apply, place_apply _ (by omega), down_apply,
      page2_read v f p off0 (ho0.trans (by rw [← hp]))]
    split_ifs with h1 h2
    · rw [show 32 * p.val + l.val / 4 = 2 * t + 1 by omega]
    · rw [show 32 * p.val + l.val / 4 = 2 * t by omega]
    · exact hI p r l (by omega)
  · rw [View.read_writes_cons_unit_of_not_mem v f inb1 w1 _ (ix3 p r l) ho1 (0 : Fin 3) (by
      show p.val < t / 16 ∨ t / 16 + 1 ≤ p.val; omega)]
    rw [View.read_writes_cons_unit_of_not_mem v f inb0 w0 _ (ix3 p r l) ho0 (0 : Fin 3) (by
      show p.val < t / 16 ∨ t / 16 + 1 ≤ p.val; omega)]
    exact hI p r l (by omega)

/-! ## The scratch of 5 pages: what it holds before point `t` -/

/-- Every slot already put in holds the scales of its half block. -/
def Inv5 (g : ℕ → FVec F S256x128 .f32) (t : ℕ) (d : Vec F S5x256x128 .f32) : Prop :=
  ∀ (p : Fin 5) (r : Fin 256) (l : Fin 128), 32 * p.val + l.val / 4 < 2 * t →
    d (ix3 p r l) = g (32 * p.val + l.val / 4) (ix2 r ⟨l.val % 4 * 32, by omega⟩)

theorem inv5_zero (g : ℕ → FVec F S256x128 .f32) (d : Vec F S5x256x128 .f32) : Inv5 g 0 d := fun p r l h => by omega

theorem page5_read (v : View sig .tc .vmem S5x256x128 .f32) (f : v.ty.Contents (Elt F)) (p : Fin 5) (off : Fin 3 → ℕ) (ho : off = ![p.val, 0, 0])
    (inb : ∀ a, off a + S1x256x128.size a ≤ S5x256x128.size a) (r : Fin 256) (l : Fin 128) :
    v.readAt (Elt F) (Rect.unit (s := S5x256x128) off S1x256x128.size inb).toLoadRect f (ix3 0 r l) = v.read (Elt F) f (ix3 p r l) := by
  subst ho
  refine congrArg (v.read (Elt F) f) (funext fun a => Fin.ext ?_)
  match a with
  | ⟨0, _⟩ => show p.val + 1 * 0 = p.val; omega
  | ⟨1, _⟩ => show 0 + 1 * r.val = r.val; omega
  | ⟨2, _⟩ => show 0 + 1 * l.val = l.val; omega

/-- A point puts in its two slots. -/
theorem inv5_step (v : View sig .tc .vmem S5x256x128 .f32) (f : v.ty.Contents (Elt F)) (g : ℕ → FVec F S256x128 .f32) (t : ℕ) (ht : t < 72)
    (off0 off1 : Fin 3 → ℕ) (ho0 : off0 = ![t / 16, 0, 0]) (ho1 : off1 = ![t / 16, 0, 0])
    (inb0 : ∀ a, off0 a + S1x256x128.size a ≤ S5x256x128.size a) (inb1 : ∀ a, off1 a + S1x256x128.size a ≤ S5x256x128.size a)
    (hI : Inv5 g t (v.read (Elt F) f)) (w0 w1 : FVec F S1x256x128 .f32)
    (hw0 : w0 = shapeCast S1x256x128 (place (BitVec.ofNat 32 (2 * t % 32)) (shapeCast S256x128 (v.readAt (Elt F) (Rect.unit (s := S5x256x128) off0 S1x256x128.size inb0).toLoadRect f) shapeCasts_S1x256x128_S256x128) (g (2 * t))) shapeCasts_S256x128_S1x256x128)
    (hw1 : w1 = shapeCast S1x256x128 (place (BitVec.ofNat 32 ((2 * t + 1) % 32)) (shapeCast S256x128 w0 shapeCasts_S1x256x128_S256x128) (g (2 * t + 1))) shapeCasts_S256x128_S1x256x128) :
    Inv5 g (t + 1) (v.read (Elt F) (v.writes (Elt F) f [⟨Rect.unit (s := S5x256x128) off1 S1x256x128.size inb1, w1⟩, ⟨Rect.unit (s := S5x256x128) off0 S1x256x128.size inb0, w0⟩])) := by
  intro p r l h
  by_cases hp : p.val = t / 16
  · rw [View.read_writes_cons_unit_of_mem v f inb1 w1 _ (ix3 p r l) (ix3 0 r l) (ho1.trans (by rw [← hp])) (fun a => by
      match a with
      | ⟨0, _⟩ => rfl
      | ⟨1, _⟩ => show r.val = 0 + r.val; omega
      | ⟨2, _⟩ => show l.val = 0 + l.val; omega)]
    rw [hw1, up_apply, place_apply _ (by omega), down_apply, hw0, up_apply, place_apply _ (by omega), down_apply,
      page5_read v f p off0 (ho0.trans (by rw [← hp]))]
    split_ifs with h1 h2
    · rw [show 32 * p.val + l.val / 4 = 2 * t + 1 by omega]
    · rw [show 32 * p.val + l.val / 4 = 2 * t by omega]
    · exact hI p r l (by omega)
  · rw [View.read_writes_cons_unit_of_not_mem v f inb1 w1 _ (ix3 p r l) ho1 (0 : Fin 3) (by
      show p.val < t / 16 ∨ t / 16 + 1 ≤ p.val; omega)]
    rw [View.read_writes_cons_unit_of_not_mem v f inb0 w0 _ (ix3 p r l) ho0 (0 : Fin 3) (by
      show p.val < t / 16 ∨ t / 16 + 1 ≤ p.val; omega)]
    exact hI p r l (by omega)

end Cert.KernelIdeal.Run
-- ==== Proof.Win.lean ====
/-
  The windows of the three calls: which block each holds at a point, and when it is idle.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pointwise
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the contents of the core's buffers when the region is entered
variable (V : (c : Dev nD) → (b : Ref sig .tc) → Buf (Elt F) ((c : Thread nD τ).loc b))

/-! Each region's windows: their blocks, when they are idle, the staging buffers and the scratch. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

abbrev cond0_0 (i : grid0.Coords) : Prop := k0_cond1 i = 1#1
theorem hcond0_0 : ∀ t : Fin cfg0.N, cond0_0 (grid0.coords t) ↔ t.val % 28 = 27 :=
  (fun t => by
    have ht : t.val < 28 := Nat.lt_of_lt_of_eq t.isLt N_0
    have e0 : (grid0.coords t 0).val = t.val / 1 % 28 := Pipeline.Grid.coords_val t 0 (by decide) rfl
    simp only [cond0_0, k0_cond1, e0]
    word_cmp
   : ∀ t : Fin grid0.N, cond0_0 (grid0.coords t) ↔ t.val % 28 = 27)

theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem idleAt0_3_A : ∀ t : Fin cfg0.N, ¬cond0_0 (grid0.coords t) → cfg0.idle 3 (grid0.coords t) = true := by decide +kernel
theorem noFlush0_3_A : ∀ t : Fin cfg0.N, ¬cond0_0 (grid0.coords t) → (cfg0.win 3).flush t = false := by decide +kernel
theorem liveAt0_3_B : ∀ t : Fin cfg0.N, cond0_0 (grid0.coords t) → cfg0.idle 3 (grid0.coords t) = false := by decide +kernel

abbrev ms0_0 (t : Fin cfg0.N) : Memref sig .tc .vmem S256x256 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x256 .fp8e4m3 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x256 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S256x224 .f32 := win0_3.stage (cfg0.slots t 3)
abbrev hs0_3 (t : Fin cfg0.N) : (ms0_3 t).IsWhole := hstage0_3 ((cfg0.slots t 3).cast nbuf0_3)
abbrev scM0_0 : Memref sig .tc .vmem S2x256x128 .f32 := Memref.whole cc0_scratch0

theorem scopedRest0_flat (c : Dev nD) :
    (Pipeline.scopedRest spec0 c : sProp 𝕄)
      = iprop((∃ f : Buf (Elt F) ((c : Thread nD τ).loc cc0_scratch0), ((c : Thread nD τ).loc cc0_scratch0) ↦{fullShare} f) ∗ Pipeline.scopedRestBut spec0 c [cc0_scratch0]) := by
  rw [scopedRest0_split]

theorem PhiA0_eq (c : Dev nD) :
    (Pipeline.ΦA spec0 c : sProp 𝕄)
      = iprop(iprop((∃ d, owns (c : Thread nD τ) scM0_0 fullShare d) ∗ Pipeline.scopedRestBut spec0 c [cc0_scratch0]) ∗ (∃ r, prngReg c r)) := by
  unfold Pipeline.ΦA; rw [scopedRest0_flat]; simp only [scM0_0, owns_whole]; try rfl
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

abbrev cond1_0 (i : grid1.Coords) : Prop := k1_cond1 i = 1#1
theorem hcond1_0 : ∀ t : Fin cfg1.N, cond1_0 (grid1.coords t) ↔ t.val % 72 = 71 :=
  (fun t => by
    have ht : t.val < 72 := Nat.lt_of_lt_of_eq t.isLt N_1
    have e0 : (grid1.coords t 0).val = t.val / 1 % 72 := Pipeline.Grid.coords_val t 0 (by decide) rfl
    simp only [cond1_0, k1_cond1, e0]
    word_cmp
   : ∀ t : Fin grid1.N, cond1_0 (grid1.coords t) ↔ t.val % 72 = 71)

theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
theorem liveAt1_3 : ∀ t : Fin cfg1.N, cfg1.idle 3 (grid1.coords t) = false := fun _ => rfl
theorem liveAt1_4 : ∀ t : Fin cfg1.N, cfg1.idle 4 (grid1.coords t) = false := fun _ => rfl
theorem liveAt1_5 : ∀ t : Fin cfg1.N, cfg1.idle 5 (grid1.coords t) = false := fun _ => rfl
theorem liveAt1_6 : ∀ t : Fin cfg1.N, cfg1.idle 6 (grid1.coords t) = false := fun _ => rfl
theorem idleAt1_7_A : ∀ t : Fin cfg1.N, ¬cond1_0 (grid1.coords t) → cfg1.idle 7 (grid1.coords t) = true := by decide +kernel
theorem noFlush1_7_A : ∀ t : Fin cfg1.N, ¬cond1_0 (grid1.coords t) → (cfg1.win 7).flush t = false := by decide +kernel
theorem liveAt1_7_B : ∀ t : Fin cfg1.N, cond1_0 (grid1.coords t) → cfg1.idle 7 (grid1.coords t) = false := by decide +kernel

abbrev ms1_0 (t : Fin cfg1.N) : Memref sig .tc .vmem S256x7168 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S7168x256 .fp8e4m3 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S7168x256 .fp8e4m3 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S224x256 .i8 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S224x256 .i8 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S256x256 .fp8e4m3 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S256x256 .bf16 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S256x576 .f32 := win1_7.stage (cfg1.slots t 7)
abbrev hs1_7 (t : Fin cfg1.N) : (ms1_7 t).IsWhole := hstage1_7 ((cfg1.slots t 7).cast nbuf1_7)
abbrev scM1_0 : Memref sig .tc .vmem S224x256 .i32 := Memref.whole cc1_scratch0
abbrev scM1_1 : Memref sig .tc .vmem S224x256 .i32 := Memref.whole cc1_scratch1
abbrev scM1_2 : Memref sig .tc .vmem S5x256x128 .f32 := Memref.whole cc1_scratch2

theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_scratch0), ((c : Thread nD τ).loc cc0_scratch0) ↦{fullShare} f) ∗ (∃ d, owns (c : Thread nD τ) scM1_0 fullShare d) ∗ (∃ d, owns (c : Thread nD τ) scM1_1 fullShare d) ∗ (∃ d, owns (c : Thread nD τ) scM1_2 fullShare d) ∗ (∃ f : Buf (Elt F) ((c : Thread nD τ).loc cc2_stg0_0), ((c : Thread nD τ).loc cc2_stg0_0) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg1_1), ((c : Thread nD τ).loc cc2_stg1_1) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg3_1), ((c : Thread nD τ).loc cc2_stg3_1) ↦{fullShare} f) ∗ (∃ f : Buf (Elt F) ((c : Thread nD τ).loc cc2_scratch0), ((c : Thread nD τ).loc cc2_scratch0) ↦{fullShare} f)) ∗ (∃ r, prngReg c r)) := by
  unfold Pipeline.ΦA; rw [scopedRest1_eq]; simp only [scM1_0, scM1_1, scM1_2, owns_whole]; try rfl
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

abbrev ms2_0 (t : Fin cfg2.N) : Memref sig .tc .vmem S256x18432 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S18432x256 .fp8e4m3 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S576x256 .i8 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S256x256 .bf16 := win2_3.stage (cfg2.slots t 3)
abbrev hs2_3 (t : Fin cfg2.N) : (ms2_3 t).IsWhole := hstage2_3 ((cfg2.slots t 3).cast nbuf2_3)
abbrev scM2_0 : Memref sig .tc .vmem S576x256 .i32 := Memref.whole cc2_scratch0

theorem scopedRest2_flat (c : Dev nD) :
    (Pipeline.scopedRest spec2 c : sProp 𝕄)
      = iprop((∃ f : Buf (Elt F) ((c : Thread nD τ).loc cc2_scratch0), ((c : Thread nD τ).loc cc2_scratch0) ↦{fullShare} f) ∗ Pipeline.scopedRestBut spec2 c [cc2_scratch0]) := by
  rw [scopedRest2_split]

theorem PhiA2_eq (c : Dev nD) :
    (Pipeline.ΦA spec2 c : sProp 𝕄)
      = iprop(iprop((∃ d, owns (c : Thread nD τ) scM2_0 fullShare d) ∗ Pipeline.scopedRestBut spec2 c [cc2_scratch0]) ∗ (∃ r, prngReg c r)) := by
  unfold Pipeline.ΦA; rw [scopedRest2_flat]; simp only [scM2_0, owns_whole]; try rfl
end Cert.KernelIdeal.Run
-- ==== Proof.Dat2.lean ====
/-
  The third call, point by point: what its windows hold.
-/
module

public import proofs.«01_k».proof.Proof.Run2
public import proofs.«01_k».proof.Proof.Blk
public import proofs.«01_k».proof.Proof.Pages
public import proofs.«01_k».proof.Proof.Win

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the contents of the core's buffers when the region is entered
variable (V : (c : Dev nD) → (b : Ref sig .tc) → Buf (Elt F) ((c : Thread nD τ).loc b))

/-- The block of the result a point stores. -/
def out2 (x0 : Vec F S256x18432 .bf16) (x1 : Vec F S18432x256 .fp8e4m3) (x2 : Vec F S576x256 .i8) : Vec F S256x256 .bf16 :=
  truncf .bf16 (accD x0 x1 x2 35 (by decide)) bitsLt_bf16_f32
theorem out2_eq (c : Dev nD) (i : grid2.Coords) (arg1 : Memref sig .tc .vmem S256x18432 .bf16) (h1 : arg1.IsWhole) (arg2 : Memref sig .tc .vmem S18432x256 .fp8e4m3) (h2 : arg2.IsWhole) (arg3 : Memref sig .tc .vmem S576x256 .i8) (h3 : arg3.IsWhole) (arg4 : Memref sig .tc .vmem S256x256 .bf16) (h4 : arg4.IsWhole) (arg5 : Memref sig .tc .vmem S576x256 .i32) (h5 : arg5.IsWhole)     (x0 : Vec F S256x18432 .bf16) (x1 : Vec F S18432x256 .fp8e4m3) (x2 : Vec F S576x256 .i8)  (f : arg4.view.ty.Contents (Elt F)) :
    arg4.view.read (Elt F) (arg4.view.writes (Elt F) f (kernelRun2_A c i arg1 h1 arg2 h2 arg3 h3 arg4 h4 arg5 h5 x0 x1 x2).1) = out2 x0 x1 x2 := by
  have e : (kernelRun2_A c i arg1 h1 arg2 h2 arg3 h3 arg4 h4 arg5 h5 x0 x1 x2).1 = [⟨Rect.unit (s := S256x256) ![0, 0] S256x256.size inb_S256x256_S256x256_0_0, truncf .bf16 (accMD arg1 h1 arg2 h2 arg3 h3 arg5 x0 x1 x2 35 (by decide)) bitsLt_bf16_f32⟩] := by sl_kernel_rfl
  rw [e, accMD_eq]
  funext y
  exact View.read_writes_cons_unit_of_mem arg4.view f inb_S256x256_S256x256_0_0 _ _ y y rfl (fun a => by
    match a with
    | ⟨0, _⟩ => show (y 0).val = 0 + (y 0).val; omega
    | ⟨1, _⟩ => show (y 1).val = 0 + (y 1).val; omega)
/-- What the region's windows hold after each point. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2 (iblk2 V c 0 t) (iblk2 V c 1 t) (iblk2 V c 2 t)
  Φ _ := Pipeline.ΦA spec2 c
  q _ := fullShare
  owed _ := 0
theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2 (iblk2 V c 0 t) (iblk2 V c 1 t) (iblk2 V c 2 t) := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d)))

def bodyPost2 (c : Dev nD) (t : Fin cfg2.N) : sProp 𝕄 :=
  iprop((dat2 V c).Φ t.succ ∗ (dat2 V c).owesAt () t.succ
    ∗ owns (c : Thread nD τ) (ms2_0 t) fullShare ((dat2 V c).after 0 t)
    ∗ owns (c : Thread nD τ) (ms2_1 t) fullShare ((dat2 V c).after 1 t)
    ∗ owns (c : Thread nD τ) (ms2_2 t) fullShare ((dat2 V c).after 2 t)
    ∗ owns (c : Thread nD τ) (ms2_3 t) fullShare ((dat2 V c).after 3 t))

/-- The body at any point: the inputs' memrefs hold their blocks (`before2_W`); so the
    run applies; the invariant hands the body its scratch buffers at some contents (and the generator register) and takes them back at some contents (`PhiA_eq`); the core owes nothing throughout. -/theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  rw [show (dat2 V c).Φ t.castSucc = Pipeline.ΦA spec2 c from rfl, PhiA2_eq]
  iintro ⟨⟨⟨HS0, HR1⟩, Hg⟩, Ho, ⟨%d0, H0⟩, ⟨%d1, H1⟩, ⟨%d2, H2⟩, ⟨%d3, H3⟩⟩
  iapply ((kernelRun2_A c (grid2.coords t) (ms2_0 t) (hs2_0 t) (ms2_1 t) (hs2_1 t) (ms2_2 t) (hs2_2 t) (ms2_3 t) (hs2_3 t) scM2_0 (Memref.isWhole_whole _) (iblk2 V c 0 t) (iblk2 V c 1 t) (iblk2 V c 2 t)).2.2 Set.univ _)
  isplitl [H0]; · iexact H0
  isplitl [H1]; · iexact H1
  isplitl [H2]; · iexact H2
  isplitl [H3]; · iexists _; iexact H3
  isplitl [HS0]; · iexact HS0
  iintro ⟨H0, H1, H2, ⟨%e3, H3⟩, ⟨%fT0, HS0⟩⟩
  isplitl [HS0 HR1 Hg]
  · isplitl [HS0 HR1]
    · isplitl [HS0]
      · iexists _; unfold owns; iexists _; isplitr; swap; · iexact HS0
        ipureintro; rfl
      iexact HR1
    iexact Hg
  isplitl [Ho]; · iexact Ho
  isplitl [H0]; · iexact H0
  isplitl [H1]; · iexact H1
  isplitl [H2]; · iexact H2
  unfold owns; iexists _; isplitr
  swap; · iexact H3
  ipureintro; exact out2_eq _ _ _ _ _ _ _ _ _ _ _ _ _ _ _ _

theorem defs₀_row2 (t : Fin cfg2.N) :
    defs₀ (F := F) .tc cfg2.body (cfg2.bodyArgs t (cfg2.slots t)) = bodyAt2 t := by
  unfold defs₀; rw [Defs.onTc_tc]

theorem body_obligation2 (c : Dev nD) : BodyObligation (dat2 (F := F) V c) (defs₀ (F := F)) Variants.none () Set.univ := fun t => by
  rw [bigSep_W2, bigSep_W2, defs₀_row2]
  exact triple_restated (sound_body2 V c t) rfl .rfl fun _ => .rfl
end Cert.KernelIdeal.Run
-- ==== Proof.Run0.lean ====
/-
  The first call's body, run once: what its stores leave in the windows and in the scratch, at any point of the grid.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The page of the scratch a point writes, both halves of its block alike. -/
theorem k0_off1_eq : ∀ i : grid0.Coords, k0_off1 i 0#32 = ![(i 0).val / 16, 0, 0] ∧ k0_off1 i 1#32 = ![(i 0).val / 16, 0, 0] := by decide +kernel
/-- At the last point it is the second page. -/
theorem k0_off1_last : ∀ i : grid0.Coords, k0_cond1 i = 1#1 → k0_off1 i 0#32 = ![1, 0, 0] ∧ k0_off1 i 1#32 = ![1, 0, 0] := by decide +kernel

set_option maxHeartbeats 4000000 in
/-- The body of `cc0_quant_x` at a point where the scale window is left alone: the pieces its stores leave in
    each output's staging buffer and in the scratch, with the proof that it runs. -/
noncomputable def kernelRun0_A (c : Dev nD) (i : grid0.Coords) (arg1 : Memref sig .tc .vmem S256x256 .bf16) (harg1 : arg1.IsWhole) (arg2 : Memref sig .tc .vmem S256x256 .fp8e4m3) (harg2 : arg2.IsWhole) (arg3 : Memref sig .tc .vmem S256x256 .bf16) (harg3 : arg3.IsWhole) (arg4 : Memref sig .tc .vmem S256x224 .f32) (harg4 : arg4.IsWhole) (arg5 : Memref sig .tc .vmem S2x256x128 .f32) (harg5 : arg5.IsWhole) (hc0 : ¬k0_cond1 i = 1#1)
    (x0 : Vec F S256x256 .bf16) (d5 : Vec F S2x256x128 .f32) :
    Σ' (L1 : List (View.Piece (Elt F) S256x256 .fp8e4m3)), Σ' (L2 : List (View.Piece (Elt F) S256x256 .bf16)), Σ' (L3 : List (View.Piece (Elt F) S256x224 .f32)), { LT0 : List (View.Piece (Elt F) S2x256x128 .f32) //
      ∀ (xi3 : Vec F S256x224 .f32) (E : Set ℕ) (K : PUnit → sProp 𝕄),
        iprop(owns (c : Thread nD τ) arg1 fullShare x0 ∗ (∃ d, owns (c : Thread nD τ) arg2 fullShare d) ∗ (∃ d, owns (c : Thread nD τ) arg3 fullShare d) ∗ owns (c : Thread nD τ) arg4 fullShare xi3 ∗ owns (c : Thread nD τ) arg5 fullShare d5
            ∗ (iprop(owns (c : Thread nD τ) arg1 fullShare x0 ∗ (∃ f, arg2.view.loc (c : Thread nD τ) ↦[arg2.view.set]{fullShare} arg2.view.writes (Elt F) f L1) ∗ (∃ f, arg3.view.loc (c : Thread nD τ) ↦[arg3.view.set]{fullShare} arg3.view.writes (Elt F) f L2) ∗ owns (c : Thread nD τ) arg4 fullShare xi3 ∗ (arg5.view.loc (c : Thread nD τ) ↦[arg5.view.set]{fullShare} arg5.view.writes (Elt F) (harg5.unread d5) LT0)) -∗ K ⟨⟩))
          ⊢ wp frame (wpE (defs₀ (F := F)) Variants.none c none) E (cc0_quant_x i arg1 harg1 arg2 harg2 arg3 harg3 arg4 harg4 arg5 harg5) K } := by
  refine ⟨?_, ?_, [], ?_, fun xi3 E K => ?run⟩
  case run =>
    simp only [cc0_quant_x_eq_skeleton]; unfold cc0_quant_x_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton]
    unfold owns
    iintro ⟨⟨%f0, %hf0, H0⟩, ⟨%d1, %f1, -, H1⟩, ⟨%d2, %f2, -, H2⟩, ⟨%f3, %hf3, H3⟩, ⟨%fs0, %hfs0, HS0⟩, Hk⟩
    obtain rfl := harg1.eq_unread hf0; obtain rfl := harg5.eq_unread hfs0; obtain rfl := harg4.eq_unread hf3
    letI : ClosedOff (k0_off1 i 0#32) := ⟨![(i 0).val / 16, 0, 0], (k0_off1_eq i).1⟩
    letI : ClosedOff (k0_off1 i 1#32) := ⟨![(i 0).val / 16, 0, 0], (k0_off1_eq i).2⟩
    sl_exec (disch := first | sl_exact hc0)
    sl_step
    iapply Hk
    isplitl [H0]
    · iexists _; isplitr; · ipureintro; exact harg1.read_unread _
      iexact H0
    isplitl [H1]; · iexists _; iexact H1
    isplitl [H2]; · iexists _; iexact H2
    isplitl [H3]
    · iexists _; isplitr; · ipureintro; exact harg4.read_unread _
      iexact H3
    iexact HS0

set_option maxHeartbeats 4000000 in
/-- The body of `cc0_quant_x` at a point where the scale window is stored: the pieces its stores leave in
    each output's staging buffer and in the scratch, with the proof that it runs. -/
noncomputable def kernelRun0_B (c : Dev nD) (i : grid0.Coords) (arg1 : Memref sig .tc .vmem S256x256 .bf16) (harg1 : arg1.IsWhole) (arg2 : Memref sig .tc .vmem S256x256 .fp8e4m3) (harg2 : arg2.IsWhole) (arg3 : Memref sig .tc .vmem S256x256 .bf16) (harg3 : arg3.IsWhole) (arg4 : Memref sig .tc .vmem S256x224 .f32) (harg4 : arg4.IsWhole) (arg5 : Memref sig .tc .vmem S2x256x128 .f32) (harg5 : arg5.IsWhole) (hc0 : k0_cond1 i = 1#1)
    (x0 : Vec F S256x256 .bf16) (d5 : Vec F S2x256x128 .f32) :
    Σ' (L1 : List (View.Piece (Elt F) S256x256 .fp8e4m3)), Σ' (L2 : List (View.Piece (Elt F) S256x256 .bf16)), Σ' (L3 : List (View.Piece (Elt F) S256x224 .f32)), { LT0 : List (View.Piece (Elt F) S2x256x128 .f32) //
      ∀ (E : Set ℕ) (K : PUnit → sProp 𝕄),
        iprop(owns (c : Thread nD τ) arg1 fullShare x0 ∗ (∃ d, owns (c : Thread nD τ) arg2 fullShare d) ∗ (∃ d, owns (c : Thread nD τ) arg3 fullShare d) ∗ (∃ d, owns (c : Thread nD τ) arg4 fullShare d) ∗ owns (c : Thread nD τ) arg5 fullShare d5
            ∗ (iprop(owns (c : Thread nD τ) arg1 fullShare x0 ∗ (∃ f, arg2.view.loc (c : Thread nD τ) ↦[arg2.view.set]{fullShare} arg2.view.writes (Elt F) f L1) ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f L3) ∗ (arg5.view.loc (c : Thread nD τ) ↦[arg5.view.set]{fullShare} arg5.view.writes (Elt F) (harg5.unread d5) LT0)) -∗ K ⟨⟩))
          ⊢ wp frame (wpE (defs₀ (F := F)) Variants.none c none) E (cc0_quant_x i arg1 harg1 arg2 harg2 arg3 harg3 arg4 harg4 arg5 harg5) K } := by
  refine ⟨?_, ?_, ?_, ?_, fun E K => ?run⟩
  case run =>
    simp only [cc0_quant_x_eq_skeleton]; unfold cc0_quant_x_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton]
    unfold owns
    iintro ⟨⟨%f0, %hf0, H0⟩, ⟨%d1, %f1, -, H1⟩, ⟨%d2, %f2, -, H2⟩, ⟨%d3, %f3, -, H3⟩, ⟨%fs0, %hfs0, HS0⟩, Hk⟩
    obtain rfl := harg1.eq_unread hf0; obtain rfl := harg5.eq_unread hfs0
    letI : ClosedOff (k0_off1 i 0#32) := ⟨![1, 0, 0], (k0_off1_last i hc0).1⟩
    letI : ClosedOff (k0_off1 i 1#32) := ⟨![1, 0, 0], (k0_off1_last i hc0).2⟩
    sl_exec (disch := first | sl_exact hc0)
    sl_step
    iapply Hk
    isplitl [H0]
    · iexists _; isplitr; · ipureintro; exact harg1.read_unread _
      iexact H0
    isplitl [H1]; · iexists _; iexact H1
    isplitl [H2]; · iexists _; iexact H2
    isplitl [H3]
    · iexists _; iexact H3
    iexact HS0

end Cert.KernelIdeal.Run
-- ==== Proof.Reg0A.lean ====
/-
  The first call's stores, read as the quantiser of the block; and the array of scales its last point stores.
-/
module

public import proofs.«01_k».proof.Proof.Run0
public import proofs.«01_k».proof.Proof.Pages

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

theorem readCov_top {sig : RefSig} {κ : Kind} {sp : Space} {s : Shape} {e : EltTy} (v : View sig κ sp s e) {off0 off1 size : Fin s.rank → ℕ} (h : off0 = off1)
    (inb0 : ∀ a, off0 a + size a ≤ s.size a) (inb1 : ∀ a, off1 a + size a ≤ s.size a) (w : (Rect.unit off0 size inb0).shape.Idx → Elt F e) (L : List (View.Piece (Elt F) s e)) :
    v.readCov (⟨Rect.unit off0 size inb0, w⟩ :: L) (Rect.unit off1 size inb1).toLoadRect = w := by
  subst h; exact View.readCov_cons_toLoadRect v _ w L

theorem half_0 (x : Vec F S256x256 .bf16) : k0_pay3 (View.ld x (Rect.unit (s := S256x256) ![0, 0] S256x128.size inb_S256x256_S256x128_0_0)) = part x 0 := by
  funext y
  obtain ⟨r, l, rfl⟩ : ∃ (r : Fin 256) (l : Fin 128), y = ix2 r l := ⟨y 0, y 1, by funext a; match a with | ⟨0, _⟩ => rfl | ⟨1, _⟩ => rfl⟩
  pointwise [k0_pay3, part]
  refine congrArg _ (congrArg x (congrArg (ix2 r) (Fin.ext ?_)))
  show l.val = l.val % 256; omega
theorem half_1 (x : Vec F S256x256 .bf16) : k0_pay18 (View.ld x (Rect.unit (s := S256x256) ![0, 128] S256x128.size inb_S256x256_S256x128_0_128)) = part x 128 := by
  funext y
  obtain ⟨r, l, rfl⟩ : ∃ (r : Fin 256) (l : Fin 128), y = ix2 r l := ⟨y 0, y 1, by funext a; match a with | ⟨0, _⟩ => rfl | ⟨1, _⟩ => rfl⟩
  pointwise [k0_pay18, part]
  refine congrArg _ (congrArg x (congrArg (ix2 r) (Fin.ext ?_)))
  show 128 + l.val = (128 + l.val) % 256; omega
/-- The block's codes, and its dequantised values. -/
def codesPair (x : Vec F S256x256 .bf16) : Vec F S256x256 .fp8e4m3 := pair fun o => codesOf (part x o)
def deqPair (x : Vec F S256x256 .bf16) : Vec F S256x256 .bf16 := pair fun o => dequantOf (part x o)

theorem half0_A (c : Dev nD) (i : grid0.Coords) (arg1 : Memref sig .tc .vmem S256x256 .bf16) (h1 : arg1.IsWhole) (arg2 : Memref sig .tc .vmem S256x256 .fp8e4m3) (h2 : arg2.IsWhole) (arg3 : Memref sig .tc .vmem S256x256 .bf16) (h3 : arg3.IsWhole) (arg4 : Memref sig .tc .vmem S256x224 .f32) (h4 : arg4.IsWhole) (arg5 : Memref sig .tc .vmem S2x256x128 .f32) (h5 : arg5.IsWhole) (hc0 : ¬k0_cond1 i = 1#1)     (x0 : Vec F S256x256 .bf16) (d5 : Vec F S2x256x128 .f32)  : kernelRun0_A.sl.r c arg1 h1 x0 = part x0 0 := by
  show k0_pay3 (View.readAt (Elt F) arg1.view (Rect.unit (s := S256x256) ![0, 0] S256x128.size inb_S256x256_S256x128_0_0).toLoadRect (h1.unread x0)) = _
  rw [View.readAt_eq_ld, h1.read_unread]; exact half_0 x0
theorem half1_A (c : Dev nD) (i : grid0.Coords) (arg1 : Memref sig .tc .vmem S256x256 .bf16) (h1 : arg1.IsWhole) (arg2 : Memref sig .tc .vmem S256x256 .fp8e4m3) (h2 : arg2.IsWhole) (arg3 : Memref sig .tc .vmem S256x256 .bf16) (h3 : arg3.IsWhole) (arg4 : Memref sig .tc .vmem S256x224 .f32) (h4 : arg4.IsWhole) (arg5 : Memref sig .tc .vmem S2x256x128 .f32) (h5 : arg5.IsWhole) (hc0 : ¬k0_cond1 i = 1#1)     (x0 : Vec F S256x256 .bf16) (d5 : Vec F S2x256x128 .f32)  : kernelRun0_A.sl.r_9 c arg1 h1 x0 = part x0 128 := by
  show k0_pay18 (View.readAt (Elt F) arg1.view (Rect.unit (s := S256x256) ![0, 128] S256x128.size inb_S256x256_S256x128_0_128).toLoadRect (h1.unread x0)) = _
  rw [View.readAt_eq_ld, h1.read_unread]; exact half_1 x0

/-- The codes the body stores. -/
theorem codes0_A (c : Dev nD) (i : grid0.Coords) (arg1 : Memref sig .tc .vmem S256x256 .bf16) (h1 : arg1.IsWhole) (arg2 : Memref sig .tc .vmem S256x256 .fp8e4m3) (h2 : arg2.IsWhole) (arg3 : Memref sig .tc .vmem S256x256 .bf16) (h3 : arg3.IsWhole) (arg4 : Memref sig .tc .vmem S256x224 .f32) (h4 : arg4.IsWhole) (arg5 : Memref sig .tc .vmem S2x256x128 .f32) (h5 : arg5.IsWhole) (hc0 : ¬k0_cond1 i = 1#1)     (x0 : Vec F S256x256 .bf16) (d5 : Vec F S2x256x128 .f32)  (f : arg2.view.ty.Contents (Elt F)) :
    arg2.view.read (Elt F) (arg2.view.writes (Elt F) f (kernelRun0_A c i arg1 h1 arg2 h2 arg3 h3 arg4 h4 arg5 h5 hc0 x0 d5).1) = codesPair x0 := by
  have e : (kernelRun0_A c i arg1 h1 arg2 h2 arg3 h3 arg4 h4 arg5 h5 hc0 x0 d5).1 = [⟨Rect.unit (s := S256x256) ![0, 128] ![256, 128] inb_S256x256_S256x128_0_128, codesOf (kernelRun0_A.sl.r_9 c arg1 h1 x0)⟩,
      ⟨Rect.unit (s := S256x256) ![0, 0] ![256, 128] inb_S256x256_S256x128_0_0, codesOf (kernelRun0_A.sl.r c arg1 h1 x0)⟩] := by sl_kernel_rfl
  rw [e, half0_A c i arg1 h1 arg2 h2 arg3 h3 arg4 h4 arg5 h5 hc0 x0 d5, half1_A c i arg1 h1 arg2 h2 arg3 h3 arg4 h4 arg5 h5 hc0 x0 d5]
  exact read_pair arg2.view f (fun o => codesOf (part x0 o)) _ _

/-- The dequantised block the body stores. -/
theorem deq0_A (c : Dev nD) (i : grid0.Coords) (arg1 : Memref sig .tc .vmem S256x256 .bf16) (h1 : arg1.IsWhole) (arg2 : Memref sig .tc .vmem S256x256 .fp8e4m3) (h2 : arg2.IsWhole) (arg3 : Memref sig .tc .vmem S256x256 .bf16) (h3 : arg3.IsWhole) (arg4 : Memref sig .tc .vmem S256x224 .f32) (h4 : arg4.IsWhole) (arg5 : Memref sig .tc .vmem S2x256x128 .f32) (h5 : arg5.IsWhole) (hc0 : ¬k0_cond1 i = 1#1)     (x0 : Vec F S256x256 .bf16) (d5 : Vec F S2x256x128 .f32)  (f : arg3.view.ty.Contents (Elt F)) :
    arg3.view.read (Elt F) (arg3.view.writes (Elt F) f (kernelRun0_A c i arg1 h1 arg2 h2 arg3 h3 arg4 h4 arg5 h5 hc0 x0 d5).2.1) = deqPair x0 := by
  have e : (kernelRun0_A c i arg1 h1 arg2 h2 arg3 h3 arg4 h4 arg5 h5 hc0 x0 d5).2.1 = [⟨Rect.unit (s := S256x256) ![0, 128] ![256, 128] inb_S256x256_S256x128_0_128, dequantOf (kernelRun0_A.sl.r_9 c arg1 h1 x0)⟩,
      ⟨Rect.unit (s := S256x256) ![0, 0] ![256, 128] inb_S256x256_S256x128_0_0, dequantOf (kernelRun0_A.sl.r c arg1 h1 x0)⟩] := by sl_kernel_rfl
  rw [e, half0_A c i arg1 h1 arg2 h2 arg3 h3 arg4 h4 arg5 h5 hc0 x0 d5, half1_A c i arg1 h1 arg2 h2 arg3 h3 arg4 h4 arg5 h5 hc0 x0 d5]
  exact read_pair arg3.view f (fun o => dequantOf (part x0 o)) _ _

theorem pages0_A (c : Dev nD) (i : grid0.Coords) (arg1 : Memref sig .tc .vmem S256x256 .bf16) (h1 : arg1.IsWhole) (arg2 : Memref sig .tc .vmem S256x256 .fp8e4m3) (h2 : arg2.IsWhole) (arg3 : Memref sig .tc .vmem S256x256 .bf16) (h3 : arg3.IsWhole) (arg4 : Memref sig .tc .vmem S256x224 .f32) (h4 : arg4.IsWhole) (arg5 : Memref sig .tc .vmem S2x256x128 .f32) (h5 : arg5.IsWhole) (hc0 : ¬k0_cond1 i = 1#1)     (x0 : Vec F S256x256 .bf16) (d5 : Vec F S2x256x128 .f32)  (inb0 : ∀ a, k0_off1 i 0#32 a + S1x256x128.size a ≤ S2x256x128.size a) (inb1 : ∀ a, k0_off1 i 1#32 a + S1x256x128.size a ≤ S2x256x128.size a) :
    (kernelRun0_A c i arg1 h1 arg2 h2 arg3 h3 arg4 h4 arg5 h5 hc0 x0 d5).2.2.2.1 = [⟨Rect.unit (s := S2x256x128) (k0_off1 i 1#32) S1x256x128.size inb1, shapeCast S1x256x128 (place (slotOf (halfNo (i 0).val 1#32)) (shapeCast S256x128
        (View.readCov (Val := Elt F) arg5.view [⟨Rect.unit (s := S2x256x128) (k0_off1 i 0#32) S1x256x128.size inb0, shapeCast S1x256x128 (place (slotOf (halfNo (i 0).val 0#32)) (shapeCast S256x128 (arg5.view.readAt (Elt F) (Rect.unit (s := S2x256x128) (k0_off1 i 0#32) S1x256x128.size inb0).toLoadRect (h5.unread d5)) shapeCasts_S1x256x128_S256x128) (scaleOf (kernelRun0_A.sl.r c arg1 h1 x0))) shapeCasts_S256x128_S1x256x128⟩]
          (Rect.unit (s := S2x256x128) (k0_off1 i 1#32) S1x256x128.size inb1).toLoadRect) shapeCasts_S1x256x128_S256x128) (scaleOf (kernelRun0_A.sl.r_9 c arg1 h1 x0))) shapeCasts_S256x128_S1x256x128⟩,
      ⟨Rect.unit (s := S2x256x128) (k0_off1 i 0#32) S1x256x128.size inb0, shapeCast S1x256x128 (place (slotOf (halfNo (i 0).val 0#32)) (shapeCast S256x128 (arg5.view.readAt (Elt F) (Rect.unit (s := S2x256x128) (k0_off1 i 0#32) S1x256x128.size inb0).toLoadRect (h5.unread d5)) shapeCasts_S1x256x128_S256x128) (scaleOf (kernelRun0_A.sl.r c arg1 h1 x0))) shapeCasts_S256x128_S1x256x128⟩] := by sl_kernel_rfl

/-- The scratch after the body. -/
theorem scratch0_A (c : Dev nD) (i : grid0.Coords) (arg1 : Memref sig .tc .vmem S256x256 .bf16) (h1 : arg1.IsWhole) (arg2 : Memref sig .tc .vmem S256x256 .fp8e4m3) (h2 : arg2.IsWhole) (arg3 : Memref sig .tc .vmem S256x256 .bf16) (h3 : arg3.IsWhole) (arg4 : Memref sig .tc .vmem S256x224 .f32) (h4 : arg4.IsWhole) (arg5 : Memref sig .tc .vmem S2x256x128 .f32) (h5 : arg5.IsWhole) (hc0 : ¬k0_cond1 i = 1#1)     (x0 : Vec F S256x256 .bf16) (d5 : Vec F S2x256x128 .f32)  (g : ℕ → FVec F S256x128 .f32) (hg0 : g (2 * (i 0).val) = scaleOf (part x0 0)) (hg1 : g (2 * (i 0).val + 1) = scaleOf (part x0 128))
    (hI : Inv2 g (i 0).val d5) :
    Inv2 g ((i 0).val + 1) (arg5.view.read (Elt F) (arg5.view.writes (Elt F) (h5.unread d5) (kernelRun0_A c i arg1 h1 arg2 h2 arg3 h3 arg4 h4 arg5 h5 hc0 x0 d5).2.2.2.1)) := by
  have ht : (i 0).val < 28 := (i 0).isLt
  have hs := slot_eq ⟨(i 0).val, by omega⟩
  have inb (n : BitVec 32) (h : k0_off1 i n = ![(i 0).val / 16, 0, 0]) : ∀ a, k0_off1 i n a + S1x256x128.size a ≤ S2x256x128.size a := by
    rw [h]; intro a
    match a with
    | ⟨0, _⟩ => show (i 0).val / 16 + 1 ≤ 2; omega
    | ⟨1, _⟩ => show 0 + 256 ≤ 256; omega
    | ⟨2, _⟩ => show 0 + 128 ≤ 128; omega
  rw [pages0_A c i arg1 h1 arg2 h2 arg3 h3 arg4 h4 arg5 h5 hc0 x0 d5 (inb _ (k0_off1_eq i).1) (inb _ (k0_off1_eq i).2), half0_A c i arg1 h1 arg2 h2 arg3 h3 arg4 h4 arg5 h5 hc0 x0 d5, half1_A c i arg1 h1 arg2 h2 arg3 h3 arg4 h4 arg5 h5 hc0 x0 d5]
  refine inv2_step arg5.view (h5.unread d5) g (i 0).val ht _ _ (k0_off1_eq i).1 (k0_off1_eq i).2 _ _ (by rw [h5.read_unread]; exact hI) _ _ ?_ ?_
  · rw [hg0, hs.1]
  · rw [hg1, hs.2, readCov_top _ ((k0_off1_eq i).1.trans (k0_off1_eq i).2.symm)]

theorem half0_B (c : Dev nD) (i : grid0.Coords) (arg1 : Memref sig .tc .vmem S256x256 .bf16) (h1 : arg1.IsWhole) (arg2 : Memref sig .tc .vmem S256x256 .fp8e4m3) (h2 : arg2.IsWhole) (arg3 : Memref sig .tc .vmem S256x256 .bf16) (h3 : arg3.IsWhole) (arg4 : Memref sig .tc .vmem S256x224 .f32) (h4 : arg4.IsWhole) (arg5 : Memref sig .tc .vmem S2x256x128 .f32) (h5 : arg5.IsWhole) (hc0 : k0_cond1 i = 1#1)     (x0 : Vec F S256x256 .bf16) (d5 : Vec F S2x256x128 .f32)  : kernelRun0_B.sl.r c arg1 h1 x0 = part x0 0 := by
  show k0_pay3 (View.readAt (Elt F) arg1.view (Rect.unit (s := S256x256) ![0, 0] S256x128.size inb_S256x256_S256x128_0_0).toLoadRect (h1.unread x0)) = _
  rw [View.readAt_eq_ld, h1.read_unread]; exact half_0 x0
theorem half1_B (c : Dev nD) (i : grid0.Coords) (arg1 : Memref sig .tc .vmem S256x256 .bf16) (h1 : arg1.IsWhole) (arg2 : Memref sig .tc .vmem S256x256 .fp8e4m3) (h2 : arg2.IsWhole) (arg3 : Memref sig .tc .vmem S256x256 .bf16) (h3 : arg3.IsWhole) (arg4 : Memref sig .tc .vmem S256x224 .f32) (h4 : arg4.IsWhole) (arg5 : Memref sig .tc .vmem S2x256x128 .f32) (h5 : arg5.IsWhole) (hc0 : k0_cond1 i = 1#1)     (x0 : Vec F S256x256 .bf16) (d5 : Vec F S2x256x128 .f32)  : kernelRun0_B.sl.r_9 c arg1 h1 x0 = part x0 128 := by
  show k0_pay18 (View.readAt (Elt F) arg1.view (Rect.unit (s := S256x256) ![0, 128] S256x128.size inb_S256x256_S256x128_0_128).toLoadRect (h1.unread x0)) = _
  rw [View.readAt_eq_ld, h1.read_unread]; exact half_1 x0

/-- The codes the body stores. -/
theorem codes0_B (c : Dev nD) (i : grid0.Coords) (arg1 : Memref sig .tc .vmem S256x256 .bf16) (h1 : arg1.IsWhole) (arg2 : Memref sig .tc .vmem S256x256 .fp8e4m3) (h2 : arg2.IsWhole) (arg3 : Memref sig .tc .vmem S256x256 .bf16) (h3 : arg3.IsWhole) (arg4 : Memref sig .tc .vmem S256x224 .f32) (h4 : arg4.IsWhole) (arg5 : Memref sig .tc .vmem S2x256x128 .f32) (h5 : arg5.IsWhole) (hc0 : k0_cond1 i = 1#1)     (x0 : Vec F S256x256 .bf16) (d5 : Vec F S2x256x128 .f32)  (f : arg2.view.ty.Contents (Elt F)) :
    arg2.view.read (Elt F) (arg2.view.writes (Elt F) f (kernelRun0_B c i arg1 h1 arg2 h2 arg3 h3 arg4 h4 arg5 h5 hc0 x0 d5).1) = codesPair x0 := by
  have e : (kernelRun0_B c i arg1 h1 arg2 h2 arg3 h3 arg4 h4 arg5 h5 hc0 x0 d5).1 = [⟨Rect.unit (s := S256x256) ![0, 128] ![256, 128] inb_S256x256_S256x128_0_128, codesOf (kernelRun0_B.sl.r_9 c arg1 h1 x0)⟩,
      ⟨Rect.unit (s := S256x256) ![0, 0] ![256, 128] inb_S256x256_S256x128_0_0, codesOf (kernelRun0_B.sl.r c arg1 h1 x0)⟩] := by sl_kernel_rfl
  rw [e, half0_B c i arg1 h1 arg2 h2 arg3 h3 arg4 h4 arg5 h5 hc0 x0 d5, half1_B c i arg1 h1 arg2 h2 arg3 h3 arg4 h4 arg5 h5 hc0 x0 d5]
  exact read_pair arg2.view f (fun o => codesOf (part x0 o)) _ _

/-- The dequantised block the body stores. -/
theorem deq0_B (c : Dev nD) (i : grid0.Coords) (arg1 : Memref sig .tc .vmem S256x256 .bf16) (h1 : arg1.IsWhole) (arg2 : Memref sig .tc .vmem S256x256 .fp8e4m3) (h2 : arg2.IsWhole) (arg3 : Memref sig .tc .vmem S256x256 .bf16) (h3 : arg3.IsWhole) (arg4 : Memref sig .tc .vmem S256x224 .f32) (h4 : arg4.IsWhole) (arg5 : Memref sig .tc .vmem S2x256x128 .f32) (h5 : arg5.IsWhole) (hc0 : k0_cond1 i = 1#1)     (x0 : Vec F S256x256 .bf16) (d5 : Vec F S2x256x128 .f32)  (f : arg3.view.ty.Contents (Elt F)) :
    arg3.view.read (Elt F) (arg3.view.writes (Elt F) f (kernelRun0_B c i arg1 h1 arg2 h2 arg3 h3 arg4 h4 arg5 h5 hc0 x0 d5).2.1) = deqPair x0 := by
  have e : (kernelRun0_B c i arg1 h1 arg2 h2 arg3 h3 arg4 h4 arg5 h5 hc0 x0 d5).2.1 = [⟨Rect.unit (s := S256x256) ![0, 128] ![256, 128] inb_S256x256_S256x128_0_128, dequantOf (kernelRun0_B.sl.r_9 c arg1 h1 x0)⟩,
      ⟨Rect.unit (s := S256x256) ![0, 0] ![256, 128] inb_S256x256_S256x128_0_0, dequantOf (kernelRun0_B.sl.r c arg1 h1 x0)⟩] := by sl_kernel_rfl
  rw [e, half0_B c i arg1 h1 arg2 h2 arg3 h3 arg4 h4 arg5 h5 hc0 x0 d5, half1_B c i arg1 h1 arg2 h2 arg3 h3 arg4 h4 arg5 h5 hc0 x0 d5]
  exact read_pair arg3.view f (fun o => dequantOf (part x0 o)) _ _

theorem pages0_B (c : Dev nD) (i : grid0.Coords) (arg1 : Memref sig .tc .vmem S256x256 .bf16) (h1 : arg1.IsWhole) (arg2 : Memref sig .tc .vmem S256x256 .fp8e4m3) (h2 : arg2.IsWhole) (arg3 : Memref sig .tc .vmem S256x256 .bf16) (h3 : arg3.IsWhole) (arg4 : Memref sig .tc .vmem S256x224 .f32) (h4 : arg4.IsWhole) (arg5 : Memref sig .tc .vmem S2x256x128 .f32) (h5 : arg5.IsWhole) (hc0 : k0_cond1 i = 1#1)     (x0 : Vec F S256x256 .bf16) (d5 : Vec F S2x256x128 .f32)  (inb0 : ∀ a, k0_off1 i 0#32 a + S1x256x128.size a ≤ S2x256x128.size a) (inb1 : ∀ a, k0_off1 i 1#32 a + S1x256x128.size a ≤ S2x256x128.size a) :
    (kernelRun0_B c i arg1 h1 arg2 h2 arg3 h3 arg4 h4 arg5 h5 hc0 x0 d5).2.2.2.1 = [⟨Rect.unit (s := S2x256x128) (k0_off1 i 1#32) S1x256x128.size inb1, shapeCast S1x256x128 (place (slotOf (halfNo (i 0).val 1#32)) (shapeCast S256x128
        (View.readCov (Val := Elt F) arg5.view [⟨Rect.unit (s := S2x256x128) (k0_off1 i 0#32) S1x256x128.size inb0, shapeCast S1x256x128 (place (slotOf (halfNo (i 0).val 0#32)) (shapeCast S256x128 (arg5.view.readAt (Elt F) (Rect.unit (s := S2x256x128) (k0_off1 i 0#32) S1x256x128.size inb0).toLoadRect (h5.unread d5)) shapeCasts_S1x256x128_S256x128) (scaleOf (kernelRun0_B.sl.r c arg1 h1 x0))) shapeCasts_S256x128_S1x256x128⟩]
          (Rect.unit (s := S2x256x128) (k0_off1 i 1#32) S1x256x128.size inb1).toLoadRect) shapeCasts_S1x256x128_S256x128) (scaleOf (kernelRun0_B.sl.r_9 c arg1 h1 x0))) shapeCasts_S256x128_S1x256x128⟩,
      ⟨Rect.unit (s := S2x256x128) (k0_off1 i 0#32) S1x256x128.size inb0, shapeCast S1x256x128 (place (slotOf (halfNo (i 0).val 0#32)) (shapeCast S256x128 (arg5.view.readAt (Elt F) (Rect.unit (s := S2x256x128) (k0_off1 i 0#32) S1x256x128.size inb0).toLoadRect (h5.unread d5)) shapeCasts_S1x256x128_S256x128) (scaleOf (kernelRun0_B.sl.r c arg1 h1 x0))) shapeCasts_S256x128_S1x256x128⟩] := by sl_kernel_rfl

/-- The scratch after the body. -/
theorem scratch0_B (c : Dev nD) (i : grid0.Coords) (arg1 : Memref sig .tc .vmem S256x256 .bf16) (h1 : arg1.IsWhole) (arg2 : Memref sig .tc .vmem S256x256 .fp8e4m3) (h2 : arg2.IsWhole) (arg3 : Memref sig .tc .vmem S256x256 .bf16) (h3 : arg3.IsWhole) (arg4 : Memref sig .tc .vmem S256x224 .f32) (h4 : arg4.IsWhole) (arg5 : Memref sig .tc .vmem S2x256x128 .f32) (h5 : arg5.IsWhole) (hc0 : k0_cond1 i = 1#1)     (x0 : Vec F S256x256 .bf16) (d5 : Vec F S2x256x128 .f32)  (g : ℕ → FVec F S256x128 .f32) (hg0 : g (2 * (i 0).val) = scaleOf (part x0 0)) (hg1 : g (2 * (i 0).val + 1) = scaleOf (part x0 128))
    (hI : Inv2 g (i 0).val d5) :
    Inv2 g ((i 0).val + 1) (arg5.view.read (Elt F) (arg5.view.writes (Elt F) (h5.unread d5) (kernelRun0_B c i arg1 h1 arg2 h2 arg3 h3 arg4 h4 arg5 h5 hc0 x0 d5).2.2.2.1)) := by
  have ht : (i 0).val < 28 := (i 0).isLt
  have hs := slot_eq ⟨(i 0).val, by omega⟩
  have inb (n : BitVec 32) (h : k0_off1 i n = ![(i 0).val / 16, 0, 0]) : ∀ a, k0_off1 i n a + S1x256x128.size a ≤ S2x256x128.size a := by
    rw [h]; intro a
    match a with
    | ⟨0, _⟩ => show (i 0).val / 16 + 1 ≤ 2; omega
    | ⟨1, _⟩ => show 0 + 256 ≤ 256; omega
    | ⟨2, _⟩ => show 0 + 128 ≤ 128; omega
  rw [pages0_B c i arg1 h1 arg2 h2 arg3 h3 arg4 h4 arg5 h5 hc0 x0 d5 (inb _ (k0_off1_eq i).1) (inb _ (k0_off1_eq i).2), half0_B c i arg1 h1 arg2 h2 arg3 h3 arg4 h4 arg5 h5 hc0 x0 d5, half1_B c i arg1 h1 arg2 h2 arg3 h3 arg4 h4 arg5 h5 hc0 x0 d5]
  refine inv2_step arg5.view (h5.unread d5) g (i 0).val ht _ _ (k0_off1_eq i).1 (k0_off1_eq i).2 _ _ (by rw [h5.read_unread]; exact hI) _ _ ?_ ?_
  · rw [hg0, hs.1]
  · rw [hg1, hs.2, readCov_top _ ((k0_off1_eq i).1.trans (k0_off1_eq i).2.symm)]

/-- The scales' array the last point stores: group `k` of 32 columns has its scale from half block `k / 4`. -/
def scaleArr224 (g : ℕ → FVec F S256x128 .f32) : Vec F S256x224 .f32 :=
  fun y => g ((y 1).val / 4) (ix2 (y 0) ⟨(y 1).val % 4 * 32, by omega⟩)

theorem pay1_apply (p : FVec F S1x256x128 .f32) (r : Fin 256) (l : Fin 128) : k0_pay1 p (ix2 r l) = p (ix3 0 r l) := by
  pointwise [k0_pay1]
theorem pay2_apply (p : FVec F S1x256x128 .f32) (r : Fin 256) (l : Fin 96) : k0_pay2 p (ix2 r l) = p (ix3 0 r ⟨l.val, by omega⟩) := by
  pointwise [k0_pay2]

theorem read_scale224 (v : View sig .tc .vmem S256x224 .f32) (f : v.ty.Contents (Elt F)) (p0 p1 : FVec F S1x256x128 .f32) (g : ℕ → FVec F S256x128 .f32)
    (h0 : ∀ (r : Fin 256) (l : Fin 128), p0 (ix3 0 r l) = g (l.val / 4) (ix2 r ⟨l.val % 4 * 32, by omega⟩))
    (h1 : ∀ (r : Fin 256) (l : Fin 128), l.val < 96 → p1 (ix3 0 r l) = g (32 * 1 + l.val / 4) (ix2 r ⟨l.val % 4 * 32, by omega⟩)) :
    v.read (Elt F) (v.writes (Elt F) f [⟨Rect.unit (s := S256x224) ![0, 128] ![256, 96] inb_S256x224_S256x96_0_128, k0_pay2 p1⟩,
      ⟨Rect.unit (s := S256x224) ![0, 0] ![256, 128] inb_S256x224_S256x128_0_0, k0_pay1 p0⟩]) = scaleArr224 g := by
  funext y
  unfold scaleArr224
  have hy : (y 1).val < 224 := (y 1).isLt
  by_cases hc : (y 1).val < 128
  · rw [View.read_writes_cons_unit_of_not_mem v f inb_S256x224_S256x96_0_128 _ _ y rfl (1 : Fin 2) (Or.inl hc)]
    rw [View.read_writes_cons_unit_of_mem v f inb_S256x224_S256x128_0_0 _ _ y (ix2 (y 0) (⟨(y 1).val, hc⟩ : Fin 128)) rfl (fun a => by
      match a with
      | ⟨0, _⟩ => show (y 0).val = 0 + (y 0).val; omega
      | ⟨1, _⟩ => show (y 1).val = 0 + (y 1).val; omega)]
    exact (pay1_apply p0 _ _).trans (h0 _ _)
  · rw [View.read_writes_cons_unit_of_mem v f inb_S256x224_S256x96_0_128 _ _ y (ix2 (y 0) (⟨(y 1).val - 128, by omega⟩ : Fin 96)) rfl (fun a => by
      match a with
      | ⟨0, _⟩ => show (y 0).val = 0 + (y 0).val; omega
      | ⟨1, _⟩ => show (y 1).val = 128 + ((y 1).val - 128); omega)]
    refine (pay2_apply p1 _ _).trans ((h1 _ _ (by show (y 1).val - 128 < 96; omega)).trans ?_)
    have e1 : 32 * 1 + ((y 1).val - 128) / 4 = (y 1).val / 4 := by omega
    have e2 : ((y 1).val - 128) % 4 = (y 1).val % 4 := by omega
    simp only [e1, e2]

theorem scale0_B (c : Dev nD) (i : grid0.Coords) (arg1 : Memref sig .tc .vmem S256x256 .bf16) (h1 : arg1.IsWhole) (arg2 : Memref sig .tc .vmem S256x256 .fp8e4m3) (h2 : arg2.IsWhole) (arg3 : Memref sig .tc .vmem S256x256 .bf16) (h3 : arg3.IsWhole) (arg4 : Memref sig .tc .vmem S256x224 .f32) (h4 : arg4.IsWhole) (arg5 : Memref sig .tc .vmem S2x256x128 .f32) (h5 : arg5.IsWhole) (hc0 : k0_cond1 i = 1#1)     (x0 : Vec F S256x256 .bf16) (d5 : Vec F S2x256x128 .f32)  (f : arg4.view.ty.Contents (Elt F)) (hi : (i 0).val = 27) (g : ℕ → FVec F S256x128 .f32)
    (hg0 : g (2 * (i 0).val) = scaleOf (part x0 0)) (hg1 : g (2 * (i 0).val + 1) = scaleOf (part x0 128)) (hI : Inv2 g (i 0).val d5) :
    arg4.view.read (Elt F) (arg4.view.writes (Elt F) f (kernelRun0_B c i arg1 h1 arg2 h2 arg3 h3 arg4 h4 arg5 h5 hc0 x0 d5).2.2.1) = scaleArr224 g := by
  have hI' := scratch0_B c i arg1 h1 arg2 h2 arg3 h3 arg4 h4 arg5 h5 hc0 x0 d5 g hg0 hg1 hI
  have e : (kernelRun0_B c i arg1 h1 arg2 h2 arg3 h3 arg4 h4 arg5 h5 hc0 x0 d5).2.2.1 = [⟨Rect.unit (s := S256x224) ![0, 128] ![256, 96] inb_S256x224_S256x96_0_128,
        k0_pay2 (arg5.view.readCov ((kernelRun0_B c i arg1 h1 arg2 h2 arg3 h3 arg4 h4 arg5 h5 hc0 x0 d5).2.2.2.1) (Rect.unit (s := S2x256x128) ![1, 0, 0] ![1, 256, 128] inb_S2x256x128_S1x256x128_1_0_0).toLoadRect)⟩,
      ⟨Rect.unit (s := S256x224) ![0, 0] ![256, 128] inb_S256x224_S256x128_0_0, k0_pay1 (arg5.view.readAt (Elt F) (Rect.unit (s := S2x256x128) ![0, 0, 0] S1x256x128.size inb_S2x256x128_S1x256x128_0_0_0).toLoadRect (h5.unread d5))⟩] := by sl_kernel_rfl
  have inb (n : BitVec 32) (h : k0_off1 i n = ![1, 0, 0]) : ∀ a, k0_off1 i n a + S1x256x128.size a ≤ S2x256x128.size a := by
    rw [h]; intro a
    match a with
    | ⟨0, _⟩ => show 1 + 1 ≤ 2; omega
    | ⟨1, _⟩ => show 0 + 256 ≤ 256; omega
    | ⟨2, _⟩ => show 0 + 128 ≤ 128; omega
  have ho := k0_off1_last i hc0
  rw [e]
  refine read_scale224 arg4.view f _ _ g (fun r l => ?_) (fun r l hl => ?_)
  · refine (page2_read arg5.view (h5.unread d5) 0 ![0, 0, 0] rfl inb_S2x256x128_S1x256x128_0_0_0 r l).trans ?_
    rw [h5.read_unread, hI 0 r l (by show 32 * 0 + l.val / 4 < _; omega)]
    exact congrArg (fun k => g k _) (show 32 * 0 + l.val / 4 = l.val / 4 by omega)
  · have hq := hI' 1 r l (by show 32 * 1 + l.val / 4 < 2 * ((i 0).val + 1); omega)
    rw [pages0_B c i arg1 h1 arg2 h2 arg3 h3 arg4 h4 arg5 h5 hc0 x0 d5 (inb _ ho.1) (inb _ ho.2)] at hq ⊢
    refine Eq.trans ?_ hq
    rw [readCov_top (F := F) _ ho.2, View.read_writes_cons_unit_of_mem arg5.view (h5.unread d5) (inb _ ho.2) _ _ (ix3 1 r l) (ix3 0 r l) ho.2 (fun a => by
      match a with
      | ⟨0, _⟩ => rfl
      | ⟨1, _⟩ => show r.val = 0 + r.val; omega
      | ⟨2, _⟩ => show l.val = 0 + l.val; omega)]

end Cert.KernelIdeal.Run
-- ==== Proof.Reg1P.lean ====
/-
  The second call's stores where the array of scales is left alone, read as the quantiser of the gated block.
-/
module

public import proofs.«01_k».proof.Proof.Run1A
public import proofs.«01_k».proof.Proof.Pages
public import proofs.«01_k».proof.Proof.Blk
public import proofs.«01_k».proof.Proof.Reg0A

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

theorem slice_0 (x : FVec F S256x256 .f32) : extractStridedSlice S256x128 ![0, 0] x slices_S256x256_o0_0_S256x128 = slice x 0 := by
  funext y
  obtain ⟨r, l, rfl⟩ : ∃ (r : Fin 256) (l : Fin 128), y = ix2 r l := ⟨y 0, y 1, by funext a; match a with | ⟨0, _⟩ => rfl | ⟨1, _⟩ => rfl⟩
  refine congrArg x (funext fun a => Fin.ext ?_)
  match a with
  | ⟨0, _⟩ => show 0 + r.val = r.val; omega
  | ⟨1, _⟩ => show 0 + l.val = (0 + l.val) % 256; omega
theorem slice_1 (x : FVec F S256x256 .f32) : extractStridedSlice S256x128 ![0, 128] x slices_S256x256_o0_128_S256x128 = slice x 128 := by
  funext y
  obtain ⟨r, l, rfl⟩ : ∃ (r : Fin 256) (l : Fin 128), y = ix2 r l := ⟨y 0, y 1, by funext a; match a with | ⟨0, _⟩ => rfl | ⟨1, _⟩ => rfl⟩
  refine congrArg x (funext fun a => Fin.ext ?_)
  match a with
  | ⟨0, _⟩ => show 0 + r.val = r.val; omega
  | ⟨1, _⟩ => show 128 + l.val = (128 + l.val) % 256; omega

/-- The scales' array the last point stores: group `k` of 32 columns has its scale from half block `k / 4`. -/
def scaleArr576 (g : ℕ → FVec F S256x128 .f32) : Vec F S256x576 .f32 :=
  fun y => g ((y 1).val / 4) (ix2 (y 0) ⟨(y 1).val % 4 * 32, by omega⟩)

theorem k1pay1_apply (p : FVec F S1x256x128 .f32) (r : Fin 256) (l : Fin 128) : k1_pay1 p (ix2 r l) = p (ix3 0 r ⟨l.val, by omega⟩) := by
  pointwise [k1_pay1]

theorem k1pay2_apply (p : FVec F S1x256x128 .f32) (r : Fin 256) (l : Fin 128) : k1_pay2 p (ix2 r l) = p (ix3 0 r ⟨l.val, by omega⟩) := by
  pointwise [k1_pay2]

theorem k1pay3_apply (p : FVec F S1x256x128 .f32) (r : Fin 256) (l : Fin 128) : k1_pay3 p (ix2 r l) = p (ix3 0 r ⟨l.val, by omega⟩) := by
  pointwise [k1_pay3]

theorem k1pay4_apply (p : FVec F S1x256x128 .f32) (r : Fin 256) (l : Fin 128) : k1_pay4 p (ix2 r l) = p (ix3 0 r ⟨l.val, by omega⟩) := by
  pointwise [k1_pay4]

theorem k1pay5_apply (p : FVec F S1x256x128 .f32) (r : Fin 256) (l : Fin 64) : k1_pay5 p (ix2 r l) = p (ix3 0 r ⟨l.val, by omega⟩) := by
  pointwise [k1_pay5]

theorem read_scale576 (v : View sig .tc .vmem S256x576 .f32) (f : v.ty.Contents (Elt F)) (p0 p1 p2 p3 p4 : FVec F S1x256x128 .f32) (g : ℕ → FVec F S256x128 .f32)
    (h0 : ∀ (r : Fin 256) (l : Fin 128), l.val < 128 → p0 (ix3 0 r l) = g (32 * 0 + l.val / 4) (ix2 r ⟨l.val % 4 * 32, by omega⟩))
    (h1 : ∀ (r : Fin 256) (l : Fin 128), l.val < 128 → p1 (ix3 0 r l) = g (32 * 1 + l.val / 4) (ix2 r ⟨l.val % 4 * 32, by omega⟩))
    (h2 : ∀ (r : Fin 256) (l : Fin 128), l.val < 128 → p2 (ix3 0 r l) = g (32 * 2 + l.val / 4) (ix2 r ⟨l.val % 4 * 32, by omega⟩))
    (h3 : ∀ (r : Fin 256) (l : Fin 128), l.val < 128 → p3 (ix3 0 r l) = g (32 * 3 + l.val / 4) (ix2 r ⟨l.val % 4 * 32, by omega⟩))
    (h4 : ∀ (r : Fin 256) (l : Fin 128), l.val < 64 → p4 (ix3 0 r l) = g (32 * 4 + l.val / 4) (ix2 r ⟨l.val % 4 * 32, by omega⟩)) :
    v.read (Elt F) (v.writes (Elt F) f [⟨Rect.unit (s := S256x576) ![0, 512] ![256, 64] inb_S256x576_S256x64_0_512, k1_pay5 p4⟩, ⟨Rect.unit (s := S256x576) ![0, 384] ![256, 128] inb_S256x576_S256x128_0_384, k1_pay4 p3⟩, ⟨Rect.unit (s := S256x576) ![0, 256] ![256, 128] inb_S256x576_S256x128_0_256, k1_pay3 p2⟩, ⟨Rect.unit (s := S256x576) ![0, 128] ![256, 128] inb_S256x576_S256x128_0_128, k1_pay2 p1⟩, ⟨Rect.unit (s := S256x576) ![0, 0] ![256, 128] inb_S256x576_S256x128_0_0, k1_pay1 p0⟩]) = scaleArr576 g := by
  funext y
  unfold scaleArr576
  have hy : (y 1).val < 576 := (y 1).isLt
  by_cases hc4 : (y 1).val < 512
  swap
  · rw [View.read_writes_cons_unit_of_mem v f inb_S256x576_S256x64_0_512 _ _ y (ix2 (y 0) (⟨(y 1).val - 512, by omega⟩ : Fin 64)) rfl (fun a => by
      match a with
      | ⟨0, _⟩ => show (y 0).val = 0 + (y 0).val; omega
      | ⟨1, _⟩ => show (y 1).val = 512 + ((y 1).val - 512); omega)]
    refine (k1pay5_apply p4 _ _).trans ((h4 _ _ (by show (y 1).val - 512 < 64; omega)).trans ?_)
    have e1 : 32 * 4 + ((y 1).val - 512) / 4 = (y 1).val / 4 := by omega
    have e2 : ((y 1).val - 512) % 4 = (y 1).val % 4 := by omega
    simp only [e1, e2]
  rw [View.read_writes_cons_unit_of_not_mem v f inb_S256x576_S256x64_0_512 _ _ y rfl (1 : Fin 2) (Or.inl hc4)]
  by_cases hc3 : (y 1).val < 384
  swap
  · rw [View.read_writes_cons_unit_of_mem v f inb_S256x576_S256x128_0_384 _ _ y (ix2 (y 0) (⟨(y 1).val - 384, by omega⟩ : Fin 128)) rfl (fun a => by
      match a with
      | ⟨0, _⟩ => show (y 0).val = 0 + (y 0).val; omega
      | ⟨1, _⟩ => show (y 1).val = 384 + ((y 1).val - 384); omega)]
    refine (k1pay4_apply p3 _ _).trans ((h3 _ _ (by show (y 1).val - 384 < 128; omega)).trans ?_)
    have e1 : 32 * 3 + ((y 1).val - 384) / 4 = (y 1).val / 4 := by omega
    have e2 : ((y 1).val - 384) % 4 = (y 1).val % 4 := by omega
    simp only [e1, e2]
  rw [View.read_writes_cons_unit_of_not_mem v f inb_S256x576_S256x128_0_384 _ _ y rfl (1 : Fin 2) (Or.inl hc3)]
  by_cases hc2 : (y 1).val < 256
  swap
  · rw [View.read_writes_cons_unit_of_mem v f inb_S256x576_S256x128_0_256 _ _ y (ix2 (y 0) (⟨(y 1).val - 256, by omega⟩ : Fin 128)) rfl (fun a => by
      match a with
      | ⟨0, _⟩ => show (y 0).val = 0 + (y 0).val; omega
      | ⟨1, _⟩ => show (y 1).val = 256 + ((y 1).val - 256); omega)]
    refine (k1pay3_apply p2 _ _).trans ((h2 _ _ (by show (y 1).val - 256 < 128; omega)).trans ?_)
    have e1 : 32 * 2 + ((y 1).val - 256) / 4 = (y 1).val / 4 := by omega
    have e2 : ((y 1).val - 256) % 4 = (y 1).val % 4 := by omega
    simp only [e1, e2]
  rw [View.read_writes_cons_unit_of_not_mem v f inb_S256x576_S256x128_0_256 _ _ y rfl (1 : Fin 2) (Or.inl hc2)]
  by_cases hc1 : (y 1).val < 128
  swap
  · rw [View.read_writes_cons_unit_of_mem v f inb_S256x576_S256x128_0_128 _ _ y (ix2 (y 0) (⟨(y 1).val - 128, by omega⟩ : Fin 128)) rfl (fun a => by
      match a with
      | ⟨0, _⟩ => show (y 0).val = 0 + (y 0).val; omega
      | ⟨1, _⟩ => show (y 1).val = 128 + ((y 1).val - 128); omega)]
    refine (k1pay2_apply p1 _ _).trans ((h1 _ _ (by show (y 1).val - 128 < 128; omega)).trans ?_)
    have e1 : 32 * 1 + ((y 1).val - 128) / 4 = (y 1).val / 4 := by omega
    have e2 : ((y 1).val - 128) % 4 = (y 1).val % 4 := by omega
    simp only [e1, e2]
  rw [View.read_writes_cons_unit_of_not_mem v f inb_S256x576_S256x128_0_128 _ _ y rfl (1 : Fin 2) (Or.inl hc1)]
  rw [View.read_writes_cons_unit_of_mem v f inb_S256x576_S256x128_0_0 _ _ y (ix2 (y 0) (⟨(y 1).val - 0, by omega⟩ : Fin 128)) rfl (fun a => by
    match a with
    | ⟨0, _⟩ => show (y 0).val = 0 + (y 0).val; omega
    | ⟨1, _⟩ => show (y 1).val = 0 + ((y 1).val - 0); omega)]
  refine (k1pay1_apply p0 _ _).trans ((h0 _ _ (by show (y 1).val - 0 < 128; omega)).trans ?_)
  have e1 : 32 * 0 + ((y 1).val - 0) / 4 = (y 1).val / 4 := by omega
  have e2 : ((y 1).val - 0) % 4 = (y 1).val % 4 := by omega
  simp only [e1, e2]

theorem raw1_A (c : Dev nD) (i : grid1.Coords) (arg1 : Memref sig .tc .vmem S256x7168 .bf16) (h1 : arg1.IsWhole) (arg2 : Memref sig .tc .vmem S7168x256 .fp8e4m3) (h2 : arg2.IsWhole) (arg3 : Memref sig .tc .vmem S7168x256 .fp8e4m3) (h3 : arg3.IsWhole) (arg4 : Memref sig .tc .vmem S224x256 .i8) (h4 : arg4.IsWhole) (arg5 : Memref sig .tc .vmem S224x256 .i8) (h5 : arg5.IsWhole) (arg6 : Memref sig .tc .vmem S256x256 .fp8e4m3) (h6 : arg6.IsWhole) (arg7 : Memref sig .tc .vmem S256x256 .bf16) (h7 : arg7.IsWhole) (arg8 : Memref sig .tc .vmem S256x576 .f32) (h8 : arg8.IsWhole) (arg9 : Memref sig .tc .vmem S224x256 .i32) (h9 : arg9.IsWhole) (arg10 : Memref sig .tc .vmem S224x256 .i32) (h10 : arg10.IsWhole) (arg11 : Memref sig .tc .vmem S5x256x128 .f32) (h11 : arg11.IsWhole) (hc0 : ¬k1_cond1 i = 1#1)     (x0 : Vec F S256x7168 .bf16) (x1 : Vec F S7168x256 .fp8e4m3) (x2 : Vec F S7168x256 .fp8e4m3) (x3 : Vec F S224x256 .i8) (x4 : Vec F S224x256 .i8) (d11 : Vec F S5x256x128 .f32)  : (kernelRun1_A.sl.r_503 c arg1 h1 arg2 h2 arg3 h3 arg4 h4 arg5 h5 arg9 arg10 x0 x1 x2 x3 x4) = (gated x0 x1 x2 x3 x4) := by
  have e : (kernelRun1_A.sl.r_503 c arg1 h1 arg2 h2 arg3 h3 arg4 h4 arg5 h5 arg9 arg10 x0 x1 x2 x3 x4) = mulf (mulf (accMG arg1 h1 arg2 h2 arg4 h4 arg9 x0 x1 x3 13 (by decide)) (logistic (accMG arg1 h1 arg2 h2 arg4 h4 arg9 x0 x1 x3 13 (by decide))))
      (accMG arg1 h1 arg3 h3 arg5 h5 arg10 x0 x2 x4 13 (by decide)) := by sl_kernel_rfl
  rw [e, accMG_eq, accMG_eq]; rfl

/-- The codes the body stores. -/
theorem codes1_A (c : Dev nD) (i : grid1.Coords) (arg1 : Memref sig .tc .vmem S256x7168 .bf16) (h1 : arg1.IsWhole) (arg2 : Memref sig .tc .vmem S7168x256 .fp8e4m3) (h2 : arg2.IsWhole) (arg3 : Memref sig .tc .vmem S7168x256 .fp8e4m3) (h3 : arg3.IsWhole) (arg4 : Memref sig .tc .vmem S224x256 .i8) (h4 : arg4.IsWhole) (arg5 : Memref sig .tc .vmem S224x256 .i8) (h5 : arg5.IsWhole) (arg6 : Memref sig .tc .vmem S256x256 .fp8e4m3) (h6 : arg6.IsWhole) (arg7 : Memref sig .tc .vmem S256x256 .bf16) (h7 : arg7.IsWhole) (arg8 : Memref sig .tc .vmem S256x576 .f32) (h8 : arg8.IsWhole) (arg9 : Memref sig .tc .vmem S224x256 .i32) (h9 : arg9.IsWhole) (arg10 : Memref sig .tc .vmem S224x256 .i32) (h10 : arg10.IsWhole) (arg11 : Memref sig .tc .vmem S5x256x128 .f32) (h11 : arg11.IsWhole) (hc0 : ¬k1_cond1 i = 1#1)     (x0 : Vec F S256x7168 .bf16) (x1 : Vec F S7168x256 .fp8e4m3) (x2 : Vec F S7168x256 .fp8e4m3) (x3 : Vec F S224x256 .i8) (x4 : Vec F S224x256 .i8) (d11 : Vec F S5x256x128 .f32)  (f : arg6.view.ty.Contents (Elt F)) :
    arg6.view.read (Elt F) (arg6.view.writes (Elt F) f (kernelRun1_A c i arg1 h1 arg2 h2 arg3 h3 arg4 h4 arg5 h5 arg6 h6 arg7 h7 arg8 h8 arg9 h9 arg10 h10 arg11 h11 hc0 x0 x1 x2 x3 x4 d11).1) = pair fun o => codesOf (slice (gated x0 x1 x2 x3 x4) o) := by
  have e : (kernelRun1_A c i arg1 h1 arg2 h2 arg3 h3 arg4 h4 arg5 h5 arg6 h6 arg7 h7 arg8 h8 arg9 h9 arg10 h10 arg11 h11 hc0 x0 x1 x2 x3 x4 d11).1 = [⟨Rect.unit (s := S256x256) ![0, 128] ![256, 128] inb_S256x256_S256x128_0_128, codesOf (extractStridedSlice S256x128 ![0, 128] (kernelRun1_A.sl.r_503 c arg1 h1 arg2 h2 arg3 h3 arg4 h4 arg5 h5 arg9 arg10 x0 x1 x2 x3 x4) slices_S256x256_o0_128_S256x128)⟩,
      ⟨Rect.unit (s := S256x256) ![0, 0] ![256, 128] inb_S256x256_S256x128_0_0, codesOf (extractStridedSlice S256x128 ![0, 0] (kernelRun1_A.sl.r_503 c arg1 h1 arg2 h2 arg3 h3 arg4 h4 arg5 h5 arg9 arg10 x0 x1 x2 x3 x4) slices_S256x256_o0_0_S256x128)⟩] := by sl_kernel_rfl
  rw [e, raw1_A c i arg1 h1 arg2 h2 arg3 h3 arg4 h4 arg5 h5 arg6 h6 arg7 h7 arg8 h8 arg9 h9 arg10 h10 arg11 h11 hc0 x0 x1 x2 x3 x4 d11, slice_0, slice_1]
  exact read_pair arg6.view f (fun o => codesOf (slice (gated x0 x1 x2 x3 x4) o)) _ _

/-- The dequantised block the body stores. -/
theorem deq1_A (c : Dev nD) (i : grid1.Coords) (arg1 : Memref sig .tc .vmem S256x7168 .bf16) (h1 : arg1.IsWhole) (arg2 : Memref sig .tc .vmem S7168x256 .fp8e4m3) (h2 : arg2.IsWhole) (arg3 : Memref sig .tc .vmem S7168x256 .fp8e4m3) (h3 : arg3.IsWhole) (arg4 : Memref sig .tc .vmem S224x256 .i8) (h4 : arg4.IsWhole) (arg5 : Memref sig .tc .vmem S224x256 .i8) (h5 : arg5.IsWhole) (arg6 : Memref sig .tc .vmem S256x256 .fp8e4m3) (h6 : arg6.IsWhole) (arg7 : Memref sig .tc .vmem S256x256 .bf16) (h7 : arg7.IsWhole) (arg8 : Memref sig .tc .vmem S256x576 .f32) (h8 : arg8.IsWhole) (arg9 : Memref sig .tc .vmem S224x256 .i32) (h9 : arg9.IsWhole) (arg10 : Memref sig .tc .vmem S224x256 .i32) (h10 : arg10.IsWhole) (arg11 : Memref sig .tc .vmem S5x256x128 .f32) (h11 : arg11.IsWhole) (hc0 : ¬k1_cond1 i = 1#1)     (x0 : Vec F S256x7168 .bf16) (x1 : Vec F S7168x256 .fp8e4m3) (x2 : Vec F S7168x256 .fp8e4m3) (x3 : Vec F S224x256 .i8) (x4 : Vec F S224x256 .i8) (d11 : Vec F S5x256x128 .f32)  (f : arg7.view.ty.Contents (Elt F)) :
    arg7.view.read (Elt F) (arg7.view.writes (Elt F) f (kernelRun1_A c i arg1 h1 arg2 h2 arg3 h3 arg4 h4 arg5 h5 arg6 h6 arg7 h7 arg8 h8 arg9 h9 arg10 h10 arg11 h11 hc0 x0 x1 x2 x3 x4 d11).2.1) = pair fun o => dequantOf (slice (gated x0 x1 x2 x3 x4) o) := by
  have e : (kernelRun1_A c i arg1 h1 arg2 h2 arg3 h3 arg4 h4 arg5 h5 arg6 h6 arg7 h7 arg8 h8 arg9 h9 arg10 h10 arg11 h11 hc0 x0 x1 x2 x3 x4 d11).2.1 = [⟨Rect.unit (s := S256x256) ![0, 128] ![256, 128] inb_S256x256_S256x128_0_128, dequantOf (extractStridedSlice S256x128 ![0, 128] (kernelRun1_A.sl.r_503 c arg1 h1 arg2 h2 arg3 h3 arg4 h4 arg5 h5 arg9 arg10 x0 x1 x2 x3 x4) slices_S256x256_o0_128_S256x128)⟩,
      ⟨Rect.unit (s := S256x256) ![0, 0] ![256, 128] inb_S256x256_S256x128_0_0, dequantOf (extractStridedSlice S256x128 ![0, 0] (kernelRun1_A.sl.r_503 c arg1 h1 arg2 h2 arg3 h3 arg4 h4 arg5 h5 arg9 arg10 x0 x1 x2 x3 x4) slices_S256x256_o0_0_S256x128)⟩] := by sl_kernel_rfl
  rw [e, raw1_A c i arg1 h1 arg2 h2 arg3 h3 arg4 h4 arg5 h5 arg6 h6 arg7 h7 arg8 h8 arg9 h9 arg10 h10 arg11 h11 hc0 x0 x1 x2 x3 x4 d11, slice_0, slice_1]
  exact read_pair arg7.view f (fun o => dequantOf (slice (gated x0 x1 x2 x3 x4) o)) _ _

theorem pages1_A (c : Dev nD) (i : grid1.Coords) (arg1 : Memref sig .tc .vmem S256x7168 .bf16) (h1 : arg1.IsWhole) (arg2 : Memref sig .tc .vmem S7168x256 .fp8e4m3) (h2 : arg2.IsWhole) (arg3 : Memref sig .tc .vmem S7168x256 .fp8e4m3) (h3 : arg3.IsWhole) (arg4 : Memref sig .tc .vmem S224x256 .i8) (h4 : arg4.IsWhole) (arg5 : Memref sig .tc .vmem S224x256 .i8) (h5 : arg5.IsWhole) (arg6 : Memref sig .tc .vmem S256x256 .fp8e4m3) (h6 : arg6.IsWhole) (arg7 : Memref sig .tc .vmem S256x256 .bf16) (h7 : arg7.IsWhole) (arg8 : Memref sig .tc .vmem S256x576 .f32) (h8 : arg8.IsWhole) (arg9 : Memref sig .tc .vmem S224x256 .i32) (h9 : arg9.IsWhole) (arg10 : Memref sig .tc .vmem S224x256 .i32) (h10 : arg10.IsWhole) (arg11 : Memref sig .tc .vmem S5x256x128 .f32) (h11 : arg11.IsWhole) (hc0 : ¬k1_cond1 i = 1#1)     (x0 : Vec F S256x7168 .bf16) (x1 : Vec F S7168x256 .fp8e4m3) (x2 : Vec F S7168x256 .fp8e4m3) (x3 : Vec F S224x256 .i8) (x4 : Vec F S224x256 .i8) (d11 : Vec F S5x256x128 .f32)  (inb0 : ∀ a, k1_off1 i 0#32 a + S1x256x128.size a ≤ S5x256x128.size a) (inb1 : ∀ a, k1_off1 i 1#32 a + S1x256x128.size a ≤ S5x256x128.size a) :
    (kernelRun1_A c i arg1 h1 arg2 h2 arg3 h3 arg4 h4 arg5 h5 arg6 h6 arg7 h7 arg8 h8 arg9 h9 arg10 h10 arg11 h11 hc0 x0 x1 x2 x3 x4 d11).2.2.2.1 = [⟨Rect.unit (s := S5x256x128) (k1_off1 i 1#32) S1x256x128.size inb1, shapeCast S1x256x128 (place (slotOf (halfNo (i 0).val 1#32)) (shapeCast S256x128
        (View.readCov (Val := Elt F) arg11.view [⟨Rect.unit (s := S5x256x128) (k1_off1 i 0#32) S1x256x128.size inb0, shapeCast S1x256x128 (place (slotOf (halfNo (i 0).val 0#32)) (shapeCast S256x128 (arg11.view.readAt (Elt F) (Rect.unit (s := S5x256x128) (k1_off1 i 0#32) S1x256x128.size inb0).toLoadRect (h11.unread d11)) shapeCasts_S1x256x128_S256x128) (scaleOf (extractStridedSlice S256x128 ![0, 0] (kernelRun1_A.sl.r_503 c arg1 h1 arg2 h2 arg3 h3 arg4 h4 arg5 h5 arg9 arg10 x0 x1 x2 x3 x4) slices_S256x256_o0_0_S256x128))) shapeCasts_S256x128_S1x256x128⟩]
          (Rect.unit (s := S5x256x128) (k1_off1 i 1#32) S1x256x128.size inb1).toLoadRect) shapeCasts_S1x256x128_S256x128) (scaleOf (extractStridedSlice S256x128 ![0, 128] (kernelRun1_A.sl.r_503 c arg1 h1 arg2 h2 arg3 h3 arg4 h4 arg5 h5 arg9 arg10 x0 x1 x2 x3 x4) slices_S256x256_o0_128_S256x128))) shapeCasts_S256x128_S1x256x128⟩,
      ⟨Rect.unit (s := S5x256x128) (k1_off1 i 0#32) S1x256x128.size inb0, shapeCast S1x256x128 (place (slotOf (halfNo (i 0).val 0#32)) (shapeCast S256x128 (arg11.view.readAt (Elt F) (Rect.unit (s := S5x256x128) (k1_off1 i 0#32) S1x256x128.size inb0).toLoadRect (h11.unread d11)) shapeCasts_S1x256x128_S256x128) (scaleOf (extractStridedSlice S256x128 ![0, 0] (kernelRun1_A.sl.r_503 c arg1 h1 arg2 h2 arg3 h3 arg4 h4 arg5 h5 arg9 arg10 x0 x1 x2 x3 x4) slices_S256x256_o0_0_S256x128))) shapeCasts_S256x128_S1x256x128⟩] := by sl_kernel_rfl

/-- The scratch after the body. -/
theorem scratch1_A (c : Dev nD) (i : grid1.Coords) (arg1 : Memref sig .tc .vmem S256x7168 .bf16) (h1 : arg1.IsWhole) (arg2 : Memref sig .tc .vmem S7168x256 .fp8e4m3) (h2 : arg2.IsWhole) (arg3 : Memref sig .tc .vmem S7168x256 .fp8e4m3) (h3 : arg3.IsWhole) (arg4 : Memref sig .tc .vmem S224x256 .i8) (h4 : arg4.IsWhole) (arg5 : Memref sig .tc .vmem S224x256 .i8) (h5 : arg5.IsWhole) (arg6 : Memref sig .tc .vmem S256x256 .fp8e4m3) (h6 : arg6.IsWhole) (arg7 : Memref sig .tc .vmem S256x256 .bf16) (h7 : arg7.IsWhole) (arg8 : Memref sig .tc .vmem S256x576 .f32) (h8 : arg8.IsWhole) (arg9 : Memref sig .tc .vmem S224x256 .i32) (h9 : arg9.IsWhole) (arg10 : Memref sig .tc .vmem S224x256 .i32) (h10 : arg10.IsWhole) (arg11 : Memref sig .tc .vmem S5x256x128 .f32) (h11 : arg11.IsWhole) (hc0 : ¬k1_cond1 i = 1#1)     (x0 : Vec F S256x7168 .bf16) (x1 : Vec F S7168x256 .fp8e4m3) (x2 : Vec F S7168x256 .fp8e4m3) (x3 : Vec F S224x256 .i8) (x4 : Vec F S224x256 .i8) (d11 : Vec F S5x256x128 .f32)  (g : ℕ → FVec F S256x128 .f32) (hg0 : g (2 * (i 0).val) = scaleOf (slice (gated x0 x1 x2 x3 x4) 0)) (hg1 : g (2 * (i 0).val + 1) = scaleOf (slice (gated x0 x1 x2 x3 x4) 128))
    (hI : Inv5 g (i 0).val d11) :
    Inv5 g ((i 0).val + 1) (arg11.view.read (Elt F) (arg11.view.writes (Elt F) (h11.unread d11) (kernelRun1_A c i arg1 h1 arg2 h2 arg3 h3 arg4 h4 arg5 h5 arg6 h6 arg7 h7 arg8 h8 arg9 h9 arg10 h10 arg11 h11 hc0 x0 x1 x2 x3 x4 d11).2.2.2.1)) := by
  have ht : (i 0).val < 72 := (i 0).isLt
  have hs := slot_eq ⟨(i 0).val, by omega⟩
  have inb (n : BitVec 32) (h : k1_off1 i n = ![(i 0).val / 16, 0, 0]) : ∀ a, k1_off1 i n a + S1x256x128.size a ≤ S5x256x128.size a := by
    rw [h]; intro a
    match a with
    | ⟨0, _⟩ => show (i 0).val / 16 + 1 ≤ 5; omega
    | ⟨1, _⟩ => show 0 + 256 ≤ 256; omega
    | ⟨2, _⟩ => show 0 + 128 ≤ 128; omega
  rw [pages1_A c i arg1 h1 arg2 h2 arg3 h3 arg4 h4 arg5 h5 arg6 h6 arg7 h7 arg8 h8 arg9 h9 arg10 h10 arg11 h11 hc0 x0 x1 x2 x3 x4 d11 (inb _ (k1_off1_eq i).1) (inb _ (k1_off1_eq i).2), raw1_A c i arg1 h1 arg2 h2 arg3 h3 arg4 h4 arg5 h5 arg6 h6 arg7 h7 arg8 h8 arg9 h9 arg10 h10 arg11 h11 hc0 x0 x1 x2 x3 x4 d11, slice_0, slice_1]
  refine inv5_step arg11.view (h11.unread d11) g (i 0).val ht _ _ (k1_off1_eq i).1 (k1_off1_eq i).2 _ _ (by rw [h11.read_unread]; exact hI) _ _ ?_ ?_
  · rw [hg0, hs.1]
  · rw [hg1, hs.2, readCov_top _ ((k1_off1_eq i).1.trans (k1_off1_eq i).2.symm)]

end Cert.KernelIdeal.Run
-- ==== Proof.Reg1Q.lean ====
/-
  The second call's stores at its last point, read as the quantiser of the gated block.
-/
module

public import proofs.«01_k».proof.Proof.Run1B
public import proofs.«01_k».proof.Proof.Reg1P

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

theorem raw1_B (c : Dev nD) (i : grid1.Coords) (arg1 : Memref sig .tc .vmem S256x7168 .bf16) (h1 : arg1.IsWhole) (arg2 : Memref sig .tc .vmem S7168x256 .fp8e4m3) (h2 : arg2.IsWhole) (arg3 : Memref sig .tc .vmem S7168x256 .fp8e4m3) (h3 : arg3.IsWhole) (arg4 : Memref sig .tc .vmem S224x256 .i8) (h4 : arg4.IsWhole) (arg5 : Memref sig .tc .vmem S224x256 .i8) (h5 : arg5.IsWhole) (arg6 : Memref sig .tc .vmem S256x256 .fp8e4m3) (h6 : arg6.IsWhole) (arg7 : Memref sig .tc .vmem S256x256 .bf16) (h7 : arg7.IsWhole) (arg8 : Memref sig .tc .vmem S256x576 .f32) (h8 : arg8.IsWhole) (arg9 : Memref sig .tc .vmem S224x256 .i32) (h9 : arg9.IsWhole) (arg10 : Memref sig .tc .vmem S224x256 .i32) (h10 : arg10.IsWhole) (arg11 : Memref sig .tc .vmem S5x256x128 .f32) (h11 : arg11.IsWhole) (hc0 : k1_cond1 i = 1#1)     (x0 : Vec F S256x7168 .bf16) (x1 : Vec F S7168x256 .fp8e4m3) (x2 : Vec F S7168x256 .fp8e4m3) (x3 : Vec F S224x256 .i8) (x4 : Vec F S224x256 .i8) (d11 : Vec F S5x256x128 .f32)  : (kernelRun1_B.sl.r_503 c arg1 h1 arg2 h2 arg3 h3 arg4 h4 arg5 h5 arg9 arg10 x0 x1 x2 x3 x4) = (gated x0 x1 x2 x3 x4) := by
  have e : (kernelRun1_B.sl.r_503 c arg1 h1 arg2 h2 arg3 h3 arg4 h4 arg5 h5 arg9 arg10 x0 x1 x2 x3 x4) = mulf (mulf (accMG arg1 h1 arg2 h2 arg4 h4 arg9 x0 x1 x3 13 (by decide)) (logistic (accMG arg1 h1 arg2 h2 arg4 h4 arg9 x0 x1 x3 13 (by decide))))
      (accMG arg1 h1 arg3 h3 arg5 h5 arg10 x0 x2 x4 13 (by decide)) := by sl_kernel_rfl
  rw [e, accMG_eq, accMG_eq]; rfl

/-- The codes the body stores. -/
theorem codes1_B (c : Dev nD) (i : grid1.Coords) (arg1 : Memref sig .tc .vmem S256x7168 .bf16) (h1 : arg1.IsWhole) (arg2 : Memref sig .tc .vmem S7168x256 .fp8e4m3) (h2 : arg2.IsWhole) (arg3 : Memref sig .tc .vmem S7168x256 .fp8e4m3) (h3 : arg3.IsWhole) (arg4 : Memref sig .tc .vmem S224x256 .i8) (h4 : arg4.IsWhole) (arg5 : Memref sig .tc .vmem S224x256 .i8) (h5 : arg5.IsWhole) (arg6 : Memref sig .tc .vmem S256x256 .fp8e4m3) (h6 : arg6.IsWhole) (arg7 : Memref sig .tc .vmem S256x256 .bf16) (h7 : arg7.IsWhole) (arg8 : Memref sig .tc .vmem S256x576 .f32) (h8 : arg8.IsWhole) (arg9 : Memref sig .tc .vmem S224x256 .i32) (h9 : arg9.IsWhole) (arg10 : Memref sig .tc .vmem S224x256 .i32) (h10 : arg10.IsWhole) (arg11 : Memref sig .tc .vmem S5x256x128 .f32) (h11 : arg11.IsWhole) (hc0 : k1_cond1 i = 1#1)     (x0 : Vec F S256x7168 .bf16) (x1 : Vec F S7168x256 .fp8e4m3) (x2 : Vec F S7168x256 .fp8e4m3) (x3 : Vec F S224x256 .i8) (x4 : Vec F S224x256 .i8) (d11 : Vec F S5x256x128 .f32)  (f : arg6.view.ty.Contents (Elt F)) :
    arg6.view.read (Elt F) (arg6.view.writes (Elt F) f (kernelRun1_B c i arg1 h1 arg2 h2 arg3 h3 arg4 h4 arg5 h5 arg6 h6 arg7 h7 arg8 h8 arg9 h9 arg10 h10 arg11 h11 hc0 x0 x1 x2 x3 x4 d11).1) = pair fun o => codesOf (slice (gated x0 x1 x2 x3 x4) o) := by
  have e : (kernelRun1_B c i arg1 h1 arg2 h2 arg3 h3 arg4 h4 arg5 h5 arg6 h6 arg7 h7 arg8 h8 arg9 h9 arg10 h10 arg11 h11 hc0 x0 x1 x2 x3 x4 d11).1 = [⟨Rect.unit (s := S256x256) ![0, 128] ![256, 128] inb_S256x256_S256x128_0_128, codesOf (extractStridedSlice S256x128 ![0, 128] (kernelRun1_B.sl.r_503 c arg1 h1 arg2 h2 arg3 h3 arg4 h4 arg5 h5 arg9 arg10 x0 x1 x2 x3 x4) slices_S256x256_o0_128_S256x128)⟩,
      ⟨Rect.unit (s := S256x256) ![0, 0] ![256, 128] inb_S256x256_S256x128_0_0, codesOf (extractStridedSlice S256x128 ![0, 0] (kernelRun1_B.sl.r_503 c arg1 h1 arg2 h2 arg3 h3 arg4 h4 arg5 h5 arg9 arg10 x0 x1 x2 x3 x4) slices_S256x256_o0_0_S256x128)⟩] := by sl_kernel_rfl
  rw [e, raw1_B c i arg1 h1 arg2 h2 arg3 h3 arg4 h4 arg5 h5 arg6 h6 arg7 h7 arg8 h8 arg9 h9 arg10 h10 arg11 h11 hc0 x0 x1 x2 x3 x4 d11, slice_0, slice_1]
  exact read_pair arg6.view f (fun o => codesOf (slice (gated x0 x1 x2 x3 x4) o)) _ _

/-- The dequantised block the body stores. -/
theorem deq1_B (c : Dev nD) (i : grid1.Coords) (arg1 : Memref sig .tc .vmem S256x7168 .bf16) (h1 : arg1.IsWhole) (arg2 : Memref sig .tc .vmem S7168x256 .fp8e4m3) (h2 : arg2.IsWhole) (arg3 : Memref sig .tc .vmem S7168x256 .fp8e4m3) (h3 : arg3.IsWhole) (arg4 : Memref sig .tc .vmem S224x256 .i8) (h4 : arg4.IsWhole) (arg5 : Memref sig .tc .vmem S224x256 .i8) (h5 : arg5.IsWhole) (arg6 : Memref sig .tc .vmem S256x256 .fp8e4m3) (h6 : arg6.IsWhole) (arg7 : Memref sig .tc .vmem S256x256 .bf16) (h7 : arg7.IsWhole) (arg8 : Memref sig .tc .vmem S256x576 .f32) (h8 : arg8.IsWhole) (arg9 : Memref sig .tc .vmem S224x256 .i32) (h9 : arg9.IsWhole) (arg10 : Memref sig .tc .vmem S224x256 .i32) (h10 : arg10.IsWhole) (arg11 : Memref sig .tc .vmem S5x256x128 .f32) (h11 : arg11.IsWhole) (hc0 : k1_cond1 i = 1#1)     (x0 : Vec F S256x7168 .bf16) (x1 : Vec F S7168x256 .fp8e4m3) (x2 : Vec F S7168x256 .fp8e4m3) (x3 : Vec F S224x256 .i8) (x4 : Vec F S224x256 .i8) (d11 : Vec F S5x256x128 .f32)  (f : arg7.view.ty.Contents (Elt F)) :
    arg7.view.read (Elt F) (arg7.view.writes (Elt F) f (kernelRun1_B c i arg1 h1 arg2 h2 arg3 h3 arg4 h4 arg5 h5 arg6 h6 arg7 h7 arg8 h8 arg9 h9 arg10 h10 arg11 h11 hc0 x0 x1 x2 x3 x4 d11).2.1) = pair fun o => dequantOf (slice (gated x0 x1 x2 x3 x4) o) := by
  have e : (kernelRun1_B c i arg1 h1 arg2 h2 arg3 h3 arg4 h4 arg5 h5 arg6 h6 arg7 h7 arg8 h8 arg9 h9 arg10 h10 arg11 h11 hc0 x0 x1 x2 x3 x4 d11).2.1 = [⟨Rect.unit (s := S256x256) ![0, 128] ![256, 128] inb_S256x256_S256x128_0_128, dequantOf (extractStridedSlice S256x128 ![0, 128] (kernelRun1_B.sl.r_503 c arg1 h1 arg2 h2 arg3 h3 arg4 h4 arg5 h5 arg9 arg10 x0 x1 x2 x3 x4) slices_S256x256_o0_128_S256x128)⟩,
      ⟨Rect.unit (s := S256x256) ![0, 0] ![256, 128] inb_S256x256_S256x128_0_0, dequantOf (extractStridedSlice S256x128 ![0, 0] (kernelRun1_B.sl.r_503 c arg1 h1 arg2 h2 arg3 h3 arg4 h4 arg5 h5 arg9 arg10 x0 x1 x2 x3 x4) slices_S256x256_o0_0_S256x128)⟩] := by sl_kernel_rfl
  rw [e, raw1_B c i arg1 h1 arg2 h2 arg3 h3 arg4 h4 arg5 h5 arg6 h6 arg7 h7 arg8 h8 arg9 h9 arg10 h10 arg11 h11 hc0 x0 x1 x2 x3 x4 d11, slice_0, slice_1]
  exact read_pair arg7.view f (fun o => dequantOf (slice (gated x0 x1 x2 x3 x4) o)) _ _

theorem pages1_B (c : Dev nD) (i : grid1.Coords) (arg1 : Memref sig .tc .vmem S256x7168 .bf16) (h1 : arg1.IsWhole) (arg2 : Memref sig .tc .vmem S7168x256 .fp8e4m3) (h2 : arg2.IsWhole) (arg3 : Memref sig .tc .vmem S7168x256 .fp8e4m3) (h3 : arg3.IsWhole) (arg4 : Memref sig .tc .vmem S224x256 .i8) (h4 : arg4.IsWhole) (arg5 : Memref sig .tc .vmem S224x256 .i8) (h5 : arg5.IsWhole) (arg6 : Memref sig .tc .vmem S256x256 .fp8e4m3) (h6 : arg6.IsWhole) (arg7 : Memref sig .tc .vmem S256x256 .bf16) (h7 : arg7.IsWhole) (arg8 : Memref sig .tc .vmem S256x576 .f32) (h8 : arg8.IsWhole) (arg9 : Memref sig .tc .vmem S224x256 .i32) (h9 : arg9.IsWhole) (arg10 : Memref sig .tc .vmem S224x256 .i32) (h10 : arg10.IsWhole) (arg11 : Memref sig .tc .vmem S5x256x128 .f32) (h11 : arg11.IsWhole) (hc0 : k1_cond1 i = 1#1)     (x0 : Vec F S256x7168 .bf16) (x1 : Vec F S7168x256 .fp8e4m3) (x2 : Vec F S7168x256 .fp8e4m3) (x3 : Vec F S224x256 .i8) (x4 : Vec F S224x256 .i8) (d11 : Vec F S5x256x128 .f32)  (inb0 : ∀ a, k1_off1 i 0#32 a + S1x256x128.size a ≤ S5x256x128.size a) (inb1 : ∀ a, k1_off1 i 1#32 a + S1x256x128.size a ≤ S5x256x128.size a) :
    (kernelRun1_B c i arg1 h1 arg2 h2 arg3 h3 arg4 h4 arg5 h5 arg6 h6 arg7 h7 arg8 h8 arg9 h9 arg10 h10 arg11 h11 hc0 x0 x1 x2 x3 x4 d11).2.2.2.1 = [⟨Rect.unit (s := S5x256x128) (k1_off1 i 1#32) S1x256x128.size inb1, shapeCast S1x256x128 (place (slotOf (halfNo (i 0).val 1#32)) (shapeCast S256x128
        (View.readCov (Val := Elt F) arg11.view [⟨Rect.unit (s := S5x256x128) (k1_off1 i 0#32) S1x256x128.size inb0, shapeCast S1x256x128 (place (slotOf (halfNo (i 0).val 0#32)) (shapeCast S256x128 (arg11.view.readAt (Elt F) (Rect.unit (s := S5x256x128) (k1_off1 i 0#32) S1x256x128.size inb0).toLoadRect (h11.unread d11)) shapeCasts_S1x256x128_S256x128) (scaleOf (extractStridedSlice S256x128 ![0, 0] (kernelRun1_B.sl.r_503 c arg1 h1 arg2 h2 arg3 h3 arg4 h4 arg5 h5 arg9 arg10 x0 x1 x2 x3 x4) slices_S256x256_o0_0_S256x128))) shapeCasts_S256x128_S1x256x128⟩]
          (Rect.unit (s := S5x256x128) (k1_off1 i 1#32) S1x256x128.size inb1).toLoadRect) shapeCasts_S1x256x128_S256x128) (scaleOf (extractStridedSlice S256x128 ![0, 128] (kernelRun1_B.sl.r_503 c arg1 h1 arg2 h2 arg3 h3 arg4 h4 arg5 h5 arg9 arg10 x0 x1 x2 x3 x4) slices_S256x256_o0_128_S256x128))) shapeCasts_S256x128_S1x256x128⟩,
      ⟨Rect.unit (s := S5x256x128) (k1_off1 i 0#32) S1x256x128.size inb0, shapeCast S1x256x128 (place (slotOf (halfNo (i 0).val 0#32)) (shapeCast S256x128 (arg11.view.readAt (Elt F) (Rect.unit (s := S5x256x128) (k1_off1 i 0#32) S1x256x128.size inb0).toLoadRect (h11.unread d11)) shapeCasts_S1x256x128_S256x128) (scaleOf (extractStridedSlice S256x128 ![0, 0] (kernelRun1_B.sl.r_503 c arg1 h1 arg2 h2 arg3 h3 arg4 h4 arg5 h5 arg9 arg10 x0 x1 x2 x3 x4) slices_S256x256_o0_0_S256x128))) shapeCasts_S256x128_S1x256x128⟩] := by sl_kernel_rfl

/-- The scratch after the body. -/
theorem scratch1_B (c : Dev nD) (i : grid1.Coords) (arg1 : Memref sig .tc .vmem S256x7168 .bf16) (h1 : arg1.IsWhole) (arg2 : Memref sig .tc .vmem S7168x256 .fp8e4m3) (h2 : arg2.IsWhole) (arg3 : Memref sig .tc .vmem S7168x256 .fp8e4m3) (h3 : arg3.IsWhole) (arg4 : Memref sig .tc .vmem S224x256 .i8) (h4 : arg4.IsWhole) (arg5 : Memref sig .tc .vmem S224x256 .i8) (h5 : arg5.IsWhole) (arg6 : Memref sig .tc .vmem S256x256 .fp8e4m3) (h6 : arg6.IsWhole) (arg7 : Memref sig .tc .vmem S256x256 .bf16) (h7 : arg7.IsWhole) (arg8 : Memref sig .tc .vmem S256x576 .f32) (h8 : arg8.IsWhole) (arg9 : Memref sig .tc .vmem S224x256 .i32) (h9 : arg9.IsWhole) (arg10 : Memref sig .tc .vmem S224x256 .i32) (h10 : arg10.IsWhole) (arg11 : Memref sig .tc .vmem S5x256x128 .f32) (h11 : arg11.IsWhole) (hc0 : k1_cond1 i = 1#1)     (x0 : Vec F S256x7168 .bf16) (x1 : Vec F S7168x256 .fp8e4m3) (x2 : Vec F S7168x256 .fp8e4m3) (x3 : Vec F S224x256 .i8) (x4 : Vec F S224x256 .i8) (d11 : Vec F S5x256x128 .f32)  (g : ℕ → FVec F S256x128 .f32) (hg0 : g (2 * (i 0).val) = scaleOf (slice (gated x0 x1 x2 x3 x4) 0)) (hg1 : g (2 * (i 0).val + 1) = scaleOf (slice (gated x0 x1 x2 x3 x4) 128))
    (hI : Inv5 g (i 0).val d11) :
    Inv5 g ((i 0).val + 1) (arg11.view.read (Elt F) (arg11.view.writes (Elt F) (h11.unread d11) (kernelRun1_B c i arg1 h1 arg2 h2 arg3 h3 arg4 h4 arg5 h5 arg6 h6 arg7 h7 arg8 h8 arg9 h9 arg10 h10 arg11 h11 hc0 x0 x1 x2 x3 x4 d11).2.2.2.1)) := by
  have ht : (i 0).val < 72 := (i 0).isLt
  have hs := slot_eq ⟨(i 0).val, by omega⟩
  have inb (n : BitVec 32) (h : k1_off1 i n = ![(i 0).val / 16, 0, 0]) : ∀ a, k1_off1 i n a + S1x256x128.size a ≤ S5x256x128.size a := by
    rw [h]; intro a
    match a with
    | ⟨0, _⟩ => show (i 0).val / 16 + 1 ≤ 5; omega
    | ⟨1, _⟩ => show 0 + 256 ≤ 256; omega
    | ⟨2, _⟩ => show 0 + 128 ≤ 128; omega
  rw [pages1_B c i arg1 h1 arg2 h2 arg3 h3 arg4 h4 arg5 h5 arg6 h6 arg7 h7 arg8 h8 arg9 h9 arg10 h10 arg11 h11 hc0 x0 x1 x2 x3 x4 d11 (inb _ (k1_off1_eq i).1) (inb _ (k1_off1_eq i).2), raw1_B c i arg1 h1 arg2 h2 arg3 h3 arg4 h4 arg5 h5 arg6 h6 arg7 h7 arg8 h8 arg9 h9 arg10 h10 arg11 h11 hc0 x0 x1 x2 x3 x4 d11, slice_0, slice_1]
  refine inv5_step arg11.view (h11.unread d11) g (i 0).val ht _ _ (k1_off1_eq i).1 (k1_off1_eq i).2 _ _ (by rw [h11.read_unread]; exact hI) _ _ ?_ ?_
  · rw [hg0, hs.1]
  · rw [hg1, hs.2, readCov_top _ ((k1_off1_eq i).1.trans (k1_off1_eq i).2.symm)]

theorem scale1_B (c : Dev nD) (i : grid1.Coords) (arg1 : Memref sig .tc .vmem S256x7168 .bf16) (h1 : arg1.IsWhole) (arg2 : Memref sig .tc .vmem S7168x256 .fp8e4m3) (h2 : arg2.IsWhole) (arg3 : Memref sig .tc .vmem S7168x256 .fp8e4m3) (h3 : arg3.IsWhole) (arg4 : Memref sig .tc .vmem S224x256 .i8) (h4 : arg4.IsWhole) (arg5 : Memref sig .tc .vmem S224x256 .i8) (h5 : arg5.IsWhole) (arg6 : Memref sig .tc .vmem S256x256 .fp8e4m3) (h6 : arg6.IsWhole) (arg7 : Memref sig .tc .vmem S256x256 .bf16) (h7 : arg7.IsWhole) (arg8 : Memref sig .tc .vmem S256x576 .f32) (h8 : arg8.IsWhole) (arg9 : Memref sig .tc .vmem S224x256 .i32) (h9 : arg9.IsWhole) (arg10 : Memref sig .tc .vmem S224x256 .i32) (h10 : arg10.IsWhole) (arg11 : Memref sig .tc .vmem S5x256x128 .f32) (h11 : arg11.IsWhole) (hc0 : k1_cond1 i = 1#1)     (x0 : Vec F S256x7168 .bf16) (x1 : Vec F S7168x256 .fp8e4m3) (x2 : Vec F S7168x256 .fp8e4m3) (x3 : Vec F S224x256 .i8) (x4 : Vec F S224x256 .i8) (d11 : Vec F S5x256x128 .f32)  (f : arg8.view.ty.Contents (Elt F)) (hi : (i 0).val = 71) (g : ℕ → FVec F S256x128 .f32)
    (hg0 : g (2 * (i 0).val) = scaleOf (slice (gated x0 x1 x2 x3 x4) 0)) (hg1 : g (2 * (i 0).val + 1) = scaleOf (slice (gated x0 x1 x2 x3 x4) 128)) (hI : Inv5 g (i 0).val d11) :
    arg8.view.read (Elt F) (arg8.view.writes (Elt F) f (kernelRun1_B c i arg1 h1 arg2 h2 arg3 h3 arg4 h4 arg5 h5 arg6 h6 arg7 h7 arg8 h8 arg9 h9 arg10 h10 arg11 h11 hc0 x0 x1 x2 x3 x4 d11).2.2.1) = scaleArr576 g := by
  have hI' := scratch1_B c i arg1 h1 arg2 h2 arg3 h3 arg4 h4 arg5 h5 arg6 h6 arg7 h7 arg8 h8 arg9 h9 arg10 h10 arg11 h11 hc0 x0 x1 x2 x3 x4 d11 g hg0 hg1 hI
  have e : (kernelRun1_B c i arg1 h1 arg2 h2 arg3 h3 arg4 h4 arg5 h5 arg6 h6 arg7 h7 arg8 h8 arg9 h9 arg10 h10 arg11 h11 hc0 x0 x1 x2 x3 x4 d11).2.2.1 = [⟨Rect.unit (s := S256x576) ![0, 512] ![256, 64] inb_S256x576_S256x64_0_512, k1_pay5 (arg11.view.readCov ((kernelRun1_B c i arg1 h1 arg2 h2 arg3 h3 arg4 h4 arg5 h5 arg6 h6 arg7 h7 arg8 h8 arg9 h9 arg10 h10 arg11 h11 hc0 x0 x1 x2 x3 x4 d11).2.2.2.1) (Rect.unit (s := S5x256x128) ![4, 0, 0] ![1, 256, 128] inb_S5x256x128_S1x256x128_4_0_0).toLoadRect)⟩, ⟨Rect.unit (s := S256x576) ![0, 384] ![256, 128] inb_S256x576_S256x128_0_384, k1_pay4 (arg11.view.readAt (Elt F) (Rect.unit (s := S5x256x128) ![3, 0, 0] S1x256x128.size inb_S5x256x128_S1x256x128_3_0_0).toLoadRect (h11.unread d11))⟩, ⟨Rect.unit (s := S256x576) ![0, 256] ![256, 128] inb_S256x576_S256x128_0_256, k1_pay3 (arg11.view.readAt (Elt F) (Rect.unit (s := S5x256x128) ![2, 0, 0] S1x256x128.size inb_S5x256x128_S1x256x128_2_0_0).toLoadRect (h11.unread d11))⟩, ⟨Rect.unit (s := S256x576) ![0, 128] ![256, 128] inb_S256x576_S256x128_0_128, k1_pay2 (arg11.view.readAt (Elt F) (Rect.unit (s := S5x256x128) ![1, 0, 0] S1x256x128.size inb_S5x256x128_S1x256x128_1_0_0).toLoadRect (h11.unread d11))⟩, ⟨Rect.unit (s := S256x576) ![0, 0] ![256, 128] inb_S256x576_S256x128_0_0, k1_pay1 (arg11.view.readAt (Elt F) (Rect.unit (s := S5x256x128) ![0, 0, 0] S1x256x128.size inb_S5x256x128_S1x256x128_0_0_0).toLoadRect (h11.unread d11))⟩] := by sl_kernel_rfl
  have inb (n : BitVec 32) (h : k1_off1 i n = ![4, 0, 0]) : ∀ a, k1_off1 i n a + S1x256x128.size a ≤ S5x256x128.size a := by
    rw [h]; intro a
    match a with
    | ⟨0, _⟩ => show 4 + 1 ≤ 5; omega
    | ⟨1, _⟩ => show 0 + 256 ≤ 256; omega
    | ⟨2, _⟩ => show 0 + 128 ≤ 128; omega
  have ho := k1_off1_last i hc0
  rw [e]
  refine read_scale576 arg8.view f _ _ _ _ _ g (fun r l hl => ?_) (fun r l hl => ?_) (fun r l hl => ?_) (fun r l hl => ?_) (fun r l hl => ?_)
  · refine (page5_read arg11.view (h11.unread d11) 0 ![0, 0, 0] rfl inb_S5x256x128_S1x256x128_0_0_0 r l).trans ?_
    rw [h11.read_unread, hI 0 r l (by show 32 * 0 + l.val / 4 < _; omega)]
    rfl
  · refine (page5_read arg11.view (h11.unread d11) 1 ![1, 0, 0] rfl inb_S5x256x128_S1x256x128_1_0_0 r l).trans ?_
    rw [h11.read_unread, hI 1 r l (by show 32 * 1 + l.val / 4 < _; omega)]
    rfl
  · refine (page5_read arg11.view (h11.unread d11) 2 ![2, 0, 0] rfl inb_S5x256x128_S1x256x128_2_0_0 r l).trans ?_
    rw [h11.read_unread, hI 2 r l (by show 32 * 2 + l.val / 4 < _; omega)]
    rfl
  · refine (page5_read arg11.view (h11.unread d11) 3 ![3, 0, 0] rfl inb_S5x256x128_S1x256x128_3_0_0 r l).trans ?_
    rw [h11.read_unread, hI 3 r l (by show 32 * 3 + l.val / 4 < _; omega)]
    rfl
  · have hq := hI' 4 r l (by show 32 * 4 + l.val / 4 < 2 * ((i 0).val + 1); omega)
    rw [pages1_B c i arg1 h1 arg2 h2 arg3 h3 arg4 h4 arg5 h5 arg6 h6 arg7 h7 arg8 h8 arg9 h9 arg10 h10 arg11 h11 hc0 x0 x1 x2 x3 x4 d11 (inb _ ho.1) (inb _ ho.2)] at hq ⊢
    refine Eq.trans ?_ hq
    rw [readCov_top (F := F) _ ho.2, View.read_writes_cons_unit_of_mem arg11.view (h11.unread d11) (inb _ ho.2) _ _ (ix3 4 r l) (ix3 0 r l) ho.2 (fun a => by
      match a with
      | ⟨0, _⟩ => rfl
      | ⟨1, _⟩ => show r.val = 0 + r.val; omega
      | ⟨2, _⟩ => show l.val = 0 + l.val; omega)]

end Cert.KernelIdeal.Run
-- ==== Proof.Dat1.lean ====
/-
  The second call, point by point: what its windows hold and what is carried in the scratch.
-/
module

public import proofs.«01_k».proof.Proof.Reg1Q
public import proofs.«01_k».proof.Proof.Win

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the contents of the core's buffers when the region is entered
variable (V : (c : Dev nD) → (b : Ref sig .tc) → Buf (Elt F) ((c : Thread nD τ).loc b))

/-- The gated activations of point `t`. -/
def act1 (c : Dev nD) (t : Fin cfg1.N) : FVec F S256x256 .f32 := gated (iblk1 V c 0 t) (iblk1 V c 1 t) (iblk1 V c 2 t) (iblk1 V c 3 t) (iblk1 V c 4 t)
/-- The scales of half block `s` of the sweep: `s / 2` is the point, `s % 2` the half. -/
def scale1 (c : Dev nD) (s : ℕ) : FVec F S256x128 .f32 :=
  scaleOf (slice (act1 V c ⟨s / 2 % 72, lt_of_lt_of_eq (Nat.mod_lt _ (by decide)) N_1.symm⟩) (128 * (s % 2)))

theorem coord1 (t : Fin cfg1.N) : (grid1.coords t 0).val = t.val := by
  have ht : t.val < 72 := Nat.lt_of_lt_of_eq t.isLt N_1
  have e0 : (grid1.coords t 0).val = t.val / 1 % 72 := Pipeline.Grid.coords_val t 0 (by decide) rfl
  rw [e0]; omega

theorem scale_even1 (c : Dev nD) (t : Fin cfg1.N) : scale1 V c (2 * (grid1.coords t 0).val) = scaleOf (slice (gated (iblk1 V c 0 t) (iblk1 V c 1 t) (iblk1 V c 2 t) (iblk1 V c 3 t) (iblk1 V c 4 t)) 0) := by
  have ht : t.val < 72 := Nat.lt_of_lt_of_eq t.isLt N_1
  unfold scale1
  have e1 : (⟨2 * (grid1.coords t 0).val / 2 % 72, lt_of_lt_of_eq (Nat.mod_lt _ (by decide)) N_1.symm⟩ : Fin cfg1.N) = t := Fin.ext (by rw [coord1]; show 2 * t.val / 2 % 72 = t.val; omega)
  rw [e1, show 128 * (2 * (grid1.coords t 0).val % 2) = 0 by omega]; rfl
theorem scale_odd1 (c : Dev nD) (t : Fin cfg1.N) : scale1 V c (2 * (grid1.coords t 0).val + 1) = scaleOf (slice (gated (iblk1 V c 0 t) (iblk1 V c 1 t) (iblk1 V c 2 t) (iblk1 V c 3 t) (iblk1 V c 4 t)) 128) := by
  have ht : t.val < 72 := Nat.lt_of_lt_of_eq t.isLt N_1
  unfold scale1
  have e1 : (⟨(2 * (grid1.coords t 0).val + 1) / 2 % 72, lt_of_lt_of_eq (Nat.mod_lt _ (by decide)) N_1.symm⟩ : Fin cfg1.N) = t := Fin.ext (by rw [coord1]; show (2 * t.val + 1) / 2 % 72 = t.val; omega)
  rw [e1, show 128 * ((2 * (grid1.coords t 0).val + 1) % 2) = 128 by omega]; rfl
/-- What is carried from point to point: the pages hold the scales of the points passed. -/
def Phi1 (c : Dev nD) (n : ℕ) : sProp 𝕄 :=
  iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_scratch0), ((c : Thread nD τ).loc cc0_scratch0) ↦{fullShare} f) ∗ (∃ d, owns (c : Thread nD τ) scM1_0 fullShare d) ∗ (∃ d, owns (c : Thread nD τ) scM1_1 fullShare d) ∗ (∃ d, ⌜Inv5 (scale1 V c) n d⌝ ∗ owns (c : Thread nD τ) scM1_2 fullShare d) ∗ (∃ f : Buf (Elt F) ((c : Thread nD τ).loc cc2_stg0_0), ((c : Thread nD τ).loc cc2_stg0_0) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg1_1), ((c : Thread nD τ).loc cc2_stg1_1) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg3_1), ((c : Thread nD τ).loc cc2_stg3_1) ↦{fullShare} f) ∗ (∃ f : Buf (Elt F) ((c : Thread nD τ).loc cc2_scratch0), ((c : Thread nD τ).loc cc2_scratch0) ↦{fullShare} f)) ∗ (∃ r, prngReg c r))

/-- Before the first point nothing is asked of the pages. -/
theorem Phi1_in (c : Dev nD) : (Pipeline.ΦA spec1 c : sProp 𝕄) ⊢ Phi1 V c 0 := by
  rw [PhiA1_eq]; unfold Phi1
  iintro ⟨⟨HR0, HR1, HR2, HR3, HR4, HR5, HR6, HR7, HS0, HS1, ⟨%dS, HS2⟩, HR11, HR12, HR13, HR14, HR15, HR16, HR17, HR18⟩, Hg⟩
  isplitl [HR0 HR1 HR2 HR3 HR4 HR5 HR6 HR7 HS0 HS1 HS2 HR11 HR12 HR13 HR14 HR15 HR16 HR17 HR18]
  · isplitl [HR0]
    · iexact HR0
    isplitl [HR1]
    · iexact HR1
    isplitl [HR2]
    · iexact HR2
    isplitl [HR3]
    · iexact HR3
    isplitl [HR4]
    · iexact HR4
    isplitl [HR5]
    · iexact HR5
    isplitl [HR6]
    · iexact HR6
    isplitl [HR7]
    · iexact HR7
    isplitl [HS0]
    · iexact HS0
    isplitl [HS1]
    · iexact HS1
    isplitl [HS2]
    · iexists dS; isplitr; swap; · iexact HS2
      ipureintro; exact inv5_zero _ dS
    isplitl [HR11]
    · iexact HR11
    isplitl [HR12]
    · iexact HR12
    isplitl [HR13]
    · iexact HR13
    isplitl [HR14]
    · iexact HR14
    isplitl [HR15]
    · iexact HR15
    isplitl [HR16]
    · iexact HR16
    isplitl [HR17]
    · iexact HR17
    iexact HR18
  iexact Hg

theorem Phi1_out (c : Dev nD) (n : ℕ) : Phi1 V c n ⊢ (Pipeline.ΦA spec1 c : sProp 𝕄) := by
  rw [PhiA1_eq]; unfold Phi1
  iintro ⟨⟨HR0, HR1, HR2, HR3, HR4, HR5, HR6, HR7, HS0, HS1, ⟨%dS, %hI, HS2⟩, HR11, HR12, HR13, HR14, HR15, HR16, HR17, HR18⟩, Hg⟩
  isplitl [HR0 HR1 HR2 HR3 HR4 HR5 HR6 HR7 HS0 HS1 HS2 HR11 HR12 HR13 HR14 HR15 HR16 HR17 HR18]
  · isplitl [HR0]
    · iexact HR0
    isplitl [HR1]
    · iexact HR1
    isplitl [HR2]
    · iexact HR2
    isplitl [HR3]
    · iexact HR3
    isplitl [HR4]
    · iexact HR4
    isplitl [HR5]
    · iexact HR5
    isplitl [HR6]
    · iexact HR6
    isplitl [HR7]
    · iexact HR7
    isplitl [HS0]
    · iexact HS0
    isplitl [HS1]
    · iexact HS1
    isplitl [HS2]
    · iexists dS; iexact HS2
    isplitl [HR11]
    · iexact HR11
    isplitl [HR12]
    · iexact HR12
    isplitl [HR13]
    · iexact HR13
    isplitl [HR14]
    · iexact HR14
    isplitl [HR15]
    · iexact HR15
    isplitl [HR16]
    · iexact HR16
    isplitl [HR17]
    · iexact HR17
    iexact HR18
  iexact Hg

/-- What the region's windows hold after each point. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => pair (fun o => codesOf (slice (act1 V c t) o))
    | ⟨6, _⟩ => pair (fun o => dequantOf (slice (act1 V c t) o))
    | ⟨7, _⟩ => scaleArr576 (scale1 V c)
  Φ t := Phi1 V c t.val
  q w := Pipeline.shareOf spec1 w
  owed _ := 0
theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = pair (fun o => codesOf (slice (act1 V c t) o)) := by dsimp only [dat1]
theorem after1_6 (c : Dev nD) (t : Fin cfg1.N) : (dat1 V c).after 6 t = pair (fun o => dequantOf (slice (act1 V c t) o)) := by dsimp only [dat1]
theorem after1_7 (c : Dev nD) (t : Fin cfg1.N) : (dat1 V c).after 7 t = scaleArr576 (scale1 V c) := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t)

set_option maxHeartbeats 1600000 in
/-- The body at any point keeps the carried pages right and leaves what the proof data says. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.castSucc = Phi1 V c t.val from rfl, show (dat1 V c).Φ t.succ = Phi1 V c (t.val + 1) from rfl]
  have hN : t.val < 72 := lt_of_lt_of_eq t.isLt (show cfg1.N = 72 from N_1)
  have ec := coord1 t
  have hg0 := scale_even1 V c
  have hg1 := scale_odd1 V c
  unfold Phi1
  rw [show t.val + 1 = (grid1.coords t 0).val + 1 by rw [ec]]
  by_cases h0 : t.val % 72 = 71
  · rw [show (dat1 V c).leavesExact 0 t = owns (c : Thread nD τ) (ms1_0 t) fullShare ((dat1 V c).after 0 t) from by
          unfold Dat.leavesExact; rw [liveAt1_0 t], after1_0]
    rw [show (dat1 V c).leavesExact 1 t = owns (c : Thread nD τ) (ms1_1 t) fullShare ((dat1 V c).after 1 t) from by
          unfold Dat.leavesExact; rw [liveAt1_1 t], after1_1]
    rw [show (dat1 V c).leavesExact 2 t = owns (c : Thread nD τ) (ms1_2 t) fullShare ((dat1 V c).after 2 t) from by
          unfold Dat.leavesExact; rw [liveAt1_2 t], after1_2]
    rw [show (dat1 V c).leavesExact 3 t = owns (c : Thread nD τ) (ms1_3 t) fullShare ((dat1 V c).after 3 t) from by
          unfold Dat.leavesExact; rw [liveAt1_3 t], after1_3]
    rw [show (dat1 V c).leavesExact 4 t = owns (c : Thread nD τ) (ms1_4 t) fullShare ((dat1 V c).after 4 t) from by
          unfold Dat.leavesExact; rw [liveAt1_4 t], after1_4]
    rw [show (dat1 V c).leavesExact 5 t = owns (c : Thread nD τ) (ms1_5 t) fullShare ((dat1 V c).after 5 t) from by
          unfold Dat.leavesExact; rw [liveAt1_5 t], after1_5]
    rw [show (dat1 V c).leavesExact 6 t = owns (c : Thread nD τ) (ms1_6 t) fullShare ((dat1 V c).after 6 t) from by
          unfold Dat.leavesExact; rw [liveAt1_6 t], after1_6]
    rw [show (dat1 V c).leavesExact 7 t = owns (c : Thread nD τ) (ms1_7 t) fullShare ((dat1 V c).after 7 t) from by
          unfold Dat.leavesExact; rw [liveAt1_7_B t ((hcond1_0 t).mpr h0)], after1_7]
    iintro ⟨⟨⟨HR0, HR1, HR2, HR3, HR4, HR5, HR6, HR7, HS0, HS1, ⟨%dS, %hI, HS2⟩, HR11, HR12, HR13, HR14, HR15, HR16, HR17, HR18⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    have hI' : Inv5 (scale1 V c) (grid1.coords t 0).val dS := by rw [ec]; exact hI
    have hi : (grid1.coords t 0).val = 71 := by rw [ec]; omega
    iapply ((kernelRun1_B c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) scM1_2 (Memref.isWhole_whole _) ((hcond1_0 t).mpr h0) (iblk1 V c 0 t) (iblk1 V c 1 t) (iblk1 V c 2 t) (iblk1 V c 3 t) (iblk1 V c 4 t) dS).2.2.2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [HS0]; · iexact HS0
    isplitl [HS1]; · iexact HS1
    isplitl [HS2]; · iexact HS2
    iintro ⟨H0, H1, H2, H3, H4, ⟨%e5, H5⟩, ⟨%e6, H6⟩, ⟨%e7, H7⟩, HS0, HS1, HS2⟩
    isplitl [HR0 HR1 HR2 HR3 HR4 HR5 HR6 HR7 HS0 HS1 HS2 HR11 HR12 HR13 HR14 HR15 HR16 HR17 HR18 Hg]
    · isplitl [HR0 HR1 HR2 HR3 HR4 HR5 HR6 HR7 HS0 HS1 HS2 HR11 HR12 HR13 HR14 HR15 HR16 HR17 HR18]
      · isplitl [HR0]; · iexact HR0
        isplitl [HR1]; · iexact HR1
        isplitl [HR2]; · iexact HR2
        isplitl [HR3]; · iexact HR3
        isplitl [HR4]; · iexact HR4
        isplitl [HR5]; · iexact HR5
        isplitl [HR6]; · iexact HR6
        isplitl [HR7]; · iexact HR7
        isplitl [HS0]; · iexact HS0
        isplitl [HS1]; · iexact HS1
        isplitl [HS2]
        · iexists _; isplitr
          swap; · unfold owns; iexists _; isplitr; swap; · iexact HS2
                  ipureintro; rfl
          ipureintro; exact scratch1_B c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) scM1_2 (Memref.isWhole_whole _) ((hcond1_0 t).mpr h0) (iblk1 V c 0 t) (iblk1 V c 1 t) (iblk1 V c 2 t) (iblk1 V c 3 t) (iblk1 V c 4 t) dS (scale1 V c) (hg0 t) (hg1 t) hI'
        isplitl [HR11]; · iexact HR11
        isplitl [HR12]; · iexact HR12
        isplitl [HR13]; · iexact HR13
        isplitl [HR14]; · iexact HR14
        isplitl [HR15]; · iexact HR15
        isplitl [HR16]; · iexact HR16
        isplitl [HR17]; · iexact HR17
        iexact HR18
      iexact Hg
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact codes1_B c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) scM1_2 (Memref.isWhole_whole _) ((hcond1_0 t).mpr h0) (iblk1 V c 0 t) (iblk1 V c 1 t) (iblk1 V c 2 t) (iblk1 V c 3 t) (iblk1 V c 4 t) dS _
    isplitl [H6]
    · unfold owns; iexists _; isplitr
      swap; · iexact H6
      ipureintro; exact deq1_B c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) scM1_2 (Memref.isWhole_whole _) ((hcond1_0 t).mpr h0) (iblk1 V c 0 t) (iblk1 V c 1 t) (iblk1 V c 2 t) (iblk1 V c 3 t) (iblk1 V c 4 t) dS _
    unfold owns; iexists _; isplitr
    swap; · iexact H7
    ipureintro; exact scale1_B c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) scM1_2 (Memref.isWhole_whole _) ((hcond1_0 t).mpr h0) (iblk1 V c 0 t) (iblk1 V c 1 t) (iblk1 V c 2 t) (iblk1 V c 3 t) (iblk1 V c 4 t) dS _ hi (scale1 V c) (hg0 t) (hg1 t) hI'
  · rw [show (dat1 V c).leavesExact 0 t = owns (c : Thread nD τ) (ms1_0 t) fullShare ((dat1 V c).after 0 t) from by
          unfold Dat.leavesExact; rw [liveAt1_0 t], after1_0]
    rw [show (dat1 V c).leavesExact 1 t = owns (c : Thread nD τ) (ms1_1 t) fullShare ((dat1 V c).after 1 t) from by
          unfold Dat.leavesExact; rw [liveAt1_1 t], after1_1]
    rw [show (dat1 V c).leavesExact 2 t = owns (c : Thread nD τ) (ms1_2 t) fullShare ((dat1 V c).after 2 t) from by
          unfold Dat.leavesExact; rw [liveAt1_2 t], after1_2]
    rw [show (dat1 V c).leavesExact 3 t = owns (c : Thread nD τ) (ms1_3 t) fullShare ((dat1 V c).after 3 t) from by
          unfold Dat.leavesExact; rw [liveAt1_3 t], after1_3]
    rw [show (dat1 V c).leavesExact 4 t = owns (c : Thread nD τ) (ms1_4 t) fullShare ((dat1 V c).after 4 t) from by
          unfold Dat.leavesExact; rw [liveAt1_4 t], after1_4]
    rw [show (dat1 V c).leavesExact 5 t = owns (c : Thread nD τ) (ms1_5 t) fullShare ((dat1 V c).after 5 t) from by
          unfold Dat.leavesExact; rw [liveAt1_5 t], after1_5]
    rw [show (dat1 V c).leavesExact 6 t = owns (c : Thread nD τ) (ms1_6 t) fullShare ((dat1 V c).after 6 t) from by
          unfold Dat.leavesExact; rw [liveAt1_6 t], after1_6]
    rw [Dat.leavesExact_idle (dat1 V c) 7 t (idleAt1_7_A t (fun h => h0 ((hcond1_0 t).mp h))) (noFlush1_7_A t (fun h => h0 ((hcond1_0 t).mp h)))]
    iintro ⟨⟨⟨HR0, HR1, HR2, HR3, HR4, HR5, HR6, HR7, HS0, HS1, ⟨%dS, %hI, HS2⟩, HR11, HR12, HR13, HR14, HR15, HR16, HR17, HR18⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    have hI' : Inv5 (scale1 V c) (grid1.coords t 0).val dS := by rw [ec]; exact hI
    iapply ((kernelRun1_A c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) scM1_2 (Memref.isWhole_whole _) (fun h => h0 ((hcond1_0 t).mp h)) (iblk1 V c 0 t) (iblk1 V c 1 t) (iblk1 V c 2 t) (iblk1 V c 3 t) (iblk1 V c 4 t) dS).2.2.2.2 _ Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexact H7
    isplitl [HS0]; · iexact HS0
    isplitl [HS1]; · iexact HS1
    isplitl [HS2]; · iexact HS2
    iintro ⟨H0, H1, H2, H3, H4, ⟨%e5, H5⟩, ⟨%e6, H6⟩, H7, HS0, HS1, HS2⟩
    isplitl [HR0 HR1 HR2 HR3 HR4 HR5 HR6 HR7 HS0 HS1 HS2 HR11 HR12 HR13 HR14 HR15 HR16 HR17 HR18 Hg]
    · isplitl [HR0 HR1 HR2 HR3 HR4 HR5 HR6 HR7 HS0 HS1 HS2 HR11 HR12 HR13 HR14 HR15 HR16 HR17 HR18]
      · isplitl [HR0]; · iexact HR0
        isplitl [HR1]; · iexact HR1
        isplitl [HR2]; · iexact HR2
        isplitl [HR3]; · iexact HR3
        isplitl [HR4]; · iexact HR4
        isplitl [HR5]; · iexact HR5
        isplitl [HR6]; · iexact HR6
        isplitl [HR7]; · iexact HR7
        isplitl [HS0]; · iexact HS0
        isplitl [HS1]; · iexact HS1
        isplitl [HS2]
        · iexists _; isplitr
          swap; · unfold owns; iexists _; isplitr; swap; · iexact HS2
                  ipureintro; rfl
          ipureintro; exact scratch1_A c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) scM1_2 (Memref.isWhole_whole _) (fun h => h0 ((hcond1_0 t).mp h)) (iblk1 V c 0 t) (iblk1 V c 1 t) (iblk1 V c 2 t) (iblk1 V c 3 t) (iblk1 V c 4 t) dS (scale1 V c) (hg0 t) (hg1 t) hI'
        isplitl [HR11]; · iexact HR11
        isplitl [HR12]; · iexact HR12
        isplitl [HR13]; · iexact HR13
        isplitl [HR14]; · iexact HR14
        isplitl [HR15]; · iexact HR15
        isplitl [HR16]; · iexact HR16
        isplitl [HR17]; · iexact HR17
        iexact HR18
      iexact Hg
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact codes1_A c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) scM1_2 (Memref.isWhole_whole _) (fun h => h0 ((hcond1_0 t).mp h)) (iblk1 V c 0 t) (iblk1 V c 1 t) (iblk1 V c 2 t) (iblk1 V c 3 t) (iblk1 V c 4 t) dS _
    isplitl [H6]
    · unfold owns; iexists _; isplitr
      swap; · iexact H6
      ipureintro; exact deq1_A c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) scM1_2 (Memref.isWhole_whole _) (fun h => h0 ((hcond1_0 t).mp h)) (iblk1 V c 0 t) (iblk1 V c 1 t) (iblk1 V c 2 t) (iblk1 V c 3 t) (iblk1 V c 4 t) dS _
    iexists _; iexact H7
theorem defs₀_row1 (t : Fin cfg1.N) :
    defs₀ (F := F) .tc cfg1.body (cfg1.bodyArgs t (cfg1.slots t)) = bodyAt1 t := by
  unfold defs₀; rw [Defs.onTc_tc]

theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl
end Cert.KernelIdeal.Run
-- ==== Proof.Dat0.lean ====
/-
  The first call, point by point: what its windows hold and what is carried in the scratch.
-/
module

public import proofs.«01_k».proof.Proof.Reg0A
public import proofs.«01_k».proof.Proof.Win

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the contents of the core's buffers when the region is entered
variable (V : (c : Dev nD) → (b : Ref sig .tc) → Buf (Elt F) ((c : Thread nD τ).loc b))

/-- The scales of half block `s` of the sweep: `s / 2` is the point, `s % 2` the half. -/
def scale0 (c : Dev nD) (s : ℕ) : FVec F S256x128 .f32 :=
  scaleOf (part (iblk0 V c 0 ⟨s / 2 % 28, lt_of_lt_of_eq (Nat.mod_lt _ (by decide)) N_0.symm⟩) (128 * (s % 2)))

theorem coord0 (t : Fin cfg0.N) : (grid0.coords t 0).val = t.val := by
  have ht : t.val < 28 := Nat.lt_of_lt_of_eq t.isLt N_0
  have e0 : (grid0.coords t 0).val = t.val / 1 % 28 := Pipeline.Grid.coords_val t 0 (by decide) rfl
  rw [e0]; omega

theorem scale_even0 (c : Dev nD) (t : Fin cfg0.N) : scale0 V c (2 * (grid0.coords t 0).val) = scaleOf (part (iblk0 V c 0 t) 0) := by
  have ht : t.val < 28 := Nat.lt_of_lt_of_eq t.isLt N_0
  unfold scale0
  have e1 : (⟨2 * (grid0.coords t 0).val / 2 % 28, lt_of_lt_of_eq (Nat.mod_lt _ (by decide)) N_0.symm⟩ : Fin cfg0.N) = t := Fin.ext (by rw [coord0]; show 2 * t.val / 2 % 28 = t.val; omega)
  rw [e1, show 128 * (2 * (grid0.coords t 0).val % 2) = 0 by omega]
theorem scale_odd0 (c : Dev nD) (t : Fin cfg0.N) : scale0 V c (2 * (grid0.coords t 0).val + 1) = scaleOf (part (iblk0 V c 0 t) 128) := by
  have ht : t.val < 28 := Nat.lt_of_lt_of_eq t.isLt N_0
  unfold scale0
  have e1 : (⟨(2 * (grid0.coords t 0).val + 1) / 2 % 28, lt_of_lt_of_eq (Nat.mod_lt _ (by decide)) N_0.symm⟩ : Fin cfg0.N) = t := Fin.ext (by rw [coord0]; show (2 * t.val + 1) / 2 % 28 = t.val; omega)
  rw [e1, show 128 * ((2 * (grid0.coords t 0).val + 1) % 2) = 128 by omega]
/-- What is carried from point to point: the pages hold the scales of the points passed. -/
def Phi0 (c : Dev nD) (n : ℕ) : sProp 𝕄 :=
  iprop(iprop((∃ d, ⌜Inv2 (scale0 V c) n d⌝ ∗ owns (c : Thread nD τ) scM0_0 fullShare d) ∗ Pipeline.scopedRestBut spec0 c [cc0_scratch0]) ∗ (∃ r, prngReg c r))

/-- Before the first point nothing is asked of the pages. -/
theorem Phi0_in (c : Dev nD) : (Pipeline.ΦA spec0 c : sProp 𝕄) ⊢ Phi0 V c 0 := by
  rw [PhiA0_eq]; unfold Phi0
  iintro ⟨⟨⟨%dS, HS0⟩, HR1⟩, Hg⟩
  isplitl [HS0 HR1]
  · isplitl [HS0]
    · iexists dS; isplitr; swap; · iexact HS0
      ipureintro; exact inv2_zero _ dS
    iexact HR1
  iexact Hg

theorem Phi0_out (c : Dev nD) (n : ℕ) : Phi0 V c n ⊢ (Pipeline.ΦA spec0 c : sProp 𝕄) := by
  rw [PhiA0_eq]; unfold Phi0
  iintro ⟨⟨⟨%dS, %hI, HS0⟩, HR1⟩, Hg⟩
  isplitl [HS0 HR1]
  · isplitl [HS0]
    · iexists dS; iexact HS0
    iexact HR1
  iexact Hg

/-- What the region's windows hold after each point. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => codesPair (iblk0 V c 0 t)
    | ⟨2, _⟩ => deqPair (iblk0 V c 0 t)
    | ⟨3, _⟩ => scaleArr224 (scale0 V c)
  Φ t := Phi0 V c t.val
  q _ := fullShare
  owed _ := 0
theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = codesPair (iblk0 V c 0 t) := by dsimp only [dat0]
theorem after0_2 (c : Dev nD) (t : Fin cfg0.N) : (dat0 V c).after 2 t = deqPair (iblk0 V c 0 t) := by dsimp only [dat0]
theorem after0_3 (c : Dev nD) (t : Fin cfg0.N) : (dat0 V c).after 3 t = scaleArr224 (scale0 V c) := by dsimp only [dat0]
theorem before0_0 (c : Dev nD) (t : Fin cfg0.N) (d) : (dat0 V c).before 0 t d = iblk0 V c 0 t :=
  before0_0_of V (dat0 V c) (A_eq0 V c 0) (after0_0 V c) t d
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 1600000 in
/-- The body at any point keeps the carried pages right and leaves what the proof data says. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).owesAt () t.succ = (dat0 V c).owesAt () t.castSucc from rfl]
  rw [show (dat0 V c).Φ t.castSucc = Phi0 V c t.val from rfl, show (dat0 V c).Φ t.succ = Phi0 V c (t.val + 1) from rfl]
  have hN : t.val < 28 := lt_of_lt_of_eq t.isLt (show cfg0.N = 28 from N_0)
  have ec := coord0 t
  have hg0 := scale_even0 V c
  have hg1 := scale_odd0 V c
  unfold Phi0
  rw [show t.val + 1 = (grid0.coords t 0).val + 1 by rw [ec]]
  by_cases h0 : t.val % 28 = 27
  · rw [show (dat0 V c).leavesExact 0 t = owns (c : Thread nD τ) (ms0_0 t) fullShare ((dat0 V c).after 0 t) from by
          unfold Dat.leavesExact; rw [liveAt0_0 t], after0_0]
    rw [show (dat0 V c).leavesExact 1 t = owns (c : Thread nD τ) (ms0_1 t) fullShare ((dat0 V c).after 1 t) from by
          unfold Dat.leavesExact; rw [liveAt0_1 t], after0_1]
    rw [show (dat0 V c).leavesExact 2 t = owns (c : Thread nD τ) (ms0_2 t) fullShare ((dat0 V c).after 2 t) from by
          unfold Dat.leavesExact; rw [liveAt0_2 t], after0_2]
    rw [show (dat0 V c).leavesExact 3 t = owns (c : Thread nD τ) (ms0_3 t) fullShare ((dat0 V c).after 3 t) from by
          unfold Dat.leavesExact; rw [liveAt0_3_B t ((hcond0_0 t).mpr h0)], after0_3]
    iintro ⟨⟨⟨⟨%dS, %hI, HS0⟩, HR1⟩, Hg⟩, Ho, ⟨%d0, H0⟩, ⟨%d1, H1⟩, ⟨%d2, H2⟩, ⟨%d3, H3⟩⟩
    have hI' : Inv2 (scale0 V c) (grid0.coords t 0).val dS := by rw [ec]; exact hI
    have hi : (grid0.coords t 0).val = 27 := by rw [ec]; omega
    iapply ((kernelRun0_B c (grid0.coords t) (ms0_0 t) (hs0_0 t) (ms0_1 t) (hs0_1 t) (ms0_2 t) (hs0_2 t) (ms0_3 t) (hs0_3 t) scM0_0 (Memref.isWhole_whole _) ((hcond0_0 t).mpr h0) (iblk0 V c 0 t) dS).2.2.2.2 Set.univ _)
    isplitl [H0]; · iexact H0
    isplitl [H1]; · iexists _; iexact H1
    isplitl [H2]; · iexists _; iexact H2
    isplitl [H3]; · iexists _; iexact H3
    isplitl [HS0]; · iexact HS0
    iintro ⟨H0, ⟨%e1, H1⟩, ⟨%e2, H2⟩, ⟨%e3, H3⟩, HS0⟩
    isplitl [HS0 HR1 Hg]
    · isplitl [HS0 HR1]
      · isplitl [HS0]
        · iexists _; isplitr
          swap; · unfold owns; iexists _; isplitr; swap; · iexact HS0
                  ipureintro; rfl
          ipureintro; exact scratch0_B c (grid0.coords t) (ms0_0 t) (hs0_0 t) (ms0_1 t) (hs0_1 t) (ms0_2 t) (hs0_2 t) (ms0_3 t) (hs0_3 t) scM0_0 (Memref.isWhole_whole _) ((hcond0_0 t).mpr h0) (iblk0 V c 0 t) dS (scale0 V c) (hg0 t) (hg1 t) hI'
        iexact HR1
      iexact Hg
    isplitl [Ho]; · iexact Ho
    isplitl [H0]; · iexact H0
    isplitl [H1]
    · unfold owns; iexists _; isplitr
      swap; · iexact H1
      ipureintro; exact codes0_B c (grid0.coords t) (ms0_0 t) (hs0_0 t) (ms0_1 t) (hs0_1 t) (ms0_2 t) (hs0_2 t) (ms0_3 t) (hs0_3 t) scM0_0 (Memref.isWhole_whole _) ((hcond0_0 t).mpr h0) (iblk0 V c 0 t) dS _
    isplitl [H2]
    · unfold owns; iexists _; isplitr
      swap; · iexact H2
      ipureintro; exact deq0_B c (grid0.coords t) (ms0_0 t) (hs0_0 t) (ms0_1 t) (hs0_1 t) (ms0_2 t) (hs0_2 t) (ms0_3 t) (hs0_3 t) scM0_0 (Memref.isWhole_whole _) ((hcond0_0 t).mpr h0) (iblk0 V c 0 t) dS _
    unfold owns; iexists _; isplitr
    swap; · iexact H3
    ipureintro; exact scale0_B c (grid0.coords t) (ms0_0 t) (hs0_0 t) (ms0_1 t) (hs0_1 t) (ms0_2 t) (hs0_2 t) (ms0_3 t) (hs0_3 t) scM0_0 (Memref.isWhole_whole _) ((hcond0_0 t).mpr h0) (iblk0 V c 0 t) dS _ hi (scale0 V c) (hg0 t) (hg1 t) hI'
  · rw [show (dat0 V c).leavesExact 0 t = owns (c : Thread nD τ) (ms0_0 t) fullShare ((dat0 V c).after 0 t) from by
          unfold Dat.leavesExact; rw [liveAt0_0 t], after0_0]
    rw [show (dat0 V c).leavesExact 1 t = owns (c : Thread nD τ) (ms0_1 t) fullShare ((dat0 V c).after 1 t) from by
          unfold Dat.leavesExact; rw [liveAt0_1 t], after0_1]
    rw [show (dat0 V c).leavesExact 2 t = owns (c : Thread nD τ) (ms0_2 t) fullShare ((dat0 V c).after 2 t) from by
          unfold Dat.leavesExact; rw [liveAt0_2 t], after0_2]
    rw [Dat.leavesExact_idle (dat0 V c) 3 t (idleAt0_3_A t (fun h => h0 ((hcond0_0 t).mp h))) (noFlush0_3_A t (fun h => h0 ((hcond0_0 t).mp h)))]
    iintro ⟨⟨⟨⟨%dS, %hI, HS0⟩, HR1⟩, Hg⟩, Ho, ⟨%d0, H0⟩, ⟨%d1, H1⟩, ⟨%d2, H2⟩, ⟨%d3, H3⟩⟩
    have hI' : Inv2 (scale0 V c) (grid0.coords t 0).val dS := by rw [ec]; exact hI
    iapply ((kernelRun0_A c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (iblk0 V c 0 t) dS).2.2.2.2 _ Set.univ _)
    isplitl [H0]; · iexact H0
    isplitl [H1]; · iexists _; iexact H1
    isplitl [H2]; · iexists _; iexact H2
    isplitl [H3]; · iexact H3
    isplitl [HS0]; · iexact HS0
    iintro ⟨H0, ⟨%e1, H1⟩, ⟨%e2, H2⟩, H3, HS0⟩
    isplitl [HS0 HR1 Hg]
    · isplitl [HS0 HR1]
      · isplitl [HS0]
        · iexists _; isplitr
          swap; · unfold owns; iexists _; isplitr; swap; · iexact HS0
                  ipureintro; rfl
          ipureintro; exact scratch0_A c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (iblk0 V c 0 t) dS (scale0 V c) (hg0 t) (hg1 t) hI'
        iexact HR1
      iexact Hg
    isplitl [Ho]; · iexact Ho
    isplitl [H0]; · iexact H0
    isplitl [H1]
    · unfold owns; iexists _; isplitr
      swap; · iexact H1
      ipureintro; exact codes0_A c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (iblk0 V c 0 t) dS _
    isplitl [H2]
    · unfold owns; iexists _; isplitr
      swap; · iexact H2
      ipureintro; exact deq0_A c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (iblk0 V c 0 t) dS _
    iexists _; iexact H3
theorem defs₀_row0 (t : Fin cfg0.N) :
    defs₀ (F := F) .tc cfg0.body (cfg0.bodyArgs t (cfg0.slots t)) = bodyAt0 t := by
  unfold defs₀; rw [Defs.onTc_tc]

theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl
end Cert.KernelIdeal.Run
-- ==== Proof.KBlk.lean ====
/-
  THE BLOCKS OVER THE EXTENDED REALS: a block of 256 columns of an array `v`, quantised half by half, holds that block of the
  codes, of the scales and of the codes times scales of `v`; a block's products, gated, hold that block of the activations.
-/
module

public import proofs.«01_k».proof.Proof.SIdeal
public import proofs.«01_k».proof.Proof.QIdeal
public import proofs.«01_k».proof.Proof.Dat2
public import proofs.«01_k».proof.Proof.Dat1
public import proofs.«01_k».proof.Proof.Dat0

@[expose] public section

set_option maxRecDepth 16384

noncomputable section

open Idealize.ShloMosaic Idealize.ShloMosaic.TcCoe Idealize.SL.Sem
open Idealize.ShloMosaic.Pipeline (Dat)

namespace Cert.KernelIdeal.Run

open Cert.KernelIdeal Cert.KernelIdeal.Gen

open Cert.Words (at2 at2_val grp qcode qscl qdeq dot gate scl code)

theorem at2_lt {e : EltTy} {R C : ℕ} [NeZero R] [NeZero C] (f : Vec Ideal ⟨2, ![R, C]⟩ e) (r c : ℕ) (hr : r < R) (hc : c < C) :
    at2 f r c = f (ix2 ⟨r, hr⟩ ⟨c, hc⟩) := (at2_val f ⟨r, hr⟩ ⟨c, hc⟩).symm

theorem dot_congr (K : ℕ) (a a' w w' : ℕ → EReal) (s s' : ℕ → BitVec 8) (ha : ∀ k < K, a k = a' k) (hw : ∀ k < K, w k = w' k)
    (hs : ∀ k < K, s (k / 32) = s' (k / 32)) : dot K a w s = dot K a' w' s' := by
  unfold dot
  refine Finset.sum_congr rfl fun k hk => ?_
  have h := Finset.mem_range.mp hk
  rw [ha k h, hw k h, hs k h]

/-! ## A half block that holds columns `b … b + 127` of `v` -/

section
variable (v : ℕ → ℕ → EReal) (f : FVec Ideal S256x128 .f32) (b : ℕ) (hb : b % 32 = 0)
  (hf : ∀ (r : Fin 256) (k : Fin 128), (f (ix2 r k) : EReal) = v r.val (b + k.val))
include hb hf

theorem group_half (r : Fin 256) (l : Fin 128) : group f r l = grp v r.val (b + l.val) := by
  unfold group grp
  funext j
  rw [hf]
  congr 1
  show b + (l.val / 32 * 32 + j.val) = (b + l.val) / 32 * 32 + j.val
  omega

theorem scale_half (r : Fin 256) (l : Fin 128) : scaleOf f (ix2 r l) = qscl v r.val (b + l.val) := by
  rw [scale_eq, group_half v f b hb hf]; rfl

theorem codes_half (r : Fin 256) (l : Fin 128) : codesOf f (ix2 r l) = qcode v r.val (b + l.val) := by
  rw [codes_eq, group_half v f b hb hf, hf]; rfl

theorem dequant_half (r : Fin 256) (l : Fin 128) : dequantOf f (ix2 r l) = qdeq v r.val (b + l.val) := by
  rw [dequant_eq, group_half v f b hb hf, hf]; rfl
end

/-! ## A block that holds columns `b … b + 255` of `v` -/

theorem part_half (v : ℕ → ℕ → EReal) (x : Vec Ideal S256x256 .bf16) (b : ℕ)
    (hx : ∀ (r j : Fin 256), (x (ix2 r j) : EReal) = v r.val (b + j.val)) (p : ℕ) (hp : p < 2) (r : Fin 256) (k : Fin 128) :
    (part x (128 * p) (ix2 r k) : EReal) = v r.val (b + 128 * p + k.val) := by
  refine Eq.trans (b := (x (ix2 r ⟨(128 * p + k.val) % 256, Nat.mod_lt _ (by decide)⟩) : EReal)) rfl ((hx _ _).trans ?_)
  congr 1
  show b + (128 * p + k.val) % 256 = _
  omega

theorem slice_half (v : ℕ → ℕ → EReal) (x : FVec Ideal S256x256 .f32) (b : ℕ)
    (hx : ∀ (r j : Fin 256), (x (ix2 r j) : EReal) = v r.val (b + j.val)) (p : ℕ) (hp : p < 2) (r : Fin 256) (k : Fin 128) :
    (slice x (128 * p) (ix2 r k) : EReal) = v r.val (b + 128 * p + k.val) := by
  refine Eq.trans (b := (x (ix2 r ⟨(128 * p + k.val) % 256, Nat.mod_lt _ (by decide)⟩) : EReal)) rfl ((hx _ _).trans ?_)
  congr 1
  show b + (128 * p + k.val) % 256 = _
  omega

/-- Two halves side by side, each as `q` says, are the block as `q` says. -/
theorem pair_block {e : EltTy} (h : ℕ → S256x128.Idx → Elt Ideal e) (q : ℕ → ℕ → Elt Ideal e) (b : ℕ)
    (hh : ∀ p < 2, ∀ (r : Fin 256) (k : Fin 128), h (128 * p) (ix2 r k) = q r.val (b + 128 * p + k.val)) (r j : Fin 256) :
    pair h (ix2 r j) = q r.val (b + j.val) := by
  refine Eq.trans (b := h (128 * (j.val / 128)) (ix2 r ⟨j.val % 128, Nat.mod_lt _ (by decide)⟩)) rfl ((hh _ (by omega) _ _).trans ?_)
  congr 1
  show b + 128 * (j.val / 128) + j.val % 128 = _
  omega

section
variable (v : ℕ → ℕ → EReal) (x : Vec Ideal S256x256 .bf16) (b : ℕ) (hb : b % 256 = 0)
  (hx : ∀ (r j : Fin 256), (x (ix2 r j) : EReal) = v r.val (b + j.val))
include hb hx

theorem codes_block (r j : Fin 256) : codesPair x (ix2 r j) = qcode v r.val (b + j.val) :=
  pair_block (e := .fp8e4m3) (fun o => codesOf (part x o)) (qcode v) b (fun p hp r k => codes_half v _ (b + 128 * p) (by omega) (part_half v x b hx p hp) r k) r j

theorem deq_block (r j : Fin 256) : deqPair x (ix2 r j) = qdeq v r.val (b + j.val) :=
  pair_block (e := .bf16) (fun o => dequantOf (part x o)) (qdeq v) b (fun p hp r k => dequant_half v _ (b + 128 * p) (by omega) (part_half v x b hx p hp) r k) r j
end

section
variable (v : ℕ → ℕ → EReal) (x : FVec Ideal S256x256 .f32) (b : ℕ) (hb : b % 256 = 0)
  (hx : ∀ (r j : Fin 256), (x (ix2 r j) : EReal) = v r.val (b + j.val))
include hb hx

theorem hcodes_block (r j : Fin 256) : (pair (F := Ideal) (e := .fp8e4m3) (fun o => codesOf (slice x o)) (ix2 r j) : EReal) = qcode v r.val (b + j.val) :=
  pair_block (e := .fp8e4m3) (fun o => codesOf (slice x o)) (qcode v) b (fun p hp r k => codes_half v _ (b + 128 * p) (by omega) (slice_half v x b hx p hp) r k) r j

theorem hdeq_block (r j : Fin 256) : (pair (F := Ideal) (e := .bf16) (fun o => dequantOf (slice x o)) (ix2 r j) : EReal) = qdeq v r.val (b + j.val) :=
  pair_block (e := .bf16) (fun o => dequantOf (slice x o)) (qdeq v) b (fun p hp r k => dequant_half v _ (b + 128 * p) (by omega) (slice_half v x b hx p hp) r k) r j
end

/-! ## The products of a block -/

theorem gated_apply (x0 : Vec Ideal S256x7168 .bf16) (x1 x2 : Vec Ideal S7168x256 .fp8e4m3) (x3 x4 : Vec Ideal S224x256 .i8) (r j : Fin 256) :
    gated x0 x1 x2 x3 x4 (ix2 r j) = gate (dot 7168 (at2 x0 r.val) (fun k => at2 x1 k j.val) (fun k => at2 x3 k j.val))
      (dot 7168 (at2 x0 r.val) (fun k => at2 x2 k j.val) (fun k => at2 x4 k j.val)) := by
  rw [← accG_last, ← accG_last]
  unfold gated
  generalize accG x0 x1 x3 13 (by decide) = g
  generalize accG x0 x2 x4 13 (by decide) = u
  rfl

theorem out2_apply (x0 : Vec Ideal S256x18432 .bf16) (x1 : Vec Ideal S18432x256 .fp8e4m3) (x2 : Vec Ideal S576x256 .i8) (r j : Fin 256) :
    out2 x0 x1 x2 (ix2 r j) = dot 18432 (at2 x0 r.val) (fun k => at2 x1 k j.val) (fun k => at2 x2 k j.val) := by
  rw [← accD_last]
  unfold out2
  generalize accD x0 x1 x2 35 (by decide) = g
  rfl

end Cert.KernelIdeal.Run

end
-- ==== Proof.KArr.lean ====
/-
  THE CALLS' ARRAYS OVER THE EXTENDED REALS: what each of the three pipelined calls leaves in its result arrays, whatever the
  arrays it reads hold. Every block is the same block of one function of the whole arrays, and the blocks cover the result.
-/
module

public import proofs.«01_k».proof.Proof.KBlk

@[expose] public section

set_option maxRecDepth 16384

noncomputable section

open Idealize.ShloMosaic Idealize.ShloMosaic.TcCoe Idealize.SL.Sem
open Idealize.ShloMosaic.Pipeline (Dat)

namespace Cert.KernelIdeal.Run

open Cert.KernelIdeal Cert.KernelIdeal.Gen

open Cert.Words (at2 at2_val grp qcode qscl qdeq dot gate scl code)

variable (V : (c : Dev nD) → (b : Ref sig .tc) → Buf (Elt Ideal) ((c : Thread nD τ).loc b))

/-! ## The windows: where their blocks lie -/

theorem lt0 (t : Fin cfg0.N) : t.val < 28 := lt_of_lt_of_eq t.isLt N_0
theorem lt1 (t : Fin cfg1.N) : t.val < 72 := lt_of_lt_of_eq t.isLt N_1
theorem lt2 (t : Fin cfg2.N) : t.val < 28 := lt_of_lt_of_eq t.isLt N_2
theorem idx0_0 : ∀ t : Fin cfg0.N, win0_0.index t (0 : Fin 2) = 0 ∧ win0_0.index t (1 : Fin 2) = t.val :=
  (by decide +kernel : ∀ t : Fin grid0.N, _)
theorem iblk0_0 (c : Dev nD) (t : Fin cfg0.N) (i : Fin 256) (j : Fin 256) :
    (iblk0 V c 0 t : Vec Ideal S256x256 .bf16) (ix2 i j) = V c main_v0 (ix2 i ⟨256 * (t.val) + j.val, by have := lt0 t; omega⟩) := by
  obtain ⟨e0, e1⟩ := idx0_0 t
  unfold iblk0
  rw [View.read_apply]
  show V c main_v0 _ = V c main_v0 _
  congr 1
  funext a
  apply Fin.ext
  match a with
  | ⟨0, _⟩ => show win0_0.index t (0 : Fin 2) * 256 + 1 * i.val = i.val; rw [e0]; omega
  | ⟨1, _⟩ => show win0_0.index t (1 : Fin 2) * 256 + 1 * j.val = 256 * (t.val) + j.val; rw [e1]; omega

theorem idx0_1 : ∀ t : Fin cfg0.N, win0_1.index t (0 : Fin 2) = 0 ∧ win0_1.index t (1 : Fin 2) = t.val :=
  (by decide +kernel : ∀ t : Fin grid0.N, _)
theorem read0_1 (t : Fin cfg0.N) (g : Vec Ideal S256x7168 .fp8e4m3) (i : Fin 256) (j : Fin 256) :
    ((cfg0.win 1).blk t).view.read (Elt Ideal) g (ix2 i j) = g (ix2 i ⟨256 * (t.val) + j.val, by have := lt0 t; omega⟩) := by
  obtain ⟨e0, e1⟩ := idx0_1 t
  rw [View.read_apply]
  show g _ = g _
  congr 1
  funext a
  apply Fin.ext
  match a with
  | ⟨0, _⟩ => show win0_1.index t (0 : Fin 2) * 256 + 1 * i.val = i.val; rw [e0]; omega
  | ⟨1, _⟩ => show win0_1.index t (1 : Fin 2) * 256 + 1 * j.val = 256 * (t.val) + j.val; rw [e1]; omega
theorem cover0_1 (i : S256x7168.Idx) : ∃ t : Fin cfg0.N, (cfg0.win 1).flush t = true ∧ i ∈ ((cfg0.win 1).blk t).view.set := by
  have h0 : (i 0 : Nat) < 256 := (i 0).isLt
  have h1 : (i 1 : Nat) < 7168 := (i 1).isLt
  let t : Fin cfg0.N := ⟨(i 1 : Nat) / 256, lt_of_lt_of_eq (b := 28) (by omega) N_0.symm⟩
  obtain ⟨e0, e1⟩ := idx0_1 t
  refine ⟨t, flush0_1 t, ?_⟩
  show i ∈ ((View.whole main_v1_0).slice (win0_1.rect t)).set
  rw [View.set_slice_whole, Rect.mem_set_unit]
  intro a
  match a with
  | ⟨0, _⟩ =>
    show win0_1.index t (0 : Fin 2) * 256 ≤ (i 0 : Nat) ∧ (i 0 : Nat) < win0_1.index t (0 : Fin 2) * 256 + 256
    rw [e0]; omega
  | ⟨1, _⟩ =>
    show win0_1.index t (1 : Fin 2) * 256 ≤ (i 1 : Nat) ∧ (i 1 : Nat) < win0_1.index t (1 : Fin 2) * 256 + 256
    rw [e1]; show (i 1 : Nat) / 256 * 256 ≤ (i 1 : Nat) ∧ (i 1 : Nat) < (i 1 : Nat) / 256 * 256 + 256; omega

theorem idx0_2 : ∀ t : Fin cfg0.N, win0_2.index t (0 : Fin 2) = 0 ∧ win0_2.index t (1 : Fin 2) = t.val :=
  (by decide +kernel : ∀ t : Fin grid0.N, _)
theorem read0_2 (t : Fin cfg0.N) (g : Vec Ideal S256x7168 .bf16) (i : Fin 256) (j : Fin 256) :
    ((cfg0.win 2).blk t).view.read (Elt Ideal) g (ix2 i j) = g (ix2 i ⟨256 * (t.val) + j.val, by have := lt0 t; omega⟩) := by
  obtain ⟨e0, e1⟩ := idx0_2 t
  rw [View.read_apply]
  show g _ = g _
  congr 1
  funext a
  apply Fin.ext
  match a with
  | ⟨0, _⟩ => show win0_2.index t (0 : Fin 2) * 256 + 1 * i.val = i.val; rw [e0]; omega
  | ⟨1, _⟩ => show win0_2.index t (1 : Fin 2) * 256 + 1 * j.val = 256 * (t.val) + j.val; rw [e1]; omega
theorem cover0_2 (i : S256x7168.Idx) : ∃ t : Fin cfg0.N, (cfg0.win 2).flush t = true ∧ i ∈ ((cfg0.win 2).blk t).view.set := by
  have h0 : (i 0 : Nat) < 256 := (i 0).isLt
  have h1 : (i 1 : Nat) < 7168 := (i 1).isLt
  let t : Fin cfg0.N := ⟨(i 1 : Nat) / 256, lt_of_lt_of_eq (b := 28) (by omega) N_0.symm⟩
  obtain ⟨e0, e1⟩ := idx0_2 t
  refine ⟨t, flush0_2 t, ?_⟩
  show i ∈ ((View.whole main_v1_1).slice (win0_2.rect t)).set
  rw [View.set_slice_whole, Rect.mem_set_unit]
  intro a
  match a with
  | ⟨0, _⟩ =>
    show win0_2.index t (0 : Fin 2) * 256 ≤ (i 0 : Nat) ∧ (i 0 : Nat) < win0_2.index t (0 : Fin 2) * 256 + 256
    rw [e0]; omega
  | ⟨1, _⟩ =>
    show win0_2.index t (1 : Fin 2) * 256 ≤ (i 1 : Nat) ∧ (i 1 : Nat) < win0_2.index t (1 : Fin 2) * 256 + 256
    rw [e1]; show (i 1 : Nat) / 256 * 256 ≤ (i 1 : Nat) ∧ (i 1 : Nat) < (i 1 : Nat) / 256 * 256 + 256; omega

theorem idx0_3 : ∀ t : Fin cfg0.N, win0_3.index t (0 : Fin 2) = 0 ∧ win0_3.index t (1 : Fin 2) = 0 :=
  (by decide +kernel : ∀ t : Fin grid0.N, _)
theorem read0_3 (t : Fin cfg0.N) (g : Vec Ideal S256x224 .f32) (i : Fin 256) (j : Fin 224) :
    ((cfg0.win 3).blk t).view.read (Elt Ideal) g (ix2 i j) = g (ix2 i j) := by
  obtain ⟨e0, e1⟩ := idx0_3 t
  rw [View.read_apply]
  show g _ = g _
  congr 1
  funext a
  apply Fin.ext
  match a with
  | ⟨0, _⟩ => show win0_3.index t (0 : Fin 2) * 256 + 1 * i.val = i.val; rw [e0]; omega
  | ⟨1, _⟩ => show win0_3.index t (1 : Fin 2) * 224 + 1 * j.val = j.val; rw [e1]; omega
theorem cover0_3 (i : S256x224.Idx) : ∃ t : Fin cfg0.N, (cfg0.win 3).flush t = true ∧ i ∈ ((cfg0.win 3).blk t).view.set := by
  have h0 : (i 0 : Nat) < 256 := (i 0).isLt
  have h1 : (i 1 : Nat) < 224 := (i 1).isLt
  let t : Fin cfg0.N := ⟨27, lt_of_lt_of_eq (b := 28) (by decide) N_0.symm⟩
  obtain ⟨e0, e1⟩ := idx0_3 t
  refine ⟨t, (flush0_3 t).mpr rfl, ?_⟩
  show i ∈ ((View.whole main_v1_2).slice (win0_3.rect t)).set
  rw [View.set_slice_whole, Rect.mem_set_unit]
  intro a
  match a with
  | ⟨0, _⟩ =>
    show win0_3.index t (0 : Fin 2) * 256 ≤ (i 0 : Nat) ∧ (i 0 : Nat) < win0_3.index t (0 : Fin 2) * 256 + 256
    rw [e0]; omega
  | ⟨1, _⟩ =>
    show win0_3.index t (1 : Fin 2) * 224 ≤ (i 1 : Nat) ∧ (i 1 : Nat) < win0_3.index t (1 : Fin 2) * 224 + 224
    rw [e1]; omega

theorem idx1_0 : ∀ t : Fin cfg1.N, win1_0.index t (0 : Fin 2) = 0 ∧ win1_0.index t (1 : Fin 2) = 0 :=
  (by decide +kernel : ∀ t : Fin grid1.N, _)
theorem iblk1_0 (c : Dev nD) (t : Fin cfg1.N) (i : Fin 256) (j : Fin 7168) :
    (iblk1 V c 0 t : Vec Ideal S256x7168 .bf16) (ix2 i j) = V c main_v1_1 (ix2 i j) := by
  obtain ⟨e0, e1⟩ := idx1_0 t
  unfold iblk1
  rw [View.read_apply]
  show V c main_v1_1 _ = V c main_v1_1 _
  congr 1
  funext a
  apply Fin.ext
  match a with
  | ⟨0, _⟩ => show win1_0.index t (0 : Fin 2) * 256 + 1 * i.val = i.val; rw [e0]; omega
  | ⟨1, _⟩ => show win1_0.index t (1 : Fin 2) * 7168 + 1 * j.val = j.val; rw [e1]; omega

theorem idx1_1 : ∀ t : Fin cfg1.N, win1_1.index t (0 : Fin 2) = 0 ∧ win1_1.index t (1 : Fin 2) = t.val :=
  (by decide +kernel : ∀ t : Fin grid1.N, _)
theorem iblk1_1 (c : Dev nD) (t : Fin cfg1.N) (i : Fin 7168) (j : Fin 256) :
    (iblk1 V c 1 t : Vec Ideal S7168x256 .fp8e4m3) (ix2 i j) = V c main_arg1 (ix2 i ⟨256 * (t.val) + j.val, by have := lt1 t; omega⟩) := by
  obtain ⟨e0, e1⟩ := idx1_1 t
  unfold iblk1
  rw [View.read_apply]
  show V c main_arg1 _ = V c main_arg1 _
  congr 1
  funext a
  apply Fin.ext
  match a with
  | ⟨0, _⟩ => show win1_1.index t (0 : Fin 2) * 7168 + 1 * i.val = i.val; rw [e0]; omega
  | ⟨1, _⟩ => show win1_1.index t (1 : Fin 2) * 256 + 1 * j.val = 256 * (t.val) + j.val; rw [e1]; omega

theorem idx1_2 : ∀ t : Fin cfg1.N, win1_2.index t (0 : Fin 2) = 0 ∧ win1_2.index t (1 : Fin 2) = 72 + t.val :=
  (by decide +kernel : ∀ t : Fin grid1.N, _)
theorem iblk1_2 (c : Dev nD) (t : Fin cfg1.N) (i : Fin 7168) (j : Fin 256) :
    (iblk1 V c 2 t : Vec Ideal S7168x256 .fp8e4m3) (ix2 i j) = V c main_arg1 (ix2 i ⟨256 * (72 + t.val) + j.val, by have := lt1 t; omega⟩) := by
  obtain ⟨e0, e1⟩ := idx1_2 t
  unfold iblk1
  rw [View.read_apply]
  show V c main_arg1 _ = V c main_arg1 _
  congr 1
  funext a
  apply Fin.ext
  match a with
  | ⟨0, _⟩ => show win1_2.index t (0 : Fin 2) * 7168 + 1 * i.val = i.val; rw [e0]; omega
  | ⟨1, _⟩ => show win1_2.index t (1 : Fin 2) * 256 + 1 * j.val = 256 * (72 + t.val) + j.val; rw [e1]; omega

theorem idx1_3 : ∀ t : Fin cfg1.N, win1_3.index t (0 : Fin 2) = 0 ∧ win1_3.index t (1 : Fin 2) = t.val :=
  (by decide +kernel : ∀ t : Fin grid1.N, _)
theorem iblk1_3 (c : Dev nD) (t : Fin cfg1.N) (i : Fin 224) (j : Fin 256) :
    (iblk1 V c 3 t : Vec Ideal S224x256 .i8) (ix2 i j) = V c main_arg2 (ix2 i ⟨256 * (t.val) + j.val, by have := lt1 t; omega⟩) := by
  obtain ⟨e0, e1⟩ := idx1_3 t
  unfold iblk1
  rw [View.read_apply]
  show V c main_arg2 _ = V c main_arg2 _
  congr 1
  funext a
  apply Fin.ext
  match a with
  | ⟨0, _⟩ => show win1_3.index t (0 : Fin 2) * 224 + 1 * i.val = i.val; rw [e0]; omega
  | ⟨1, _⟩ => show win1_3.index t (1 : Fin 2) * 256 + 1 * j.val = 256 * (t.val) + j.val; rw [e1]; omega

theorem idx1_4 : ∀ t : Fin cfg1.N, win1_4.index t (0 : Fin 2) = 0 ∧ win1_4.index t (1 : Fin 2) = 72 + t.val :=
  (by decide +kernel : ∀ t : Fin grid1.N, _)
theorem iblk1_4 (c : Dev nD) (t : Fin cfg1.N) (i : Fin 224) (j : Fin 256) :
    (iblk1 V c 4 t : Vec Ideal S224x256 .i8) (ix2 i j) = V c main_arg2 (ix2 i ⟨256 * (72 + t.val) + j.val, by have := lt1 t; omega⟩) := by
  obtain ⟨e0, e1⟩ := idx1_4 t
  unfold iblk1
  rw [View.read_apply]
  show V c main_arg2 _ = V c main_arg2 _
  congr 1
  funext a
  apply Fin.ext
  match a with
  | ⟨0, _⟩ => show win1_4.index t (0 : Fin 2) * 224 + 1 * i.val = i.val; rw [e0]; omega
  | ⟨1, _⟩ => show win1_4.index t (1 : Fin 2) * 256 + 1 * j.val = 256 * (72 + t.val) + j.val; rw [e1]; omega

theorem idx1_5 : ∀ t : Fin cfg1.N, win1_5.index t (0 : Fin 2) = 0 ∧ win1_5.index t (1 : Fin 2) = t.val :=
  (by decide +kernel : ∀ t : Fin grid1.N, _)
theorem read1_5 (t : Fin cfg1.N) (g : Vec Ideal S256x18432 .fp8e4m3) (i : Fin 256) (j : Fin 256) :
    ((cfg1.win 5).blk t).view.read (Elt Ideal) g (ix2 i j) = g (ix2 i ⟨256 * (t.val) + j.val, by have := lt1 t; omega⟩) := by
  obtain ⟨e0, e1⟩ := idx1_5 t
  rw [View.read_apply]
  show g _ = g _
  congr 1
  funext a
  apply Fin.ext
  match a with
  | ⟨0, _⟩ => show win1_5.index t (0 : Fin 2) * 256 + 1 * i.val = i.val; rw [e0]; omega
  | ⟨1, _⟩ => show win1_5.index t (1 : Fin 2) * 256 + 1 * j.val = 256 * (t.val) + j.val; rw [e1]; omega
theorem cover1_5 (i : S256x18432.Idx) : ∃ t : Fin cfg1.N, (cfg1.win 5).flush t = true ∧ i ∈ ((cfg1.win 5).blk t).view.set := by
  have h0 : (i 0 : Nat) < 256 := (i 0).isLt
  have h1 : (i 1 : Nat) < 18432 := (i 1).isLt
  let t : Fin cfg1.N := ⟨(i 1 : Nat) / 256, lt_of_lt_of_eq (b := 72) (by omega) N_1.symm⟩
  obtain ⟨e0, e1⟩ := idx1_5 t
  refine ⟨t, flush1_5 t, ?_⟩
  show i ∈ ((View.whole main_v2_0).slice (win1_5.rect t)).set
  rw [View.set_slice_whole, Rect.mem_set_unit]
  intro a
  match a with
  | ⟨0, _⟩ =>
    show win1_5.index t (0 : Fin 2) * 256 ≤ (i 0 : Nat) ∧ (i 0 : Nat) < win1_5.index t (0 : Fin 2) * 256 + 256
    rw [e0]; omega
  | ⟨1, _⟩ =>
    show win1_5.index t (1 : Fin 2) * 256 ≤ (i 1 : Nat) ∧ (i 1 : Nat) < win1_5.index t (1 : Fin 2) * 256 + 256
    rw [e1]; show (i 1 : Nat) / 256 * 256 ≤ (i 1 : Nat) ∧ (i 1 : Nat) < (i 1 : Nat) / 256 * 256 + 256; omega

theorem idx1_6 : ∀ t : Fin cfg1.N, win1_6.index t (0 : Fin 2) = 0 ∧ win1_6.index t (1 : Fin 2) = t.val :=
  (by decide +kernel : ∀ t : Fin grid1.N, _)
theorem read1_6 (t : Fin cfg1.N) (g : Vec Ideal S256x18432 .bf16) (i : Fin 256) (j : Fin 256) :
    ((cfg1.win 6).blk t).view.read (Elt Ideal) g (ix2 i j) = g (ix2 i ⟨256 * (t.val) + j.val, by have := lt1 t; omega⟩) := by
  obtain ⟨e0, e1⟩ := idx1_6 t
  rw [View.read_apply]
  show g _ = g _
  congr 1
  funext a
  apply Fin.ext
  match a with
  | ⟨0, _⟩ => show win1_6.index t (0 : Fin 2) * 256 + 1 * i.val = i.val; rw [e0]; omega
  | ⟨1, _⟩ => show win1_6.index t (1 : Fin 2) * 256 + 1 * j.val = 256 * (t.val) + j.val; rw [e1]; omega
theorem cover1_6 (i : S256x18432.Idx) : ∃ t : Fin cfg1.N, (cfg1.win 6).flush t = true ∧ i ∈ ((cfg1.win 6).blk t).view.set := by
  have h0 : (i 0 : Nat) < 256 := (i 0).isLt
  have h1 : (i 1 : Nat) < 18432 := (i 1).isLt
  let t : Fin cfg1.N := ⟨(i 1 : Nat) / 256, lt_of_lt_of_eq (b := 72) (by omega) N_1.symm⟩
  obtain ⟨e0, e1⟩ := idx1_6 t
  refine ⟨t, flush1_6 t, ?_⟩
  show i ∈ ((View.whole main_v2_1).slice (win1_6.rect t)).set
  rw [View.set_slice_whole, Rect.mem_set_unit]
  intro a
  match a with
  | ⟨0, _⟩ =>
    show win1_6.index t (0 : Fin 2) * 256 ≤ (i 0 : Nat) ∧ (i 0 : Nat) < win1_6.index t (0 : Fin 2) * 256 + 256
    rw [e0]; omega
  | ⟨1, _⟩ =>
    show win1_6.index t (1 : Fin 2) * 256 ≤ (i 1 : Nat) ∧ (i 1 : Nat) < win1_6.index t (1 : Fin 2) * 256 + 256
    rw [e1]; show (i 1 : Nat) / 256 * 256 ≤ (i 1 : Nat) ∧ (i 1 : Nat) < (i 1 : Nat) / 256 * 256 + 256; omega

theorem idx1_7 : ∀ t : Fin cfg1.N, win1_7.index t (0 : Fin 2) = 0 ∧ win1_7.index t (1 : Fin 2) = 0 :=
  (by decide +kernel : ∀ t : Fin grid1.N, _)
theorem read1_7 (t : Fin cfg1.N) (g : Vec Ideal S256x576 .f32) (i : Fin 256) (j : Fin 576) :
    ((cfg1.win 7).blk t).view.read (Elt Ideal) g (ix2 i j) = g (ix2 i j) := by
  obtain ⟨e0, e1⟩ := idx1_7 t
  rw [View.read_apply]
  show g _ = g _
  congr 1
  funext a
  apply Fin.ext
  match a with
  | ⟨0, _⟩ => show win1_7.index t (0 : Fin 2) * 256 + 1 * i.val = i.val; rw [e0]; omega
  | ⟨1, _⟩ => show win1_7.index t (1 : Fin 2) * 576 + 1 * j.val = j.val; rw [e1]; omega
theorem cover1_7 (i : S256x576.Idx) : ∃ t : Fin cfg1.N, (cfg1.win 7).flush t = true ∧ i ∈ ((cfg1.win 7).blk t).view.set := by
  have h0 : (i 0 : Nat) < 256 := (i 0).isLt
  have h1 : (i 1 : Nat) < 576 := (i 1).isLt
  let t : Fin cfg1.N := ⟨71, lt_of_lt_of_eq (b := 72) (by decide) N_1.symm⟩
  obtain ⟨e0, e1⟩ := idx1_7 t
  refine ⟨t, (flush1_7 t).mpr rfl, ?_⟩
  show i ∈ ((View.whole main_v2_2).slice (win1_7.rect t)).set
  rw [View.set_slice_whole, Rect.mem_set_unit]
  intro a
  match a with
  | ⟨0, _⟩ =>
    show win1_7.index t (0 : Fin 2) * 256 ≤ (i 0 : Nat) ∧ (i 0 : Nat) < win1_7.index t (0 : Fin 2) * 256 + 256
    rw [e0]; omega
  | ⟨1, _⟩ =>
    show win1_7.index t (1 : Fin 2) * 576 ≤ (i 1 : Nat) ∧ (i 1 : Nat) < win1_7.index t (1 : Fin 2) * 576 + 576
    rw [e1]; omega

theorem idx2_0 : ∀ t : Fin cfg2.N, win2_0.index t (0 : Fin 2) = 0 ∧ win2_0.index t (1 : Fin 2) = 0 :=
  (by decide +kernel : ∀ t : Fin grid2.N, _)
theorem iblk2_0 (c : Dev nD) (t : Fin cfg2.N) (i : Fin 256) (j : Fin 18432) :
    (iblk2 V c 0 t : Vec Ideal S256x18432 .bf16) (ix2 i j) = V c main_v2_1 (ix2 i j) := by
  obtain ⟨e0, e1⟩ := idx2_0 t
  unfold iblk2
  rw [View.read_apply]
  show V c main_v2_1 _ = V c main_v2_1 _
  congr 1
  funext a
  apply Fin.ext
  match a with
  | ⟨0, _⟩ => show win2_0.index t (0 : Fin 2) * 256 + 1 * i.val = i.val; rw [e0]; omega
  | ⟨1, _⟩ => show win2_0.index t (1 : Fin 2) * 18432 + 1 * j.val = j.val; rw [e1]; omega

theorem idx2_1 : ∀ t : Fin cfg2.N, win2_1.index t (0 : Fin 2) = 0 ∧ win2_1.index t (1 : Fin 2) = t.val :=
  (by decide +kernel : ∀ t : Fin grid2.N, _)
theorem iblk2_1 (c : Dev nD) (t : Fin cfg2.N) (i : Fin 18432) (j : Fin 256) :
    (iblk2 V c 1 t : Vec Ideal S18432x256 .fp8e4m3) (ix2 i j) = V c main_arg3 (ix2 i ⟨256 * (t.val) + j.val, by have := lt2 t; omega⟩) := by
  obtain ⟨e0, e1⟩ := idx2_1 t
  unfold iblk2
  rw [View.read_apply]
  show V c main_arg3 _ = V c main_arg3 _
  congr 1
  funext a
  apply Fin.ext
  match a with
  | ⟨0, _⟩ => show win2_1.index t (0 : Fin 2) * 18432 + 1 * i.val = i.val; rw [e0]; omega
  | ⟨1, _⟩ => show win2_1.index t (1 : Fin 2) * 256 + 1 * j.val = 256 * (t.val) + j.val; rw [e1]; omega

theorem idx2_2 : ∀ t : Fin cfg2.N, win2_2.index t (0 : Fin 2) = 0 ∧ win2_2.index t (1 : Fin 2) = t.val :=
  (by decide +kernel : ∀ t : Fin grid2.N, _)
theorem iblk2_2 (c : Dev nD) (t : Fin cfg2.N) (i : Fin 576) (j : Fin 256) :
    (iblk2 V c 2 t : Vec Ideal S576x256 .i8) (ix2 i j) = V c main_arg4 (ix2 i ⟨256 * (t.val) + j.val, by have := lt2 t; omega⟩) := by
  obtain ⟨e0, e1⟩ := idx2_2 t
  unfold iblk2
  rw [View.read_apply]
  show V c main_arg4 _ = V c main_arg4 _
  congr 1
  funext a
  apply Fin.ext
  match a with
  | ⟨0, _⟩ => show win2_2.index t (0 : Fin 2) * 576 + 1 * i.val = i.val; rw [e0]; omega
  | ⟨1, _⟩ => show win2_2.index t (1 : Fin 2) * 256 + 1 * j.val = 256 * (t.val) + j.val; rw [e1]; omega

theorem idx2_3 : ∀ t : Fin cfg2.N, win2_3.index t (0 : Fin 2) = 0 ∧ win2_3.index t (1 : Fin 2) = t.val :=
  (by decide +kernel : ∀ t : Fin grid2.N, _)
theorem read2_3 (t : Fin cfg2.N) (g : Vec Ideal S256x7168 .bf16) (i : Fin 256) (j : Fin 256) :
    ((cfg2.win 3).blk t).view.read (Elt Ideal) g (ix2 i j) = g (ix2 i ⟨256 * (t.val) + j.val, by have := lt2 t; omega⟩) := by
  obtain ⟨e0, e1⟩ := idx2_3 t
  rw [View.read_apply]
  show g _ = g _
  congr 1
  funext a
  apply Fin.ext
  match a with
  | ⟨0, _⟩ => show win2_3.index t (0 : Fin 2) * 256 + 1 * i.val = i.val; rw [e0]; omega
  | ⟨1, _⟩ => show win2_3.index t (1 : Fin 2) * 256 + 1 * j.val = 256 * (t.val) + j.val; rw [e1]; omega
theorem cover2_3 (i : S256x7168.Idx) : ∃ t : Fin cfg2.N, (cfg2.win 3).flush t = true ∧ i ∈ ((cfg2.win 3).blk t).view.set := by
  have h0 : (i 0 : Nat) < 256 := (i 0).isLt
  have h1 : (i 1 : Nat) < 7168 := (i 1).isLt
  let t : Fin cfg2.N := ⟨(i 1 : Nat) / 256, lt_of_lt_of_eq (b := 28) (by omega) N_2.symm⟩
  obtain ⟨e0, e1⟩ := idx2_3 t
  refine ⟨t, flush2_3 t, ?_⟩
  show i ∈ ((View.whole main_v3).slice (win2_3.rect t)).set
  rw [View.set_slice_whole, Rect.mem_set_unit]
  intro a
  match a with
  | ⟨0, _⟩ =>
    show win2_3.index t (0 : Fin 2) * 256 ≤ (i 0 : Nat) ∧ (i 0 : Nat) < win2_3.index t (0 : Fin 2) * 256 + 256
    rw [e0]; omega
  | ⟨1, _⟩ =>
    show win2_3.index t (1 : Fin 2) * 256 ≤ (i 1 : Nat) ∧ (i 1 : Nat) < win2_3.index t (1 : Fin 2) * 256 + 256
    rw [e1]; show (i 1 : Nat) / 256 * 256 ≤ (i 1 : Nat) ∧ (i 1 : Nat) < (i 1 : Nat) / 256 * 256 + 256; omega

/-! ## The first call: the input's codes, scales, and codes times scales -/

section
variable (c : Dev nD) (v : ℕ → ℕ → EReal) (hv : ∀ (r : Fin 256) (k : Fin 7168), (V c main_v0 (ix2 r k) : EReal) = v r.val k.val)
include hv

theorem in0 (t : Fin cfg0.N) (r j : Fin 256) : ((iblk0 V c 0 t : Vec Ideal S256x256 .bf16) (ix2 r j) : EReal) = v r.val (256 * t.val + j.val) :=
  (iblk0_0 V c t r j).trans (hv _ _)

theorem arr0_1 : (dat0 V c).arrAt 1 cfg0.N = (fun y => qcode v (y 0).val (y 1).val : Vec Ideal S256x7168 .fp8e4m3) :=
  (dat0 V c).arrAt_eq_of_cover 1 (fun y => qcode v (y 0).val (y 1).val : Vec Ideal S256x7168 .fp8e4m3) (fun t _ => by
    show (cfg0.win 1).cut (grid0.coords t) ((dat0 V c).after 1 t) = _
    rw [after0_1]
    funext y
    obtain ⟨i, j, rfl⟩ : ∃ (i : Fin 256) (j : Fin 256), y = ix2 i j := ⟨y 0, y 1, eq_ix2 y⟩
    refine Eq.trans ?_ (read0_1 t (fun y => qcode v (y 0).val (y 1).val : Vec Ideal S256x7168 .fp8e4m3) i j).symm
    exact codes_block v (iblk0 V c 0 t) (256 * t.val) (by omega) (in0 V c v hv t) i j) cover0_1

theorem arr0_2 : (dat0 V c).arrAt 2 cfg0.N = (fun y => qdeq v (y 0).val (y 1).val : Vec Ideal S256x7168 .bf16) :=
  (dat0 V c).arrAt_eq_of_cover 2 (fun y => qdeq v (y 0).val (y 1).val : Vec Ideal S256x7168 .bf16) (fun t _ => by
    show (cfg0.win 2).cut (grid0.coords t) ((dat0 V c).after 2 t) = _
    rw [after0_2]
    funext y
    obtain ⟨i, j, rfl⟩ : ∃ (i : Fin 256) (j : Fin 256), y = ix2 i j := ⟨y 0, y 1, eq_ix2 y⟩
    refine Eq.trans ?_ (read0_2 t (fun y => qdeq v (y 0).val (y 1).val : Vec Ideal S256x7168 .bf16) i j).symm
    exact deq_block v (iblk0 V c 0 t) (256 * t.val) (by omega) (in0 V c v hv t) i j) cover0_2

theorem scales0 (r : Fin 256) (g : Fin 224) : scaleArr224 (scale0 V c) (ix2 r g) = qscl v r.val (g.val * 32) := by
  refine Eq.trans (b := scale0 V c (g.val / 4) (ix2 r ⟨g.val % 4 * 32, by omega⟩)) rfl ?_
  unfold scale0
  refine (scale_half v _ _ ?_ (part_half v _ _ (in0 V c v hv ⟨g.val / 4 / 2 % 28, _⟩) (g.val / 4 % 2) (by omega)) r _).trans ?_
  · show (256 * (g.val / 4 / 2 % 28) + 128 * (g.val / 4 % 2)) % 32 = 0
    omega
  · congr 1
    show 256 * (g.val / 4 / 2 % 28) + 128 * (g.val / 4 % 2) + g.val % 4 * 32 = g.val * 32
    omega

theorem arr0_3 : (dat0 V c).arrAt 3 cfg0.N = (fun y => qscl v (y 0).val ((y 1).val * 32) : Vec Ideal S256x224 .f32) :=
  (dat0 V c).arrAt_eq_of_cover 3 (fun y => qscl v (y 0).val ((y 1).val * 32) : Vec Ideal S256x224 .f32) (fun t _ => by
    show (cfg0.win 3).cut (grid0.coords t) ((dat0 V c).after 3 t) = _
    rw [after0_3]
    funext y
    obtain ⟨i, j, rfl⟩ : ∃ (i : Fin 256) (j : Fin 224), y = ix2 i j := ⟨y 0, y 1, eq_ix2 y⟩
    refine Eq.trans ?_ (read0_3 t (fun y => qscl v (y 0).val ((y 1).val * 32) : Vec Ideal S256x224 .f32) i j).symm
    exact scales0 V c v hv i j) cover0_3

end

/-! ## The second call: the activations' codes, scales, and codes times scales -/

section
variable (c : Dev nD) (q : ℕ → ℕ → EReal) (hq : ∀ (r : Fin 256) (k : Fin 7168), (V c main_v1_1 (ix2 r k) : EReal) = q r.val k.val)
  (w : Vec Ideal S7168x36864 .fp8e4m3) (hw : V c main_arg1 = w) (s : Vec Ideal S224x36864 .i8) (hs : V c main_arg2 = s)

/-- The activations, by the product's columns. -/
def actOf (q : ℕ → ℕ → EReal) (w : Vec Ideal S7168x36864 .fp8e4m3) (s : Vec Ideal S224x36864 .i8) (r c : ℕ) : EReal :=
  gate (dot 7168 (q r) (fun k => at2 w k c) (fun k => at2 s k c))
    (dot 7168 (q r) (fun k => at2 w k (18432 + c)) (fun k => at2 s k (18432 + c)))

include hq hw hs

theorem in1 (t : Fin cfg1.N) (r j : Fin 256) : (act1 V c t (ix2 r j) : EReal) = actOf q w s r.val (256 * t.val + j.val) := by
  have ht := lt1 t
  unfold act1
  rw [gated_apply]
  have ha : ∀ k < 7168, at2 (iblk1 V c 0 t : Vec Ideal S256x7168 .bf16) r.val k = q r.val k := fun k hk => by
    rw [at2_lt _ _ _ r.isLt hk]; exact (iblk1_0 V c t _ _).trans (hq _ ⟨k, hk⟩)
  unfold actOf
  congr 1
  · refine dot_congr 7168 _ _ _ _ _ _ ha (fun k hk => ?_) fun k hk => ?_
    · rw [at2_lt _ _ _ hk j.isLt, at2_lt w _ _ hk (by omega)]; exact (iblk1_1 V c t ⟨k, hk⟩ j).trans (congrFun hw _)
    · rw [at2_lt _ _ _ (by omega : k / 32 < 224) j.isLt, at2_lt s _ _ (by omega : k / 32 < 224) (by omega)]
      exact (iblk1_3 V c t ⟨k / 32, by omega⟩ j).trans (congrFun hs _)
  · have e : 18432 + (256 * t.val + j.val) = 256 * (72 + t.val) + j.val := by omega
    rw [e]
    refine dot_congr 7168 _ _ _ _ _ _ ha (fun k hk => ?_) fun k hk => ?_
    · rw [at2_lt _ _ _ hk j.isLt, at2_lt w _ _ hk (by omega)]; exact (iblk1_2 V c t ⟨k, hk⟩ j).trans (congrFun hw _)
    · rw [at2_lt _ _ _ (by omega : k / 32 < 224) j.isLt, at2_lt s _ _ (by omega : k / 32 < 224) (by omega)]
      exact (iblk1_4 V c t ⟨k / 32, by omega⟩ j).trans (congrFun hs _)

theorem arr1_5 : (dat1 V c).arrAt 5 cfg1.N = (fun y => qcode (actOf q w s) (y 0).val (y 1).val : Vec Ideal S256x18432 .fp8e4m3) :=
  (dat1 V c).arrAt_eq_of_cover 5 (fun y => qcode (actOf q w s) (y 0).val (y 1).val : Vec Ideal S256x18432 .fp8e4m3) (fun t _ => by
    show (cfg1.win 5).cut (grid1.coords t) ((dat1 V c).after 5 t) = _
    rw [after1_5]
    funext y
    obtain ⟨i, j, rfl⟩ : ∃ (i : Fin 256) (j : Fin 256), y = ix2 i j := ⟨y 0, y 1, eq_ix2 y⟩
    refine Eq.trans ?_ (read1_5 t (fun y => qcode (actOf q w s) (y 0).val (y 1).val : Vec Ideal S256x18432 .fp8e4m3) i j).symm
    exact hcodes_block (actOf q w s) (act1 V c t) (256 * t.val) (by omega) (in1 V c q hq w hw s hs t) i j) cover1_5

theorem arr1_6 : (dat1 V c).arrAt 6 cfg1.N = (fun y => qdeq (actOf q w s) (y 0).val (y 1).val : Vec Ideal S256x18432 .bf16) :=
  (dat1 V c).arrAt_eq_of_cover 6 (fun y => qdeq (actOf q w s) (y 0).val (y 1).val : Vec Ideal S256x18432 .bf16) (fun t _ => by
    show (cfg1.win 6).cut (grid1.coords t) ((dat1 V c).after 6 t) = _
    rw [after1_6]
    funext y
    obtain ⟨i, j, rfl⟩ : ∃ (i : Fin 256) (j : Fin 256), y = ix2 i j := ⟨y 0, y 1, eq_ix2 y⟩
    refine Eq.trans ?_ (read1_6 t (fun y => qdeq (actOf q w s) (y 0).val (y 1).val : Vec Ideal S256x18432 .bf16) i j).symm
    exact hdeq_block (actOf q w s) (act1 V c t) (256 * t.val) (by omega) (in1 V c q hq w hw s hs t) i j) cover1_6

theorem scales1 (r : Fin 256) (g : Fin 576) : scaleArr576 (scale1 V c) (ix2 r g) = qscl (actOf q w s) r.val (g.val * 32) := by
  refine Eq.trans (b := scale1 V c (g.val / 4) (ix2 r ⟨g.val % 4 * 32, by omega⟩)) rfl ?_
  unfold scale1
  refine (scale_half (actOf q w s) _ _ ?_ (slice_half (actOf q w s) _ _ (in1 V c q hq w hw s hs ⟨g.val / 4 / 2 % 72, _⟩) (g.val / 4 % 2) (by omega)) r _).trans ?_
  · show (256 * (g.val / 4 / 2 % 72) + 128 * (g.val / 4 % 2)) % 32 = 0
    omega
  · congr 1
    show 256 * (g.val / 4 / 2 % 72) + 128 * (g.val / 4 % 2) + g.val % 4 * 32 = g.val * 32
    omega

theorem arr1_7 : (dat1 V c).arrAt 7 cfg1.N = (fun y => qscl (actOf q w s) (y 0).val ((y 1).val * 32) : Vec Ideal S256x576 .f32) :=
  (dat1 V c).arrAt_eq_of_cover 7 (fun y => qscl (actOf q w s) (y 0).val ((y 1).val * 32) : Vec Ideal S256x576 .f32) (fun t _ => by
    show (cfg1.win 7).cut (grid1.coords t) ((dat1 V c).after 7 t) = _
    rw [after1_7]
    funext y
    obtain ⟨i, j, rfl⟩ : ∃ (i : Fin 256) (j : Fin 576), y = ix2 i j := ⟨y 0, y 1, eq_ix2 y⟩
    refine Eq.trans ?_ (read1_7 t (fun y => qscl (actOf q w s) (y 0).val ((y 1).val * 32) : Vec Ideal S256x576 .f32) i j).symm
    exact scales1 V c q hq w hw s hs i j) cover1_7

end

/-! ## The third call: the output -/

section
variable (c : Dev nD) (q : ℕ → ℕ → EReal) (hq : ∀ (r : Fin 256) (k : Fin 18432), (V c main_v2_1 (ix2 r k) : EReal) = q r.val k.val)
  (w : Vec Ideal S18432x7168 .fp8e4m3) (hw : V c main_arg3 = w) (s : Vec Ideal S576x7168 .i8) (hs : V c main_arg4 = s)
include hq hw hs

theorem in2 (t : Fin cfg2.N) (r j : Fin 256) : (out2 (iblk2 V c 0 t) (iblk2 V c 1 t) (iblk2 V c 2 t) (ix2 r j) : EReal)
    = dot 18432 (q r.val) (fun k => at2 w k (256 * t.val + j.val)) (fun k => at2 s k (256 * t.val + j.val)) := by
  have ht := lt2 t
  rw [out2_apply]
  refine dot_congr 18432 _ _ _ _ _ _ (fun k hk => ?_) (fun k hk => ?_) fun k hk => ?_
  · rw [at2_lt _ _ _ r.isLt hk]; exact (iblk2_0 V c t _ _).trans (hq _ ⟨k, hk⟩)
  · rw [at2_lt _ _ _ hk j.isLt, at2_lt w _ _ hk (by omega)]; exact (iblk2_1 V c t ⟨k, hk⟩ j).trans (congrFun hw _)
  · rw [at2_lt _ _ _ (by omega : k / 32 < 576) j.isLt, at2_lt s _ _ (by omega : k / 32 < 576) (by omega)]
    exact (iblk2_2 V c t ⟨k / 32, by omega⟩ j).trans (congrFun hs _)

theorem arr2_3 : (dat2 V c).arrAt 3 cfg2.N = (fun y => dot 18432 (q (y 0).val) (fun k => at2 w k (y 1).val) (fun k => at2 s k (y 1).val) : Vec Ideal S256x7168 .bf16) :=
  (dat2 V c).arrAt_eq_of_cover 3 (fun y => dot 18432 (q (y 0).val) (fun k => at2 w k (y 1).val) (fun k => at2 s k (y 1).val) : Vec Ideal S256x7168 .bf16) (fun t _ => by
    show (cfg2.win 3).cut (grid2.coords t) ((dat2 V c).after 3 t) = _
    rw [after2_3]
    funext y
    obtain ⟨i, j, rfl⟩ : ∃ (i : Fin 256) (j : Fin 256), y = ix2 i j := ⟨y 0, y 1, eq_ix2 y⟩
    refine Eq.trans ?_ (read2_3 t (fun y => dot 18432 (q (y 0).val) (fun k => at2 w k (y 1).val) (fun k => at2 s k (y 1).val) : Vec Ideal S256x7168 .bf16) i j).symm
    exact in2 V c q hq w hw s hs t i j) cover2_3

end

end Cert.KernelIdeal.Run

end
-- ==== Proof.Whole.lean ====
/-
  The whole kernel: host reshape, then the three calls one after the other; its frame, and the arrays its results are read from.
-/
module

public import proofs.«01_k».proof.Proof.Dat0
public import proofs.«01_k».proof.Proof.Dat1
public import proofs.«01_k».proof.Proof.Dat2

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)
abbrev argRefs : List (Ref sig .tc) := [main_arg0, main_arg1, main_arg2, main_arg3, main_arg4]

theorem hostOps0_fresh : (hostOps0 : List (HloOp τ sig (Elt F))).Forall fun op => op.fresh = ∅ := by
  simp only [List.Forall]; repeat' constructor
abbrev hostOps0_W : List (Ref sig .tc) := [main_v0]
theorem hostOps0_writes : (hostOps0 : List (HloOp τ sig (Elt F))).Forall fun op => op.writes ⊆ (hostOps0_W.map (Proc.devRef (τ := τ) .tc)).toFinset :=
  StableHlo.forall_writes_sub_of_map rfl
theorem hostOps0_args : ∀ a ∈ argRefs, a ∉ hostOps0_W := ListAll.forall_mem_of_all_decide (by decide +kernel)

abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
abbrev W1 : Dev nD → Valuation τ sig (Elt F) := fun c => StableHlo.after hostOps0 (W0 m ρ c)
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
abbrev V1 : (c : Dev nD) → (b : Ref sig .tc) → Buf (Elt F) ((c : Thread nD τ).loc b) := fun c b => W1 m ρ c b
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact (dat1 (V2 m ρ) c).withArrays_arrAt launch₀1.sharedIn _ (A_eq1 (V2 m ρ) c) w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
theorem W3_of (c : Dev nD) (r : Ref sig .tc) (h : ∀ w : Fin cfg1.W, Pipeline.arrRef spec1 w = r → (cfg1.win w).isOut = false) :
    W3 m ρ c (Proc.devRef .tc r) = W2 m ρ c (Proc.devRef .tc r) := by
  by_cases hw : ∃ w : Fin cfg1.W, Pipeline.arrRef spec1 w = r
  · obtain ⟨w, rfl⟩ := hw
    exact (W3_arr m ρ c w).trans (((dat1 (V2 m ρ) c).arrAt_in w (h w rfl) _).trans (A_eq1 (V2 m ρ) c w))
  · exact W3_of_ne m ρ c r fun w e => hw ⟨w, e⟩
theorem argsIn1 : ∀ a ∈ argRefs, ∀ w : Fin cfg1.W, Pipeline.arrRef spec1 w = a → (cfg1.win w).isOut = false :=
  ListAll.forall_mem_of_all_decide (by decide +kernel)
theorem W3_args (c : Dev nD) : ∀ a ∈ argRefs, W3 m ρ c (Proc.devRef .tc a) = m ((c : Thread nD τ).loc a) :=
  fun a ha => (W3_of m ρ c a (argsIn1 a ha)).trans (W2_args m ρ c a ha)
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

def W4 (c : Dev nD) : Valuation τ sig (Elt F) :=
  Pipeline.withArrays spec2 c (W3 m ρ c) fun w => (dat2 (V3 m ρ) c).arrAt w cfg2.N
theorem W4_arr (c : Dev nD) (w : Fin cfg2.W) :
    W4 m ρ c (Proc.devRef .tc (Pipeline.arrRef spec2 w)) = (dat2 (V3 m ρ) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m ρ c (Proc.devRef .tc b) = W3 m ρ c (Proc.devRef .tc b) := by
  unfold W4; exact Pipeline.withArrays_of_ne spec2 c _ _ b hb
theorem W4_of (c : Dev nD) (r : Ref sig .tc) (h : ∀ w : Fin cfg2.W, Pipeline.arrRef spec2 w = r → (cfg2.win w).isOut = false) :
    W4 m ρ c (Proc.devRef .tc r) = W3 m ρ c (Proc.devRef .tc r) := by
  by_cases hw : ∃ w : Fin cfg2.W, Pipeline.arrRef spec2 w = r
  · obtain ⟨w, rfl⟩ := hw
    exact (W4_arr m ρ c w).trans (((dat2 (V3 m ρ) c).arrAt_in w (h w rfl) _).trans (A_eq2 (V3 m ρ) c w))
  · exact W4_of_ne m ρ c r fun w e => hw ⟨w, e⟩
theorem argsIn2 : ∀ a ∈ argRefs, ∀ w : Fin cfg2.W, Pipeline.arrRef spec2 w = a → (cfg2.win w).isOut = false :=
  ListAll.forall_mem_of_all_decide (by decide +kernel)
theorem W4_args (c : Dev nD) : ∀ a ∈ argRefs, W4 m ρ c (Proc.devRef .tc a) = m ((c : Thread nD τ).loc a) :=
  fun a ha => (W4_of m ρ c a (argsIn2 a ha)).trans (W3_args m ρ c a ha)
abbrev V4 : (c : Dev nD) → (b : Ref sig .tc) → Buf (Elt F) ((c : Thread nD τ).loc b) := fun c b => W4 m ρ c b
theorem hF2 (c : Dev nD) (w : Fin cfg2.W) : (dat2 (V3 m ρ) c).arrAt w cfg2.N = V4 m ρ c (Pipeline.arrRef spec2 w) :=
  (W4_arr m ρ c w).symm
theorem hrest2 (c : Dev nD) : ∀ b, b ∉ Finset.univ.image (Pipeline.arrRef spec2) → V4 m ρ c b = V3 m ρ c b :=
  fun b hb => W4_of_ne m ρ c b fun w e => hb (Finset.mem_image.mpr ⟨w, Finset.mem_univ _, e⟩)

theorem W4_main_arg0 (c : Dev nD) : W4 m ρ c (Proc.devRef .tc main_arg0) = m ((c : Thread nD τ).loc main_arg0) :=
  W4_args m ρ c main_arg0 (by decide)
theorem W4_main_arg1 (c : Dev nD) : W4 m ρ c (Proc.devRef .tc main_arg1) = m ((c : Thread nD τ).loc main_arg1) :=
  W4_args m ρ c main_arg1 (by decide)
theorem W4_main_arg2 (c : Dev nD) : W4 m ρ c (Proc.devRef .tc main_arg2) = m ((c : Thread nD τ).loc main_arg2) :=
  W4_args m ρ c main_arg2 (by decide)
theorem W4_main_arg3 (c : Dev nD) : W4 m ρ c (Proc.devRef .tc main_arg3) = m ((c : Thread nD τ).loc main_arg3) :=
  W4_args m ρ c main_arg3 (by decide)
theorem W4_main_arg4 (c : Dev nD) : W4 m ρ c (Proc.devRef .tc main_arg4) = m ((c : Thread nD τ).loc main_arg4) :=
  W4_args m ρ c main_arg4 (by decide)

abbrev adm : (p : Fin 3) → (pcfgs (F := F) p).Adm := fun p => (cfgs p).toPCfg_adm
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
  | ⟨2, _⟩ => fun c => dat2 (V3 m ρ) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Phi0 (V1 m ρ) c 0 from rfl]
    have hΦ := Phi0_in (V1 m ρ) c
    unfold Pipeline.ΦA at hΦ
    iintro ⟨Hp, -, Hr⟩
    iapply hΦ
    isplitl [Hr]; · iexact Hr
    iexact Hp
  hout c := by
    rw [Pipeline.ownSems0_none, show (pdats m ρ 0 c).Φ (Fin.last _) = Phi0 (V1 m ρ) c cfg0.N from rfl]
    have hΦ := Phi0_out (V1 m ρ) c cfg0.N
    unfold Pipeline.ΦA at hΦ
    refine hΦ.trans ?_
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m ρ) () defs₀ 𝒱₀ L lv 1 where
  win := launch₀1.win
  block_pos := launch₀1.block_pos
  stage_whole := launch₀1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs_shared (p := 1) (pcfgs (F := F)) adm (pdats m ρ) launch₀1.win launch₀1.sharedIn launch₀1.arr_whole c
      (fun _ _ => rfl) (V2 m ρ c) (A_eq1 (V2 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Phi1 (V2 m ρ) c 0 from rfl]
    have hΦ := Phi1_in (V2 m ρ) c
    unfold Pipeline.ΦA at hΦ
    iintro ⟨Hp, -, Hr⟩
    iapply hΦ
    isplitl [Hr]; · iexact Hr
    iexact Hp
  hout c := by
    rw [Pipeline.ownSems0_none, show (pdats m ρ 1 c).Φ (Fin.last _) = Phi1 (V2 m ρ) c cfg1.N from rfl]
    have hΦ := Phi1_out (V2 m ρ) c cfg1.N
    unfold Pipeline.ΦA at hΦ
    refine hΦ.trans ?_
    iintro ⟨Hr, Hp⟩
    isplitl [Hp]; · iexact Hp
    isplitr; · iempintro
    iexact Hr
  hexit c := by
    have hjoin := Pipeline.unscopedBufs_of_arrays_shared (p := 1) (pcfgs (F := F)) adm (Ix := Unit) (Name := ℕ) (U := UR sig nD τ) (Lvl := ℕ)
      launch₀1.win launch₀1.sharedIn launch₀1.arr_whole c (pdats m ρ) (fun _ _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V3 m ρ) c).loose
  hwaits := Pipeline.hwaits_of_owed_zero _ _ _ _ L lv 2 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V3 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V3 m ρ c) (A_eq2 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V3 m ρ c) (V4 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .region (reg2 m ρ) ]
theorem main_run (c : Dev nD) : main (F := F) c = Pipeline.Seg.run (segs m ρ) := (main_chain c).trans (by chain_rfl)

theorem no_unscoped : ∀ sm : SemLoc sig, sm.isScoped .tc = true := by decide

set_option backward.isDefEq.respectTransparency.types false in
/-- Every run ends, with each buffer that is not scoped at the last boundary's contents and every counter at zero. -/
theorem all : θ_run defs (onTc (τ := τ) (main (F := F))) ⟨m, fun _ => 0, ρ⟩ (fun r => (∀ c : Dev nD, ∀ b ∈ Pipeline.ucRefs τ sig,
      r.2.mem ((c : Thread nD τ).1, b) = W4 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => ⟨h, funext fun g => hz g (.inr (no_unscoped g.2))⟩)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c =>
      ⟨(h.1 c _ (mem_uc main_arg0 (by decide))).trans (W4_main_arg0 m ρ c),
       (h.1 c _ (mem_uc main_arg1 (by decide))).trans (W4_main_arg1 m ρ c),
       (h.1 c _ (mem_uc main_arg2 (by decide))).trans (W4_main_arg2 m ρ c),
       (h.1 c _ (mem_uc main_arg3 (by decide))).trans (W4_main_arg3 m ρ c),
       (h.1 c _ (mem_uc main_arg4 (by decide))).trans (W4_main_arg4 m ρ c)⟩, h.2⟩) (all m ρ)

/-- The five results of a run, read off the last boundary. -/
theorem run : θ_run defs (onTc (τ := τ) (main (F := F))) ⟨m, fun _ => 0, ρ⟩ (fun r => ∀ c : Dev nD,
      (r.2.mem ((c.tc : Thread nD τ).loc main_v3) = W4 m ρ c (Proc.devRef .tc main_v3)
      ∧ r.2.mem ((c.tc : Thread nD τ).loc main_v1_0) = W4 m ρ c (Proc.devRef .tc main_v1_0)
      ∧ r.2.mem ((c.tc : Thread nD τ).loc main_v1_2) = W4 m ρ c (Proc.devRef .tc main_v1_2)
      ∧ r.2.mem ((c.tc : Thread nD τ).loc main_v2_0) = W4 m ρ c (Proc.devRef .tc main_v2_0)
      ∧ r.2.mem ((c.tc : Thread nD τ).loc main_v2_2) = W4 m ρ c (Proc.devRef .tc main_v2_2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
      ⟨⟨h.1 c _ (mem_uc main_v3 (by decide)), h.1 c _ (mem_uc main_v1_0 (by decide)), h.1 c _ (mem_uc main_v1_2 (by decide)),
        h.1 c _ (mem_uc main_v2_0 (by decide)), h.1 c _ (mem_uc main_v2_2 (by decide))⟩,
       (h.1 c _ (mem_uc main_arg0 (by decide))).trans (W4_main_arg0 m ρ c),
       (h.1 c _ (mem_uc main_arg1 (by decide))).trans (W4_main_arg1 m ρ c),
       (h.1 c _ (mem_uc main_arg2 (by decide))).trans (W4_main_arg2 m ρ c),
       (h.1 c _ (mem_uc main_arg3 (by decide))).trans (W4_main_arg3 m ρ c),
       (h.1 c _ (mem_uc main_arg4 (by decide))).trans (W4_main_arg4 m ρ c)⟩) (all m ρ)

end Cert.KernelIdeal.Run
-- ==== Proof.KRun.lean ====
/-
  THE KERNEL'S RUN OVER THE EXTENDED REALS: the three calls in order. The first reads the input, the second the first's codes
  times scales, the third the second's; so the five results are the layer of `ASpec` of the arguments (`value_run`).
-/
module

public import proofs.«01_k».proof.Proof.KArr
public import proofs.«01_k».proof.Proof.Whole

@[expose] public section

set_option maxRecDepth 16384

noncomputable section

open Idealize.ShloMosaic Idealize.ShloMosaic.TcCoe Idealize.SL.Sem
open Idealize.ShloMosaic.Pipeline (Dat)

namespace Cert.KernelIdeal.Run

open Cert.KernelIdeal Cert.KernelIdeal.Gen

open Cert.Words (at2 at2_val qcode qscl qdeq dot input act resOut resXCodes resXScale resHCodes resHScale)

/-- The input's one batch, laid out as a matrix. -/
theorem batch_apply (x : Vec Ideal S1x256x7168 .bf16) (r : Fin 256) (k : Fin 7168) :
    shapeCast S256x7168 x shapeCasts_S1x256x7168_S256x7168 (ix2 r k) = x (ix3 0 r k) := by
  pointwise

theorem input_val (x : Vec Ideal S1x256x7168 .bf16) (r : Fin 256) (k : Fin 7168) : (x (ix3 0 r k) : EReal) = input x r.val k.val := by
  unfold input
  congr 2 <;> exact Fin.ext (Nat.mod_eq_of_lt (Fin.isLt _)).symm

variable (m : (ℓ : Loc nD τ sig) → Buf (Elt Ideal) ℓ) (ρ : Dev nD → PrngReg) (c : Dev nD)

/-- The first call reads the input. -/
theorem reads0 (r : Fin 256) (k : Fin 7168) :
    (V1 m ρ c main_v0 (ix2 r k) : EReal) = input (m ((c : Thread nD τ).loc main_arg0)) r.val k.val := by
  have e : V1 m ρ c main_v0 = shapeCast S256x7168 (m ((c : Thread nD τ).loc main_arg0)) shapeCasts_S1x256x7168_S256x7168 := by
    show StableHlo.after hostOps0 (W0 m ρ c) (Proc.devRef .tc main_v0) = _
    rfl
  rw [e]
  exact (batch_apply (m ((c : Thread nD τ).loc main_arg0)) r k).trans (input_val (m ((c : Thread nD τ).loc main_arg0)) r k)

/-- The second call reads its codes times scales. -/
theorem reads1 (r : Fin 256) (k : Fin 7168) :
    (V2 m ρ c main_v1_1 (ix2 r k) : EReal) = qdeq (input (m ((c : Thread nD τ).loc main_arg0))) r.val k.val :=
  congrFun ((W2_arr m ρ c 2).trans (arr0_2 (V1 m ρ) c _ (reads0 m ρ c))) (ix2 r k)

/-- The second call's activations are the layer's. -/
theorem act_eq (x : Vec Ideal S1x256x7168 .bf16) (w : Vec Ideal S7168x36864 .fp8e4m3) (s : Vec Ideal S224x36864 .i8) :
    actOf (qdeq (input x)) w s = act x w s := rfl

theorem w1 : V2 m ρ c main_arg1 = m ((c : Thread nD τ).loc main_arg1) := W2_args m ρ c main_arg1 (by decide)
theorem s1 : V2 m ρ c main_arg2 = m ((c : Thread nD τ).loc main_arg2) := W2_args m ρ c main_arg2 (by decide)
theorem w2 : V3 m ρ c main_arg3 = m ((c : Thread nD τ).loc main_arg3) := W3_args m ρ c main_arg3 (by decide)
theorem s2 : V3 m ρ c main_arg4 = m ((c : Thread nD τ).loc main_arg4) := W3_args m ρ c main_arg4 (by decide)

/-- The third call reads the activations' codes times scales. -/
theorem reads2 (r : Fin 256) (k : Fin 18432) :
    (V3 m ρ c main_v2_1 (ix2 r k) : EReal)
      = qdeq (act (m ((c : Thread nD τ).loc main_arg0)) (m ((c : Thread nD τ).loc main_arg1)) (m ((c : Thread nD τ).loc main_arg2))) r.val k.val := by
  rw [← act_eq]
  exact congrFun ((W3_arr m ρ c 6).trans (arr1_6 (V2 m ρ) c _ (reads1 m ρ c) _ (w1 m ρ c) _ (s1 m ρ c))) (ix2 r k)

theorem val_out : W4 m ρ c (Proc.devRef .tc main_v3) = resOut (m ((c : Thread nD τ).loc main_arg0)) (m ((c : Thread nD τ).loc main_arg1))
    (m ((c : Thread nD τ).loc main_arg2)) (m ((c : Thread nD τ).loc main_arg3)) (m ((c : Thread nD τ).loc main_arg4)) :=
  (W4_arr m ρ c 3).trans (arr2_3 (V3 m ρ) c _ (reads2 m ρ c) _ (w2 m ρ c) _ (s2 m ρ c))

theorem val_x_codes : W4 m ρ c (Proc.devRef .tc main_v1_0) = resXCodes (m ((c : Thread nD τ).loc main_arg0)) :=
  (W4_of m ρ c main_v1_0 (by decide +kernel)).trans ((W3_of m ρ c main_v1_0 (by decide +kernel)).trans
    ((W2_arr m ρ c 1).trans (arr0_1 (V1 m ρ) c _ (reads0 m ρ c))))

theorem val_x_scale : W4 m ρ c (Proc.devRef .tc main_v1_2) = resXScale (m ((c : Thread nD τ).loc main_arg0)) :=
  (W4_of m ρ c main_v1_2 (by decide +kernel)).trans ((W3_of m ρ c main_v1_2 (by decide +kernel)).trans
    ((W2_arr m ρ c 3).trans (arr0_3 (V1 m ρ) c _ (reads0 m ρ c))))

theorem val_h_codes : W4 m ρ c (Proc.devRef .tc main_v2_0)
    = resHCodes (m ((c : Thread nD τ).loc main_arg0)) (m ((c : Thread nD τ).loc main_arg1)) (m ((c : Thread nD τ).loc main_arg2)) :=
  (W4_of m ρ c main_v2_0 (by decide +kernel)).trans
    ((W3_arr m ρ c 5).trans (arr1_5 (V2 m ρ) c _ (reads1 m ρ c) _ (w1 m ρ c) _ (s1 m ρ c)))

theorem val_h_scale : W4 m ρ c (Proc.devRef .tc main_v2_2)
    = resHScale (m ((c : Thread nD τ).loc main_arg0)) (m ((c : Thread nD τ).loc main_arg1)) (m ((c : Thread nD τ).loc main_arg2)) :=
  (W4_of m ρ c main_v2_2 (by decide +kernel)).trans
    ((W3_arr m ρ c 7).trans (arr1_7 (V2 m ρ) c _ (reads1 m ρ c) _ (w1 m ρ c) _ (s1 m ρ c)))

/-- The run, read: the results are the layer's, the arguments unchanged. -/
theorem value_run : θ_run defs (onTc (τ := τ) (main (F := Ideal))) ⟨m, fun _ => 0, ρ⟩ fun r => ∀ c : Dev nD,
      r.2.mem ((c : Thread nD τ).loc main_v3) = resOut (m ((c : Thread nD τ).loc main_arg0)) (m ((c : Thread nD τ).loc main_arg1))
          (m ((c : Thread nD τ).loc main_arg2)) (m ((c : Thread nD τ).loc main_arg3)) (m ((c : Thread nD τ).loc main_arg4))
      ∧ r.2.mem ((c : Thread nD τ).loc main_v1_0) = resXCodes (m ((c : Thread nD τ).loc main_arg0))
      ∧ r.2.mem ((c : Thread nD τ).loc main_v1_2) = resXScale (m ((c : Thread nD τ).loc main_arg0))
      ∧ r.2.mem ((c : Thread nD τ).loc main_v2_0)
          = resHCodes (m ((c : Thread nD τ).loc main_arg0)) (m ((c : Thread nD τ).loc main_arg1)) (m ((c : Thread nD τ).loc main_arg2))
      ∧ r.2.mem ((c : Thread nD τ).loc main_v2_2)
          = resHScale (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨(h c).1.1.trans (val_out m ρ c), (h c).1.2.1.trans (val_x_codes m ρ c),
    (h c).1.2.2.1.trans (val_x_scale m ρ c), (h c).1.2.2.2.1.trans (val_h_codes m ρ c), (h c).1.2.2.2.2.trans (val_h_scale m ρ c), (h c).2⟩)
    (run m ρ)

end Cert.KernelIdeal.Run

end
-- ==== Proof.RefIdeal.lean ====
/-
  THE REFERENCE IS THE MATHEMATICS: what the reference's body computes of its arguments, read at an index over the extended
  reals, is the layer of `ASpec` (its codes, its scales and its result).
-/
module

public import proofs.«01_k».proof.Proof.Gen.ReferenceIdeal.Frame
public import proofs.«01_k».proof.Proof.ASpec

@[expose] public section

set_option maxRecDepth 16384

noncomputable section

open Idealize.ShloMosaic Idealize.ShloMosaic.TcCoe Idealize.SL.Sem Cert.Words

namespace Cert.Words

theorem dot_fin (K : ℕ) (a w : ℕ → EReal) (s : ℕ → BitVec 8) :
    dot K a w s = ∑ k : Fin K, a k.val * (w k.val * pow (s (k.val / 32))) := by
  unfold dot
  rw [← Fin.sum_univ_eq_sum_range (fun k => a k * (w k * pow (s (k / 32))))]

theorem grp_base (v : ℕ → ℕ → EReal) (r c : ℕ) : grp v r (c / 32 * 32) = grp v r c := by
  unfold grp
  funext l
  have e : c / 32 * 32 / 32 * 32 + l.val = c / 32 * 32 + l.val := by omega
  rw [e]

end Cert.Words

namespace Cert.ReferenceIdeal.Ref

open Cert.ReferenceIdeal Cert.ReferenceIdeal.Gen

/-- Taking 127 off a weight scale's word and putting it back. -/
theorem weight_word (b : BitVec 8) : Ideal.ofBits .f32 (IntOp.shli .vector (IntOp.addi (IntOp.subi (BitVec.setWidth 32 b) 127#32) 127#32) 23#32) = pow b := by
  have e : IntOp.addi (IntOp.subi (BitVec.setWidth 32 b) 127#32) 127#32 = BitVec.setWidth 32 b := BitVec.sub_add_cancel _ _
  rw [e]; rfl

section
variable (x : Vec Ideal S1x256x7168 .bf16) (w : Vec Ideal S7168x36864 .fp8e4m3) (s : Vec Ideal S224x36864 .i8)

theorem x_apply (r : Fin 256) (g : Fin 224) (l : Fin 32) : k0_pay2 x (ix3 r g l) = input x r.val (g.val * 32 + l.val) := by
  pointwise [k0_pay2]
  unfold input
  refine congrArg x ?_
  congr 1 <;> exact Fin.ext (Nat.mod_eq_of_lt (Fin.isLt _)).symm

theorem x_group (r : Fin 256) (g : Fin 224) : (fun l : Fin 32 => (k0_pay2 x (ix3 r g l) : EReal)) = grp (input x) r.val (g.val * 32) := by
  funext l
  rw [x_apply]
  unfold grp
  have e : g.val * 32 / 32 * 32 + l.val = g.val * 32 + l.val := by omega
  rw [e]

theorem mul_at {s : Shape} (a b : FVec Ideal s .f32) (j : s.Idx) : mulf a b j = (a j : EReal) * b j := rfl

/-- The largest of each group of 32. -/
theorem max224 (y : FVec Ideal S256x224x32 .f32) (r : Fin 256) (g : Fin 224) :
    multiReduction .maximumf [2] S256x224 y 0xFF800000#32 reduces_S256x224x32_S256x224 (.inl rfl) rfl (ix2 r g)
      = Finset.univ.fold max (Ideal.ofBits .f32 4286578688#32) fun l : Fin 32 => (y (ix3 r g l) : EReal) := by
  refine (multiReduction_maximumf_eq_fold (F := Ideal) y 0xFF800000#32 reduces_S256x224x32_S256x224 (.inl rfl) rfl (ix2 r g)).trans ?_
  simp only [pointwise]

theorem max576 (y : FVec Ideal S256x576x32 .f32) (r : Fin 256) (g : Fin 576) :
    multiReduction .maximumf [2] S256x576 y 0xFF800000#32 reduces_S256x576x32_S256x576 (.inl rfl) rfl (ix2 r g)
      = Finset.univ.fold max (Ideal.ofBits .f32 4286578688#32) fun l : Fin 32 => (y (ix3 r g l) : EReal) := by
  refine (multiReduction_maximumf_eq_fold (F := Ideal) y 0xFF800000#32 reduces_S256x576x32_S256x576 (.inl rfl) rfl (ix2 r g)).trans ?_
  simp only [pointwise]

/-- The number each group's exponent is taken of, as the reference writes it. -/
def topArr (y : FVec Ideal S256x224x32 .f32) : FVec Ideal S256x224 .f32 :=
  mulf (multiReduction .maximumf [2] S256x224 (absf y) 0xFF800000#32 reduces_S256x224x32_S256x224 (.inl rfl) rfl)
    (broadcast S256x224 (Scalar.ofBits .f32 0x3B124925#32))

theorem topArr_eq (y : FVec Ideal S256x224x32 .f32) (r : Fin 256) (g : Fin 224) : topArr y (ix2 r g) = top (fun l => y (ix3 r g l)) := by
  unfold topArr
  rw [mul_at, max224]
  rfl

/-- The exponents, as the reference writes them. -/
def expArr (v8 : IVec S256x224x256 32) (v10 : IVec S256x224x256 1) (u : FVec Ideal S256x224 .f32) : IVec S256x224 32 :=
  have v11 : FVec Ideal S256x224x1 .f32 := shapeCast S256x224x1 u shapeCasts_S256x224_S256x224x1
  have v12 : IVec S256x224x256 32 := broadcast S256x224x256 23#32
  have v13 : IVec S256x224x256 32 := shli v8 v12
  have v14 : FVec Ideal S256x224x256 .f32 := bitcastToFloat .f32 v13
  have v15 : FVec Ideal S256x224x256 .f32 := broadcastTo S256x224x256 v11 broadcasts_S256x224x1_S256x224x256
  have v16 : IVec S256x224x256 1 := cmpf .oge v15 v14
  have v17 : IVec S256x224x256 1 := andi v10 v16
  have v18 : IVec S256x224x256 32 := extui 32 v17 natLt_1_32
  have v19 : IVec S256x224 32 := multiReductionI .add [2] S256x224 v18 0#32 reduces_S256x224x256_S256x224 rfl
  have v20 : IVec S256x224 32 := broadcast S256x224 0#32
  have v21 : IVec S256x224 1 := cmpi .eq v19 v20
  have v22 : IVec S256x224 32 := broadcast S256x224 255#32
  have v23 : IVec S256x224 1 := cmpi .eq v19 v22
  have v24 : IVec S256x224 1 := ori v21 v23
  have v25 : IVec S256x224 32 := broadcast S256x224 126#32
  have v26 : IVec S256x224 32 := subi v19 v25
  have v27 : IVec S256x224 32 := broadcast S256x224 0#32
  have v28 : IVec S256x224 32 := select v24 v27 v26
  v28

theorem expArr_eq (v8 : IVec S256x224x256 32) (v10 : IVec S256x224x256 1) (h8 : ∀ r g k, v8 (ix3 r g k) = BitVec.ofNat 32 k.val)
    (h10 : ∀ r g k, v10 (ix3 r g k) = IntOp.cmpi .sge (BitVec.ofNat 32 k.val) 1#32) (u : FVec Ideal S256x224 .f32) (r : Fin 256) (g : Fin 224) :
    expArr v8 v10 u (ix2 r g) = expW (BitVec.ofNat 32 (count (u (ix2 r g)))) := by
  pointwise [expArr]
  simp only [h8, h10, fold_eq]
  rfl

/-- The exponent of a group of `x`. -/
theorem x_exp (r : Fin 256) (g : Fin 224) :
    k0_pay3 x (ix2 r g) = expW (BitVec.ofNat 32 (count (top (grp (input x) r.val (g.val * 32))))) := by
  rw [← x_group, ← topArr_eq, ← expArr_eq (iota .tc S256x224x256 32 [2] iota_S256x224x256_d2_w32)
    (cmpi .sge (iota .tc S256x224x256 32 [2] iota_S256x224x256_d2_w32) (broadcast S256x224x256 1#32))
    (fun r g k => by pointwise) (fun r g k => by pointwise)]
  rfl

theorem xscale_eq (r : Fin 256) (g : Fin 224) : k0_pay4 x (ix2 r g) = qscl (input x) r.val (g.val * 32) := by
  pointwise [k0_pay4]
  rw [x_exp, (exp_word ⟨_, Nat.lt_succ_of_le (count_le _)⟩).1]
  rfl

theorem x_inv (r : Fin 256) (g : Fin 224) (l : Fin 32) : k0_pay5 x (ix3 r g l) = inv (grp (input x) r.val (g.val * 32)) := by
  pointwise [k0_pay5]
  rw [x_exp, (exp_word ⟨_, Nat.lt_succ_of_le (count_le _)⟩).2]
  rfl

theorem codes_of (v i : EReal) (v' i' : EReal) (hv : v = v') (hi : i = i') :
    min (Ideal.ofBits .f32 1138753536#32) (max (Ideal.ofBits .f32 3286237184#32) (v * i))
      = min (Ideal.ofBits .f32 1138753536#32) (max (Ideal.ofBits .f32 3286237184#32) (v' * i')) := by rw [hv, hi]

theorem xcodes_eq (r : Fin 256) (c : Fin 7168) : k0_pay6 (k0_pay2 x) (k0_pay5 x) (ix2 r c) = qcode (input x) r.val c.val := by
  pointwise [k0_pay6]
  refine codes_of _ _ _ _ ((x_apply x _ _ _).trans ?_) ((x_inv x _ _ _).trans ?_)
  · show input x r.val (c.val / 32 * 32 + c.val % 32) = _
    rw [Nat.div_add_mod']
  · show inv (grp (input x) r.val (c.val / 32 * 32)) = _
    rw [grp_base]

theorem xdeq_eq (r : Fin 256) (k : Fin 7168) :
    (k0_pay6 (k0_pay2 x) (k0_pay5 x) (ix2 r k) : EReal) * k0_pay4 x (ix2 r ⟨k.val / 32, by omega⟩) = qdeq (input x) r.val k.val := by
  rw [xcodes_eq, xscale_eq]
  unfold qdeq qscl
  show (_ : EReal) * scl (grp (input x) r.val (k.val / 32 * 32)) = _
  rw [grp_base]

/-- The product's column `c`. -/
theorem gu_eq (r : Fin 256) (c : Fin 36864) :
    (∑ k : Fin 7168, (k0_pay6 (k0_pay2 x) (k0_pay5 x) (ix2 r k) : EReal) * k0_pay4 x (ix2 r ⟨k.val / 32, by omega⟩) *
      ((w (ix2 k c) : EReal) * Ideal.ofBits .f32 (IntOp.shli .vector
        (IntOp.addi (IntOp.subi (BitVec.setWidth 32 (s (ix2 ⟨k.val / 32, by omega⟩ c))) 127#32) 127#32) 23#32))) = gu x w s r.val c.val := by
  unfold gu
  rw [dot_fin]
  refine Finset.sum_congr rfl fun k _ => ?_
  rw [xdeq_eq, weight_word, at2_val w, at2_val s]

theorem h_of (a b a' b' : EReal) (ha : a = a') (hb : b = b') : a * Ideal.logistic a * b = gate a' b' := by rw [ha, hb]; rfl

/-- The activations. -/
theorem h_apply (r : Fin 256) (g : Fin 576) (l : Fin 32) :
    k0_pay7 (k0_pay2 x) (k0_pay4 x) (k0_pay5 x) w s (ix3 r g l) = act x w s r.val (g.val * 32 + l.val) := by
  have h1 := fun c => gu_eq x w s r c
  generalize k0_pay2 x = v3 at h1 ⊢
  generalize k0_pay4 x = v33 at h1 ⊢
  generalize k0_pay5 x = v42 at h1 ⊢
  pointwise [k0_pay7]
  exact h_of _ _ _ _ (h1 ⟨g.val * 32 + l.val, by omega⟩) (h1 ⟨18432 + (g.val * 32 + l.val), by omega⟩)
end

section
variable (y : FVec Ideal S256x576x32 .f32)

theorem last_one (u : FVec Ideal S256x576 .f32) (r : Fin 256) (g : Fin 576) (z : Fin 1) :
    shapeCast S256x576x1 u shapeCasts_S256x576_S256x576x1 (ix3 r g z) = u (ix2 r g) := by
  pointwise

theorem top576 (r : Fin 256) (g : Fin 576) :
    mulf (multiReduction .maximumf [2] S256x576 (absf y) 0xFF800000#32 reduces_S256x576x32_S256x576 (.inl rfl) rfl)
      (broadcast S256x576 (Scalar.ofBits .f32 0x3B124925#32)) (ix2 r g) = top (fun l => y (ix3 r g l)) := by
  rw [mul_at, max576]
  rfl

/-- The number each group's exponent is taken of. -/
theorem top_eq (v3 : FVec Ideal S256x224x32 .f32) (v33 : FVec Ideal S256x224 .f32) (v42 : FVec Ideal S256x224x32 .f32)
    (w : Vec Ideal S7168x36864 .fp8e4m3) (s : Vec Ideal S224x36864 .i8) (hy : k0_pay7 v3 v33 v42 w s = y) (r : Fin 256) (g : Fin 576) :
    k0_pay9 v3 v33 v42 w s (ix3 r g 0) = top (fun l => y (ix3 r g l)) := by
  unfold k0_pay9
  rw [hy]
  exact (last_one _ r g 0).trans (top576 y r g)

variable (v88 : FVec Ideal S256x576x1 .f32)

/-- The places 0 … 255 the reference counts over. -/
abbrev places : IVec S256x576x256 32 := iota .tc S256x576x256 32 [2] iota_S256x576x256_d2_w32

theorem exp_of (v85 : IVec S256x576x256 32) (v87 : IVec S256x576x256 1) (h85 : ∀ r g k, v85 (ix3 r g k) = BitVec.ofNat 32 k.val)
    (h87 : ∀ r g k, v87 (ix3 r g k) = IntOp.cmpi .sge (BitVec.ofNat 32 k.val) 1#32) (r : Fin 256) (g : Fin 576) :
    k0_pay10 v85 v87 v88 23#32 (ix2 r g) = expW (BitVec.ofNat 32 (count (v88 (ix3 r g 0)))) := by
  pointwise [k0_pay10]
  simp only [h85, h87, fold_eq]
  rfl

theorem h_exp (r : Fin 256) (g : Fin 576) : k0_pay10 places k0_pay8 v88 23#32 (ix2 r g) = expW (BitVec.ofNat 32 (count (v88 (ix3 r g 0)))) :=
  exp_of v88 _ _ (fun r g k => by pointwise) (fun r g k => by pointwise [k0_pay8]) r g

theorem h_scale (r : Fin 256) (g : Fin 576) : k0_pay11 places k0_pay8 v88 23#32 (ix2 r g)
    = Ideal.ofBits .f32 (IntOp.shli .vector (IntOp.addi (fieldW (count (v88 (ix3 r g 0)))) 1#32) 23#32) := by
  pointwise [k0_pay11]
  rw [h_exp, (exp_word ⟨_, Nat.lt_succ_of_le (count_le _)⟩).1]

theorem h_codes (r : Fin 256) (c : Fin 18432) : k0_pay12 y places k0_pay8 v88 23#32 (ix2 r c)
    = min (Ideal.ofBits .f32 1138753536#32) (max (Ideal.ofBits .f32 3286237184#32) ((y (ix3 r ⟨c.val / 32, by omega⟩ ⟨c.val % 32, by omega⟩) : EReal)
      * Ideal.ofBits .f32 (IntOp.shli .vector (IntOp.subi 253#32 (fieldW (count (v88 (ix3 r ⟨c.val / 32, by omega⟩ 0))))) 23#32))) := by
  pointwise [k0_pay12]
  rw [h_exp, (exp_word ⟨_, Nat.lt_succ_of_le (count_le _)⟩).2]

/-- The dequantised activations, by their codes and scales. -/
theorem h_deq (r : Fin 256) (c : Fin 18432) : k0_pay13 y places k0_pay8 v88 23#32 (ix2 r c)
    = (k0_pay12 y places k0_pay8 v88 23#32 (ix2 r c) : EReal) * k0_pay11 places k0_pay8 v88 23#32 (ix2 r ⟨c.val / 32, by omega⟩) := by
  pointwise [k0_pay13]

/-- The last product. -/
theorem out_apply (v133 : FVec Ideal S256x18432 .bf16) (wd : Vec Ideal S18432x7168 .fp8e4m3) (sd : Vec Ideal S576x7168 .i8) (r : Fin 256) (j : Fin 7168) :
    k0_pay1 v133 wd sd (ix2 r j) = dot 18432 (at2 (e := .bf16) (R := 256) (C := 18432) v133 r.val) (fun k => at2 wd k j.val) (fun k => at2 sd k j.val) := by
  rw [dot_fin]
  pointwise [k0_pay1]
  refine Finset.sum_congr rfl fun k _ => ?_
  rw [weight_word, at2_val wd, at2_val sd]
  exact congrArg (fun z : EReal => z * _) (at2_val (e := .bf16) (R := 256) (C := 18432) v133 _ _)
end

section
variable (v : ℕ → ℕ → EReal) (y : FVec Ideal S256x576x32 .f32) (v88 : FVec Ideal S256x576x1 .f32)
  (hy : ∀ (r : Fin 256) (g : Fin 576) (l : Fin 32), y (ix3 r g l) = v r.val (g.val * 32 + l.val))
  (h88 : ∀ (r : Fin 256) (g : Fin 576), v88 (ix3 r g 0) = top (fun l => y (ix3 r g l)))
include hy h88

theorem h_top (r : Fin 256) (g : Fin 576) : v88 (ix3 r g 0) = top (grp v r.val (g.val * 32)) := by
  rw [h88]
  refine congrArg top (funext fun l => ?_)
  rw [hy]
  unfold grp
  have e : g.val * 32 / 32 * 32 + l.val = g.val * 32 + l.val := by omega
  rw [e]

theorem hscale_of (r : Fin 256) (g : Fin 576) : k0_pay11 places k0_pay8 v88 23#32 (ix2 r g) = qscl v r.val (g.val * 32) := by
  rw [h_scale, h_top v y v88 hy h88]; rfl

theorem hcodes_of (r : Fin 256) (c : Fin 18432) : k0_pay12 y places k0_pay8 v88 23#32 (ix2 r c) = qcode v r.val c.val := by
  rw [h_codes, h_top v y v88 hy h88]
  refine codes_of _ _ _ _ ((hy _ _ _).trans ?_) ?_
  · show v r.val (c.val / 32 * 32 + c.val % 32) = _
    rw [Nat.div_add_mod']
  · show inv (grp v r.val (c.val / 32 * 32)) = _
    rw [grp_base]

theorem hdeq_of (r : Fin 256) (c : Fin 18432) : k0_pay13 y places k0_pay8 v88 23#32 (ix2 r c) = qdeq v r.val c.val := by
  rw [h_deq, hcodes_of v y v88 hy h88, hscale_of v y v88 hy h88]
  unfold qdeq qscl
  show (_ : EReal) * scl (grp v r.val (c.val / 32 * 32)) = _
  rw [grp_base]

theorem out_of (wd : Vec Ideal S18432x7168 .fp8e4m3) (sd : Vec Ideal S576x7168 .i8) (r : Fin 256) (j : Fin 7168) :
    k0_pay1 (k0_pay13 y places k0_pay8 v88 23#32) wd sd (ix2 r j)
      = dot 18432 (qdeq v r.val) (fun k => at2 wd k j.val) (fun k => at2 sd k j.val) := by
  rw [out_apply, dot_fin, dot_fin]
  refine Finset.sum_congr rfl fun k _ => ?_
  rw [← at2_val, hdeq_of v y v88 hy h88]
end

end Cert.ReferenceIdeal.Ref

end
-- ==== Proof.RefRun.lean ====
/-
  THE REFERENCE'S RUN: its one pipeline has one grid point and every window is its whole array, so each result array ends
  holding what the body computes of the argument arrays, which is the layer of `ASpec`.
-/
module

public import proofs.«01_k».proof.Proof.RefIdeal
public import Idealize.ShloMosaic.Lib.Pipeline.Value

@[expose] public section

set_option maxRecDepth 16384

noncomputable section

namespace Cert.ReferenceIdeal.Ref

open Cert.ReferenceIdeal Cert.ReferenceIdeal.Gen Idealize.ShloMosaic Idealize.ShloMosaic.TcCoe Idealize.SL.Sem Cert.Words
open Idealize.ShloMosaic.Pipeline (Dat)

theorem hz2 : (![0, 0] : Fin 2 → Nat) = fun _ => 0 := funext fun a => by fin_cases a <;> rfl
theorem hz3 : (![0, 0, 0] : Fin 3 → Nat) = fun _ => 0 := funext fun a => by fin_cases a <;> rfl

/-! ## The body's results, read at an index -/

section
variable (x0 : Vec Ideal S1x256x7168 .bf16) (x1 : Vec Ideal S7168x36864 .fp8e4m3) (x2 : Vec Ideal S224x36864 .i8)
  (x3 : Vec Ideal S18432x7168 .fp8e4m3) (x4 : Vec Ideal S576x7168 .i8)

theorem v3_eq : k0_pay14 x0 x1 x2 x3 x4 = k0_pay2 x0 := by
  unfold k0_pay14; rw [View.ld_unit_zero (S := S1x256x7168) hz3 _ x0]
theorem v33_eq : k0_pay15 x0 x1 x2 x3 x4 = k0_pay4 x0 := by
  unfold k0_pay15; rw [View.ld_unit_zero (S := S1x256x7168) hz3 _ x0]
theorem v42_eq : k0_pay16 x0 x1 x2 x3 x4 = k0_pay5 x0 := by
  unfold k0_pay16; rw [View.ld_unit_zero (S := S1x256x7168) hz3 _ x0]
theorem v85_eq : k0_pay17 x0 x1 x2 x3 x4 = places := rfl
theorem v87_eq : k0_pay19 x0 x1 x2 x3 x4 = k0_pay8 := rfl
theorem v80_eq : k0_pay18 x0 x1 x2 x3 x4 = k0_pay7 (k0_pay2 x0) (k0_pay4 x0) (k0_pay5 x0) x1 x2 := by
  unfold k0_pay18
  rw [v3_eq, v33_eq, v42_eq, View.ld_unit_zero (S := S7168x36864) hz2 _ x1, View.ld_unit_zero (S := S224x36864) hz2 _ x2]
theorem v88_eq : k0_pay20 x0 x1 x2 x3 x4 = k0_pay9 (k0_pay2 x0) (k0_pay4 x0) (k0_pay5 x0) x1 x2 := by
  unfold k0_pay20
  rw [v3_eq, v33_eq, v42_eq, View.ld_unit_zero (S := S7168x36864) hz2 _ x1, View.ld_unit_zero (S := S224x36864) hz2 _ x2]

theorem y_at (r : Fin 256) (g : Fin 576) (l : Fin 32) :
    k0_pay18 x0 x1 x2 x3 x4 (ix3 r g l) = act x0 x1 x2 r.val (g.val * 32 + l.val) := by
  rw [v80_eq]; exact h_apply x0 x1 x2 r g l

theorem top_at (r : Fin 256) (g : Fin 576) :
    k0_pay20 x0 x1 x2 x3 x4 (ix3 r g 0) = top (fun l => k0_pay18 x0 x1 x2 x3 x4 (ix3 r g l)) := by
  rw [v88_eq]; exact top_eq _ _ _ _ x1 x2 (v80_eq x0 x1 x2 x3 x4).symm r g

theorem out5_eq : out0_5 x0 x1 x2 x3 x4 = resOut x0 x1 x2 x3 x4 := by
  unfold out0_5
  rw [View.canon_unit_zero hz2, v85_eq, v87_eq, View.ld_unit_zero (S := S18432x7168) hz2 _ x3, View.ld_unit_zero (S := S576x7168) hz2 _ x4]
  funext y
  obtain ⟨i, j, rfl⟩ : ∃ (i : Fin 256) (j : Fin 7168), y = ix2 i j := ⟨y 0, y 1, eq_ix2 y⟩
  exact out_of _ _ _ (y_at x0 x1 x2 x3 x4) (top_at x0 x1 x2 x3 x4) x3 x4 i j

theorem out6_eq : out0_6 x0 x1 x2 x3 x4 = resXCodes x0 := by
  unfold out0_6
  rw [View.canon_unit_zero hz2, v3_eq, v42_eq]
  funext y
  obtain ⟨i, j, rfl⟩ : ∃ (i : Fin 256) (j : Fin 7168), y = ix2 i j := ⟨y 0, y 1, eq_ix2 y⟩
  exact xcodes_eq x0 i j

theorem out7_eq : out0_7 x0 x1 x2 x3 x4 = resXScale x0 := by
  unfold out0_7
  rw [View.canon_unit_zero hz2, v33_eq]
  funext y
  obtain ⟨i, j, rfl⟩ : ∃ (i : Fin 256) (j : Fin 224), y = ix2 i j := ⟨y 0, y 1, eq_ix2 y⟩
  exact xscale_eq x0 i j

theorem out8_eq : out0_8 x0 x1 x2 x3 x4 = resHCodes x0 x1 x2 := by
  unfold out0_8
  rw [View.canon_unit_zero hz2, v85_eq, v87_eq]
  funext y
  obtain ⟨i, j, rfl⟩ : ∃ (i : Fin 256) (j : Fin 18432), y = ix2 i j := ⟨y 0, y 1, eq_ix2 y⟩
  exact hcodes_of _ _ _ (y_at x0 x1 x2 x3 x4) (top_at x0 x1 x2 x3 x4) i j

theorem out9_eq : out0_9 x0 x1 x2 x3 x4 = resHScale x0 x1 x2 := by
  unfold out0_9
  rw [View.canon_unit_zero hz2, v85_eq, v87_eq]
  funext y
  obtain ⟨i, j, rfl⟩ : ∃ (i : Fin 256) (j : Fin 576), y = ix2 i j := ⟨y 0, y 1, eq_ix2 y⟩
  exact hscale_of _ _ _ (y_at x0 x1 x2 x3 x4) (top_at x0 x1 x2 x3 x4) i j
end

/-! ## The windows -/

variable (m : (ℓ : Loc nD τ sig) → Buf (Elt Ideal) ℓ) (ρ : Dev nD → PrngReg)

theorem idx_zero0 : ∀ t : Fin cfg0.N, win0_0.index t (0 : Fin 3) = 0 ∧ win0_0.index t (1 : Fin 3) = 0 ∧ win0_0.index t (2 : Fin 3) = 0 :=
  (by decide +kernel : ∀ t : Fin grid0.N, _)
theorem emb0 (t : Fin cfg0.N) (j : S1x256x7168.Idx) : ((cfg0.win 0).blk t).view.emb j = j := by
  obtain ⟨e0, e1, e2⟩ := idx_zero0 t
  funext a; apply Fin.ext
  match a with
  | ⟨0, _⟩ => show win0_0.index t (0 : Fin 3) * 1 + 1 * (j 0).val = (j 0).val; omega
  | ⟨1, _⟩ => show win0_0.index t (1 : Fin 3) * 256 + 1 * (j 1).val = (j 1).val; omega
  | ⟨2, _⟩ => show win0_0.index t (2 : Fin 3) * 7168 + 1 * (j 2).val = (j 2).val; omega
theorem iblk0_eq (c : Dev nD) (t : Fin cfg0.N) : iblk m c 0 t = V m c main_arg0 := by
  funext j; show V m c main_arg0 (((cfg0.win 0).blk t).view.emb j) = V m c main_arg0 j; rw [emb0]

theorem idx_zero1 : ∀ t : Fin cfg0.N, win0_1.index t (0 : Fin 2) = 0 ∧ win0_1.index t (1 : Fin 2) = 0 :=
  (by decide +kernel : ∀ t : Fin grid0.N, _)
theorem emb1 (t : Fin cfg0.N) (j : S7168x36864.Idx) : ((cfg0.win 1).blk t).view.emb j = j := by
  obtain ⟨e0, e1⟩ := idx_zero1 t
  funext a; apply Fin.ext
  match a with
  | ⟨0, _⟩ => show win0_1.index t (0 : Fin 2) * 7168 + 1 * (j 0).val = (j 0).val; omega
  | ⟨1, _⟩ => show win0_1.index t (1 : Fin 2) * 36864 + 1 * (j 1).val = (j 1).val; omega
theorem iblk1_eq (c : Dev nD) (t : Fin cfg0.N) : iblk m c 1 t = V m c main_arg1 := by
  funext j; show V m c main_arg1 (((cfg0.win 1).blk t).view.emb j) = V m c main_arg1 j; rw [emb1]

theorem idx_zero2 : ∀ t : Fin cfg0.N, win0_2.index t (0 : Fin 2) = 0 ∧ win0_2.index t (1 : Fin 2) = 0 :=
  (by decide +kernel : ∀ t : Fin grid0.N, _)
theorem emb2 (t : Fin cfg0.N) (j : S224x36864.Idx) : ((cfg0.win 2).blk t).view.emb j = j := by
  obtain ⟨e0, e1⟩ := idx_zero2 t
  funext a; apply Fin.ext
  match a with
  | ⟨0, _⟩ => show win0_2.index t (0 : Fin 2) * 224 + 1 * (j 0).val = (j 0).val; omega
  | ⟨1, _⟩ => show win0_2.index t (1 : Fin 2) * 36864 + 1 * (j 1).val = (j 1).val; omega
theorem iblk2_eq (c : Dev nD) (t : Fin cfg0.N) : iblk m c 2 t = V m c main_arg2 := by
  funext j; show V m c main_arg2 (((cfg0.win 2).blk t).view.emb j) = V m c main_arg2 j; rw [emb2]

theorem idx_zero3 : ∀ t : Fin cfg0.N, win0_3.index t (0 : Fin 2) = 0 ∧ win0_3.index t (1 : Fin 2) = 0 :=
  (by decide +kernel : ∀ t : Fin grid0.N, _)
theorem emb3 (t : Fin cfg0.N) (j : S18432x7168.Idx) : ((cfg0.win 3).blk t).view.emb j = j := by
  obtain ⟨e0, e1⟩ := idx_zero3 t
  funext a; apply Fin.ext
  match a with
  | ⟨0, _⟩ => show win0_3.index t (0 : Fin 2) * 18432 + 1 * (j 0).val = (j 0).val; omega
  | ⟨1, _⟩ => show win0_3.index t (1 : Fin 2) * 7168 + 1 * (j 1).val = (j 1).val; omega
theorem iblk3_eq (c : Dev nD) (t : Fin cfg0.N) : iblk m c 3 t = V m c main_arg3 := by
  funext j; show V m c main_arg3 (((cfg0.win 3).blk t).view.emb j) = V m c main_arg3 j; rw [emb3]

theorem idx_zero4 : ∀ t : Fin cfg0.N, win0_4.index t (0 : Fin 2) = 0 ∧ win0_4.index t (1 : Fin 2) = 0 :=
  (by decide +kernel : ∀ t : Fin grid0.N, _)
theorem emb4 (t : Fin cfg0.N) (j : S576x7168.Idx) : ((cfg0.win 4).blk t).view.emb j = j := by
  obtain ⟨e0, e1⟩ := idx_zero4 t
  funext a; apply Fin.ext
  match a with
  | ⟨0, _⟩ => show win0_4.index t (0 : Fin 2) * 576 + 1 * (j 0).val = (j 0).val; omega
  | ⟨1, _⟩ => show win0_4.index t (1 : Fin 2) * 7168 + 1 * (j 1).val = (j 1).val; omega
theorem iblk4_eq (c : Dev nD) (t : Fin cfg0.N) : iblk m c 4 t = V m c main_arg4 := by
  funext j; show V m c main_arg4 (((cfg0.win 4).blk t).view.emb j) = V m c main_arg4 j; rw [emb4]

theorem idx_zero5 : ∀ t : Fin cfg0.N, win0_5.index t (0 : Fin 2) = 0 ∧ win0_5.index t (1 : Fin 2) = 0 :=
  (by decide +kernel : ∀ t : Fin grid0.N, _)
theorem emb5 (t : Fin cfg0.N) (j : S256x7168.Idx) : ((cfg0.win 5).blk t).view.emb j = j := by
  obtain ⟨e0, e1⟩ := idx_zero5 t
  funext a; apply Fin.ext
  match a with
  | ⟨0, _⟩ => show win0_5.index t (0 : Fin 2) * 256 + 1 * (j 0).val = (j 0).val; omega
  | ⟨1, _⟩ => show win0_5.index t (1 : Fin 2) * 7168 + 1 * (j 1).val = (j 1).val; omega
theorem cut5_eq (t : Fin cfg0.N) (X : Vec Ideal S256x7168 .bf16) :
    (cfg0.win 5).cut (grid0.coords t) X = ((cfg0.win 5).blk t).view.read (Elt Ideal) X := by
  funext j
  show X j = X (((cfg0.win 5).blk t).view.emb j)
  rw [emb5]
theorem flushed5_eq (c : Dev nD) (t : Fin cfg0.N) :
    (dats m 0 c).flushed 5 t = ((cfg0.win 5).blk t).view.read (Elt Ideal) (resOut (V m c main_arg0) (V m c main_arg1) (V m c main_arg2) (V m c main_arg3) (V m c main_arg4)) := by
  show (cfg0.win 5).cut (grid0.coords t) ((dats m 0 c).after 5 t) = _
  rw [after0_5, out5_eq, iblk0_eq, iblk1_eq, iblk2_eq, iblk3_eq, iblk4_eq]
  exact cut5_eq t _
theorem covered5 (i : S256x7168.Idx) :
    ∃ t : Fin cfg0.N, (cfg0.win 5).flush t = true ∧ i ∈ ((cfg0.win 5).blk t).view.set :=
  ⟨(⟨0, by decide⟩ : Fin cfg0.N), flush0_5 _, by have h := ((cfg0.win 5).blk (⟨0, by decide⟩ : Fin cfg0.N)).view.emb_mem_set i; rwa [emb5] at h⟩
theorem final5 (c : Dev nD) : (dats m 0 c).arrAt 5 cfg0.N = resOut (m ((c : Thread nD τ).loc main_arg0)) (m ((c : Thread nD τ).loc main_arg1)) (m ((c : Thread nD τ).loc main_arg2)) (m ((c : Thread nD τ).loc main_arg3)) (m ((c : Thread nD τ).loc main_arg4)) :=
  ((dats m 0 c).arrAt_eq_of_cover 5 (resOut (V m c main_arg0) (V m c main_arg1) (V m c main_arg2) (V m c main_arg3) (V m c main_arg4)) (fun t _ => flushed5_eq m c t) covered5).trans (by rw [V_main_arg0, V_main_arg1, V_main_arg2, V_main_arg3, V_main_arg4])

theorem idx_zero6 : ∀ t : Fin cfg0.N, win0_6.index t (0 : Fin 2) = 0 ∧ win0_6.index t (1 : Fin 2) = 0 :=
  (by decide +kernel : ∀ t : Fin grid0.N, _)
theorem emb6 (t : Fin cfg0.N) (j : S256x7168.Idx) : ((cfg0.win 6).blk t).view.emb j = j := by
  obtain ⟨e0, e1⟩ := idx_zero6 t
  funext a; apply Fin.ext
  match a with
  | ⟨0, _⟩ => show win0_6.index t (0 : Fin 2) * 256 + 1 * (j 0).val = (j 0).val; omega
  | ⟨1, _⟩ => show win0_6.index t (1 : Fin 2) * 7168 + 1 * (j 1).val = (j 1).val; omega
theorem cut6_eq (t : Fin cfg0.N) (X : Vec Ideal S256x7168 .fp8e4m3) :
    (cfg0.win 6).cut (grid0.coords t) X = ((cfg0.win 6).blk t).view.read (Elt Ideal) X := by
  funext j
  show X j = X (((cfg0.win 6).blk t).view.emb j)
  rw [emb6]
theorem flushed6_eq (c : Dev nD) (t : Fin cfg0.N) :
    (dats m 0 c).flushed 6 t = ((cfg0.win 6).blk t).view.read (Elt Ideal) (resXCodes (V m c main_arg0)) := by
  show (cfg0.win 6).cut (grid0.coords t) ((dats m 0 c).after 6 t) = _
  rw [after0_6, out6_eq, iblk0_eq]
  exact cut6_eq t _
theorem covered6 (i : S256x7168.Idx) :
    ∃ t : Fin cfg0.N, (cfg0.win 6).flush t = true ∧ i ∈ ((cfg0.win 6).blk t).view.set :=
  ⟨(⟨0, by decide⟩ : Fin cfg0.N), flush0_6 _, by have h := ((cfg0.win 6).blk (⟨0, by decide⟩ : Fin cfg0.N)).view.emb_mem_set i; rwa [emb6] at h⟩
theorem final6 (c : Dev nD) : (dats m 0 c).arrAt 6 cfg0.N = resXCodes (m ((c : Thread nD τ).loc main_arg0)) :=
  ((dats m 0 c).arrAt_eq_of_cover 6 (resXCodes (V m c main_arg0)) (fun t _ => flushed6_eq m c t) covered6).trans (by rw [V_main_arg0])

theorem idx_zero7 : ∀ t : Fin cfg0.N, win0_7.index t (0 : Fin 2) = 0 ∧ win0_7.index t (1 : Fin 2) = 0 :=
  (by decide +kernel : ∀ t : Fin grid0.N, _)
theorem emb7 (t : Fin cfg0.N) (j : S256x224.Idx) : ((cfg0.win 7).blk t).view.emb j = j := by
  obtain ⟨e0, e1⟩ := idx_zero7 t
  funext a; apply Fin.ext
  match a with
  | ⟨0, _⟩ => show win0_7.index t (0 : Fin 2) * 256 + 1 * (j 0).val = (j 0).val; omega
  | ⟨1, _⟩ => show win0_7.index t (1 : Fin 2) * 224 + 1 * (j 1).val = (j 1).val; omega
theorem cut7_eq (t : Fin cfg0.N) (X : Vec Ideal S256x224 .f32) :
    (cfg0.win 7).cut (grid0.coords t) X = ((cfg0.win 7).blk t).view.read (Elt Ideal) X := by
  funext j
  show X j = X (((cfg0.win 7).blk t).view.emb j)
  rw [emb7]
theorem flushed7_eq (c : Dev nD) (t : Fin cfg0.N) :
    (dats m 0 c).flushed 7 t = ((cfg0.win 7).blk t).view.read (Elt Ideal) (resXScale (V m c main_arg0)) := by
  show (cfg0.win 7).cut (grid0.coords t) ((dats m 0 c).after 7 t) = _
  rw [after0_7, out7_eq, iblk0_eq]
  exact cut7_eq t _
theorem covered7 (i : S256x224.Idx) :
    ∃ t : Fin cfg0.N, (cfg0.win 7).flush t = true ∧ i ∈ ((cfg0.win 7).blk t).view.set :=
  ⟨(⟨0, by decide⟩ : Fin cfg0.N), flush0_7 _, by have h := ((cfg0.win 7).blk (⟨0, by decide⟩ : Fin cfg0.N)).view.emb_mem_set i; rwa [emb7] at h⟩
theorem final7 (c : Dev nD) : (dats m 0 c).arrAt 7 cfg0.N = resXScale (m ((c : Thread nD τ).loc main_arg0)) :=
  ((dats m 0 c).arrAt_eq_of_cover 7 (resXScale (V m c main_arg0)) (fun t _ => flushed7_eq m c t) covered7).trans (by rw [V_main_arg0])

theorem idx_zero8 : ∀ t : Fin cfg0.N, win0_8.index t (0 : Fin 2) = 0 ∧ win0_8.index t (1 : Fin 2) = 0 :=
  (by decide +kernel : ∀ t : Fin grid0.N, _)
theorem emb8 (t : Fin cfg0.N) (j : S256x18432.Idx) : ((cfg0.win 8).blk t).view.emb j = j := by
  obtain ⟨e0, e1⟩ := idx_zero8 t
  funext a; apply Fin.ext
  match a with
  | ⟨0, _⟩ => show win0_8.index t (0 : Fin 2) * 256 + 1 * (j 0).val = (j 0).val; omega
  | ⟨1, _⟩ => show win0_8.index t (1 : Fin 2) * 18432 + 1 * (j 1).val = (j 1).val; omega
theorem cut8_eq (t : Fin cfg0.N) (X : Vec Ideal S256x18432 .fp8e4m3) :
    (cfg0.win 8).cut (grid0.coords t) X = ((cfg0.win 8).blk t).view.read (Elt Ideal) X := by
  funext j
  show X j = X (((cfg0.win 8).blk t).view.emb j)
  rw [emb8]
theorem flushed8_eq (c : Dev nD) (t : Fin cfg0.N) :
    (dats m 0 c).flushed 8 t = ((cfg0.win 8).blk t).view.read (Elt Ideal) (resHCodes (V m c main_arg0) (V m c main_arg1) (V m c main_arg2)) := by
  show (cfg0.win 8).cut (grid0.coords t) ((dats m 0 c).after 8 t) = _
  rw [after0_8, out8_eq, iblk0_eq, iblk1_eq, iblk2_eq]
  exact cut8_eq t _
theorem covered8 (i : S256x18432.Idx) :
    ∃ t : Fin cfg0.N, (cfg0.win 8).flush t = true ∧ i ∈ ((cfg0.win 8).blk t).view.set :=
  ⟨(⟨0, by decide⟩ : Fin cfg0.N), flush0_8 _, by have h := ((cfg0.win 8).blk (⟨0, by decide⟩ : Fin cfg0.N)).view.emb_mem_set i; rwa [emb8] at h⟩
theorem final8 (c : Dev nD) : (dats m 0 c).arrAt 8 cfg0.N = resHCodes (m ((c : Thread nD τ).loc main_arg0)) (m ((c : Thread nD τ).loc main_arg1)) (m ((c : Thread nD τ).loc main_arg2)) :=
  ((dats m 0 c).arrAt_eq_of_cover 8 (resHCodes (V m c main_arg0) (V m c main_arg1) (V m c main_arg2)) (fun t _ => flushed8_eq m c t) covered8).trans (by rw [V_main_arg0, V_main_arg1, V_main_arg2])

theorem idx_zero9 : ∀ t : Fin cfg0.N, win0_9.index t (0 : Fin 2) = 0 ∧ win0_9.index t (1 : Fin 2) = 0 :=
  (by decide +kernel : ∀ t : Fin grid0.N, _)
theorem emb9 (t : Fin cfg0.N) (j : S256x576.Idx) : ((cfg0.win 9).blk t).view.emb j = j := by
  obtain ⟨e0, e1⟩ := idx_zero9 t
  funext a; apply Fin.ext
  match a with
  | ⟨0, _⟩ => show win0_9.index t (0 : Fin 2) * 256 + 1 * (j 0).val = (j 0).val; omega
  | ⟨1, _⟩ => show win0_9.index t (1 : Fin 2) * 576 + 1 * (j 1).val = (j 1).val; omega
theorem cut9_eq (t : Fin cfg0.N) (X : Vec Ideal S256x576 .f32) :
    (cfg0.win 9).cut (grid0.coords t) X = ((cfg0.win 9).blk t).view.read (Elt Ideal) X := by
  funext j
  show X j = X (((cfg0.win 9).blk t).view.emb j)
  rw [emb9]
theorem flushed9_eq (c : Dev nD) (t : Fin cfg0.N) :
    (dats m 0 c).flushed 9 t = ((cfg0.win 9).blk t).view.read (Elt Ideal) (resHScale (V m c main_arg0) (V m c main_arg1) (V m c main_arg2)) := by
  show (cfg0.win 9).cut (grid0.coords t) ((dats m 0 c).after 9 t) = _
  rw [after0_9, out9_eq, iblk0_eq, iblk1_eq, iblk2_eq]
  exact cut9_eq t _
theorem covered9 (i : S256x576.Idx) :
    ∃ t : Fin cfg0.N, (cfg0.win 9).flush t = true ∧ i ∈ ((cfg0.win 9).blk t).view.set :=
  ⟨(⟨0, by decide⟩ : Fin cfg0.N), flush0_9 _, by have h := ((cfg0.win 9).blk (⟨0, by decide⟩ : Fin cfg0.N)).view.emb_mem_set i; rwa [emb9] at h⟩
theorem final9 (c : Dev nD) : (dats m 0 c).arrAt 9 cfg0.N = resHScale (m ((c : Thread nD τ).loc main_arg0)) (m ((c : Thread nD τ).loc main_arg1)) (m ((c : Thread nD τ).loc main_arg2)) :=
  ((dats m 0 c).arrAt_eq_of_cover 9 (resHScale (V m c main_arg0) (V m c main_arg1) (V m c main_arg2)) (fun t _ => flushed9_eq m c t) covered9).trans (by rw [V_main_arg0, V_main_arg1, V_main_arg2])

theorem kept_main_arg0 (r : PUnit × MemSt nD τ sig (Elt Ideal)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))
theorem kept_main_arg1 (r : PUnit × MemSt nD τ sig (Elt Ideal)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))
theorem kept_main_arg2 (r : PUnit × MemSt nD τ sig (Elt Ideal)) (h : Pipeline.FramePost cfgs (dats m) 0 (V m) r) (c : Dev nD) :
    r.2.mem ((c : Thread nD τ).loc main_arg2) = m ((c : Thread nD τ).loc main_arg2) :=
  ((h c).1 2).trans (((dats m 0 c).arrAt_in 2 rfl _).trans ((A_eq m c 2).trans (V_main_arg2 m c)))
theorem kept_main_arg3 (r : PUnit × MemSt nD τ sig (Elt Ideal)) (h : Pipeline.FramePost cfgs (dats m) 0 (V m) r) (c : Dev nD) :
    r.2.mem ((c : Thread nD τ).loc main_arg3) = m ((c : Thread nD τ).loc main_arg3) :=
  ((h c).1 3).trans (((dats m 0 c).arrAt_in 3 rfl _).trans ((A_eq m c 3).trans (V_main_arg3 m c)))
theorem kept_main_arg4 (r : PUnit × MemSt nD τ sig (Elt Ideal)) (h : Pipeline.FramePost cfgs (dats m) 0 (V m) r) (c : Dev nD) :
    r.2.mem ((c : Thread nD τ).loc main_arg4) = m ((c : Thread nD τ).loc main_arg4) :=
  ((h c).1 4).trans (((dats m 0 c).arrAt_in 4 rfl _).trans ((A_eq m c 4).trans (V_main_arg4 m c)))

/-- The run, read: the results are the layer's, the arguments unchanged. -/
theorem run : θ_run defs (onTc (τ := τ) (main (F := Ideal))) ⟨m, fun _ => 0, ρ⟩ fun r => ∀ c : Dev nD,
      r.2.mem ((c : Thread nD τ).loc main_v0_0) = resOut (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c : Thread nD τ).loc main_v0_1) = resXCodes (m ((c : Thread nD τ).loc main_arg0))
      ∧ r.2.mem ((c : Thread nD τ).loc main_v0_2) = resXScale (m ((c : Thread nD τ).loc main_arg0))
      ∧ r.2.mem ((c : Thread nD τ).loc main_v0_3) = resHCodes (m ((c : Thread nD τ).loc main_arg0)) (m ((c : Thread nD τ).loc main_arg1)) (m ((c : Thread nD τ).loc main_arg2))
      ∧ r.2.mem ((c : Thread nD τ).loc main_v0_4) = resHScale (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨((h c).1 5).trans (final5 m c), ((h c).1 6).trans (final6 m c), ((h c).1 7).trans (final7 m c), ((h c).1 8).trans (final8 m c), ((h c).1 9).trans (final9 m c),
      kept_main_arg0 m r h c, kept_main_arg1 m r h c, kept_main_arg2 m r h c, kept_main_arg3 m r h c, kept_main_arg4 m r h c⟩)
    (run_main m ρ)

end Cert.ReferenceIdeal.Ref

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.BitsWhole
public import proofs.«01_k».proof.Proof.KRun
public import proofs.«01_k».proof.Proof.RefRun
public import Idealize.ShloMosaic.Adequacy
public import Idealize.ShloMosaic.Init

@[expose] public section

set_option maxRecDepth 16384

noncomputable section

namespace Cert.Proof

open Idealize.ShloMosaic Idealize.SL.Sem Cert.Kernel

/-- The kernel's five results are the reference's, over the extended reals: both are the layer of `ASpec` of the arguments. -/
theorem value [hKernelIdeal : Cert.KernelIdeal.Facts] [hReferenceIdeal : Cert.ReferenceIdeal.Facts] :
    Cert.algebraic_KernelIdeal_ReferenceIdeal := by
  intro m ρ m' ρ' _ hag
  refine ⟨_, _, _, _, _, Cert.KernelIdeal.Run.value_run m ρ,
    (θ_run _ _ _).mono (fun _ h c => ⟨(h c).1.trans ?_, (h c).2.1.trans ?_, (h c).2.2.1.trans ?_, (h c).2.2.2.1.trans ?_,
      (h c).2.2.2.2.1.trans ?_, (h c).2.2.2.2.2⟩) (Cert.ReferenceIdeal.Ref.run m' ρ')⟩
  · rw [(hag c).1, (hag c).2.1, (hag c).2.2.1, (hag c).2.2.2.1, (hag c).2.2.2.2]
  · rw [(hag c).1]
  · rw [(hag c).1]
  · rw [(hag c).1, (hag c).2.1, (hag c).2.2.1]
  · rw [(hag c).1, (hag c).2.1, (hag c).2.2.1]

theorem claim : Cert.Claim :=
  ⟨Cert.Kernel.Gen.facts, Cert.KernelIdeal.Gen.facts, Cert.ReferenceIdeal.Gen.facts,
    fun m ρ _ => Cert.Kernel.Run.frame m ρ,
    fun m ρ _ => Cert.KernelIdeal.Run.frame m ρ,
    fun m ρ _ => Cert.ReferenceIdeal.Gen.frame m ρ,
    trivial,
    value⟩

end Cert.Proof

end
